-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_norm_positive [hPre_norm_positive : Cert.Pre_norm_positive.Facts] (m : (ℓ : Loc Cert.KernelIdeal.nD Cert.KernelIdeal.τ Cert.KernelIdeal.sig) → Buf (Elt Ideal) ℓ) : Prop :=
  ∀ c : Dev Cert.KernelIdeal.nD,
    (Cert.Pre_norm_positive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_norm_positive [hPre_norm_positive : Cert.Pre_norm_positive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_norm_positive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_norm_positive [hKernelIdeal : Cert.KernelIdeal.Facts] [hPre_norm_positive : Cert.Pre_norm_positive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_norm_positive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_norm_positive [hReferenceIdeal : Cert.ReferenceIdeal.Facts] [hPre_norm_positive : Cert.Pre_norm_positive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_norm_positive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_norm_positive [hKernelIdeal : Cert.KernelIdeal.Facts] [hReferenceIdeal : Cert.ReferenceIdeal.Facts] [hPre_norm_positive : Cert.Pre_norm_positive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_norm_positive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v5_1)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v5_1) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v47) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_norm_positive : Cert.Pre_norm_positive.Facts),
    quiescent_Kernel (hKernel := hKernel)
    ∧ quiescent_KernelIdeal (hKernelIdeal := hKernelIdeal)
    ∧ quiescent_KernelIdeal_pre_norm_positive (hKernelIdeal := hKernelIdeal) (hPre_norm_positive := hPre_norm_positive)
    ∧ quiescent_ReferenceIdeal (hReferenceIdeal := hReferenceIdeal)
    ∧ quiescent_ReferenceIdeal_pre_norm_positive (hReferenceIdeal := hReferenceIdeal) (hPre_norm_positive := hPre_norm_positive)
    ∧ preserves_Kernel_KernelIdeal
    ∧ algebraic_KernelIdeal_ReferenceIdeal_pre_norm_positive (hKernelIdeal := hKernelIdeal) (hReferenceIdeal := hReferenceIdeal) (hPre_norm_positive := hPre_norm_positive)
-- ==== Pre_norm_positive.lean ====
abbrev S3x3072x6144 : Shape := ⟨3, ![3, 3072, 6144]⟩
abbrev S3x3072x16384 : Shape := ⟨3, ![3, 3072, 16384]⟩
abbrev S3x3072 : Shape := ⟨2, ![3, 3072]⟩
abbrev S8192x6144 : Shape := ⟨2, ![8192, 6144]⟩
abbrev S128x6144 : Shape := ⟨2, ![128, 6144]⟩
abbrev S16384x32 : Shape := ⟨2, ![16384, 32]⟩
abbrev S32x6144 : Shape := ⟨2, ![32, 6144]⟩
abbrev S6144 : Shape := ⟨1, ![6144]⟩
abbrev S_ : Shape := ⟨0, ![]⟩

class Facts : Prop where
  bcast_S_S6144 : S_.BroadcastsInDim S6144 (![] : Fin 0 → Fin S6144.rank)

variable [Facts]

def fn {F : FTy → Type} [FloatOps F] (main_arg0 : FVec F S3x3072x6144 .bf16) (main_arg1 : FVec F S3x3072x16384 .fp8e4m3) (main_arg2 : FVec F S3x3072 .f32) (main_arg3 : IVec S8192x6144 8) (main_arg4 : FVec F S128x6144 .bf16) (main_arg5 : FVec F S16384x32 .bf16) (main_arg6 : FVec F S32x6144 .bf16) (main_arg7 : FVec F S6144 .f32) (main_arg8 : FVec F S6144 .f32) : IVec S6144 1 :=
  let main_cst : FVec F S_ .f32 := constant S_ .f32 0x00000000#32
  let main_v0 : FVec F S6144 .f32 := broadcastInDim S6144 ![] bcast_S_S6144 main_cst
  let main_v1 : IVec S6144 1 := cmpf .ogt main_arg8 main_v0
  main_v1
-- ==== Kernel.lean ====
abbrev S3x3072x6144 : Shape := ⟨3, ![3, 3072, 6144]⟩
abbrev S3x3072x16384 : Shape := ⟨3, ![3, 3072, 16384]⟩
abbrev S3x3072 : Shape := ⟨2, ![3, 3072]⟩
abbrev S8192x6144 : Shape := ⟨2, ![8192, 6144]⟩
abbrev S128x6144 : Shape := ⟨2, ![128, 6144]⟩
abbrev S16384x32 : Shape := ⟨2, ![16384, 32]⟩
abbrev S32x6144 : Shape := ⟨2, ![32, 6144]⟩
abbrev S6144 : Shape := ⟨1, ![6144]⟩
abbrev S9216x6144 : Shape := ⟨2, ![9216, 6144]⟩
abbrev S9216x16384 : Shape := ⟨2, ![9216, 16384]⟩
abbrev S9216x1 : Shape := ⟨2, ![9216, 1]⟩
abbrev S1x6144 : Shape := ⟨2, ![1, 6144]⟩
abbrev S32x16384 : Shape := ⟨2, ![32, 16384]⟩
abbrev S256x6144 : Shape := ⟨2, ![256, 6144]⟩
abbrev S256x16384 : Shape := ⟨2, ![256, 16384]⟩
abbrev S256x1 : Shape := ⟨2, ![256, 1]⟩
abbrev S256x32 : Shape := ⟨2, ![256, 32]⟩
abbrev S256x2048 : Shape := ⟨2, ![256, 2048]⟩
abbrev S2048x32 : Shape := ⟨2, ![2048, 32]⟩
abbrev S32x2048 : Shape := ⟨2, ![32, 2048]⟩
abbrev S16384x6144 : Shape := ⟨2, ![16384, 6144]⟩
abbrev S576x16384 : Shape := ⟨2, ![576, 16384]⟩
abbrev S576x512 : Shape := ⟨2, ![576, 512]⟩
abbrev S576x1 : Shape := ⟨2, ![576, 1]⟩
abbrev S1x512 : Shape := ⟨2, ![1, 512]⟩
abbrev S512x512 : Shape := ⟨2, ![512, 512]⟩
abbrev S8x512 : Shape := ⟨2, ![8, 512]⟩
abbrev S1024x32 : Shape := ⟨2, ![1024, 32]⟩
abbrev S32x512 : Shape := ⟨2, ![32, 512]⟩
abbrev S1024x512 : Shape := ⟨2, ![1024, 512]⟩
abbrev S2x16384x512 : Shape := ⟨3, ![2, 16384, 512]⟩
abbrev S16x512 : Shape := ⟨2, ![16, 512]⟩
abbrev S128x512 : Shape := ⟨2, ![128, 512]⟩
abbrev S8x16x512 : Shape := ⟨3, ![8, 16, 512]⟩
abbrev S1x16x512 : Shape := ⟨3, ![1, 16, 512]⟩
abbrev S1x1024x512 : Shape := ⟨3, ![1, 1024, 512]⟩
abbrev S576x2048 : Shape := ⟨2, ![576, 2048]⟩
abbrev S1x2048x512 : Shape := ⟨3, ![1, 2048, 512]⟩
abbrev S2048x512 : Shape := ⟨2, ![2048, 512]⟩
abbrev S512 : Shape := ⟨1, ![512]⟩
abbrev S512x6144 : Shape := ⟨2, ![512, 6144]⟩
abbrev S2x1024x6144 : Shape := ⟨3, ![2, 1024, 6144]⟩
abbrev S1x32x6144 : Shape := ⟨3, ![1, 32, 6144]⟩
abbrev S1x1024x6144 : Shape := ⟨3, ![1, 1024, 6144]⟩
abbrev S1024x6144 : Shape := ⟨2, ![1024, 6144]⟩

abbrev nBuf : Space → Nat
  | .hbm => 22
  | .vmem => 44
  | .smem => 0
  | _ => 0

abbrev bufTy : (tb : Table) → Fin (tcTables nBuf tb) → BufTy
  | .hbm, ⟨0, _⟩ => ⟨S3x3072x6144, .bf16⟩
  | .hbm, ⟨1, _⟩ => ⟨S3x3072x16384, .fp8e4m3⟩
  | .hbm, ⟨2, _⟩ => ⟨S3x3072, .f32⟩
  | .hbm, ⟨3, _⟩ => ⟨S8192x6144, .i8⟩
  | .hbm, ⟨4, _⟩ => ⟨S128x6144, .bf16⟩
  | .hbm, ⟨5, _⟩ => ⟨S16384x32, .bf16⟩
  | .hbm, ⟨6, _⟩ => ⟨S32x6144, .bf16⟩
  | .hbm, ⟨7, _⟩ => ⟨S6144, .f32⟩
  | .hbm, ⟨8, _⟩ => ⟨S6144, .f32⟩
  | .hbm, ⟨9, _⟩ => ⟨S9216x6144, .bf16⟩
  | .hbm, ⟨10, _⟩ => ⟨S9216x16384, .fp8e4m3⟩
  | .hbm, ⟨11, _⟩ => ⟨S9216x1, .f32⟩
  | .hbm, ⟨12, _⟩ => ⟨S1x6144, .f32⟩
  | .hbm, ⟨13, _⟩ => ⟨S1x6144, .f32⟩
  | .hbm, ⟨14, _⟩ => ⟨S32x16384, .bf16⟩
  | .hbm, ⟨15, _⟩ => ⟨S32x6144, .bf16⟩
  | .hbm, ⟨16, _⟩ => ⟨S16384x6144, .bf16⟩
  | .hbm, ⟨17, _⟩ => ⟨S1x6144, .f32⟩
  | .hbm, ⟨18, _⟩ => ⟨S9216x16384, .bf16⟩
  | .hbm, ⟨19, _⟩ => ⟨S3x3072x16384, .bf16⟩
  | .hbm, ⟨20, _⟩ => ⟨S16384x32, .bf16⟩
  | .hbm, ⟨21, _⟩ => ⟨S6144, .f32⟩
  | .local _ .vmem, ⟨0, _⟩ => ⟨S256x6144, .bf16⟩
  | .local _ .vmem, ⟨1, _⟩ => ⟨S256x6144, .bf16⟩
  | .local _ .vmem, ⟨2, _⟩ => ⟨S256x16384, .fp8e4m3⟩
  | .local _ .vmem, ⟨3, _⟩ => ⟨S256x16384, .fp8e4m3⟩
  | .local _ .vmem, ⟨4, _⟩ => ⟨S256x1, .f32⟩
  | .local _ .vmem, ⟨5, _⟩ => ⟨S256x1, .f32⟩
  | .local _ .vmem, ⟨6, _⟩ => ⟨S16384x32, .bf16⟩
  | .local _ .vmem, ⟨7, _⟩ => ⟨S32x6144, .bf16⟩
  | .local _ .vmem, ⟨8, _⟩ => ⟨S1x6144, .f32⟩
  | .local _ .vmem, ⟨9, _⟩ => ⟨S1x6144, .f32⟩
  | .local _ .vmem, ⟨10, _⟩ => ⟨S32x16384, .bf16⟩
  | .local _ .vmem, ⟨11, _⟩ => ⟨S32x6144, .bf16⟩
  | .local _ .vmem, ⟨12, _⟩ => ⟨S32x16384, .f32⟩
  | .local _ .vmem, ⟨13, _⟩ => ⟨S32x6144, .f32⟩
  | .local _ .vmem, ⟨14, _⟩ => ⟨S576x16384, .fp8e4m3⟩
  | .local _ .vmem, ⟨15, _⟩ => ⟨S576x16384, .fp8e4m3⟩
  | .local _ .vmem, ⟨16, _⟩ => ⟨S576x512, .bf16⟩
  | .local _ .vmem, ⟨17, _⟩ => ⟨S576x512, .bf16⟩
  | .local _ .vmem, ⟨18, _⟩ => ⟨S576x1, .f32⟩
  | .local _ .vmem, ⟨19, _⟩ => ⟨S576x1, .f32⟩
  | .local _ .vmem, ⟨20, _⟩ => ⟨S1x512, .f32⟩
  | .local _ .vmem, ⟨21, _⟩ => ⟨S1x512, .f32⟩
  | .local _ .vmem, ⟨22, _⟩ => ⟨S512x512, .i8⟩
  | .local _ .vmem, ⟨23, _⟩ => ⟨S512x512, .i8⟩
  | .local _ .vmem, ⟨24, _⟩ => ⟨S8x512, .bf16⟩
  | .local _ .vmem, ⟨25, _⟩ => ⟨S8x512, .bf16⟩
  | .local _ .vmem, ⟨26, _⟩ => ⟨S1024x32, .bf16⟩
  | .local _ .vmem, ⟨27, _⟩ => ⟨S1024x32, .bf16⟩
  | .local _ .vmem, ⟨28, _⟩ => ⟨S32x512, .bf16⟩
  | .local _ .vmem, ⟨29, _⟩ => ⟨S32x512, .bf16⟩
  | .local _ .vmem, ⟨30, _⟩ => ⟨S1024x512, .bf16⟩
  | .local _ .vmem, ⟨31, _⟩ => ⟨S1024x512, .bf16⟩
  | .local _ .vmem, ⟨32, _⟩ => ⟨S1x512, .f32⟩
  | .local _ .vmem, ⟨33, _⟩ => ⟨S1x512, .f32⟩
  | .local _ .vmem, ⟨34, _⟩ => ⟨S2x16384x512, .bf16⟩
  | .local _ .vmem, ⟨35, _⟩ => ⟨S32x6144, .bf16⟩
  | .local _ .vmem, ⟨36, _⟩ => ⟨S32x6144, .bf16⟩
  | .local _ .vmem, ⟨37, _⟩ => ⟨S512x6144, .bf16⟩
  | .local _ .vmem, ⟨38, _⟩ => ⟨S512x6144, .bf16⟩
  | .local _ .vmem, ⟨39, _⟩ => ⟨S1x6144, .f32⟩
  | .local _ .vmem, ⟨40, _⟩ => ⟨S1x6144, .f32⟩
  | .local _ .vmem, ⟨41, _⟩ => ⟨S1024x512, .bf16⟩
  | .local _ .vmem, ⟨42, _⟩ => ⟨S1024x512, .bf16⟩
  | .local _ .vmem, ⟨43, _⟩ => ⟨S2x1024x6144, .bf16⟩
  | _, _ => ⟨S3x3072x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v6_0 : Ref sig .tc := ⟨.hbm, 16, rfl⟩
abbrev main_v6_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch0 : Ref sig .tc := ⟨.vmem, 34, rfl⟩
abbrev cc2_stg0_0 : Ref sig .tc := ⟨.vmem, 35, rfl⟩
abbrev cc2_stg0_1 : Ref sig .tc := ⟨.vmem, 36, rfl⟩
abbrev cc2_stg1_0 : Ref sig .tc := ⟨.vmem, 37, rfl⟩
abbrev cc2_stg1_1 : Ref sig .tc := ⟨.vmem, 38, rfl⟩
abbrev cc2_stg2_0 : Ref sig .tc := ⟨.vmem, 39, rfl⟩
abbrev cc2_stg3_0 : Ref sig .tc := ⟨.vmem, 40, rfl⟩
abbrev cc2_stg4_0 : Ref sig .tc := ⟨.vmem, 41, rfl⟩
abbrev cc2_stg4_1 : Ref sig .tc := ⟨.vmem, 42, rfl⟩
abbrev cc2_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem4_1 : DmaSem sig := 39

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c35_i32 : BitVec 32 := 35#32
  let v142 : BitVec 1 := Scalar.cmpi .eq arg0 c35_i32
  let v143 : BitVec 32 := Scalar.extui v142
  let c0_i32_89 : BitVec 32 := 0#32
  let v144 : BitVec 1 := Scalar.cmpi .ne v143 c0_i32_89
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16384 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16384x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x16384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x6144 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨2, ![13, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k1_mult1 (i : grid1.Coords) : BitVec 32 :=
  let arg1 : BitVec 32 := BitVec.ofNat 32 (i 1).val
  let c1024_i32 : BitVec 32 := 1024#32
  let v172 : BitVec 32 := Scalar.muli arg1 c1024_i32
  v172
def k1_off1 (i : grid1.Coords) : Fin 3 → Nat :=
  let arg0 : BitVec 32 := BitVec.ofNat 32 (i 0).val
  let c2_i32 : BitVec 32 := 2#32
  let c0_i32_21 : BitVec 32 := 0#32
  let v162 : BitVec 1 := Scalar.cmpi .eq c2_i32 c0_i32_21
  let c1_i32 : BitVec 32 := 1#32
  let v163 : BitVec 32 := Scalar.select v162 c1_i32 c2_i32
  let v164 : BitVec 32 := Scalar.remsi arg0 v163
  let c0_i32_23 : BitVec 32 := 0#32
  let v166 : BitVec 1 := Scalar.cmpi .slt v164 c0_i32_23
  let c0_i32_24 : BitVec 32 := 0#32
  let v167 : BitVec 1 := Scalar.cmpi .slt v163 c0_i32_24
  let v168 : BitVec 1 := Scalar.xori v166 v167
  let c0_i32_22 : BitVec 32 := 0#32
  let v165 : BitVec 1 := Scalar.cmpi .ne v164 c0_i32_22
  let v169 : BitVec 1 := Scalar.andi v168 v165
  let v170 : BitVec 32 := Scalar.addi v164 v163
  let v171 : BitVec 32 := Scalar.select v169 v170 v164
  let v174 : Index := Scalar.indexCast v171
  let arg1 : BitVec 32 := BitVec.ofNat 32 (i 1).val
  let c1024_i32 : BitVec 32 := 1024#32
  let v172 : BitVec 32 := Scalar.muli arg1 c1024_i32
  let v173 : BitVec 32 := v172
  let v175 : Index := Scalar.indexCast v173
  let c0_25 : Index := 0#32
  ![v174.toNat, v175.toNat, 0]
def k1_cond2 (i : grid1.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k1_mult2 (i : grid1.Coords) : BitVec 32 :=
  let arg1 : BitVec 32 := BitVec.ofNat 32 (i 1).val
  let c1024_i32 : BitVec 32 := 1024#32
  let v172 : BitVec 32 := Scalar.muli arg1 c1024_i32
  v172
def k1_off2 (i : grid1.Coords) : Fin 3 → Nat :=
  let arg0 : BitVec 32 := BitVec.ofNat 32 (i 0).val
  let c2_i32 : BitVec 32 := 2#32
  let c0_i32_21 : BitVec 32 := 0#32
  let v162 : BitVec 1 := Scalar.cmpi .eq c2_i32 c0_i32_21
  let c1_i32 : BitVec 32 := 1#32
  let v163 : BitVec 32 := Scalar.select v162 c1_i32 c2_i32
  let v164 : BitVec 32 := Scalar.remsi arg0 v163
  let c0_i32_23 : BitVec 32 := 0#32
  let v166 : BitVec 1 := Scalar.cmpi .slt v164 c0_i32_23
  let c0_i32_24 : BitVec 32 := 0#32
  let v167 : BitVec 1 := Scalar.cmpi .slt v163 c0_i32_24
  let v168 : BitVec 1 := Scalar.xori v166 v167
  let c0_i32_22 : BitVec 32 := 0#32
  let v165 : BitVec 1 := Scalar.cmpi .ne v164 c0_i32_22
  let v169 : BitVec 1 := Scalar.andi v168 v165
  let v170 : BitVec 32 := Scalar.addi v164 v163
  let v171 : BitVec 32 := Scalar.select v169 v170 v164
  let v174 : Index := Scalar.indexCast v171
  let arg1 : BitVec 32 := BitVec.ofNat 32 (i 1).val
  let c1024_i32 : BitVec 32 := 1024#32
  let v172 : BitVec 32 := Scalar.muli arg1 c1024_i32
  let v173 : BitVec 32 := v172
  let v175 : Index := Scalar.indexCast v173
  let c0_25 : Index := 0#32
  ![v174.toNat, v175.toNat, 0]
def k1_off3 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v194 : Index := Scalar.indexCast v189
  let c0_36 : Index := 0#32
  let c0_37 : Index := 0#32
  ![v194.toNat, 0, 0]
def k1_off4 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v202 : Index := Scalar.indexCast v189
  let c2048_40 : Index := 2048#32
  let c0_41 : Index := 0#32
  ![v202.toNat, 2048, 0]
def k1_off5 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v210 : Index := Scalar.indexCast v189
  let c4096_44 : Index := 4096#32
  let c0_45 : Index := 0#32
  ![v210.toNat, 4096, 0]
def k1_off6 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v218 : Index := Scalar.indexCast v189
  let c6144_48 : Index := 6144#32
  let c0_49 : Index := 0#32
  ![v218.toNat, 6144, 0]
def k1_off7 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v226 : Index := Scalar.indexCast v189
  let c8192_52 : Index := 8192#32
  let c0_53 : Index := 0#32
  ![v226.toNat, 8192, 0]
def k1_off8 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v234 : Index := Scalar.indexCast v189
  let c10240_56 : Index := 10240#32
  let c0_57 : Index := 0#32
  ![v234.toNat, 10240, 0]
def k1_off9 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v242 : Index := Scalar.indexCast v189
  let c12288_60 : Index := 12288#32
  let c0_61 : Index := 0#32
  ![v242.toNat, 12288, 0]
def k1_off10 (i : grid1.Coords) : Fin 3 → Nat :=
  let arg0 : BitVec 32 := BitVec.ofNat 32 (i 0).val
  let c1_i32_26 : BitVec 32 := 1#32
  let v179 : BitVec 32 := Scalar.subi arg0 c1_i32_26
  let c2_i32_27 : BitVec 32 := 2#32
  let c0_i32_28 : BitVec 32 := 0#32
  let v180 : BitVec 1 := Scalar.cmpi .eq c2_i32_27 c0_i32_28
  let c1_i32_29 : BitVec 32 := 1#32
  let v181 : BitVec 32 := Scalar.select v180 c1_i32_29 c2_i32_27
  let v182 : BitVec 32 := Scalar.remsi v179 v181
  let c0_i32_31 : BitVec 32 := 0#32
  let v184 : BitVec 1 := Scalar.cmpi .slt v182 c0_i32_31
  let c0_i32_32 : BitVec 32 := 0#32
  let v185 : BitVec 1 := Scalar.cmpi .slt v181 c0_i32_32
  let v186 : BitVec 1 := Scalar.xori v184 v185
  let c0_i32_30 : BitVec 32 := 0#32
  let v183 : BitVec 1 := Scalar.cmpi .ne v182 c0_i32_30
  let v187 : BitVec 1 := Scalar.andi v186 v183
  let v188 : BitVec 32 := Scalar.addi v182 v181
  let v189 : BitVec 32 := Scalar.select v187 v188 v182
  let v250 : Index := Scalar.indexCast v189
  let c14336_64 : Index := 14336#32
  let c0_65 : Index := 0#32
  ![v250.toNat, 14336, 0]
def k1_cond3 (i : grid1.Coords) : BitVec 1 :=
  let arg1 : BitVec 32 := BitVec.ofNat 32 (i 1).val
  let c0_i32_74 : BitVec 32 := 0#32
  let v268 : BitVec 1 := Scalar.cmpi .eq arg1 c0_i32_74
  let v269 : BitVec 32 := Scalar.extui v268
  let c0_i32_75 : BitVec 32 := 0#32
  let v270 : BitVec 1 := Scalar.cmpi .ne v269 c0_i32_75
  v270

def k1_cond4 (i : grid1.Coords) : BitVec 1 :=
  let arg1 : BitVec 32 := BitVec.ofNat 32 (i 1).val
  let c0_i32_76 : BitVec 32 := 0#32
  let v271 : BitVec 1 := Scalar.cmpi .sgt arg1 c0_i32_76
  let v272 : BitVec 32 := Scalar.extui v271
  let c0_i32_77 : BitVec 32 := 0#32
  let v273 : BitVec 1 := Scalar.cmpi .ne v272 c0_i32_77
  v273

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c1_i32 : BitVec 32 := 1#32
  let v2 : BitVec 32 := Scalar.subi arg0 c1_i32
  let c0_i32_1 : BitVec 32 := 0#32
  let v3 : BitVec 32 := Scalar.maxsi v2 c0_i32_1
  let c0_i32_2 : BitVec 32 := 0#32
  ![v1.toNat, v3.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc1_transform_3 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc1_transform_4 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  ![arg1.toNat, v0.toNat]

def cc1_transform_5 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  ![arg1.toNat, v0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_7 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc1_transform_8 (i : grid1.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.minsi arg0 c11_i32
  let c0_i32 : BitVec 32 := 0#32
  ![arg1.toNat, v0.toNat]

def cc1_transform_9 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage1_0 : Fin 2 → Memref sig .tc .vmem S576x16384 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S576x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S576x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x512 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x32 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S32x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨2, ![10, 32], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k2_mult1 (i : grid2.Coords) : BitVec 32 :=
  let arg1 : BitVec 32 := BitVec.ofNat 32 (i 1).val
  let c32_i32 : BitVec 32 := 32#32
  let v27 : BitVec 32 := Scalar.muli arg1 c32_i32
  v27
def k2_off1 (i : grid2.Coords) : Fin 3 → Nat :=
  let arg0 : BitVec 32 := BitVec.ofNat 32 (i 0).val
  let c2_i32 : BitVec 32 := 2#32
  let c0_i32_8 : BitVec 32 := 0#32
  let v17 : BitVec 1 := Scalar.cmpi .eq c2_i32 c0_i32_8
  let c1_i32 : BitVec 32 := 1#32
  let v18 : BitVec 32 := Scalar.select v17 c1_i32 c2_i32
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let v29 : Index := Scalar.indexCast v26
  let arg1 : BitVec 32 := BitVec.ofNat 32 (i 1).val
  let c32_i32 : BitVec 32 := 32#32
  let v27 : BitVec 32 := Scalar.muli arg1 c32_i32
  let v28 : BitVec 32 := v27
  let v30 : Index := Scalar.indexCast v28
  let c0_12 : Index := 0#32
  ![v29.toNat, v30.toNat, 0]
def k2_cond2 (i : grid2.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k2_mult2 (i : grid2.Coords) : BitVec 32 :=
  let arg1 : BitVec 32 := BitVec.ofNat 32 (i 1).val
  let c32_i32 : BitVec 32 := 32#32
  let v27 : BitVec 32 := Scalar.muli arg1 c32_i32
  v27
def k2_off2 (i : grid2.Coords) : Fin 3 → Nat :=
  let arg0 : BitVec 32 := BitVec.ofNat 32 (i 0).val
  let c2_i32 : BitVec 32 := 2#32
  let c0_i32_8 : BitVec 32 := 0#32
  let v17 : BitVec 1 := Scalar.cmpi .eq c2_i32 c0_i32_8
  let c1_i32 : BitVec 32 := 1#32
  let v18 : BitVec 32 := Scalar.select v17 c1_i32 c2_i32
  let v19 : BitVec 32 := Scalar.remsi arg0 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let v29 : Index := Scalar.indexCast v26
  let arg1 : BitVec 32 := BitVec.ofNat 32 (i 1).val
  let c32_i32 : BitVec 32 := 32#32
  let v27 : BitVec 32 := Scalar.muli arg1 c32_i32
  let v28 : BitVec 32 := v27
  let v30 : Index := Scalar.indexCast v28
  let c0_12 : Index := 0#32
  ![v29.toNat, v30.toNat, 0]
def k2_off3 (i : grid2.Coords) : Fin 3 → Nat :=
  let arg0 : BitVec 32 := BitVec.ofNat 32 (i 0).val
  let c1_i32_13 : BitVec 32 := 1#32
  let v34 : BitVec 32 := Scalar.subi arg0 c1_i32_13
  let c2_i32_14 : BitVec 32 := 2#32
  let c0_i32_15 : BitVec 32 := 0#32
  let v35 : BitVec 1 := Scalar.cmpi .eq c2_i32_14 c0_i32_15
  let c1_i32_16 : BitVec 32 := 1#32
  let v36 : BitVec 32 := Scalar.select v35 c1_i32_16 c2_i32_14
  let v37 : BitVec 32 := Scalar.remsi v34 v36
  let c0_i32_18 : BitVec 32 := 0#32
  let v39 : BitVec 1 := Scalar.cmpi .slt v37 c0_i32_18
  let c0_i32_19 : BitVec 32 := 0#32
  let v40 : BitVec 1 := Scalar.cmpi .slt v36 c0_i32_19
  let v41 : BitVec 1 := Scalar.xori v39 v40
  let c0_i32_17 : BitVec 32 := 0#32
  let v38 : BitVec 1 := Scalar.cmpi .ne v37 c0_i32_17
  let v42 : BitVec 1 := Scalar.andi v41 v38
  let v43 : BitVec 32 := Scalar.addi v37 v36
  let v44 : BitVec 32 := Scalar.select v42 v43 v37
  let v45 : Index := Scalar.indexCast v44
  let c0_20 : Index := 0#32
  let c0_21 : Index := 0#32
  ![v45.toNat, 0, 0]
def cc2_transform_0 (i : grid2.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c287_i32 : BitVec 32 := 287#32
  let v2 : BitVec 32 := Scalar.minsi v1 c287_i32
  let c0_i32 : BitVec 32 := 0#32
  let c0_i32_0 : BitVec 32 := 0#32
  ![v2.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sgt arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .sgt arg0 c0_i32_0
  let c0_i32_1 : BitVec 32 := 0#32
  let v3 : BitVec 32 := Scalar.select v2 arg1 c0_i32_1
  let c0_i32_2 : BitVec 32 := 0#32
  ![v1.toNat, v3.toNat]

abbrev stage2_0 : Fin 2 → Memref sig .tc .vmem S32x6144 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x6144 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x6144 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x6144 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S3x3072x6144 : Shape := ⟨3, ![3, 3072, 6144]⟩
abbrev S3x3072x16384 : Shape := ⟨3, ![3, 3072, 16384]⟩
abbrev S3x3072 : Shape := ⟨2, ![3, 3072]⟩
abbrev S8192x6144 : Shape := ⟨2, ![8192, 6144]⟩
abbrev S128x6144 : Shape := ⟨2, ![128, 6144]⟩
abbrev S16384x32 : Shape := ⟨2, ![16384, 32]⟩
abbrev S32x6144 : Shape := ⟨2, ![32, 6144]⟩
abbrev S6144 : Shape := ⟨1, ![6144]⟩
abbrev S_ : Shape := ⟨0, ![]⟩
abbrev S8192x1x6144 : Shape := ⟨3, ![8192, 1, 6144]⟩
abbrev S8192x2x6144 : Shape := ⟨3, ![8192, 2, 6144]⟩
abbrev S128x128x6144 : Shape := ⟨3, ![128, 128, 6144]⟩
abbrev S128x1x6144 : Shape := ⟨3, ![128, 1, 6144]⟩
abbrev S16384x6144 : Shape := ⟨2, ![16384, 6144]⟩
abbrev S1x1x6144 : Shape := ⟨3, ![1, 1, 6144]⟩
abbrev S3x3072x1 : Shape := ⟨3, ![3, 3072, 1]⟩
abbrev S3x3072x32 : Shape := ⟨3, ![3, 3072, 32]⟩

abbrev nBuf : Space → Nat
  | .hbm => 87
  | .vmem => 2
  | .smem => 0
  | _ => 0

abbrev bufTy : (tb : Table) → Fin (tcTables nBuf tb) → BufTy
  | .hbm, ⟨0, _⟩ => ⟨S3x3072x6144, .bf16⟩
  | .hbm, ⟨1, _⟩ => ⟨S3x3072x16384, .fp8e4m3⟩
  | .hbm, ⟨2, _⟩ => ⟨S3x3072, .f32⟩
  | .hbm, ⟨3, _⟩ => ⟨S8192x6144, .i8⟩
  | .hbm, ⟨4, _⟩ => ⟨S128x6144, .bf16⟩
  | .hbm, ⟨5, _⟩ => ⟨S16384x32, .bf16⟩
  | .hbm, ⟨6, _⟩ => ⟨S32x6144, .bf16⟩
  | .hbm, ⟨7, _⟩ => ⟨S6144, .f32⟩
  | .hbm, ⟨8, _⟩ => ⟨S6144, .f32⟩
  | .hbm, ⟨9, _⟩ => ⟨S8192x6144, .i32⟩
  | .hbm, ⟨10, _⟩ => ⟨S_, .i32⟩
  | .hbm, ⟨11, _⟩ => ⟨S8192x6144, .i32⟩
  | .hbm, ⟨12, _⟩ => ⟨S8192x6144, .i32⟩
  | .hbm, ⟨13, _⟩ => ⟨S_, .i32⟩
  | .hbm, ⟨14, _⟩ => ⟨S8192x6144, .i32⟩
  | .hbm, ⟨15, _⟩ => ⟨S8192x6144, .i32⟩
  | .hbm, ⟨16, _⟩ => ⟨S_, .i32⟩
  | .hbm, ⟨17, _⟩ => ⟨S8192x6144, .i32⟩
  | .hbm, ⟨18, _⟩ => ⟨S8192x6144, .i32⟩
  | .hbm, ⟨19, _⟩ => ⟨S_, .i32⟩
  | .hbm, ⟨20, _⟩ => ⟨S8192x6144, .i32⟩
  | .hbm, ⟨21, _⟩ => ⟨S8192x6144, .i32⟩
  | .hbm, ⟨22, _⟩ => ⟨S_, .i32⟩
  | .hbm, ⟨23, _⟩ => ⟨S8192x6144, .i32⟩
  | .hbm, ⟨24, _⟩ => ⟨S8192x6144, .i32⟩
  | .hbm, ⟨25, _⟩ => ⟨S_, .i32⟩
  | .hbm, ⟨26, _⟩ => ⟨S8192x6144, .i32⟩
  | .hbm, ⟨27, _⟩ => ⟨S8192x6144, .i32⟩
  | .hbm, ⟨28, _⟩ => ⟨S_, .i32⟩
  | .hbm, ⟨29, _⟩ => ⟨S8192x6144, .i32⟩
  | .hbm, ⟨30, _⟩ => ⟨S8192x6144, .i32⟩
  | .hbm, ⟨31, _⟩ => ⟨S8192x1x6144, .i32⟩
  | .hbm, ⟨32, _⟩ => ⟨S8192x1x6144, .i32⟩
  | .hbm, ⟨33, _⟩ => ⟨S8192x2x6144, .i32⟩
  | .hbm, ⟨34, _⟩ => ⟨S128x128x6144, .i32⟩
  | .hbm, ⟨35, _⟩ => ⟨S128x128x6144, .bf16⟩
  | .hbm, ⟨36, _⟩ => ⟨S128x1x6144, .bf16⟩
  | .hbm, ⟨37, _⟩ => ⟨S128x128x6144, .bf16⟩
  | .hbm, ⟨38, _⟩ => ⟨S128x128x6144, .bf16⟩
  | .hbm, ⟨39, _⟩ => ⟨S16384x6144, .bf16⟩
  | .hbm, ⟨40, _⟩ => ⟨S16384x6144, .f32⟩
  | .hbm, ⟨41, _⟩ => ⟨S16384x6144, .f32⟩
  | .hbm, ⟨42, _⟩ => ⟨S_, .f32⟩
  | .hbm, ⟨43, _⟩ => ⟨S16384x6144, .f32⟩
  | .hbm, ⟨44, _⟩ => ⟨S16384x6144, .f32⟩
  | .hbm, ⟨45, _⟩ => ⟨S16384x6144, .f32⟩
  | .hbm, ⟨46, _⟩ => ⟨S16384x6144, .bf16⟩
  | .hbm, ⟨47, _⟩ => ⟨S6144, .f32⟩
  | .hbm, ⟨48, _⟩ => ⟨S3x3072x6144, .f32⟩
  | .hbm, ⟨49, _⟩ => ⟨S1x1x6144, .f32⟩
  | .hbm, ⟨50, _⟩ => ⟨S3x3072x6144, .f32⟩
  | .hbm, ⟨51, _⟩ => ⟨S3x3072x6144, .f32⟩
  | .hbm, ⟨52, _⟩ => ⟨S3x3072x6144, .bf16⟩
  | .hbm, ⟨53, _⟩ => ⟨S3x3072x16384, .f32⟩
  | .hbm, ⟨54, _⟩ => ⟨S3x3072x16384, .bf16⟩
  | .hbm, ⟨55, _⟩ => ⟨S3x3072x16384, .bf16⟩
  | .hbm, ⟨56, _⟩ => ⟨S3x3072x6144, .f32⟩
  | .hbm, ⟨57, _⟩ => ⟨S3x3072x1, .f32⟩
  | .hbm, ⟨58, _⟩ => ⟨S3x3072x6144, .f32⟩
  | .hbm, ⟨59, _⟩ => ⟨S3x3072x6144, .f32⟩
  | .hbm, ⟨60, _⟩ => ⟨S3x3072x6144, .f32⟩
  | .hbm, ⟨61, _⟩ => ⟨S1x1x6144, .f32⟩
  | .hbm, ⟨62, _⟩ => ⟨S3x3072x6144, .f32⟩
  | .hbm, ⟨63, _⟩ => ⟨S3x3072x6144, .f32⟩
  | .hbm, ⟨64, _⟩ => ⟨S_, .f32⟩
  | .hbm, ⟨65, _⟩ => ⟨S6144, .f32⟩
  | .hbm, ⟨66, _⟩ => ⟨S3x3072x32, .f32⟩
  | .hbm, ⟨67, _⟩ => ⟨S3x3072x32, .bf16⟩
  | .hbm, ⟨68, _⟩ => ⟨S3x3072, .bf16⟩
  | .hbm, ⟨69, _⟩ => ⟨S3x3072x1, .bf16⟩
  | .hbm, ⟨70, _⟩ => ⟨S3x3072x16384, .bf16⟩
  | .hbm, ⟨71, _⟩ => ⟨S3x3072x16384, .bf16⟩
  | .hbm, ⟨72, _⟩ => ⟨S16384x32, .f32⟩
  | .hbm, ⟨73, _⟩ => ⟨S_, .f32⟩
  | .hbm, ⟨74, _⟩ => ⟨S16384x32, .f32⟩
  | .hbm, ⟨75, _⟩ => ⟨S16384x32, .f32⟩
  | .hbm, ⟨76, _⟩ => ⟨S16384x32, .bf16⟩
  | .hbm, ⟨77, _⟩ => ⟨S3x3072x32, .f32⟩
  | .hbm, ⟨78, _⟩ => ⟨S3x3072x1, .f32⟩
  | .hbm, ⟨79, _⟩ => ⟨S3x3072x32, .f32⟩
  | .hbm, ⟨80, _⟩ => ⟨S3x3072x32, .f32⟩
  | .hbm, ⟨81, _⟩ => ⟨S3x3072x32, .bf16⟩
  | .hbm, ⟨82, _⟩ => ⟨S32x6144, .f32⟩
  | .hbm, ⟨83, _⟩ => ⟨S_, .f32⟩
  | .hbm, ⟨84, _⟩ => ⟨S32x6144, .f32⟩
  | .hbm, ⟨85, _⟩ => ⟨S32x6144, .f32⟩
  | .hbm, ⟨86, _⟩ => ⟨S32x6144, .bf16⟩
  | .local _ .vmem, ⟨0, _⟩ => ⟨S3x3072x16384, .fp8e4m3⟩
  | .local _ .vmem, ⟨1, _⟩ => ⟨S3x3072x16384, .bf16⟩
  | _, _ => ⟨S3x3072x6144, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_c_2 : Ref sig .tc := ⟨.hbm, 19, rfl⟩
abbrev main_v7 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_c_4 : Ref sig .tc := ⟨.hbm, 25, rfl⟩
abbrev main_v11 : Ref sig .tc := ⟨.hbm, 26, rfl⟩
abbrev main_v12 : Ref sig .tc := ⟨.hbm, 27, rfl⟩
abbrev main_c_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_8 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3x3072x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3072x16384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Offs.lean ====
module

public import proofs.«01_k».proof.Proof.Gen.Kernel.Regions
public import proofs.«01_k».proof.Proof.Gen.Kernel.Points
public import proofs.«01_k».proof.Proof.Gen.Kernel.Skeleton
public import Idealize.ShloMosaic.Lib.VecWindow
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The offsets and conditions of the `dx` and `build_dm` bodies in closed form -/

theorem k2_off1_eq (i : grid2.Coords) : k2_off1 i = ![(i 0).val % 2, 32 * (i 1).val, 0] := by
  have h0 : ∀ a : Fin 10, k2_off1 (Fin.cons a (Fin.cons (0 : Fin 32) (fun z => z.elim0))) 0 = a.val % 2 := by decide +kernel
  have h1 : ∀ b : Fin 32, (Scalar.indexCast (Scalar.muli (BitVec.ofNat 32 b.val) 32#32) : Index).toNat = 32 * b.val := by decide +kernel
  funext a
  match a with
  | ⟨0, _⟩ => exact h0 (i 0)
  | ⟨1, _⟩ => exact h1 (i 1)
  | ⟨2, _⟩ => rfl

theorem k2_off2_eq (i : grid2.Coords) : k2_off2 i = ![(i 0).val % 2, 32 * (i 1).val, 0] := k2_off1_eq i

theorem k2_off3_eq (i : grid2.Coords) : k2_off3 i = ![((i 0).val + 1) % 2, 0, 0] := by
  have h0 : ∀ a : Fin 10, k2_off3 (Fin.cons a (Fin.cons (0 : Fin 32) (fun z => z.elim0))) 0 = (a.val + 1) % 2 := by decide +kernel
  funext a
  match a with
  | ⟨0, _⟩ => exact h0 (i 0)
  | ⟨1, _⟩ => rfl
  | ⟨2, _⟩ => rfl

instance closedOff_k2_1 (i : grid2.Coords) : ClosedOff (k2_off1 i) := ⟨_, k2_off1_eq i⟩
instance closedOff_k2_2 (i : grid2.Coords) : ClosedOff (k2_off2 i) := ⟨_, k2_off2_eq i⟩
instance closedOff_k2_3 (i : grid2.Coords) : ClosedOff (k2_off3 i) := ⟨_, k2_off3_eq i⟩

theorem mul1024 : ∀ b : Fin 16, (Scalar.indexCast (Scalar.muli (BitVec.ofNat 32 b.val) 1024#32) : Index).toNat = 1024 * b.val := by decide +kernel

theorem k1_off1_eq_1 (i : grid1.Coords) : k1_off1 i 1 = 1024 * (i 1).val := by
  unfold k1_off1
  dsimp only [Matrix.cons_val_one, Matrix.cons_val_zero]
  exact mul1024 (i 1)

theorem k1_off1_eq_0 (i : grid1.Coords) : k1_off1 i 0 = (i 0).val % 2 := by
  unfold k1_off1
  dsimp only [Matrix.cons_val_one, Matrix.cons_val_zero]
  generalize i 0 = a
  revert a
  decide +kernel

theorem k1_off1_eq (i : grid1.Coords) : k1_off1 i = ![(i 0).val % 2, 1024 * (i 1).val, 0] := by
  funext a
  match a with
  | ⟨0, _⟩ => exact k1_off1_eq_0 i
  | ⟨1, _⟩ => exact k1_off1_eq_1 i
  | ⟨2, _⟩ => rfl

theorem k1_off2_eq (i : grid1.Coords) : k1_off2 i = ![(i 0).val % 2, 1024 * (i 1).val, 0] := k1_off1_eq i

theorem k1_slot_eq : ∀ a : Fin 13, k1_off3 (Fin.cons a (Fin.cons (0 : Fin 16) (fun z => z.elim0))) 0 = (a.val + 1) % 2 := by decide +kernel

theorem k1_off3_eq (i : grid1.Coords) : k1_off3 i = ![((i 0).val + 1) % 2, 0, 0] := by
  funext a
  match a with
  | ⟨0, _⟩ => exact k1_slot_eq (i 0)
  | ⟨1, _⟩ => rfl
  | ⟨2, _⟩ => rfl

theorem k1_off4_eq (i : grid1.Coords) : k1_off4 i = ![((i 0).val + 1) % 2, 2048, 0] := by
  funext a
  match a with
  | ⟨0, _⟩ => exact k1_slot_eq (i 0)
  | ⟨1, _⟩ => rfl
  | ⟨2, _⟩ => rfl

theorem k1_off5_eq (i : grid1.Coords) : k1_off5 i = ![((i 0).val + 1) % 2, 4096, 0] := by
  funext a
  match a with
  | ⟨0, _⟩ => exact k1_slot_eq (i 0)
  | ⟨1, _⟩ => rfl
  | ⟨2, _⟩ => rfl

theorem k1_off6_eq (i : grid1.Coords) : k1_off6 i = ![((i 0).val + 1) % 2, 6144, 0] := by
  funext a
  match a with
  | ⟨0, _⟩ => exact k1_slot_eq (i 0)
  | ⟨1, _⟩ => rfl
  | ⟨2, _⟩ => rfl

theorem k1_off7_eq (i : grid1.Coords) : k1_off7 i = ![((i 0).val + 1) % 2, 8192, 0] := by
  funext a
  match a with
  | ⟨0, _⟩ => exact k1_slot_eq (i 0)
  | ⟨1, _⟩ => rfl
  | ⟨2, _⟩ => rfl

theorem k1_off8_eq (i : grid1.Coords) : k1_off8 i = ![((i 0).val + 1) % 2, 10240, 0] := by
  funext a
  match a with
  | ⟨0, _⟩ => exact k1_slot_eq (i 0)
  | ⟨1, _⟩ => rfl
  | ⟨2, _⟩ => rfl

theorem k1_off9_eq (i : grid1.Coords) : k1_off9 i = ![((i 0).val + 1) % 2, 12288, 0] := by
  funext a
  match a with
  | ⟨0, _⟩ => exact k1_slot_eq (i 0)
  | ⟨1, _⟩ => rfl
  | ⟨2, _⟩ => rfl

theorem k1_off10_eq (i : grid1.Coords) : k1_off10 i = ![((i 0).val + 1) % 2, 14336, 0] := by
  funext a
  match a with
  | ⟨0, _⟩ => exact k1_slot_eq (i 0)
  | ⟨1, _⟩ => rfl
  | ⟨2, _⟩ => rfl

instance closedOff_k1_1 (i : grid1.Coords) : ClosedOff (k1_off1 i) := ⟨_, k1_off1_eq i⟩
instance closedOff_k1_2 (i : grid1.Coords) : ClosedOff (k1_off2 i) := ⟨_, k1_off2_eq i⟩
instance closedOff_k1_3 (i : grid1.Coords) : ClosedOff (k1_off3 i) := ⟨_, k1_off3_eq i⟩
instance closedOff_k1_4 (i : grid1.Coords) : ClosedOff (k1_off4 i) := ⟨_, k1_off4_eq i⟩
instance closedOff_k1_5 (i : grid1.Coords) : ClosedOff (k1_off5 i) := ⟨_, k1_off5_eq i⟩
instance closedOff_k1_6 (i : grid1.Coords) : ClosedOff (k1_off6 i) := ⟨_, k1_off6_eq i⟩
instance closedOff_k1_7 (i : grid1.Coords) : ClosedOff (k1_off7 i) := ⟨_, k1_off7_eq i⟩
instance closedOff_k1_8 (i : grid1.Coords) : ClosedOff (k1_off8 i) := ⟨_, k1_off8_eq i⟩
instance closedOff_k1_9 (i : grid1.Coords) : ClosedOff (k1_off9 i) := ⟨_, k1_off9_eq i⟩
instance closedOff_k1_10 (i : grid1.Coords) : ClosedOff (k1_off10 i) := ⟨_, k1_off10_eq i⟩

/-- The first row of the `dx` grid. -/
theorem k2_cond1_iff (i : grid2.Coords) : k2_cond1 i = 1#1 ↔ (i 0).val = 0 := by
  have h : ∀ a : Fin 10, k2_cond1 (Fin.cons a (Fin.cons (0 : Fin 32) (fun z => z.elim0))) = 1#1 ↔ a.val = 0 := by decide +kernel
  exact h (i 0)
/-- Its later rows. -/
theorem k2_cond2_iff (i : grid2.Coords) : k2_cond2 i = 1#1 ↔ (i 0).val ≠ 0 := by
  have h : ∀ a : Fin 10, k2_cond2 (Fin.cons a (Fin.cons (0 : Fin 32) (fun z => z.elim0))) = 1#1 ↔ a.val ≠ 0 := by decide +kernel
  exact h (i 0)
/-- The first row of the `build_dm` grid. -/
theorem k1_cond1_iff (i : grid1.Coords) : k1_cond1 i = 1#1 ↔ (i 0).val = 0 := by
  have h : ∀ a : Fin 13, k1_cond1 (Fin.cons a (Fin.cons (0 : Fin 16) (fun z => z.elim0))) = 1#1 ↔ a.val = 0 := by decide +kernel
  exact h (i 0)
/-- Its later rows. -/
theorem k1_cond2_iff (i : grid1.Coords) : k1_cond2 i = 1#1 ↔ (i 0).val ≠ 0 := by
  have h : ∀ a : Fin 13, k1_cond2 (Fin.cons a (Fin.cons (0 : Fin 16) (fun z => z.elim0))) = 1#1 ↔ a.val ≠ 0 := by decide +kernel
  exact h (i 0)
/-- The first block of rows of a column of the `build_dm` grid. -/
theorem k1_cond3_iff (i : grid1.Coords) : k1_cond3 i = 1#1 ↔ (i 1).val = 0 := by
  have h : ∀ a : Fin 16, k1_cond3 (Fin.cons (0 : Fin 13) (Fin.cons a (fun z => z.elim0))) = 1#1 ↔ a.val = 0 := by decide +kernel
  exact h (i 1)
/-- Its later blocks. -/
theorem k1_cond4_iff (i : grid1.Coords) : k1_cond4 i = 1#1 ↔ (i 1).val ≠ 0 := by
  have h : ∀ a : Fin 16, k1_cond4 (Fin.cons (0 : Fin 13) (Fin.cons a (fun z => z.elim0))) = 1#1 ↔ a.val ≠ 0 := by decide +kernel
  exact h (i 1)

end Cert.Kernel.Hand

end
-- ==== Proof.Kernel.SkBody.lean ====
module

public import proofs.«01_k».proof.Proof.Kernel.Offs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the `skinny` call, one grid point at a time -/

/-- Chunk `j` (2048 columns) of the running sum for the left factor's gradient after 256 more rows. -/
def daChunk (x1 : Vec F S256x6144 .bf16) (x2 : Vec F S256x16384 .fp8e4m3) (x3 : Vec F S256x1 .f32) (x5 : Vec F S32x6144 .bf16) (x6 x7 : Vec F S1x6144 .f32)
    (b : Vec F S32x16384 .f32) : Fin 8 → Vec F S32x2048 .f32
  | 0 => k0_pay13 (k0_pay12 x6 x7 x1 x3 x5 (VecWindow.window x2 ![0, 0] S256x2048.size inb_S256x16384_S256x2048_0_0) (VecWindow.window b ![0, 0] S32x2048.size inb_S32x16384_S32x2048_0_0))
  | 1 => k0_pay15 (k0_pay8 x3) (k0_pay9 x6 x7 x1 x5) (VecWindow.window x2 ![0, 2048] S256x2048.size inb_S256x16384_S256x2048_0_2048) (VecWindow.window b ![0, 2048] S32x2048.size inb_S32x16384_S32x2048_0_2048)
  | 2 => k0_pay18 (k0_pay8 x3) (k0_pay9 x6 x7 x1 x5) (VecWindow.window x2 ![0, 4096] S256x2048.size inb_S256x16384_S256x2048_0_4096) (VecWindow.window b ![0, 4096] S32x2048.size inb_S32x16384_S32x2048_0_4096)
  | 3 => k0_pay20 (k0_pay8 x3) (k0_pay9 x6 x7 x1 x5) (k0_pay19 (VecWindow.window x2 ![0, 6144] S256x2048.size inb_S256x16384_S256x2048_0_6144)) (VecWindow.window b ![0, 6144] S32x2048.size inb_S32x16384_S32x2048_0_6144)
  | 4 => k0_pay22 (k0_pay8 x3) (k0_pay9 x6 x7 x1 x5) (VecWindow.window x2 ![0, 8192] S256x2048.size inb_S256x16384_S256x2048_0_8192) (VecWindow.window b ![0, 8192] S32x2048.size inb_S32x16384_S32x2048_0_8192)
  | 5 => k0_pay26 (VecWindow.window b ![0, 10240] S32x2048.size inb_S32x16384_S32x2048_0_10240) (k0_pay25 (k0_pay8 x3) (k0_pay9 x6 x7 x1 x5) (VecWindow.window x2 ![0, 10240] S256x2048.size inb_S256x16384_S256x2048_0_10240))
  | 6 => k0_pay28 (k0_pay8 x3) (k0_pay9 x6 x7 x1 x5) (VecWindow.window x2 ![0, 12288] S256x2048.size inb_S256x16384_S256x2048_0_12288) (VecWindow.window b ![0, 12288] S32x2048.size inb_S32x16384_S32x2048_0_12288)
  | 7 => k0_pay30 (k0_pay8 x3) (k0_pay9 x6 x7 x1 x5) (VecWindow.window x2 ![0, 14336] S256x2048.size inb_S256x16384_S256x2048_0_14336) (VecWindow.window b ![0, 14336] S32x2048.size inb_S32x16384_S32x2048_0_14336)

/-- The running sum for the left factor's gradient after 256 more rows: its eight chunks, put one after the other. -/
def daNew (x1 : Vec F S256x6144 .bf16) (x2 : Vec F S256x16384 .fp8e4m3) (x3 : Vec F S256x1 .f32) (x5 : Vec F S32x6144 .bf16) (x6 x7 : Vec F S1x6144 .f32)
    (b : Vec F S32x16384 .f32) : Vec F S32x16384 .f32 :=
  VecWindow.put (VecWindow.put (VecWindow.put (VecWindow.put (VecWindow.put (VecWindow.put (VecWindow.put (VecWindow.put (b) ![0, 0] S32x2048.size (daChunk x1 x2 x3 x5 x6 x7 b 0)) ![0, 2048] S32x2048.size (daChunk x1 x2 x3 x5 x6 x7 b 1)) ![0, 4096] S32x2048.size (daChunk x1 x2 x3 x5 x6 x7 b 2)) ![0, 6144] S32x2048.size (daChunk x1 x2 x3 x5 x6 x7 b 3)) ![0, 8192] S32x2048.size (daChunk x1 x2 x3 x5 x6 x7 b 4)) ![0, 10240] S32x2048.size (daChunk x1 x2 x3 x5 x6 x7 b 5)) ![0, 12288] S32x2048.size (daChunk x1 x2 x3 x5 x6 x7 b 6)) ![0, 14336] S32x2048.size (daChunk x1 x2 x3 x5 x6 x7 b 7)

/-- The running sum for the right factor's gradient after 256 more rows. -/
def dbNew (x1 : Vec F S256x6144 .bf16) (x2 : Vec F S256x16384 .fp8e4m3) (x3 : Vec F S256x1 .f32) (x4 : Vec F S16384x32 .bf16) (x6 x7 : Vec F S1x6144 .f32)
    (b : Vec F S32x6144 .f32) : Vec F S32x6144 .f32 :=
  k0_pay1 (k0_pay6 x6 x7 x1) (k0_pay31 (k0_pay7 x3) (k0_pay24 (k0_pay17 (k0_pay11 (VecWindow.window x2 ![0, 0] S256x2048.size inb_S256x16384_S256x2048_0_0) (VecWindow.window x4 ![0, 0] S2048x32.size inb_S16384x32_S2048x32_0_0))
        (VecWindow.window x2 ![0, 2048] S256x2048.size inb_S256x16384_S256x2048_0_2048) (VecWindow.window x4 ![2048, 0] S2048x32.size inb_S16384x32_S2048x32_2048_0)
        (VecWindow.window x2 ![0, 4096] S256x2048.size inb_S256x16384_S256x2048_0_4096) (VecWindow.window x4 ![4096, 0] S2048x32.size inb_S16384x32_S2048x32_4096_0))
      (k0_pay19 (VecWindow.window x2 ![0, 6144] S256x2048.size inb_S256x16384_S256x2048_0_6144)) (VecWindow.window x4 ![6144, 0] S2048x32.size inb_S16384x32_S2048x32_6144_0)
      (VecWindow.window x2 ![0, 8192] S256x2048.size inb_S256x16384_S256x2048_0_8192) (VecWindow.window x4 ![8192, 0] S2048x32.size inb_S16384x32_S2048x32_8192_0)
      (VecWindow.window x2 ![0, 10240] S256x2048.size inb_S256x16384_S256x2048_0_10240) (VecWindow.window x4 ![10240, 0] S2048x32.size inb_S16384x32_S2048x32_10240_0))
    (VecWindow.window x2 ![0, 12288] S256x2048.size inb_S256x16384_S256x2048_0_12288) (VecWindow.window x4 ![12288, 0] S2048x32.size inb_S16384x32_S2048x32_12288_0)
    (VecWindow.window x2 ![0, 14336] S256x2048.size inb_S256x16384_S256x2048_0_14336) (VecWindow.window x4 ![14336, 0] S2048x32.size inb_S16384x32_S2048x32_14336_0)) b

/-- A point is the first one, as the body tests it. -/
abbrev k0_cond0 (i : grid0.Coords) : BitVec 1 := Scalar.cmpi .ne (Scalar.extui (Scalar.cmpi .eq (BitVec.ofNat 32 (i 0).val) 0#32) : BitVec 32) 0#32

theorem k0_cond0_iff (i : grid0.Coords) : k0_cond0 i = 1#1 ↔ (i 0).val = 0 := by
  have key : ∀ n : Fin 36, (Scalar.cmpi .ne (Scalar.extui (Scalar.cmpi .eq (BitVec.ofNat 32 n.val) 0#32) : BitVec 32) 0#32) = 1#1 ↔ n.val = 0 := by decide +kernel
  exact key (i 0)

theorem k0_cond2_iff (i : grid0.Coords) : k0_cond2 i = 1#1 ↔ (i 0).val = 35 := by
  unfold k0_cond2; dsimp only
  generalize i 0 = a; revert a; decide +kernel

/-- A load of a box through stores that leave `z` in the whole buffer reads `z`'s window. -/
theorem readCov_window {sp : Space} {s : Shape} {e : EltTy} (v : View sig .tc sp s e) (L : List (View.Piece (Elt F) s e))
    (off size : Fin s.rank → ℕ) (inb : ∀ a, off a + size a ≤ s.size a) (z : s.Idx → Elt F e) (h : ∀ f, v.read (Elt F) (v.writes (Elt F) f L) = z) :
    v.readCov L (Rect.unit off size inb).toLoadRect = VecWindow.window z off size inb :=
  (View.readAt_unit v _ _ rfl inb).trans (by rw [h])

/-- Eight chunks side by side fill the whole buffer: what was there before does not matter. -/
theorem put_chunks_any (w : Fin 8 → Vec F S32x2048 .f32) (b b' : Vec F S32x16384 .f32) :
    VecWindow.put (VecWindow.put (VecWindow.put (VecWindow.put (VecWindow.put (VecWindow.put (VecWindow.put (VecWindow.put (b) ![0, 0] S32x2048.size (w 0)) ![0, 2048] S32x2048.size (w 1)) ![0, 4096] S32x2048.size (w 2)) ![0, 6144] S32x2048.size (w 3)) ![0, 8192] S32x2048.size (w 4)) ![0, 10240] S32x2048.size (w 5)) ![0, 12288] S32x2048.size (w 6)) ![0, 14336] S32x2048.size (w 7)
      = VecWindow.put (VecWindow.put (VecWindow.put (VecWindow.put (VecWindow.put (VecWindow.put (VecWindow.put (VecWindow.put (b') ![0, 0] S32x2048.size (w 0)) ![0, 2048] S32x2048.size (w 1)) ![0, 4096] S32x2048.size (w 2)) ![0, 6144] S32x2048.size (w 3)) ![0, 8192] S32x2048.size (w 4)) ![0, 10240] S32x2048.size (w 5)) ![0, 12288] S32x2048.size (w 6)) ![0, 14336] S32x2048.size (w 7) := by
  funext y
  have h0 : (y 0).val < 32 := (y 0).isLt
  have h1 : (y 1).val < 16384 := (y 1).isLt
  have key : ∀ n : ℕ, ¬ (∀ a : Fin 2, (![0, n] : Fin 2 → ℕ) a ≤ (y a).val ∧ (y a).val < (![0, n] : Fin 2 → ℕ) a + S32x2048.size a) → ¬ (n ≤ (y 1).val ∧ (y 1).val < n + 2048) := by
    intro n hn h
    refine hn fun a => ?_
    match a with
    | ⟨0, _⟩ => exact ⟨Nat.zero_le _, by show (y 0).val < 0 + 32; omega⟩
    | ⟨1, _⟩ => exact h
  unfold VecWindow.put
  refine dite_congr rfl (fun _ => rfl) fun n7 => ?_
  refine dite_congr rfl (fun _ => rfl) fun n6 => ?_
  refine dite_congr rfl (fun _ => rfl) fun n5 => ?_
  refine dite_congr rfl (fun _ => rfl) fun n4 => ?_
  refine dite_congr rfl (fun _ => rfl) fun n3 => ?_
  refine dite_congr rfl (fun _ => rfl) fun n2 => ?_
  refine dite_congr rfl (fun _ => rfl) fun n1 => ?_
  refine dite_congr rfl (fun _ => rfl) fun n0 => ?_
  have k0 := key 0 n0
  have k1 := key 2048 n1
  have k2 := key 4096 n2
  have k3 := key 6144 n3
  have k4 := key 8192 n4
  have k5 := key 10240 n5
  have k6 := key 12288 n6
  have k7 := key 14336 n7
  omega

set_option maxHeartbeats 4000000 in
/-- At the first point the body starts both running sums. -/
theorem sk_body_first (c : Dev nD) (i : grid0.Coords)
    (arg1 : Memref sig .tc .vmem S256x6144 .bf16) (harg1 : arg1.IsWhole)
    (arg2 : Memref sig .tc .vmem S256x16384 .fp8e4m3) (harg2 : arg2.IsWhole)
    (arg3 : Memref sig .tc .vmem S256x1 .f32) (harg3 : arg3.IsWhole)
    (arg4 : Memref sig .tc .vmem S16384x32 .bf16) (harg4 : arg4.IsWhole)
    (arg5 : Memref sig .tc .vmem S32x6144 .bf16) (harg5 : arg5.IsWhole)
    (arg6 : Memref sig .tc .vmem S1x6144 .f32) (harg6 : arg6.IsWhole)
    (arg7 : Memref sig .tc .vmem S1x6144 .f32) (harg7 : arg7.IsWhole)
    (arg8 : Memref sig .tc .vmem S32x16384 .bf16) (harg8 : arg8.IsWhole)
    (arg9 : Memref sig .tc .vmem S32x6144 .bf16) (harg9 : arg9.IsWhole)
    (arg10 : Memref sig .tc .vmem S32x16384 .f32) (harg10 : arg10.IsWhole)
    (arg11 : Memref sig .tc .vmem S32x6144 .f32) (harg11 : arg11.IsWhole)
    (hc0 : k0_cond0 i = 1#1) (hc2 : ¬ k0_cond2 i = 1#1)
    (x1 : Vec F S256x6144 .bf16) (x2 : Vec F S256x16384 .fp8e4m3) (x3 : Vec F S256x1 .f32) (x4 : Vec F S16384x32 .bf16) (x5 : Vec F S32x6144 .bf16) (x6 : Vec F S1x6144 .f32) (x7 : Vec F S1x6144 .f32)
    (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ (∃ d, owns (c : Thread nD τ) arg10 fullShare d)
        ∗ (∃ d, owns (c : Thread nD τ) arg11 fullShare d)
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg10 fullShare (daNew x1 x2 x3 x5 x6 x7 k0_pay4)
        ∗ owns (c : Thread nD τ) arg11 fullShare (dbNew x1 x2 x3 x4 x6 x7 k0_pay5)) -∗ K ⟨⟩))
      ⊢ wp frame (wpE (defs₀ (F := F)) Variants.none c none) E (cc0_skinny i arg1 harg1 arg2 harg2 arg3 harg3 arg4 harg4 arg5 harg5 arg6 harg6 arg7 harg7 arg8 harg8 arg9 harg9 arg10 harg10 arg11 harg11) K := by
  simp only [cc0_skinny_eq_skeleton]; unfold cc0_skinny_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  have hx1 : (arg1.view.readAt (Elt F) (Rect.unit (s := S256x6144) ![0, 0] S256x6144.size inb_S256x6144_S256x6144_0_0).toLoadRect (harg1.unread x1)) = x1 := by rw [View.readAt_full arg1.view, hf1]
  have hx3 : (arg3.view.readAt (Elt F) (Rect.unit (s := S256x1) ![0, 0] S256x1.size inb_S256x1_S256x1_0_0).toLoadRect (harg3.unread x3)) = x3 := by rw [View.readAt_full arg3.view, hf3]
  have hx5 : (arg5.view.readAt (Elt F) (Rect.unit (s := S32x6144) ![0, 0] S32x6144.size inb_S32x6144_S32x6144_0_0).toLoadRect (harg5.unread x5)) = x5 := by rw [View.readAt_full arg5.view, hf5]
  have hx6 : (arg6.view.readAt (Elt F) (Rect.unit (s := S1x6144) ![0, 0] S1x6144.size inb_S1x6144_S1x6144_0_0).toLoadRect (harg6.unread x6)) = x6 := by rw [View.readAt_full arg6.view, hf6]
  have hx7 : (arg7.view.readAt (Elt F) (Rect.unit (s := S1x6144) ![0, 0] S1x6144.size inb_S1x6144_S1x6144_0_0).toLoadRect (harg7.unread x7)) = x7 := by rw [View.readAt_full arg7.view, hf7]
  have hw0 : (arg2.view.readAt (Elt F) (Rect.unit (s := S256x16384) ![0, 0] S256x2048.size inb_S256x16384_S256x2048_0_0).toLoadRect (harg2.unread x2)) = (VecWindow.window x2 ![0, 0] S256x2048.size inb_S256x16384_S256x2048_0_0) := by
    rw [View.readAt_unit arg2.view _ _ rfl inb_S256x16384_S256x2048_0_0, hf2]
  have ha0 : (arg4.view.readAt (Elt F) (Rect.unit (s := S16384x32) ![0, 0] S2048x32.size inb_S16384x32_S2048x32_0_0).toLoadRect (harg4.unread x4)) = (VecWindow.window x4 ![0, 0] S2048x32.size inb_S16384x32_S2048x32_0_0) := by
    rw [View.readAt_unit arg4.view _ _ rfl inb_S16384x32_S2048x32_0_0, hf4]
  have hw1 : (arg2.view.readAt (Elt F) (Rect.unit (s := S256x16384) ![0, 2048] S256x2048.size inb_S256x16384_S256x2048_0_2048).toLoadRect (harg2.unread x2)) = (VecWindow.window x2 ![0, 2048] S256x2048.size inb_S256x16384_S256x2048_0_2048) := by
    rw [View.readAt_unit arg2.view _ _ rfl inb_S256x16384_S256x2048_0_2048, hf2]
  have ha1 : (arg4.view.readAt (Elt F) (Rect.unit (s := S16384x32) ![2048, 0] S2048x32.size inb_S16384x32_S2048x32_2048_0).toLoadRect (harg4.unread x4)) = (VecWindow.window x4 ![2048, 0] S2048x32.size inb_S16384x32_S2048x32_2048_0) := by
    rw [View.readAt_unit arg4.view _ _ rfl inb_S16384x32_S2048x32_2048_0, hf4]
  have hw2 : (arg2.view.readAt (Elt F) (Rect.unit (s := S256x16384) ![0, 4096] S256x2048.size inb_S256x16384_S256x2048_0_4096).toLoadRect (harg2.unread x2)) = (VecWindow.window x2 ![0, 4096] S256x2048.size inb_S256x16384_S256x2048_0_4096) := by
    rw [View.readAt_unit arg2.view _ _ rfl inb_S256x16384_S256x2048_0_4096, hf2]
  have ha2 : (arg4.view.readAt (Elt F) (Rect.unit (s := S16384x32) ![4096, 0] S2048x32.size inb_S16384x32_S2048x32_4096_0).toLoadRect (harg4.unread x4)) = (VecWindow.window x4 ![4096, 0] S2048x32.size inb_S16384x32_S2048x32_4096_0) := by
    rw [View.readAt_unit arg4.view _ _ rfl inb_S16384x32_S2048x32_4096_0, hf4]
  have hw3 : (arg2.view.readAt (Elt F) (Rect.unit (s := S256x16384) ![0, 6144] S256x2048.size inb_S256x16384_S256x2048_0_6144).toLoadRect (harg2.unread x2)) = (VecWindow.window x2 ![0, 6144] S256x2048.size inb_S256x16384_S256x2048_0_6144) := by
    rw [View.readAt_unit arg2.view _ _ rfl inb_S256x16384_S256x2048_0_6144, hf2]
  have ha3 : (arg4.view.readAt (Elt F) (Rect.unit (s := S16384x32) ![6144, 0] S2048x32.size inb_S16384x32_S2048x32_6144_0).toLoadRect (harg4.unread x4)) = (VecWindow.window x4 ![6144, 0] S2048x32.size inb_S16384x32_S2048x32_6144_0) := by
    rw [View.readAt_unit arg4.view _ _ rfl inb_S16384x32_S2048x32_6144_0, hf4]
  have hw4 : (arg2.view.readAt (Elt F) (Rect.unit (s := S256x16384) ![0, 8192] S256x2048.size inb_S256x16384_S256x2048_0_8192).toLoadRect (harg2.unread x2)) = (VecWindow.window x2 ![0, 8192] S256x2048.size inb_S256x16384_S256x2048_0_8192) := by
    rw [View.readAt_unit arg2.view _ _ rfl inb_S256x16384_S256x2048_0_8192, hf2]
  have ha4 : (arg4.view.readAt (Elt F) (Rect.unit (s := S16384x32) ![8192, 0] S2048x32.size inb_S16384x32_S2048x32_8192_0).toLoadRect (harg4.unread x4)) = (VecWindow.window x4 ![8192, 0] S2048x32.size inb_S16384x32_S2048x32_8192_0) := by
    rw [View.readAt_unit arg4.view _ _ rfl inb_S16384x32_S2048x32_8192_0, hf4]
  have hw5 : (arg2.view.readAt (Elt F) (Rect.unit (s := S256x16384) ![0, 10240] S256x2048.size inb_S256x16384_S256x2048_0_10240).toLoadRect (harg2.unread x2)) = (VecWindow.window x2 ![0, 10240] S256x2048.size inb_S256x16384_S256x2048_0_10240) := by
    rw [View.readAt_unit arg2.view _ _ rfl inb_S256x16384_S256x2048_0_10240, hf2]
  have ha5 : (arg4.view.readAt (Elt F) (Rect.unit (s := S16384x32) ![10240, 0] S2048x32.size inb_S16384x32_S2048x32_10240_0).toLoadRect (harg4.unread x4)) = (VecWindow.window x4 ![10240, 0] S2048x32.size inb_S16384x32_S2048x32_10240_0) := by
    rw [View.readAt_unit arg4.view _ _ rfl inb_S16384x32_S2048x32_10240_0, hf4]
  have hw6 : (arg2.view.readAt (Elt F) (Rect.unit (s := S256x16384) ![0, 12288] S256x2048.size inb_S256x16384_S256x2048_0_12288).toLoadRect (harg2.unread x2)) = (VecWindow.window x2 ![0, 12288] S256x2048.size inb_S256x16384_S256x2048_0_12288) := by
    rw [View.readAt_unit arg2.view _ _ rfl inb_S256x16384_S256x2048_0_12288, hf2]
  have ha6 : (arg4.view.readAt (Elt F) (Rect.unit (s := S16384x32) ![12288, 0] S2048x32.size inb_S16384x32_S2048x32_12288_0).toLoadRect (harg4.unread x4)) = (VecWindow.window x4 ![12288, 0] S2048x32.size inb_S16384x32_S2048x32_12288_0) := by
    rw [View.readAt_unit arg4.view _ _ rfl inb_S16384x32_S2048x32_12288_0, hf4]
  have hw7 : (arg2.view.readAt (Elt F) (Rect.unit (s := S256x16384) ![0, 14336] S256x2048.size inb_S256x16384_S256x2048_0_14336).toLoadRect (harg2.unread x2)) = (VecWindow.window x2 ![0, 14336] S256x2048.size inb_S256x16384_S256x2048_0_14336) := by
    rw [View.readAt_unit arg2.view _ _ rfl inb_S256x16384_S256x2048_0_14336, hf2]
  have ha7 : (arg4.view.readAt (Elt F) (Rect.unit (s := S16384x32) ![14336, 0] S2048x32.size inb_S16384x32_S2048x32_14336_0).toLoadRect (harg4.unread x4)) = (VecWindow.window x4 ![14336, 0] S2048x32.size inb_S16384x32_S2048x32_14336_0) := by
    rw [View.readAt_unit arg4.view _ _ rfl inb_S16384x32_S2048x32_14336_0, hf4]
  sl_exec (disch := first | sl_exact hc0 | sl_exact hc2)
  sl_step
  have h1 : ∀ f, arg10.view.read (Elt F) (arg10.view.writes (Elt F) f (sk_body_first.sl.H10_1 (F := F))) = k0_pay4 := fun f =>
    View.read_writes_full arg10.view f inb_S32x16384_S32x16384_0_0 _ []
  have e0 : sk_body_first.sl.v27 (F := F) c arg10 = VecWindow.window k0_pay4 ![0, 0] S32x2048.size inb_S32x16384_S32x2048_0_0 := by
    refine (readCov_window arg10.view _ _ _ _ _ h1).trans ?_
    rfl
  have h2 : ∀ f, arg10.view.read (Elt F) (arg10.view.writes (Elt F) f (sk_body_first.sl.H10_2 c arg10 x1 x2 x3 x5 x6 x7)) = (VecWindow.put k0_pay4 ![0, 0] S32x2048.size (daChunk x1 x2 x3 x5 x6 x7 k0_pay4 0)) := by
    intro f
    unfold sk_body_first.sl.H10_2 sk_body_first.sl.r_1
    rw [View.read_writes_cons_put arg10.view _ _ _ _ rfl, h1, e0]; rfl
  have e1 : sk_body_first.sl.v41 c arg10 x1 x2 x3 x5 x6 x7 = VecWindow.window k0_pay4 ![0, 2048] S32x2048.size inb_S32x16384_S32x2048_0_2048 := by
    refine (readCov_window arg10.view _ _ _ _ _ h2).trans ?_
    rw [VecWindow.window_put_of_disjoint _ _ _ _ _ _ _ 1 (.inr (by decide))]
  have h3 : ∀ f, arg10.view.read (Elt F) (arg10.view.writes (Elt F) f (sk_body_first.sl.H10_3 c arg10 x1 x2 x3 x5 x6 x7)) = (VecWindow.put (VecWindow.put k0_pay4 ![0, 0] S32x2048.size (daChunk x1 x2 x3 x5 x6 x7 k0_pay4 0)) ![0, 2048] S32x2048.size (daChunk x1 x2 x3 x5 x6 x7 k0_pay4 1)) := by
    intro f
    unfold sk_body_first.sl.H10_3
    rw [View.read_writes_cons_put arg10.view _ _ _ _ rfl, h2, e1]; rfl
  have e2 : sk_body_first.sl.v55 c arg10 x1 x2 x3 x5 x6 x7 = VecWindow.window k0_pay4 ![0, 4096] S32x2048.size inb_S32x16384_S32x2048_0_4096 := by
    refine (readCov_window arg10.view _ _ _ _ _ h3).trans ?_
    rw [VecWindow.window_put_of_disjoint _ _ _ _ _ _ _ 1 (.inr (by decide)), VecWindow.window_put_of_disjoint _ _ _ _ _ _ _ 1 (.inr (by decide))]
  have h4 : ∀ f, arg10.view.read (Elt F) (arg10.view.writes (Elt F) f (sk_body_first.sl.H10_4 c arg10 x1 x2 x3 x5 x6 x7)) = (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) := by
    intro f
    unfold sk_body_first.sl.H10_4
    rw [View.read_writes_cons_put arg10.view _ _ _ _ rfl, h3, e2]; rfl
  have e3 : sk_body_first.sl.v69 c arg10 x1 x2 x3 x5 x6 x7 = VecWindow.window k0_pay4 ![0, 6144] S32x2048.size inb_S32x16384_S32x2048_0_6144 := by
    refine (readCov_window arg10.view _ _ _ _ _ h4).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h5 : ∀ f, arg10.view.read (Elt F) (arg10.view.writes (Elt F) f (sk_body_first.sl.H10_5 c arg10 x1 x2 x3 x5 x6 x7)) = (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) := by
    intro f
    unfold sk_body_first.sl.H10_5
    rw [View.read_writes_cons_put arg10.view _ _ _ _ rfl, h4, e3]; rfl
  have e4 : sk_body_first.sl.v83 c arg10 x1 x2 x3 x5 x6 x7 = VecWindow.window k0_pay4 ![0, 8192] S32x2048.size inb_S32x16384_S32x2048_0_8192 := by
    refine (readCov_window arg10.view _ _ _ _ _ h5).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h6 : ∀ f, arg10.view.read (Elt F) (arg10.view.writes (Elt F) f (sk_body_first.sl.H10_6 c arg10 x1 x2 x3 x5 x6 x7)) = (VecWindow.put (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) ![0, 8192] S32x2048.size (daChunk x1 x2 x3 x5 x6 x7 k0_pay4 4)) := by
    intro f
    unfold sk_body_first.sl.H10_6
    rw [View.read_writes_cons_put arg10.view _ _ _ _ rfl, h5, e4]; rfl
  have e5 : sk_body_first.sl.v97 c arg10 x1 x2 x3 x5 x6 x7 = VecWindow.window k0_pay4 ![0, 10240] S32x2048.size inb_S32x16384_S32x2048_0_10240 := by
    refine (readCov_window arg10.view _ _ _ _ _ h6).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h7 : ∀ f, arg10.view.read (Elt F) (arg10.view.writes (Elt F) f (sk_body_first.sl.H10_7 c arg10 x1 x2 x3 x5 x6 x7)) = (VecWindow.put (VecWindow.put (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) ![0, 8192] S32x2048.size (daChunk x1 x2 x3 x5 x6 x7 k0_pay4 4)) ![0, 10240] S32x2048.size (daChunk x1 x2 x3 x5 x6 x7 k0_pay4 5)) := by
    intro f
    unfold sk_body_first.sl.H10_7
    rw [View.read_writes_cons_put arg10.view _ _ _ _ rfl, h6, e5]; rfl
  have e6 : sk_body_first.sl.v111 c arg10 x1 x2 x3 x5 x6 x7 = VecWindow.window k0_pay4 ![0, 12288] S32x2048.size inb_S32x16384_S32x2048_0_12288 := by
    refine (readCov_window arg10.view _ _ _ _ _ h7).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h8 : ∀ f, arg10.view.read (Elt F) (arg10.view.writes (Elt F) f (sk_body_first.sl.H10_8 c arg10 x1 x2 x3 x5 x6 x7)) = (VecWindow.put (VecWindow.put (VecWindow.put (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) ![0, 8192] S32x2048.size (daChunk x1 x2 x3 x5 x6 x7 k0_pay4 4)) ![0, 10240] S32x2048.size (daChunk x1 x2 x3 x5 x6 x7 k0_pay4 5)) ![0, 12288] S32x2048.size (daChunk x1 x2 x3 x5 x6 x7 k0_pay4 6)) := by
    intro f
    unfold sk_body_first.sl.H10_8
    rw [View.read_writes_cons_put arg10.view _ _ _ _ rfl, h7, e6]; rfl
  have e7 : sk_body_first.sl.v125 c arg10 x1 x2 x3 x5 x6 x7 = VecWindow.window k0_pay4 ![0, 14336] S32x2048.size inb_S32x16384_S32x2048_0_14336 := by
    refine (readCov_window arg10.view _ _ _ _ _ h8).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H10]
  · iexists _; isplitr; swap; · iexact H10
    ipureintro
    rw [View.read_writes_cons_put arg10.view _ _ _ _ rfl, h8, e7]; rfl
  iexists _; isplitr; swap; · iexact H11
  ipureintro
  refine (View.read_writes_full arg11.view f11 inb_S32x6144_S32x6144_0_0 _ _).trans ?_
  have e : sk_body_first.sl.v136 (F := F) c arg11 = k0_pay5 := View.readCov_full arg11.view inb_S32x6144_S32x6144_0_0 inb_S32x6144_S32x6144_0_0 _ []
  rw [e]; rfl

set_option maxHeartbeats 4000000 in
/-- At a middle point it adds to them. -/
theorem sk_body_more (c : Dev nD) (i : grid0.Coords)
    (arg1 : Memref sig .tc .vmem S256x6144 .bf16) (harg1 : arg1.IsWhole)
    (arg2 : Memref sig .tc .vmem S256x16384 .fp8e4m3) (harg2 : arg2.IsWhole)
    (arg3 : Memref sig .tc .vmem S256x1 .f32) (harg3 : arg3.IsWhole)
    (arg4 : Memref sig .tc .vmem S16384x32 .bf16) (harg4 : arg4.IsWhole)
    (arg5 : Memref sig .tc .vmem S32x6144 .bf16) (harg5 : arg5.IsWhole)
    (arg6 : Memref sig .tc .vmem S1x6144 .f32) (harg6 : arg6.IsWhole)
    (arg7 : Memref sig .tc .vmem S1x6144 .f32) (harg7 : arg7.IsWhole)
    (arg8 : Memref sig .tc .vmem S32x16384 .bf16) (harg8 : arg8.IsWhole)
    (arg9 : Memref sig .tc .vmem S32x6144 .bf16) (harg9 : arg9.IsWhole)
    (arg10 : Memref sig .tc .vmem S32x16384 .f32) (harg10 : arg10.IsWhole)
    (arg11 : Memref sig .tc .vmem S32x6144 .f32) (harg11 : arg11.IsWhole)
    (hc0 : ¬ k0_cond0 i = 1#1) (hc2 : ¬ k0_cond2 i = 1#1)
    (x1 : Vec F S256x6144 .bf16) (x2 : Vec F S256x16384 .fp8e4m3) (x3 : Vec F S256x1 .f32) (x4 : Vec F S16384x32 .bf16) (x5 : Vec F S32x6144 .bf16) (x6 : Vec F S1x6144 .f32) (x7 : Vec F S1x6144 .f32) (x10 : Vec F S32x16384 .f32) (x11 : Vec F S32x6144 .f32)
    (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg10 fullShare x10
        ∗ owns (c : Thread nD τ) arg11 fullShare x11
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg10 fullShare (daNew x1 x2 x3 x5 x6 x7 x10)
        ∗ owns (c : Thread nD τ) arg11 fullShare (dbNew x1 x2 x3 x4 x6 x7 x11)) -∗ K ⟨⟩))
      ⊢ wp frame (wpE (defs₀ (F := F)) Variants.none c none) E (cc0_skinny i arg1 harg1 arg2 harg2 arg3 harg3 arg4 harg4 arg5 harg5 arg6 harg6 arg7 harg7 arg8 harg8 arg9 harg9 arg10 harg10 arg11 harg11) K := by
  simp only [cc0_skinny_eq_skeleton]; unfold cc0_skinny_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11
  have hx1 : (arg1.view.readAt (Elt F) (Rect.unit (s := S256x6144) ![0, 0] S256x6144.size inb_S256x6144_S256x6144_0_0).toLoadRect (harg1.unread x1)) = x1 := by rw [View.readAt_full arg1.view, hf1]
  have hx3 : (arg3.view.readAt (Elt F) (Rect.unit (s := S256x1) ![0, 0] S256x1.size inb_S256x1_S256x1_0_0).toLoadRect (harg3.unread x3)) = x3 := by rw [View.readAt_full arg3.view, hf3]
  have hx5 : (arg5.view.readAt (Elt F) (Rect.unit (s := S32x6144) ![0, 0] S32x6144.size inb_S32x6144_S32x6144_0_0).toLoadRect (harg5.unread x5)) = x5 := by rw [View.readAt_full arg5.view, hf5]
  have hx6 : (arg6.view.readAt (Elt F) (Rect.unit (s := S1x6144) ![0, 0] S1x6144.size inb_S1x6144_S1x6144_0_0).toLoadRect (harg6.unread x6)) = x6 := by rw [View.readAt_full arg6.view, hf6]
  have hx7 : (arg7.view.readAt (Elt F) (Rect.unit (s := S1x6144) ![0, 0] S1x6144.size inb_S1x6144_S1x6144_0_0).toLoadRect (harg7.unread x7)) = x7 := by rw [View.readAt_full arg7.view, hf7]
  have hw0 : (arg2.view.readAt (Elt F) (Rect.unit (s := S256x16384) ![0, 0] S256x2048.size inb_S256x16384_S256x2048_0_0).toLoadRect (harg2.unread x2)) = (VecWindow.window x2 ![0, 0] S256x2048.size inb_S256x16384_S256x2048_0_0) := by
    rw [View.readAt_unit arg2.view _ _ rfl inb_S256x16384_S256x2048_0_0, hf2]
  have ha0 : (arg4.view.readAt (Elt F) (Rect.unit (s := S16384x32) ![0, 0] S2048x32.size inb_S16384x32_S2048x32_0_0).toLoadRect (harg4.unread x4)) = (VecWindow.window x4 ![0, 0] S2048x32.size inb_S16384x32_S2048x32_0_0) := by
    rw [View.readAt_unit arg4.view _ _ rfl inb_S16384x32_S2048x32_0_0, hf4]
  have hw1 : (arg2.view.readAt (Elt F) (Rect.unit (s := S256x16384) ![0, 2048] S256x2048.size inb_S256x16384_S256x2048_0_2048).toLoadRect (harg2.unread x2)) = (VecWindow.window x2 ![0, 2048] S256x2048.size inb_S256x16384_S256x2048_0_2048) := by
    rw [View.readAt_unit arg2.view _ _ rfl inb_S256x16384_S256x2048_0_2048, hf2]
  have ha1 : (arg4.view.readAt (Elt F) (Rect.unit (s := S16384x32) ![2048, 0] S2048x32.size inb_S16384x32_S2048x32_2048_0).toLoadRect (harg4.unread x4)) = (VecWindow.window x4 ![2048, 0] S2048x32.size inb_S16384x32_S2048x32_2048_0) := by
    rw [View.readAt_unit arg4.view _ _ rfl inb_S16384x32_S2048x32_2048_0, hf4]
  have hw2 : (arg2.view.readAt (Elt F) (Rect.unit (s := S256x16384) ![0, 4096] S256x2048.size inb_S256x16384_S256x2048_0_4096).toLoadRect (harg2.unread x2)) = (VecWindow.window x2 ![0, 4096] S256x2048.size inb_S256x16384_S256x2048_0_4096) := by
    rw [View.readAt_unit arg2.view _ _ rfl inb_S256x16384_S256x2048_0_4096, hf2]
  have ha2 : (arg4.view.readAt (Elt F) (Rect.unit (s := S16384x32) ![4096, 0] S2048x32.size inb_S16384x32_S2048x32_4096_0).toLoadRect (harg4.unread x4)) = (VecWindow.window x4 ![4096, 0] S2048x32.size inb_S16384x32_S2048x32_4096_0) := by
    rw [View.readAt_unit arg4.view _ _ rfl inb_S16384x32_S2048x32_4096_0, hf4]
  have hw3 : (arg2.view.readAt (Elt F) (Rect.unit (s := S256x16384) ![0, 6144] S256x2048.size inb_S256x16384_S256x2048_0_6144).toLoadRect (harg2.unread x2)) = (VecWindow.window x2 ![0, 6144] S256x2048.size inb_S256x16384_S256x2048_0_6144) := by
    rw [View.readAt_unit arg2.view _ _ rfl inb_S256x16384_S256x2048_0_6144, hf2]
  have ha3 : (arg4.view.readAt (Elt F) (Rect.unit (s := S16384x32) ![6144, 0] S2048x32.size inb_S16384x32_S2048x32_6144_0).toLoadRect (harg4.unread x4)) = (VecWindow.window x4 ![6144, 0] S2048x32.size inb_S16384x32_S2048x32_6144_0) := by
    rw [View.readAt_unit arg4.view _ _ rfl inb_S16384x32_S2048x32_6144_0, hf4]
  have hw4 : (arg2.view.readAt (Elt F) (Rect.unit (s := S256x16384) ![0, 8192] S256x2048.size inb_S256x16384_S256x2048_0_8192).toLoadRect (harg2.unread x2)) = (VecWindow.window x2 ![0, 8192] S256x2048.size inb_S256x16384_S256x2048_0_8192) := by
    rw [View.readAt_unit arg2.view _ _ rfl inb_S256x16384_S256x2048_0_8192, hf2]
  have ha4 : (arg4.view.readAt (Elt F) (Rect.unit (s := S16384x32) ![8192, 0] S2048x32.size inb_S16384x32_S2048x32_8192_0).toLoadRect (harg4.unread x4)) = (VecWindow.window x4 ![8192, 0] S2048x32.size inb_S16384x32_S2048x32_8192_0) := by
    rw [View.readAt_unit arg4.view _ _ rfl inb_S16384x32_S2048x32_8192_0, hf4]
  have hw5 : (arg2.view.readAt (Elt F) (Rect.unit (s := S256x16384) ![0, 10240] S256x2048.size inb_S256x16384_S256x2048_0_10240).toLoadRect (harg2.unread x2)) = (VecWindow.window x2 ![0, 10240] S256x2048.size inb_S256x16384_S256x2048_0_10240) := by
    rw [View.readAt_unit arg2.view _ _ rfl inb_S256x16384_S256x2048_0_10240, hf2]
  have ha5 : (arg4.view.readAt (Elt F) (Rect.unit (s := S16384x32) ![10240, 0] S2048x32.size inb_S16384x32_S2048x32_10240_0).toLoadRect (harg4.unread x4)) = (VecWindow.window x4 ![10240, 0] S2048x32.size inb_S16384x32_S2048x32_10240_0) := by
    rw [View.readAt_unit arg4.view _ _ rfl inb_S16384x32_S2048x32_10240_0, hf4]
  have hw6 : (arg2.view.readAt (Elt F) (Rect.unit (s := S256x16384) ![0, 12288] S256x2048.size inb_S256x16384_S256x2048_0_12288).toLoadRect (harg2.unread x2)) = (VecWindow.window x2 ![0, 12288] S256x2048.size inb_S256x16384_S256x2048_0_12288) := by
    rw [View.readAt_unit arg2.view _ _ rfl inb_S256x16384_S256x2048_0_12288, hf2]
  have ha6 : (arg4.view.readAt (Elt F) (Rect.unit (s := S16384x32) ![12288, 0] S2048x32.size inb_S16384x32_S2048x32_12288_0).toLoadRect (harg4.unread x4)) = (VecWindow.window x4 ![12288, 0] S2048x32.size inb_S16384x32_S2048x32_12288_0) := by
    rw [View.readAt_unit arg4.view _ _ rfl inb_S16384x32_S2048x32_12288_0, hf4]
  have hw7 : (arg2.view.readAt (Elt F) (Rect.unit (s := S256x16384) ![0, 14336] S256x2048.size inb_S256x16384_S256x2048_0_14336).toLoadRect (harg2.unread x2)) = (VecWindow.window x2 ![0, 14336] S256x2048.size inb_S256x16384_S256x2048_0_14336) := by
    rw [View.readAt_unit arg2.view _ _ rfl inb_S256x16384_S256x2048_0_14336, hf2]
  have ha7 : (arg4.view.readAt (Elt F) (Rect.unit (s := S16384x32) ![14336, 0] S2048x32.size inb_S16384x32_S2048x32_14336_0).toLoadRect (harg4.unread x4)) = (VecWindow.window x4 ![14336, 0] S2048x32.size inb_S16384x32_S2048x32_14336_0) := by
    rw [View.readAt_unit arg4.view _ _ rfl inb_S16384x32_S2048x32_14336_0, hf4]
  have hb0 : (arg10.view.readAt (Elt F) (Rect.unit (s := S32x16384) ![0, 0] S32x2048.size inb_S32x16384_S32x2048_0_0).toLoadRect (harg10.unread x10)) = (VecWindow.window x10 ![0, 0] S32x2048.size inb_S32x16384_S32x2048_0_0) := by
    rw [View.readAt_unit arg10.view _ _ rfl inb_S32x16384_S32x2048_0_0, hf10]
  have hb1 : (arg10.view.readAt (Elt F) (Rect.unit (s := S32x16384) ![0, 2048] S32x2048.size inb_S32x16384_S32x2048_0_2048).toLoadRect (harg10.unread x10)) = (VecWindow.window x10 ![0, 2048] S32x2048.size inb_S32x16384_S32x2048_0_2048) := by
    rw [View.readAt_unit arg10.view _ _ rfl inb_S32x16384_S32x2048_0_2048, hf10]
  have hb2 : (arg10.view.readAt (Elt F) (Rect.unit (s := S32x16384) ![0, 4096] S32x2048.size inb_S32x16384_S32x2048_0_4096).toLoadRect (harg10.unread x10)) = (VecWindow.window x10 ![0, 4096] S32x2048.size inb_S32x16384_S32x2048_0_4096) := by
    rw [View.readAt_unit arg10.view _ _ rfl inb_S32x16384_S32x2048_0_4096, hf10]
  have hb3 : (arg10.view.readAt (Elt F) (Rect.unit (s := S32x16384) ![0, 6144] S32x2048.size inb_S32x16384_S32x2048_0_6144).toLoadRect (harg10.unread x10)) = (VecWindow.window x10 ![0, 6144] S32x2048.size inb_S32x16384_S32x2048_0_6144) := by
    rw [View.readAt_unit arg10.view _ _ rfl inb_S32x16384_S32x2048_0_6144, hf10]
  have hb4 : (arg10.view.readAt (Elt F) (Rect.unit (s := S32x16384) ![0, 8192] S32x2048.size inb_S32x16384_S32x2048_0_8192).toLoadRect (harg10.unread x10)) = (VecWindow.window x10 ![0, 8192] S32x2048.size inb_S32x16384_S32x2048_0_8192) := by
    rw [View.readAt_unit arg10.view _ _ rfl inb_S32x16384_S32x2048_0_8192, hf10]
  have hb5 : (arg10.view.readAt (Elt F) (Rect.unit (s := S32x16384) ![0, 10240] S32x2048.size inb_S32x16384_S32x2048_0_10240).toLoadRect (harg10.unread x10)) = (VecWindow.window x10 ![0, 10240] S32x2048.size inb_S32x16384_S32x2048_0_10240) := by
    rw [View.readAt_unit arg10.view _ _ rfl inb_S32x16384_S32x2048_0_10240, hf10]
  have hb6 : (arg10.view.readAt (Elt F) (Rect.unit (s := S32x16384) ![0, 12288] S32x2048.size inb_S32x16384_S32x2048_0_12288).toLoadRect (harg10.unread x10)) = (VecWindow.window x10 ![0, 12288] S32x2048.size inb_S32x16384_S32x2048_0_12288) := by
    rw [View.readAt_unit arg10.view _ _ rfl inb_S32x16384_S32x2048_0_12288, hf10]
  have hb7 : (arg10.view.readAt (Elt F) (Rect.unit (s := S32x16384) ![0, 14336] S32x2048.size inb_S32x16384_S32x2048_0_14336).toLoadRect (harg10.unread x10)) = (VecWindow.window x10 ![0, 14336] S32x2048.size inb_S32x16384_S32x2048_0_14336) := by
    rw [View.readAt_unit arg10.view _ _ rfl inb_S32x16384_S32x2048_0_14336, hf10]
  have hx11 : (arg11.view.readAt (Elt F) (Rect.unit (s := S32x6144) ![0, 0] S32x6144.size inb_S32x6144_S32x6144_0_0).toLoadRect (harg11.unread x11)) = x11 := by rw [View.readAt_full arg11.view, hf11]
  sl_exec (disch := first | sl_exact hc0 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H10]
  · iexists _; isplitr; swap; · iexact H10
    ipureintro
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.writes_nil, hf10]; rfl
  iexists _; isplitr; swap; · iexact H11
  ipureintro
  exact (View.read_writes_full arg11.view _ inb_S32x6144_S32x6144_0_0 _ []).trans rfl

set_option maxHeartbeats 4000000 in
/-- At the last point it adds to them and stores half of each. -/
theorem sk_body_last (c : Dev nD) (i : grid0.Coords)
    (arg1 : Memref sig .tc .vmem S256x6144 .bf16) (harg1 : arg1.IsWhole)
    (arg2 : Memref sig .tc .vmem S256x16384 .fp8e4m3) (harg2 : arg2.IsWhole)
    (arg3 : Memref sig .tc .vmem S256x1 .f32) (harg3 : arg3.IsWhole)
    (arg4 : Memref sig .tc .vmem S16384x32 .bf16) (harg4 : arg4.IsWhole)
    (arg5 : Memref sig .tc .vmem S32x6144 .bf16) (harg5 : arg5.IsWhole)
    (arg6 : Memref sig .tc .vmem S1x6144 .f32) (harg6 : arg6.IsWhole)
    (arg7 : Memref sig .tc .vmem S1x6144 .f32) (harg7 : arg7.IsWhole)
    (arg8 : Memref sig .tc .vmem S32x16384 .bf16) (harg8 : arg8.IsWhole)
    (arg9 : Memref sig .tc .vmem S32x6144 .bf16) (harg9 : arg9.IsWhole)
    (arg10 : Memref sig .tc .vmem S32x16384 .f32) (harg10 : arg10.IsWhole)
    (arg11 : Memref sig .tc .vmem S32x6144 .f32) (harg11 : arg11.IsWhole)
    (hc0 : ¬ k0_cond0 i = 1#1) (hc2 : k0_cond2 i = 1#1)
    (x1 : Vec F S256x6144 .bf16) (x2 : Vec F S256x16384 .fp8e4m3) (x3 : Vec F S256x1 .f32) (x4 : Vec F S16384x32 .bf16) (x5 : Vec F S32x6144 .bf16) (x6 : Vec F S1x6144 .f32) (x7 : Vec F S1x6144 .f32) (x10 : Vec F S32x16384 .f32) (x11 : Vec F S32x6144 .f32)
    (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ (∃ d, owns (c : Thread nD τ) arg8 fullShare d)
        ∗ (∃ d, owns (c : Thread nD τ) arg9 fullShare d)
        ∗ owns (c : Thread nD τ) arg10 fullShare x10
        ∗ owns (c : Thread nD τ) arg11 fullShare x11
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare (k0_pay2 (daNew x1 x2 x3 x5 x6 x7 x10))
        ∗ owns (c : Thread nD τ) arg9 fullShare (k0_pay3 (dbNew x1 x2 x3 x4 x6 x7 x11))
        ∗ owns (c : Thread nD τ) arg10 fullShare (daNew x1 x2 x3 x5 x6 x7 x10)
        ∗ owns (c : Thread nD τ) arg11 fullShare (dbNew x1 x2 x3 x4 x6 x7 x11)) -∗ K ⟨⟩))
      ⊢ wp frame (wpE (defs₀ (F := F)) Variants.none c none) E (cc0_skinny i arg1 harg1 arg2 harg2 arg3 harg3 arg4 harg4 arg5 harg5 arg6 harg6 arg7 harg7 arg8 harg8 arg9 harg9 arg10 harg10 arg11 harg11) K := by
  simp only [cc0_skinny_eq_skeleton]; unfold cc0_skinny_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11
  have hx1 : (arg1.view.readAt (Elt F) (Rect.unit (s := S256x6144) ![0, 0] S256x6144.size inb_S256x6144_S256x6144_0_0).toLoadRect (harg1.unread x1)) = x1 := by rw [View.readAt_full arg1.view, hf1]
  have hx3 : (arg3.view.readAt (Elt F) (Rect.unit (s := S256x1) ![0, 0] S256x1.size inb_S256x1_S256x1_0_0).toLoadRect (harg3.unread x3)) = x3 := by rw [View.readAt_full arg3.view, hf3]
  have hx5 : (arg5.view.readAt (Elt F) (Rect.unit (s := S32x6144) ![0, 0] S32x6144.size inb_S32x6144_S32x6144_0_0).toLoadRect (harg5.unread x5)) = x5 := by rw [View.readAt_full arg5.view, hf5]
  have hx6 : (arg6.view.readAt (Elt F) (Rect.unit (s := S1x6144) ![0, 0] S1x6144.size inb_S1x6144_S1x6144_0_0).toLoadRect (harg6.unread x6)) = x6 := by rw [View.readAt_full arg6.view, hf6]
  have hx7 : (arg7.view.readAt (Elt F) (Rect.unit (s := S1x6144) ![0, 0] S1x6144.size inb_S1x6144_S1x6144_0_0).toLoadRect (harg7.unread x7)) = x7 := by rw [View.readAt_full arg7.view, hf7]
  have hw0 : (arg2.view.readAt (Elt F) (Rect.unit (s := S256x16384) ![0, 0] S256x2048.size inb_S256x16384_S256x2048_0_0).toLoadRect (harg2.unread x2)) = (VecWindow.window x2 ![0, 0] S256x2048.size inb_S256x16384_S256x2048_0_0) := by
    rw [View.readAt_unit arg2.view _ _ rfl inb_S256x16384_S256x2048_0_0, hf2]
  have ha0 : (arg4.view.readAt (Elt F) (Rect.unit (s := S16384x32) ![0, 0] S2048x32.size inb_S16384x32_S2048x32_0_0).toLoadRect (harg4.unread x4)) = (VecWindow.window x4 ![0, 0] S2048x32.size inb_S16384x32_S2048x32_0_0) := by
    rw [View.readAt_unit arg4.view _ _ rfl inb_S16384x32_S2048x32_0_0, hf4]
  have hw1 : (arg2.view.readAt (Elt F) (Rect.unit (s := S256x16384) ![0, 2048] S256x2048.size inb_S256x16384_S256x2048_0_2048).toLoadRect (harg2.unread x2)) = (VecWindow.window x2 ![0, 2048] S256x2048.size inb_S256x16384_S256x2048_0_2048) := by
    rw [View.readAt_unit arg2.view _ _ rfl inb_S256x16384_S256x2048_0_2048, hf2]
  have ha1 : (arg4.view.readAt (Elt F) (Rect.unit (s := S16384x32) ![2048, 0] S2048x32.size inb_S16384x32_S2048x32_2048_0).toLoadRect (harg4.unread x4)) = (VecWindow.window x4 ![2048, 0] S2048x32.size inb_S16384x32_S2048x32_2048_0) := by
    rw [View.readAt_unit arg4.view _ _ rfl inb_S16384x32_S2048x32_2048_0, hf4]
  have hw2 : (arg2.view.readAt (Elt F) (Rect.unit (s := S256x16384) ![0, 4096] S256x2048.size inb_S256x16384_S256x2048_0_4096).toLoadRect (harg2.unread x2)) = (VecWindow.window x2 ![0, 4096] S256x2048.size inb_S256x16384_S256x2048_0_4096) := by
    rw [View.readAt_unit arg2.view _ _ rfl inb_S256x16384_S256x2048_0_4096, hf2]
  have ha2 : (arg4.view.readAt (Elt F) (Rect.unit (s := S16384x32) ![4096, 0] S2048x32.size inb_S16384x32_S2048x32_4096_0).toLoadRect (harg4.unread x4)) = (VecWindow.window x4 ![4096, 0] S2048x32.size inb_S16384x32_S2048x32_4096_0) := by
    rw [View.readAt_unit arg4.view _ _ rfl inb_S16384x32_S2048x32_4096_0, hf4]
  have hw3 : (arg2.view.readAt (Elt F) (Rect.unit (s := S256x16384) ![0, 6144] S256x2048.size inb_S256x16384_S256x2048_0_6144).toLoadRect (harg2.unread x2)) = (VecWindow.window x2 ![0, 6144] S256x2048.size inb_S256x16384_S256x2048_0_6144) := by
    rw [View.readAt_unit arg2.view _ _ rfl inb_S256x16384_S256x2048_0_6144, hf2]
  have ha3 : (arg4.view.readAt (Elt F) (Rect.unit (s := S16384x32) ![6144, 0] S2048x32.size inb_S16384x32_S2048x32_6144_0).toLoadRect (harg4.unread x4)) = (VecWindow.window x4 ![6144, 0] S2048x32.size inb_S16384x32_S2048x32_6144_0) := by
    rw [View.readAt_unit arg4.view _ _ rfl inb_S16384x32_S2048x32_6144_0, hf4]
  have hw4 : (arg2.view.readAt (Elt F) (Rect.unit (s := S256x16384) ![0, 8192] S256x2048.size inb_S256x16384_S256x2048_0_8192).toLoadRect (harg2.unread x2)) = (VecWindow.window x2 ![0, 8192] S256x2048.size inb_S256x16384_S256x2048_0_8192) := by
    rw [View.readAt_unit arg2.view _ _ rfl inb_S256x16384_S256x2048_0_8192, hf2]
  have ha4 : (arg4.view.readAt (Elt F) (Rect.unit (s := S16384x32) ![8192, 0] S2048x32.size inb_S16384x32_S2048x32_8192_0).toLoadRect (harg4.unread x4)) = (VecWindow.window x4 ![8192, 0] S2048x32.size inb_S16384x32_S2048x32_8192_0) := by
    rw [View.readAt_unit arg4.view _ _ rfl inb_S16384x32_S2048x32_8192_0, hf4]
  have hw5 : (arg2.view.readAt (Elt F) (Rect.unit (s := S256x16384) ![0, 10240] S256x2048.size inb_S256x16384_S256x2048_0_10240).toLoadRect (harg2.unread x2)) = (VecWindow.window x2 ![0, 10240] S256x2048.size inb_S256x16384_S256x2048_0_10240) := by
    rw [View.readAt_unit arg2.view _ _ rfl inb_S256x16384_S256x2048_0_10240, hf2]
  have ha5 : (arg4.view.readAt (Elt F) (Rect.unit (s := S16384x32) ![10240, 0] S2048x32.size inb_S16384x32_S2048x32_10240_0).toLoadRect (harg4.unread x4)) = (VecWindow.window x4 ![10240, 0] S2048x32.size inb_S16384x32_S2048x32_10240_0) := by
    rw [View.readAt_unit arg4.view _ _ rfl inb_S16384x32_S2048x32_10240_0, hf4]
  have hw6 : (arg2.view.readAt (Elt F) (Rect.unit (s := S256x16384) ![0, 12288] S256x2048.size inb_S256x16384_S256x2048_0_12288).toLoadRect (harg2.unread x2)) = (VecWindow.window x2 ![0, 12288] S256x2048.size inb_S256x16384_S256x2048_0_12288) := by
    rw [View.readAt_unit arg2.view _ _ rfl inb_S256x16384_S256x2048_0_12288, hf2]
  have ha6 : (arg4.view.readAt (Elt F) (Rect.unit (s := S16384x32) ![12288, 0] S2048x32.size inb_S16384x32_S2048x32_12288_0).toLoadRect (harg4.unread x4)) = (VecWindow.window x4 ![12288, 0] S2048x32.size inb_S16384x32_S2048x32_12288_0) := by
    rw [View.readAt_unit arg4.view _ _ rfl inb_S16384x32_S2048x32_12288_0, hf4]
  have hw7 : (arg2.view.readAt (Elt F) (Rect.unit (s := S256x16384) ![0, 14336] S256x2048.size inb_S256x16384_S256x2048_0_14336).toLoadRect (harg2.unread x2)) = (VecWindow.window x2 ![0, 14336] S256x2048.size inb_S256x16384_S256x2048_0_14336) := by
    rw [View.readAt_unit arg2.view _ _ rfl inb_S256x16384_S256x2048_0_14336, hf2]
  have ha7 : (arg4.view.readAt (Elt F) (Rect.unit (s := S16384x32) ![14336, 0] S2048x32.size inb_S16384x32_S2048x32_14336_0).toLoadRect (harg4.unread x4)) = (VecWindow.window x4 ![14336, 0] S2048x32.size inb_S16384x32_S2048x32_14336_0) := by
    rw [View.readAt_unit arg4.view _ _ rfl inb_S16384x32_S2048x32_14336_0, hf4]
  have hb0 : (arg10.view.readAt (Elt F) (Rect.unit (s := S32x16384) ![0, 0] S32x2048.size inb_S32x16384_S32x2048_0_0).toLoadRect (harg10.unread x10)) = (VecWindow.window x10 ![0, 0] S32x2048.size inb_S32x16384_S32x2048_0_0) := by
    rw [View.readAt_unit arg10.view _ _ rfl inb_S32x16384_S32x2048_0_0, hf10]
  have hb1 : (arg10.view.readAt (Elt F) (Rect.unit (s := S32x16384) ![0, 2048] S32x2048.size inb_S32x16384_S32x2048_0_2048).toLoadRect (harg10.unread x10)) = (VecWindow.window x10 ![0, 2048] S32x2048.size inb_S32x16384_S32x2048_0_2048) := by
    rw [View.readAt_unit arg10.view _ _ rfl inb_S32x16384_S32x2048_0_2048, hf10]
  have hb2 : (arg10.view.readAt (Elt F) (Rect.unit (s := S32x16384) ![0, 4096] S32x2048.size inb_S32x16384_S32x2048_0_4096).toLoadRect (harg10.unread x10)) = (VecWindow.window x10 ![0, 4096] S32x2048.size inb_S32x16384_S32x2048_0_4096) := by
    rw [View.readAt_unit arg10.view _ _ rfl inb_S32x16384_S32x2048_0_4096, hf10]
  have hb3 : (arg10.view.readAt (Elt F) (Rect.unit (s := S32x16384) ![0, 6144] S32x2048.size inb_S32x16384_S32x2048_0_6144).toLoadRect (harg10.unread x10)) = (VecWindow.window x10 ![0, 6144] S32x2048.size inb_S32x16384_S32x2048_0_6144) := by
    rw [View.readAt_unit arg10.view _ _ rfl inb_S32x16384_S32x2048_0_6144, hf10]
  have hb4 : (arg10.view.readAt (Elt F) (Rect.unit (s := S32x16384) ![0, 8192] S32x2048.size inb_S32x16384_S32x2048_0_8192).toLoadRect (harg10.unread x10)) = (VecWindow.window x10 ![0, 8192] S32x2048.size inb_S32x16384_S32x2048_0_8192) := by
    rw [View.readAt_unit arg10.view _ _ rfl inb_S32x16384_S32x2048_0_8192, hf10]
  have hb5 : (arg10.view.readAt (Elt F) (Rect.unit (s := S32x16384) ![0, 10240] S32x2048.size inb_S32x16384_S32x2048_0_10240).toLoadRect (harg10.unread x10)) = (VecWindow.window x10 ![0, 10240] S32x2048.size inb_S32x16384_S32x2048_0_10240) := by
    rw [View.readAt_unit arg10.view _ _ rfl inb_S32x16384_S32x2048_0_10240, hf10]
  have hb6 : (arg10.view.readAt (Elt F) (Rect.unit (s := S32x16384) ![0, 12288] S32x2048.size inb_S32x16384_S32x2048_0_12288).toLoadRect (harg10.unread x10)) = (VecWindow.window x10 ![0, 12288] S32x2048.size inb_S32x16384_S32x2048_0_12288) := by
    rw [View.readAt_unit arg10.view _ _ rfl inb_S32x16384_S32x2048_0_12288, hf10]
  have hb7 : (arg10.view.readAt (Elt F) (Rect.unit (s := S32x16384) ![0, 14336] S32x2048.size inb_S32x16384_S32x2048_0_14336).toLoadRect (harg10.unread x10)) = (VecWindow.window x10 ![0, 14336] S32x2048.size inb_S32x16384_S32x2048_0_14336) := by
    rw [View.readAt_unit arg10.view _ _ rfl inb_S32x16384_S32x2048_0_14336, hf10]
  have hx11 : (arg11.view.readAt (Elt F) (Rect.unit (s := S32x6144) ![0, 0] S32x6144.size inb_S32x6144_S32x6144_0_0).toLoadRect (harg11.unread x11)) = x11 := by rw [View.readAt_full arg11.view, hf11]
  sl_exec (disch := first | sl_exact hc0 | sl_exact hc2)
  sl_step
  have h10 : ∀ f, arg10.view.read (Elt F) (arg10.view.writes (Elt F) f (sk_body_last.sl.H10_8 x1 x2 x3 x5 x6 x7 x10)) = daNew x1 x2 x3 x5 x6 x7 x10 := by
    intro f
    unfold sk_body_last.sl.H10_8
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.writes_nil]
    exact put_chunks_any (daChunk x1 x2 x3 x5 x6 x7 x10) _ x10
  have h11 : arg11.view.read (Elt F) (arg11.view.writes (Elt F) (harg11.unread x11) (sk_body_last.sl.H11_1 x1 x2 x3 x4 x6 x7 x11)) = dbNew x1 x2 x3 x4 x6 x7 x11 := by
    exact (View.read_writes_full arg11.view _ inb_S32x6144_S32x6144_0_0 _ []).trans rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (View.read_writes_full arg8.view f8 inb_S32x16384_S32x16384_0_0 _ []).trans (congrArg k0_pay2 ?_)
    unfold sk_body_last.sl.v145
    exact (View.readAt_full arg10.view _ inb_S32x16384_S32x16384_0_0).trans (h10 _)
  isplitl [H9]
  · iexists _; isplitr; swap; · iexact H9
    ipureintro
    refine (View.read_writes_full arg9.view f9 inb_S32x6144_S32x6144_0_0 _ []).trans (congrArg k0_pay3 ?_)
    unfold sk_body_last.sl.v150 sk_body_last.sl.H11_1
    exact (View.readCov_full arg11.view inb_S32x6144_S32x6144_0_0 inb_S32x6144_S32x6144_0_0 _ []).trans rfl
  isplitl [H10]
  · iexists _; isplitr; swap; · iexact H10
    ipureintro
    exact h10 _
  iexists _; isplitr; swap; · iexact H11
  ipureintro
  exact h11

end Cert.Kernel.Hand

end
-- ==== Proof.Kernel.SkDat.lean ====
module

public import proofs.«01_k».proof.Proof.Kernel.SkBody
public import Idealize.ShloMosaic.Lib.Pipeline.RegionArrays

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The `skinny` call: what its scratch and its outputs hold at each grid point -/

variable (W : Dev nD → Valuation τ sig (Elt F))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

theorem N0 : cfg0.N = 36 := N_0
theorem co0_0 (t : Fin cfg0.N) : (cfg0.grid.coords t 0).val = t.val := by
  have h : (grid0.coords t 0).val = t.val / 1 % 36 := Pipeline.Grid.coords_val t 0 (by decide) rfl
  have hN : t.val < 36 := lt_of_lt_of_eq t.isLt N0
  rw [show (cfg0.grid.coords t 0).val = (grid0.coords t 0).val from rfl, h]; omega

/-- The left factor's gradient, transposed and before the last scaling, summed over the rows of points `0 … n`. -/
def daAcc (c : Dev nD) : ℕ → Vec F S32x16384 .f32
  | 0 => daNew (iblk0 W c 0 (⟨0, by rw [N0]; decide⟩ : Fin cfg0.N)) (iblk0 W c 1 (⟨0, by rw [N0]; decide⟩ : Fin cfg0.N)) (iblk0 W c 2 (⟨0, by rw [N0]; decide⟩ : Fin cfg0.N)) (iblk0 W c 4 (⟨0, by rw [N0]; decide⟩ : Fin cfg0.N)) (iblk0 W c 5 (⟨0, by rw [N0]; decide⟩ : Fin cfg0.N)) (iblk0 W c 6 (⟨0, by rw [N0]; decide⟩ : Fin cfg0.N)) k0_pay4
  | n + 1 => if h : n + 1 < cfg0.N then daNew (iblk0 W c 0 (⟨n + 1, h⟩ : Fin cfg0.N)) (iblk0 W c 1 (⟨n + 1, h⟩ : Fin cfg0.N)) (iblk0 W c 2 (⟨n + 1, h⟩ : Fin cfg0.N)) (iblk0 W c 4 (⟨n + 1, h⟩ : Fin cfg0.N)) (iblk0 W c 5 (⟨n + 1, h⟩ : Fin cfg0.N)) (iblk0 W c 6 (⟨n + 1, h⟩ : Fin cfg0.N)) (daAcc c n) else daAcc c n

theorem daAcc_start (c : Dev nD) (t : Fin cfg0.N) (h : t.val = 0) : daAcc W c t.val = daNew (iblk0 W c 0 t) (iblk0 W c 1 t) (iblk0 W c 2 t) (iblk0 W c 4 t) (iblk0 W c 5 t) (iblk0 W c 6 t) k0_pay4 := by
  obtain ⟨n, hn⟩ := t
  simp only at h; subst h; rfl

theorem daAcc_more (c : Dev nD) (t : Fin cfg0.N) (h : t.val ≠ 0) : daAcc W c t.val = daNew (iblk0 W c 0 t) (iblk0 W c 1 t) (iblk0 W c 2 t) (iblk0 W c 4 t) (iblk0 W c 5 t) (iblk0 W c 6 t) (daAcc W c (t.val - 1)) := by
  obtain ⟨n, hn⟩ := t
  cases n with
  | zero => exact absurd rfl h
  | succ n => simp only [daAcc]; rw [dif_pos hn]; rfl

/-- The right factor's gradient, before the last scaling, summed over the rows of points `0 … n`. -/
def dbAcc (c : Dev nD) : ℕ → Vec F S32x6144 .f32
  | 0 => dbNew (iblk0 W c 0 (⟨0, by rw [N0]; decide⟩ : Fin cfg0.N)) (iblk0 W c 1 (⟨0, by rw [N0]; decide⟩ : Fin cfg0.N)) (iblk0 W c 2 (⟨0, by rw [N0]; decide⟩ : Fin cfg0.N)) (iblk0 W c 3 (⟨0, by rw [N0]; decide⟩ : Fin cfg0.N)) (iblk0 W c 5 (⟨0, by rw [N0]; decide⟩ : Fin cfg0.N)) (iblk0 W c 6 (⟨0, by rw [N0]; decide⟩ : Fin cfg0.N)) k0_pay5
  | n + 1 => if h : n + 1 < cfg0.N then dbNew (iblk0 W c 0 (⟨n + 1, h⟩ : Fin cfg0.N)) (iblk0 W c 1 (⟨n + 1, h⟩ : Fin cfg0.N)) (iblk0 W c 2 (⟨n + 1, h⟩ : Fin cfg0.N)) (iblk0 W c 3 (⟨n + 1, h⟩ : Fin cfg0.N)) (iblk0 W c 5 (⟨n + 1, h⟩ : Fin cfg0.N)) (iblk0 W c 6 (⟨n + 1, h⟩ : Fin cfg0.N)) (dbAcc c n) else dbAcc c n

theorem dbAcc_start (c : Dev nD) (t : Fin cfg0.N) (h : t.val = 0) : dbAcc W c t.val = dbNew (iblk0 W c 0 t) (iblk0 W c 1 t) (iblk0 W c 2 t) (iblk0 W c 3 t) (iblk0 W c 5 t) (iblk0 W c 6 t) k0_pay5 := by
  obtain ⟨n, hn⟩ := t
  simp only at h; subst h; rfl

theorem dbAcc_more (c : Dev nD) (t : Fin cfg0.N) (h : t.val ≠ 0) : dbAcc W c t.val = dbNew (iblk0 W c 0 t) (iblk0 W c 1 t) (iblk0 W c 2 t) (iblk0 W c 3 t) (iblk0 W c 5 t) (iblk0 W c 6 t) (dbAcc W c (t.val - 1)) := by
  obtain ⟨n, hn⟩ := t
  cases n with
  | zero => exact absurd rfl h
  | succ n => simp only [dbAcc]; rw [dif_pos hn]; rfl

/-- The proof data of the `skinny` call entered at the contents `W`. -/
def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => k0_pay2 (daAcc W c t.val)
    | ⟨8, _⟩ => k0_pay3 (dbAcc W c t.val)
  Φ t := iprop((∃ x y, owns (c : Thread nD τ) (Memref.whole cc0_scratch0) fullShare x ∗ owns (c : Thread nD τ) (Memref.whole cc0_scratch1) fullShare y
      ∗ ⌜t.val ≠ 0 → x = daAcc W c (t.val - 1) ∧ y = dbAcc W c (t.val - 1)⌝)
    ∗ Pipeline.scopedRestBut (Ix := Unit) (Name := ℕ) (U := UR sig nD τ) (Lvl := ℕ) (Val := Elt F) spec0 c [cc0_scratch0, cc0_scratch1]
    ∗ (∃ r, prngReg c r))
  q _ := fullShare
  owed _ := 0

theorem before0_0_of {c : Dev nD} (dat : Dat τ (Elt F) Unit ℕ (UR sig nD τ) ℕ cfg0 c) (hA : dat.A 0 = W c (Pipeline.arrRef spec0 0))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = W c (Pipeline.arrRef spec0 1))
    (hafter : ∀ t, dat.after 1 t = iblk0 W c 1 t) (t : Fin cfg0.N) (d) : dat.before 1 t d = iblk0 W c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = W c (Pipeline.arrRef spec0 2))
    (hafter : ∀ t, dat.after 2 t = iblk0 W c 2 t) (t : Fin cfg0.N) (d) : dat.before 2 t d = iblk0 W c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = W c (Pipeline.arrRef spec0 3))
    (hafter : ∀ t, dat.after 3 t = iblk0 W c 3 t) (t : Fin cfg0.N) (d) : dat.before 3 t d = iblk0 W c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = W c (Pipeline.arrRef spec0 4))
    (hafter : ∀ t, dat.after 4 t = iblk0 W c 4 t) (t : Fin cfg0.N) (d) : dat.before 4 t d = iblk0 W c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = W c (Pipeline.arrRef spec0 5))
    (hafter : ∀ t, dat.after 5 t = iblk0 W c 5 t) (t : Fin cfg0.N) (d) : dat.before 5 t d = iblk0 W c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = W c (Pipeline.arrRef spec0 6))
    (hafter : ∀ t, dat.after 6 t = iblk0 W c 6 t) (t : Fin cfg0.N) (d) : dat.before 6 t d = iblk0 W c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem A_eq0 (c : Dev nD) (w : Fin cfg0.W) : (dat0 W c).A w = W c (Pipeline.arrRef spec0 w) := by
  dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = iblk0 W c 6 t := by dsimp only [dat0]
theorem after0_7 (c : Dev nD) (t : Fin cfg0.N) : (dat0 W c).after 7 t = k0_pay2 (daAcc W c t.val) := by dsimp only [dat0]
theorem after0_8 (c : Dev nD) (t : Fin cfg0.N) : (dat0 W c).after 8 t = k0_pay3 (dbAcc W c t.val) := by dsimp only [dat0]
theorem before0_0 (c : Dev nD) (t : Fin cfg0.N) (d) : (dat0 W c).before 0 t d = iblk0 W c 0 t :=
  before0_0_of W (dat0 W c) (A_eq0 W c 0) (after0_0 W c) t d
theorem before0_1 (c : Dev nD) (t : Fin cfg0.N) (d) : (dat0 W c).before 1 t d = iblk0 W c 1 t :=
  before0_1_of W (dat0 W c) (A_eq0 W c 1) (after0_1 W c) t d
theorem before0_2 (c : Dev nD) (t : Fin cfg0.N) (d) : (dat0 W c).before 2 t d = iblk0 W c 2 t :=
  before0_2_of W (dat0 W c) (A_eq0 W c 2) (after0_2 W c) t d
theorem before0_3 (c : Dev nD) (t : Fin cfg0.N) (d) : (dat0 W c).before 3 t d = iblk0 W c 3 t :=
  before0_3_of W (dat0 W c) (A_eq0 W c 3) (after0_3 W c) t d
theorem before0_4 (c : Dev nD) (t : Fin cfg0.N) (d) : (dat0 W c).before 4 t d = iblk0 W c 4 t :=
  before0_4_of W (dat0 W c) (A_eq0 W c 4) (after0_4 W c) t d
theorem before0_5 (c : Dev nD) (t : Fin cfg0.N) (d) : (dat0 W c).before 5 t d = iblk0 W c 5 t :=
  before0_5_of W (dat0 W c) (A_eq0 W c 5) (after0_5 W c) t d
theorem before0_6 (c : Dev nD) (t : Fin cfg0.N) (d) : (dat0 W c).before 6 t d = iblk0 W c 6 t :=
  before0_6_of W (dat0 W c) (A_eq0 W c 6) (after0_6 W c) t d
theorem leaves0_0 (c : Dev nD) (t : Fin cfg0.N) : (dat0 W c).leavesExact 0 t = owns (c : Thread nD τ) (st0_0 t) fullShare (iblk0 W c 0 t) := by
  rw [show (dat0 W c).leavesExact 0 t = owns (c : Thread nD τ) (st0_0 t) fullShare ((dat0 W c).after 0 t) from by
    unfold Dat.leavesExact; rw [show cfg0.idle 0 (cfg0.grid.coords t) = false from rfl]]
  rw [after0_0]
theorem leaves0_1 (c : Dev nD) (t : Fin cfg0.N) : (dat0 W c).leavesExact 1 t = owns (c : Thread nD τ) (st0_1 t) fullShare (iblk0 W c 1 t) := by
  rw [show (dat0 W c).leavesExact 1 t = owns (c : Thread nD τ) (st0_1 t) fullShare ((dat0 W c).after 1 t) from by
    unfold Dat.leavesExact; rw [show cfg0.idle 1 (cfg0.grid.coords t) = false from rfl]]
  rw [after0_1]
theorem leaves0_2 (c : Dev nD) (t : Fin cfg0.N) : (dat0 W c).leavesExact 2 t = owns (c : Thread nD τ) (st0_2 t) fullShare (iblk0 W c 2 t) := by
  rw [show (dat0 W c).leavesExact 2 t = owns (c : Thread nD τ) (st0_2 t) fullShare ((dat0 W c).after 2 t) from by
    unfold Dat.leavesExact; rw [show cfg0.idle 2 (cfg0.grid.coords t) = false from rfl]]
  rw [after0_2]
theorem leaves0_3 (c : Dev nD) (t : Fin cfg0.N) : (dat0 W c).leavesExact 3 t = owns (c : Thread nD τ) (st0_3 t) fullShare (iblk0 W c 3 t) := by
  rw [show (dat0 W c).leavesExact 3 t = owns (c : Thread nD τ) (st0_3 t) fullShare ((dat0 W c).after 3 t) from by
    unfold Dat.leavesExact; rw [show cfg0.idle 3 (cfg0.grid.coords t) = false from rfl]]
  rw [after0_3]
theorem leaves0_4 (c : Dev nD) (t : Fin cfg0.N) : (dat0 W c).leavesExact 4 t = owns (c : Thread nD τ) (st0_4 t) fullShare (iblk0 W c 4 t) := by
  rw [show (dat0 W c).leavesExact 4 t = owns (c : Thread nD τ) (st0_4 t) fullShare ((dat0 W c).after 4 t) from by
    unfold Dat.leavesExact; rw [show cfg0.idle 4 (cfg0.grid.coords t) = false from rfl]]
  rw [after0_4]
theorem leaves0_5 (c : Dev nD) (t : Fin cfg0.N) : (dat0 W c).leavesExact 5 t = owns (c : Thread nD τ) (st0_5 t) fullShare (iblk0 W c 5 t) := by
  rw [show (dat0 W c).leavesExact 5 t = owns (c : Thread nD τ) (st0_5 t) fullShare ((dat0 W c).after 5 t) from by
    unfold Dat.leavesExact; rw [show cfg0.idle 5 (cfg0.grid.coords t) = false from rfl]]
  rw [after0_5]
theorem leaves0_6 (c : Dev nD) (t : Fin cfg0.N) : (dat0 W c).leavesExact 6 t = owns (c : Thread nD τ) (st0_6 t) fullShare (iblk0 W c 6 t) := by
  rw [show (dat0 W c).leavesExact 6 t = owns (c : Thread nD τ) (st0_6 t) fullShare ((dat0 W c).after 6 t) from by
    unfold Dat.leavesExact; rw [show cfg0.idle 6 (cfg0.grid.coords t) = false from rfl]]
  rw [after0_6]
/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d))
    ∗ (∃ d, owns (c : Thread nD τ) (st0_7 t) fullShare ((dat0 W c).before 7 t d))
    ∗ (∃ d, owns (c : Thread nD τ) (st0_8 t) fullShare ((dat0 W c).before 8 t d)))

/-- and what it returns. -/
def bodyPost0 (c : Dev nD) (t : Fin cfg0.N) : sProp 𝕄 :=
  iprop((dat0 W c).Φ t.succ ∗ (dat0 W c).owesAt () t.succ
    ∗ (dat0 W c).leavesExact 0 t
    ∗ (dat0 W c).leavesExact 1 t
    ∗ (dat0 W c).leavesExact 2 t
    ∗ (dat0 W c).leavesExact 3 t
    ∗ (dat0 W c).leavesExact 4 t
    ∗ (dat0 W c).leavesExact 5 t
    ∗ (dat0 W c).leavesExact 6 t
    ∗ (dat0 W c).leavesExact 7 t
    ∗ (dat0 W c).leavesExact 8 t)

theorem flush0_7_no (t : Fin cfg0.N) (h : t.val ≠ 35) : (cfg0.win 7).flush t = false := by
  have key : ∀ t : Fin 36, t.val ≠ 35 → (cfg0.win 7).flush (⟨t.val, lt_of_lt_of_eq t.isLt N0.symm⟩ : Fin cfg0.N) = false := by decide +kernel
  exact key ⟨t.val, lt_of_lt_of_eq t.isLt N0⟩ h

theorem idle0_7_yes (t : Fin cfg0.N) (h : t.val ≠ 35) : cfg0.idle 7 (cfg0.grid.coords t) = true := by
  have t0 : (grid0.coords t 0).val = t.val := co0_0 t
  have hc : ¬ k0_cond2 (grid0.coords t) = 1#1 := fun e => h (t0.symm.trans ((k0_cond2_iff _).mp e))
  show (!(k0_cond2 (grid0.coords t) == 1#1)) = true
  rw [beq_eq_false_iff_ne.mpr hc]; rfl

theorem idle0_7_no (t : Fin cfg0.N) (h : t.val = 35) : cfg0.idle 7 (cfg0.grid.coords t) = false := by
  have t0 : (grid0.coords t 0).val = t.val := co0_0 t
  show (!(k0_cond2 (grid0.coords t) == 1#1)) = false
  rw [(k0_cond2_iff _).mpr (t0.trans h)]; rfl

theorem leaves0_7_idle (c : Dev nD) (t : Fin cfg0.N) (h : t.val ≠ 35) :
    (dat0 W c).leavesExact 7 t = iprop(∃ d, owns (c : Thread nD τ) (st0_7 t) fullShare ((dat0 W c).before 7 t d)) := by
  unfold Dat.leavesExact
  rw [idle0_7_yes t h, flush0_7_no t h]

theorem leaves0_7_last (c : Dev nD) (t : Fin cfg0.N) (h : t.val = 35) :
    (dat0 W c).leavesExact 7 t = owns (c : Thread nD τ) (st0_7 t) fullShare (k0_pay2 (daAcc W c t.val)) := by
  rw [show (dat0 W c).leavesExact 7 t = owns (c : Thread nD τ) (st0_7 t) fullShare ((dat0 W c).after 7 t) from by
    unfold Dat.leavesExact; rw [idle0_7_no t h]]
  rw [after0_7]

theorem flush0_8_no (t : Fin cfg0.N) (h : t.val ≠ 35) : (cfg0.win 8).flush t = false := by
  have key : ∀ t : Fin 36, t.val ≠ 35 → (cfg0.win 8).flush (⟨t.val, lt_of_lt_of_eq t.isLt N0.symm⟩ : Fin cfg0.N) = false := by decide +kernel
  exact key ⟨t.val, lt_of_lt_of_eq t.isLt N0⟩ h

theorem idle0_8_yes (t : Fin cfg0.N) (h : t.val ≠ 35) : cfg0.idle 8 (cfg0.grid.coords t) = true := by
  have t0 : (grid0.coords t 0).val = t.val := co0_0 t
  have hc : ¬ k0_cond2 (grid0.coords t) = 1#1 := fun e => h (t0.symm.trans ((k0_cond2_iff _).mp e))
  show (!(k0_cond2 (grid0.coords t) == 1#1)) = true
  rw [beq_eq_false_iff_ne.mpr hc]; rfl

theorem idle0_8_no (t : Fin cfg0.N) (h : t.val = 35) : cfg0.idle 8 (cfg0.grid.coords t) = false := by
  have t0 : (grid0.coords t 0).val = t.val := co0_0 t
  show (!(k0_cond2 (grid0.coords t) == 1#1)) = false
  rw [(k0_cond2_iff _).mpr (t0.trans h)]; rfl

theorem leaves0_8_idle (c : Dev nD) (t : Fin cfg0.N) (h : t.val ≠ 35) :
    (dat0 W c).leavesExact 8 t = iprop(∃ d, owns (c : Thread nD τ) (st0_8 t) fullShare ((dat0 W c).before 8 t d)) := by
  unfold Dat.leavesExact
  rw [idle0_8_yes t h, flush0_8_no t h]

theorem leaves0_8_last (c : Dev nD) (t : Fin cfg0.N) (h : t.val = 35) :
    (dat0 W c).leavesExact 8 t = owns (c : Thread nD τ) (st0_8 t) fullShare (k0_pay3 (dbAcc W c t.val)) := by
  rw [show (dat0 W c).leavesExact 8 t = owns (c : Thread nD τ) (st0_8 t) fullShare ((dat0 W c).after 8 t) from by
    unfold Dat.leavesExact; rw [idle0_8_no t h]]
  rw [after0_8]

set_option maxHeartbeats 3200000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6]
  rw [leaves0_0, leaves0_1, leaves0_2, leaves0_3, leaves0_4, leaves0_5, leaves0_6]
  rw [show (dat0 W c).owesAt () t.succ = (dat0 W c).owesAt () t.castSucc from rfl]
  rw [show (dat0 W c).Φ t.castSucc = iprop((∃ x y, owns (c : Thread nD τ) (Memref.whole cc0_scratch0) fullShare x ∗ owns (c : Thread nD τ) (Memref.whole cc0_scratch1) fullShare y
      ∗ ⌜t.val ≠ 0 → x = daAcc W c (t.val - 1) ∧ y = dbAcc W c (t.val - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl]
  rw [show (dat0 W c).Φ t.succ = iprop((∃ x y, owns (c : Thread nD τ) (Memref.whole cc0_scratch0) fullShare x ∗ owns (c : Thread nD τ) (Memref.whole cc0_scratch1) fullShare y
      ∗ ⌜(t.val + 1) ≠ 0 → x = daAcc W c ((t.val + 1) - 1) ∧ y = dbAcc W c ((t.val + 1) - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl]
  have t0 : (grid0.coords t 0).val = t.val := co0_0 t
  iintro ⟨⟨⟨%x, %y, HS, HT, %hx⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val = 0
  · rw [leaves0_7_idle W c t (by omega), leaves0_8_idle W c t (by omega)]
    iapply (sk_body_first c (grid0.coords t) _ _ _ _ _ _ _ _ _ _ _ _ _ _ _ _ _ _ _ _ _ _ ((k0_cond0_iff _).mpr (t0.trans h0)) (fun e => (by omega : ¬ (grid0.coords t 0).val = 35) ((k0_cond2_iff _).mp e))
      (iblk0 W c 0 t) (iblk0 W c 1 t) (iblk0 W c 2 t) (iblk0 W c 3 t) (iblk0 W c 4 t) (iblk0 W c 5 t) (iblk0 W c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexists _; iexact HS
    isplitl [HT]; · iexists _; iexact HT
    iintro ⟨H0, H1, H2, H3, H4, H5, H6, HS, HT⟩
    isplitl [HS HT Hrest Hg]
    · isplitl [HS HT]
      · iexists _; iexists _
        isplitl [HS]; · iexact HS
        isplitl [HT]; · iexact HT
        ipureintro
        exact fun _ => ⟨(daAcc_start W c t h0).symm, (dbAcc_start W c t h0).symm⟩
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  obtain ⟨rfl, rfl⟩ := hx h0
  by_cases h35 : t.val = 35
  · rw [leaves0_7_last W c t h35, leaves0_8_last W c t h35]
    iapply (sk_body_last c (grid0.coords t) _ _ _ _ _ _ _ _ _ _ _ _ _ _ _ _ _ _ _ _ _ _ (fun e => h0 (t0.symm.trans ((k0_cond0_iff _).mp e))) ((k0_cond2_iff _).mpr (t0.trans h35))
      (iblk0 W c 0 t) (iblk0 W c 1 t) (iblk0 W c 2 t) (iblk0 W c 3 t) (iblk0 W c 4 t) (iblk0 W c 5 t) (iblk0 W c 6 t) (daAcc W c (t.val - 1)) (dbAcc W c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    isplitl [HT]; · iexact HT
    iintro ⟨H0, H1, H2, H3, H4, H5, H6, H7, H8, HS, HT⟩
    isplitl [HS HT Hrest Hg]
    · isplitl [HS HT]
      · iexists _; iexists _
        isplitl [HS]; · iexact HS
        isplitl [HT]; · iexact HT
        ipureintro
        exact fun _ => ⟨(daAcc_more W c t h0).symm, (dbAcc_more W c t h0).symm⟩
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [daAcc_more W c t h0, dbAcc_more W c t h0]
    isplitl [H7]; · iexact H7
    iexact H8
  · rw [leaves0_7_idle W c t h35, leaves0_8_idle W c t h35]
    iapply (sk_body_more c (grid0.coords t) _ _ _ _ _ _ _ _ _ _ _ _ _ _ _ _ _ _ _ _ _ _ (fun e => h0 (t0.symm.trans ((k0_cond0_iff _).mp e))) (fun e => (by omega : ¬ (grid0.coords t 0).val = 35) ((k0_cond2_iff _).mp e))
      (iblk0 W c 0 t) (iblk0 W c 1 t) (iblk0 W c 2 t) (iblk0 W c 3 t) (iblk0 W c 4 t) (iblk0 W c 5 t) (iblk0 W c 6 t) (daAcc W c (t.val - 1)) (dbAcc W c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HT]; · iexact HT
    iintro ⟨H0, H1, H2, H3, H4, H5, H6, HS, HT⟩
    isplitl [HS HT Hrest Hg]
    · isplitl [HS HT]
      · iexists _; iexists _
        isplitl [HS]; · iexact HS
        isplitl [HT]; · iexact HT
        ipureintro
        exact fun _ => ⟨(daAcc_more W c t h0).symm, (dbAcc_more W c t h0).symm⟩
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 W c) (defs₀ (F := F)) Variants.none () Set.univ := fun t => by
  rw [bigSep_W0, bigSep_W0, defs₀_row0]
  exact triple_restated (sound_body0 W c t) rfl .rfl fun _ => .rfl

/-- What the launch hands the call is the invariant before the first point, -/
theorem hin0 (c : Dev nD) : iprop(Pipeline.scopedRest (Ix := Unit) (Name := ℕ) (U := UR sig nD τ) (Lvl := ℕ) (Val := Elt F) spec0 c ∗ (∃ r, prngReg c r)) ⊢ (dat0 W c).Φ 0 := by
  rw [show (dat0 W c).Φ 0 = iprop((∃ x y, owns (c : Thread nD τ) (Memref.whole cc0_scratch0) fullShare x ∗ owns (c : Thread nD τ) (Memref.whole cc0_scratch1) fullShare y
      ∗ ⌜0 ≠ 0 → x = daAcc W c (0 - 1) ∧ y = dbAcc W c (0 - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl, scopedRest0_split]
  simp only [owns_whole]
  iintro ⟨⟨⟨⟨%f, HS⟩, ⟨%g, HT⟩⟩, Hr⟩, Hg⟩
  isplitl [HS HT]
  · iexists f; iexists g
    isplitl [HS]; · iexact HS
    isplitl [HT]; · iexact HT
    ipureintro; exact fun h => absurd rfl h
  isplitl [Hr] <;> iassumption

/-- and the invariant after the last point gives it back. -/
theorem hout0 (c : Dev nD) : (dat0 W c).Φ (Fin.last cfg0.N) ⊢ iprop(Pipeline.scopedRest (Ix := Unit) (Name := ℕ) (U := UR sig nD τ) (Lvl := ℕ) (Val := Elt F) spec0 c ∗ (∃ r, prngReg c r)) := by
  rw [show (dat0 W c).Φ (Fin.last cfg0.N) = iprop((∃ x y, owns (c : Thread nD τ) (Memref.whole cc0_scratch0) fullShare x ∗ owns (c : Thread nD τ) (Memref.whole cc0_scratch1) fullShare y
      ∗ ⌜(Fin.last cfg0.N).val ≠ 0 → x = daAcc W c ((Fin.last cfg0.N).val - 1) ∧ y = dbAcc W c ((Fin.last cfg0.N).val - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl, scopedRest0_split]
  simp only [owns_whole]
  iintro ⟨⟨%f, %g, HS, HT, -⟩, Hr, Hg⟩
  isplitl [HS HT Hr]
  · isplitl [HS HT]
    · isplitl [HS]
      · iexists f; iexact HS
      iexists g; iexact HT
    iexact Hr
  iexact Hg

end Cert.Kernel.Hand

end
-- ==== Proof.Kernel.DmBody.lean ====
module

public import proofs.«01_k».proof.Proof.Kernel.Offs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the `build_dm` call, one grid point at a time -/

/-- The block of `V` that a point builds from its blocks of packed integers, scales and low-rank factors. -/
def vblkOf (x6 : Vec F S512x512 .i8) (x7 : Vec F S8x512 .bf16) (x8 : Vec F S1024x32 .bf16) (x9 : Vec F S32x512 .bf16) : Vec F S1024x512 .bf16 :=
  k1_pay12 (k1_pay3 x6) x7 (k1_pay4 x8 x9) (k1_pay5 x6 x7 x8 x9) (k1_pay7 (k1_pay4 x8 x9) (k1_pay6 x6 x7)) (k1_pay8 (k1_pay3 x6) x7 (k1_pay4 x8 x9))
    (k1_pay9 (k1_pay3 x6) x7 (k1_pay4 x8 x9)) (k1_pay10 (k1_pay3 x6) x7) (k1_pay11 (k1_pay4 x8 x9))

/-- What 576 rows contribute to a block of the magnitudes' gradient, from eight chunks of the rows and eight chunks of a column of `V`. -/
def dmTile (w0 w1 w2 w3 w4 w5 w6 w7 : Vec F S576x2048 .fp8e4m3)
    (y3 y4 y5 y6 y7 y8 y9 y10 : Vec F S1x2048x512 .bf16) (x3 : Vec F S576x512 .bf16) (x4 : Vec F S576x1 .f32) (x5 : Vec F S1x512 .f32) : Vec F S1x512 .f32 :=
  k1_pay27 (k1_pay25 (k1_pay24 w0 y3) w1 y4 w2 y5 w3 y6 w4 y7) (k1_pay26 w5) y8 w6 y9 w7 y10 x3 x4 x5

/-- The same with the chunks of the rows cut out of a block, and those of the column read out of the half of the scratch that holds it. -/
def dmTileAt (i : grid1.Coords) (hc2 : k1_cond2 i = 1#1) (x2 : Vec F S576x16384 .fp8e4m3) (x3 : Vec F S576x512 .bf16) (x4 : Vec F S576x1 .f32) (x5 : Vec F S1x512 .f32)
    (z : Vec F S2x16384x512 .bf16) : Vec F S1x512 .f32 :=
  dmTile
    (VecWindow.window x2 ![0, 0] S576x2048.size inb_S576x16384_S576x2048_0_0)
    (VecWindow.window x2 ![0, 2048] S576x2048.size inb_S576x16384_S576x2048_0_2048)
    (VecWindow.window x2 ![0, 4096] S576x2048.size inb_S576x16384_S576x2048_0_4096)
    (VecWindow.window x2 ![0, 6144] S576x2048.size inb_S576x16384_S576x2048_0_6144)
    (VecWindow.window x2 ![0, 8192] S576x2048.size inb_S576x16384_S576x2048_0_8192)
    (VecWindow.window x2 ![0, 10240] S576x2048.size inb_S576x16384_S576x2048_0_10240)
    (VecWindow.window x2 ![0, 12288] S576x2048.size inb_S576x16384_S576x2048_0_12288)
    (VecWindow.window x2 ![0, 14336] S576x2048.size inb_S576x16384_S576x2048_0_14336)
    (VecWindow.window z (k1_off3 i) S1x2048x512.size (k1_off3_inb i hc2))
    (VecWindow.window z (k1_off4 i) S1x2048x512.size (k1_off4_inb i hc2))
    (VecWindow.window z (k1_off5 i) S1x2048x512.size (k1_off5_inb i hc2))
    (VecWindow.window z (k1_off6 i) S1x2048x512.size (k1_off6_inb i hc2))
    (VecWindow.window z (k1_off7 i) S1x2048x512.size (k1_off7_inb i hc2))
    (VecWindow.window z (k1_off8 i) S1x2048x512.size (k1_off8_inb i hc2))
    (VecWindow.window z (k1_off9 i) S1x2048x512.size (k1_off9_inb i hc2))
    (VecWindow.window z (k1_off10 i) S1x2048x512.size (k1_off10_inb i hc2))
    x3 x4 x5

set_option maxHeartbeats 4000000 in
/-- In the first row of the grid the body builds its block of `V`, stores it as its result and keeps it in the scratch. -/
theorem dm_body_first (c : Dev nD) (i : grid1.Coords)
    (arg2 : Memref sig .tc .vmem S576x16384 .fp8e4m3) (harg2 : arg2.IsWhole)
    (arg3 : Memref sig .tc .vmem S576x512 .bf16) (harg3 : arg3.IsWhole)
    (arg4 : Memref sig .tc .vmem S576x1 .f32) (harg4 : arg4.IsWhole)
    (arg5 : Memref sig .tc .vmem S1x512 .f32) (harg5 : arg5.IsWhole)
    (arg6 : Memref sig .tc .vmem S512x512 .i8) (harg6 : arg6.IsWhole)
    (arg7 : Memref sig .tc .vmem S8x512 .bf16) (harg7 : arg7.IsWhole)
    (arg8 : Memref sig .tc .vmem S1024x32 .bf16) (harg8 : arg8.IsWhole)
    (arg9 : Memref sig .tc .vmem S32x512 .bf16) (harg9 : arg9.IsWhole)
    (arg10 : Memref sig .tc .vmem S1024x512 .bf16) (harg10 : arg10.IsWhole)
    (arg11 : Memref sig .tc .vmem S1x512 .f32) (harg11 : arg11.IsWhole)
    (arg12 : Memref sig .tc .vmem S2x16384x512 .bf16) (harg12 : arg12.IsWhole)
    (hc1 : k1_cond1 i = 1#1) (hc2 : ¬ k1_cond2 i = 1#1)
    (x6 : Vec F S512x512 .i8) (x7 : Vec F S8x512 .bf16) (x8 : Vec F S1024x32 .bf16) (x9 : Vec F S32x512 .bf16) (x12 : Vec F S2x16384x512 .bf16)
    (E : Set ℕ) (K : PUnit → sProp 𝕄) :
    iprop(owns (c : Thread nD τ) arg6 fullShare x6
        ∗ owns (c : Thread nD τ) arg7 fullShare x7
        ∗ owns (c : Thread nD τ) arg8 fullShare x8
        ∗ owns (c : Thread nD τ) arg9 fullShare x9
        ∗ (∃ d, owns (c : Thread nD τ) arg10 fullShare d)
        ∗ owns (c : Thread nD τ) arg12 fullShare x12
        ∗ (iprop(owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (vblkOf x6 x7 x8 x9)
        ∗ owns (c : Thread nD τ) arg12 fullShare (VecWindow.put x12 (k1_off1 i) S1x1024x512.size (k1_pay1 (vblkOf x6 x7 x8 x9)))) -∗ K ⟨⟩))
      ⊢ wp frame (wpE (defs₀ (F := F)) Variants.none c none) E (cc1_build_dm i arg2 harg2 arg3 harg3 arg4 harg4 arg5 harg5 arg6 harg6 arg7 harg7 arg8 harg8 arg9 harg9 arg10 harg10 arg11 harg11 arg12 harg12) K := by
  simp only [cc1_build_dm_eq_skeleton]; unfold cc1_build_dm_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f6, %hf6, H6⟩, ⟨%f7, %hf7, H7⟩, ⟨%f8, %hf8, H8⟩, ⟨%f9, %hf9, H9⟩, ⟨%d10, %f10, -, H10⟩, ⟨%f12, %hf12, H12⟩, Hk⟩
  obtain rfl := harg6.eq_unread hf6; obtain rfl := harg7.eq_unread hf7; obtain rfl := harg8.eq_unread hf8; obtain rfl := harg9.eq_unread hf9; obtain rfl := harg12.eq_unread hf12
  have hv : vblkOf (arg6.view.readAt (Elt F) (Rect.unit (s := S512x512) ![0, 0] S512x512.size inb_S512x512_S512x512_0_0).toLoadRect (harg6.unread x6))
      (arg7.view.readAt (Elt F) (Rect.unit (s := S8x512) ![0, 0] S8x512.size inb_S8x512_S8x512_0_0).toLoadRect (harg7.unread x7))
      (arg8.view.readAt (Elt F) (Rect.unit (s := S1024x32) ![0, 0] S1024x32.size inb_S1024x32_S1024x32_0_0).toLoadRect (harg8.unread x8))
      (arg9.view.readAt (Elt F) (Rect.unit (s := S32x512) ![0, 0] S32x512.size inb_S32x512_S32x512_0_0).toLoadRect (harg9.unread x9)) = vblkOf x6 x7 x8 x9 := by
    rw [View.readAt_full arg6.view, View.readAt_full arg7.view, View.readAt_full arg8.view, View.readAt_full arg9.view, hf6, hf7, hf8, hf9]
  sl_exec (disch := first | sl_exact hc1 | sl_exact hc2)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    exact (View.read_writes_full arg10.view f10 inb_S1024x512_S1024x512_0_0 _ []).trans hv
  iexists _; isplitr; swap; · iexact H12
  ipureintro
  rw [View.read_writes_cons_put arg12.view _ _ _ _ rfl, View.writes_nil, hf12]
  exact congrArg (fun z => VecWindow.put x12 (k1_off1 i) S1x1024x512.size (k1_pay1 z)) hv

set_option maxHeartbeats 4000000 in
/-- In a later row, at the first rows of the batch, the body also starts the sum over the rows for the previous column. -/
theorem dm_body_start (c : Dev nD) (i : grid1.Coords)
    (arg2 : Memref sig .tc .vmem S576x16384 .fp8e4m3) (harg2 : arg2.IsWhole)
    (arg3 : Memref sig .tc .vmem S576x512 .bf16) (harg3 : arg3.IsWhole)
    (arg4 : Memref sig .tc .vmem S576x1 .f32) (harg4 : arg4.IsWhole)
    (arg5 : Memref sig .tc .vmem S1x512 .f32) (harg5 : arg5.IsWhole)
    (arg6 : Memref sig .tc .vmem S512x512 .i8) (harg6 : arg6.IsWhole)
    (arg7 : Memref sig .tc .vmem S8x512 .bf16) (harg7 : arg7.IsWhole)
    (arg8 : Memref sig .tc .vmem S1024x32 .bf16) (harg8 : arg8.IsWhole)
    (arg9 : Memref sig .tc .vmem S32x512 .bf16) (harg9 : arg9.IsWhole)
    (arg10 : Memref sig .tc .vmem S1024x512 .bf16) (harg10 : arg10.IsWhole)
    (arg11 : Memref sig .tc .vmem S1x512 .f32) (harg11 : arg11.IsWhole)
    (arg12 : Memref sig .tc .vmem S2x16384x512 .bf16) (harg12 : arg12.IsWhole)
    (hc1 : ¬ k1_cond1 i = 1#1) (hc2 : k1_cond2 i = 1#1) (hc3 : k1_cond3 i = 1#1) (hc4 : ¬ k1_cond4 i = 1#1)
    (x2 : Vec F S576x16384 .fp8e4m3) (x3 : Vec F S576x512 .bf16) (x4 : Vec F S576x1 .f32) (x5 : Vec F S1x512 .f32) (x6 : Vec F S512x512 .i8) (x7 : Vec F S8x512 .bf16) (x8 : Vec F S1024x32 .bf16) (x9 : Vec F S32x512 .bf16) (x12 : Vec F S2x16384x512 .bf16)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ (∃ d, owns (c : Thread nD τ) arg10 fullShare d)
        ∗ (∃ d, owns (c : Thread nD τ) arg11 fullShare d)
        ∗ owns (c : Thread nD τ) arg12 fullShare x12
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (vblkOf x6 x7 x8 x9)
        ∗ owns (c : Thread nD τ) arg11 fullShare (dmTileAt i hc2 x2 x3 x4 x5 (VecWindow.put x12 (k1_off2 i) S1x1024x512.size (k1_pay23 (vblkOf x6 x7 x8 x9))))
        ∗ owns (c : Thread nD τ) arg12 fullShare (VecWindow.put x12 (k1_off2 i) S1x1024x512.size (k1_pay23 (vblkOf x6 x7 x8 x9)))) -∗ K ⟨⟩))
      ⊢ wp frame (wpE (defs₀ (F := F)) Variants.none c none) E (cc1_build_dm i arg2 harg2 arg3 harg3 arg4 harg4 arg5 harg5 arg6 harg6 arg7 harg7 arg8 harg8 arg9 harg9 arg10 harg10 arg11 harg11 arg12 harg12) K := by
  simp only [cc1_build_dm_eq_skeleton]; unfold cc1_build_dm_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12
  have hv : vblkOf (arg6.view.readAt (Elt F) (Rect.unit (s := S512x512) ![0, 0] S512x512.size inb_S512x512_S512x512_0_0).toLoadRect (harg6.unread x6))
      (arg7.view.readAt (Elt F) (Rect.unit (s := S8x512) ![0, 0] S8x512.size inb_S8x512_S8x512_0_0).toLoadRect (harg7.unread x7))
      (arg8.view.readAt (Elt F) (Rect.unit (s := S1024x32) ![0, 0] S1024x32.size inb_S1024x32_S1024x32_0_0).toLoadRect (harg8.unread x8))
      (arg9.view.readAt (Elt F) (Rect.unit (s := S32x512) ![0, 0] S32x512.size inb_S32x512_S32x512_0_0).toLoadRect (harg9.unread x9)) = vblkOf x6 x7 x8 x9 := by
    rw [View.readAt_full arg6.view, View.readAt_full arg7.view, View.readAt_full arg8.view, View.readAt_full arg9.view, hf6, hf7, hf8, hf9]
  have hz : arg12.view.read (Elt F) (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩]) = (VecWindow.put x12 (k1_off2 i) S1x1024x512.size (k1_pay23 (vblkOf x6 x7 x8 x9))) := by
    rw [View.read_writes_cons_put arg12.view _ _ _ _ rfl, View.writes_nil, hf12, hv]
  have hw0 : (arg2.view.readAt (Elt F) (Rect.unit (s := S576x16384) ![0, 0] S576x2048.size inb_S576x16384_S576x2048_0_0).toLoadRect (harg2.unread x2)) = VecWindow.window x2 ![0, 0] S576x2048.size inb_S576x16384_S576x2048_0_0 := by
    rw [View.readAt_unit arg2.view _ _ rfl inb_S576x16384_S576x2048_0_0, hf2]
  have hw1 : (arg2.view.readAt (Elt F) (Rect.unit (s := S576x16384) ![0, 2048] S576x2048.size inb_S576x16384_S576x2048_0_2048).toLoadRect (harg2.unread x2)) = VecWindow.window x2 ![0, 2048] S576x2048.size inb_S576x16384_S576x2048_0_2048 := by
    rw [View.readAt_unit arg2.view _ _ rfl inb_S576x16384_S576x2048_0_2048, hf2]
  have hw2 : (arg2.view.readAt (Elt F) (Rect.unit (s := S576x16384) ![0, 4096] S576x2048.size inb_S576x16384_S576x2048_0_4096).toLoadRect (harg2.unread x2)) = VecWindow.window x2 ![0, 4096] S576x2048.size inb_S576x16384_S576x2048_0_4096 := by
    rw [View.readAt_unit arg2.view _ _ rfl inb_S576x16384_S576x2048_0_4096, hf2]
  have hw3 : (arg2.view.readAt (Elt F) (Rect.unit (s := S576x16384) ![0, 6144] S576x2048.size inb_S576x16384_S576x2048_0_6144).toLoadRect (harg2.unread x2)) = VecWindow.window x2 ![0, 6144] S576x2048.size inb_S576x16384_S576x2048_0_6144 := by
    rw [View.readAt_unit arg2.view _ _ rfl inb_S576x16384_S576x2048_0_6144, hf2]
  have hw4 : (arg2.view.readAt (Elt F) (Rect.unit (s := S576x16384) ![0, 8192] S576x2048.size inb_S576x16384_S576x2048_0_8192).toLoadRect (harg2.unread x2)) = VecWindow.window x2 ![0, 8192] S576x2048.size inb_S576x16384_S576x2048_0_8192 := by
    rw [View.readAt_unit arg2.view _ _ rfl inb_S576x16384_S576x2048_0_8192, hf2]
  have hw5 : (arg2.view.readAt (Elt F) (Rect.unit (s := S576x16384) ![0, 10240] S576x2048.size inb_S576x16384_S576x2048_0_10240).toLoadRect (harg2.unread x2)) = VecWindow.window x2 ![0, 10240] S576x2048.size inb_S576x16384_S576x2048_0_10240 := by
    rw [View.readAt_unit arg2.view _ _ rfl inb_S576x16384_S576x2048_0_10240, hf2]
  have hw6 : (arg2.view.readAt (Elt F) (Rect.unit (s := S576x16384) ![0, 12288] S576x2048.size inb_S576x16384_S576x2048_0_12288).toLoadRect (harg2.unread x2)) = VecWindow.window x2 ![0, 12288] S576x2048.size inb_S576x16384_S576x2048_0_12288 := by
    rw [View.readAt_unit arg2.view _ _ rfl inb_S576x16384_S576x2048_0_12288, hf2]
  have hw7 : (arg2.view.readAt (Elt F) (Rect.unit (s := S576x16384) ![0, 14336] S576x2048.size inb_S576x16384_S576x2048_0_14336).toLoadRect (harg2.unread x2)) = VecWindow.window x2 ![0, 14336] S576x2048.size inb_S576x16384_S576x2048_0_14336 := by
    rw [View.readAt_unit arg2.view _ _ rfl inb_S576x16384_S576x2048_0_14336, hf2]
  have hy3 : (arg12.view.readAt (Elt F) (Rect.unit (s := S2x16384x512) (k1_off3 i) S1x2048x512.size (k1_off3_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off3 i) S1x2048x512.size (k1_off3_inb i hc2) := by
    rw [View.readAt_unit arg12.view _ _ rfl (k1_off3_inb i hc2), hz]
  have hy4 : (arg12.view.readAt (Elt F) (Rect.unit (s := S2x16384x512) (k1_off4 i) S1x2048x512.size (k1_off4_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off4 i) S1x2048x512.size (k1_off4_inb i hc2) := by
    rw [View.readAt_unit arg12.view _ _ rfl (k1_off4_inb i hc2), hz]
  have hy5 : (arg12.view.readAt (Elt F) (Rect.unit (s := S2x16384x512) (k1_off5 i) S1x2048x512.size (k1_off5_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off5 i) S1x2048x512.size (k1_off5_inb i hc2) := by
    rw [View.readAt_unit arg12.view _ _ rfl (k1_off5_inb i hc2), hz]
  have hy6 : (arg12.view.readAt (Elt F) (Rect.unit (s := S2x16384x512) (k1_off6 i) S1x2048x512.size (k1_off6_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off6 i) S1x2048x512.size (k1_off6_inb i hc2) := by
    rw [View.readAt_unit arg12.view _ _ rfl (k1_off6_inb i hc2), hz]
  have hy7 : (arg12.view.readAt (Elt F) (Rect.unit (s := S2x16384x512) (k1_off7 i) S1x2048x512.size (k1_off7_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off7 i) S1x2048x512.size (k1_off7_inb i hc2) := by
    rw [View.readAt_unit arg12.view _ _ rfl (k1_off7_inb i hc2), hz]
  have hy8 : (arg12.view.readAt (Elt F) (Rect.unit (s := S2x16384x512) (k1_off8 i) S1x2048x512.size (k1_off8_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off8 i) S1x2048x512.size (k1_off8_inb i hc2) := by
    rw [View.readAt_unit arg12.view _ _ rfl (k1_off8_inb i hc2), hz]
  have hy9 : (arg12.view.readAt (Elt F) (Rect.unit (s := S2x16384x512) (k1_off9 i) S1x2048x512.size (k1_off9_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off9 i) S1x2048x512.size (k1_off9_inb i hc2) := by
    rw [View.readAt_unit arg12.view _ _ rfl (k1_off9_inb i hc2), hz]
  have hy10 : (arg12.view.readAt (Elt F) (Rect.unit (s := S2x16384x512) (k1_off10 i) S1x2048x512.size (k1_off10_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off10 i) S1x2048x512.size (k1_off10_inb i hc2) := by
    rw [View.readAt_unit arg12.view _ _ rfl (k1_off10_inb i hc2), hz]
  have hx3 : (arg3.view.readAt (Elt F) (Rect.unit (s := S576x512) ![0, 0] S576x512.size inb_S576x512_S576x512_0_0).toLoadRect (harg3.unread x3)) = x3 := by rw [View.readAt_full arg3.view, hf3]
  have hx4 : (arg4.view.readAt (Elt F) (Rect.unit (s := S576x1) ![0, 0] S576x1.size inb_S576x1_S576x1_0_0).toLoadRect (harg4.unread x4)) = x4 := by rw [View.readAt_full arg4.view, hf4]
  have hx5 : (arg5.view.readAt (Elt F) (Rect.unit (s := S1x512) ![0, 0] S1x512.size inb_S1x512_S1x512_0_0).toLoadRect (harg5.unread x5)) = x5 := by rw [View.readAt_full arg5.view, hf5]
  sl_exec (disch := first | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    exact (View.read_writes_full arg10.view f10 inb_S1024x512_S1024x512_0_0 _ []).trans hv
  isplitl [H11]
  · iexists _; isplitr; swap; · iexact H11
    ipureintro
    refine (View.read_writes_full arg11.view f11 inb_S1x512_S1x512_0_0 _ []).trans ?_
    rfl
  iexists _; isplitr; swap; · iexact H12
  ipureintro
  exact hz

set_option maxHeartbeats 4000000 in
/-- In a later row, at later rows of the batch, the body adds to that sum. -/
theorem dm_body_more (c : Dev nD) (i : grid1.Coords)
    (arg2 : Memref sig .tc .vmem S576x16384 .fp8e4m3) (harg2 : arg2.IsWhole)
    (arg3 : Memref sig .tc .vmem S576x512 .bf16) (harg3 : arg3.IsWhole)
    (arg4 : Memref sig .tc .vmem S576x1 .f32) (harg4 : arg4.IsWhole)
    (arg5 : Memref sig .tc .vmem S1x512 .f32) (harg5 : arg5.IsWhole)
    (arg6 : Memref sig .tc .vmem S512x512 .i8) (harg6 : arg6.IsWhole)
    (arg7 : Memref sig .tc .vmem S8x512 .bf16) (harg7 : arg7.IsWhole)
    (arg8 : Memref sig .tc .vmem S1024x32 .bf16) (harg8 : arg8.IsWhole)
    (arg9 : Memref sig .tc .vmem S32x512 .bf16) (harg9 : arg9.IsWhole)
    (arg10 : Memref sig .tc .vmem S1024x512 .bf16) (harg10 : arg10.IsWhole)
    (arg11 : Memref sig .tc .vmem S1x512 .f32) (harg11 : arg11.IsWhole)
    (arg12 : Memref sig .tc .vmem S2x16384x512 .bf16) (harg12 : arg12.IsWhole)
    (hc1 : ¬ k1_cond1 i = 1#1) (hc2 : k1_cond2 i = 1#1) (hc3 : ¬ k1_cond3 i = 1#1) (hc4 : k1_cond4 i = 1#1)
    (x2 : Vec F S576x16384 .fp8e4m3) (x3 : Vec F S576x512 .bf16) (x4 : Vec F S576x1 .f32) (x5 : Vec F S1x512 .f32) (x6 : Vec F S512x512 .i8) (x7 : Vec F S8x512 .bf16) (x8 : Vec F S1024x32 .bf16) (x9 : Vec F S32x512 .bf16) (x11 : Vec F S1x512 .f32) (x12 : Vec F S2x16384x512 .bf16)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ (∃ d, owns (c : Thread nD τ) arg10 fullShare d)
        ∗ owns (c : Thread nD τ) arg11 fullShare x11
        ∗ owns (c : Thread nD τ) arg12 fullShare x12
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (vblkOf x6 x7 x8 x9)
        ∗ owns (c : Thread nD τ) arg11 fullShare (k1_pay2 (dmTileAt i hc2 x2 x3 x4 x5 (VecWindow.put x12 (k1_off2 i) S1x1024x512.size (k1_pay23 (vblkOf x6 x7 x8 x9)))) x11)
        ∗ owns (c : Thread nD τ) arg12 fullShare (VecWindow.put x12 (k1_off2 i) S1x1024x512.size (k1_pay23 (vblkOf x6 x7 x8 x9)))) -∗ K ⟨⟩))
      ⊢ wp frame (wpE (defs₀ (F := F)) Variants.none c none) E (cc1_build_dm i arg2 harg2 arg3 harg3 arg4 harg4 arg5 harg5 arg6 harg6 arg7 harg7 arg8 harg8 arg9 harg9 arg10 harg10 arg11 harg11 arg12 harg12) K := by
  simp only [cc1_build_dm_eq_skeleton]; unfold cc1_build_dm_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12
  have hv : vblkOf (arg6.view.readAt (Elt F) (Rect.unit (s := S512x512) ![0, 0] S512x512.size inb_S512x512_S512x512_0_0).toLoadRect (harg6.unread x6))
      (arg7.view.readAt (Elt F) (Rect.unit (s := S8x512) ![0, 0] S8x512.size inb_S8x512_S8x512_0_0).toLoadRect (harg7.unread x7))
      (arg8.view.readAt (Elt F) (Rect.unit (s := S1024x32) ![0, 0] S1024x32.size inb_S1024x32_S1024x32_0_0).toLoadRect (harg8.unread x8))
      (arg9.view.readAt (Elt F) (Rect.unit (s := S32x512) ![0, 0] S32x512.size inb_S32x512_S32x512_0_0).toLoadRect (harg9.unread x9)) = vblkOf x6 x7 x8 x9 := by
    rw [View.readAt_full arg6.view, View.readAt_full arg7.view, View.readAt_full arg8.view, View.readAt_full arg9.view, hf6, hf7, hf8, hf9]
  have hz : arg12.view.read (Elt F) (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩]) = (VecWindow.put x12 (k1_off2 i) S1x1024x512.size (k1_pay23 (vblkOf x6 x7 x8 x9))) := by
    rw [View.read_writes_cons_put arg12.view _ _ _ _ rfl, View.writes_nil, hf12, hv]
  have hw0 : (arg2.view.readAt (Elt F) (Rect.unit (s := S576x16384) ![0, 0] S576x2048.size inb_S576x16384_S576x2048_0_0).toLoadRect (harg2.unread x2)) = VecWindow.window x2 ![0, 0] S576x2048.size inb_S576x16384_S576x2048_0_0 := by
    rw [View.readAt_unit arg2.view _ _ rfl inb_S576x16384_S576x2048_0_0, hf2]
  have hw1 : (arg2.view.readAt (Elt F) (Rect.unit (s := S576x16384) ![0, 2048] S576x2048.size inb_S576x16384_S576x2048_0_2048).toLoadRect (harg2.unread x2)) = VecWindow.window x2 ![0, 2048] S576x2048.size inb_S576x16384_S576x2048_0_2048 := by
    rw [View.readAt_unit arg2.view _ _ rfl inb_S576x16384_S576x2048_0_2048, hf2]
  have hw2 : (arg2.view.readAt (Elt F) (Rect.unit (s := S576x16384) ![0, 4096] S576x2048.size inb_S576x16384_S576x2048_0_4096).toLoadRect (harg2.unread x2)) = VecWindow.window x2 ![0, 4096] S576x2048.size inb_S576x16384_S576x2048_0_4096 := by
    rw [View.readAt_unit arg2.view _ _ rfl inb_S576x16384_S576x2048_0_4096, hf2]
  have hw3 : (arg2.view.readAt (Elt F) (Rect.unit (s := S576x16384) ![0, 6144] S576x2048.size inb_S576x16384_S576x2048_0_6144).toLoadRect (harg2.unread x2)) = VecWindow.window x2 ![0, 6144] S576x2048.size inb_S576x16384_S576x2048_0_6144 := by
    rw [View.readAt_unit arg2.view _ _ rfl inb_S576x16384_S576x2048_0_6144, hf2]
  have hw4 : (arg2.view.readAt (Elt F) (Rect.unit (s := S576x16384) ![0, 8192] S576x2048.size inb_S576x16384_S576x2048_0_8192).toLoadRect (harg2.unread x2)) = VecWindow.window x2 ![0, 8192] S576x2048.size inb_S576x16384_S576x2048_0_8192 := by
    rw [View.readAt_unit arg2.view _ _ rfl inb_S576x16384_S576x2048_0_8192, hf2]
  have hw5 : (arg2.view.readAt (Elt F) (Rect.unit (s := S576x16384) ![0, 10240] S576x2048.size inb_S576x16384_S576x2048_0_10240).toLoadRect (harg2.unread x2)) = VecWindow.window x2 ![0, 10240] S576x2048.size inb_S576x16384_S576x2048_0_10240 := by
    rw [View.readAt_unit arg2.view _ _ rfl inb_S576x16384_S576x2048_0_10240, hf2]
  have hw6 : (arg2.view.readAt (Elt F) (Rect.unit (s := S576x16384) ![0, 12288] S576x2048.size inb_S576x16384_S576x2048_0_12288).toLoadRect (harg2.unread x2)) = VecWindow.window x2 ![0, 12288] S576x2048.size inb_S576x16384_S576x2048_0_12288 := by
    rw [View.readAt_unit arg2.view _ _ rfl inb_S576x16384_S576x2048_0_12288, hf2]
  have hw7 : (arg2.view.readAt (Elt F) (Rect.unit (s := S576x16384) ![0, 14336] S576x2048.size inb_S576x16384_S576x2048_0_14336).toLoadRect (harg2.unread x2)) = VecWindow.window x2 ![0, 14336] S576x2048.size inb_S576x16384_S576x2048_0_14336 := by
    rw [View.readAt_unit arg2.view _ _ rfl inb_S576x16384_S576x2048_0_14336, hf2]
  have hy3 : (arg12.view.readAt (Elt F) (Rect.unit (s := S2x16384x512) (k1_off3 i) S1x2048x512.size (k1_off3_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off3 i) S1x2048x512.size (k1_off3_inb i hc2) := by
    rw [View.readAt_unit arg12.view _ _ rfl (k1_off3_inb i hc2), hz]
  have hy4 : (arg12.view.readAt (Elt F) (Rect.unit (s := S2x16384x512) (k1_off4 i) S1x2048x512.size (k1_off4_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off4 i) S1x2048x512.size (k1_off4_inb i hc2) := by
    rw [View.readAt_unit arg12.view _ _ rfl (k1_off4_inb i hc2), hz]
  have hy5 : (arg12.view.readAt (Elt F) (Rect.unit (s := S2x16384x512) (k1_off5 i) S1x2048x512.size (k1_off5_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off5 i) S1x2048x512.size (k1_off5_inb i hc2) := by
    rw [View.readAt_unit arg12.view _ _ rfl (k1_off5_inb i hc2), hz]
  have hy6 : (arg12.view.readAt (Elt F) (Rect.unit (s := S2x16384x512) (k1_off6 i) S1x2048x512.size (k1_off6_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off6 i) S1x2048x512.size (k1_off6_inb i hc2) := by
    rw [View.readAt_unit arg12.view _ _ rfl (k1_off6_inb i hc2), hz]
  have hy7 : (arg12.view.readAt (Elt F) (Rect.unit (s := S2x16384x512) (k1_off7 i) S1x2048x512.size (k1_off7_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off7 i) S1x2048x512.size (k1_off7_inb i hc2) := by
    rw [View.readAt_unit arg12.view _ _ rfl (k1_off7_inb i hc2), hz]
  have hy8 : (arg12.view.readAt (Elt F) (Rect.unit (s := S2x16384x512) (k1_off8 i) S1x2048x512.size (k1_off8_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off8 i) S1x2048x512.size (k1_off8_inb i hc2) := by
    rw [View.readAt_unit arg12.view _ _ rfl (k1_off8_inb i hc2), hz]
  have hy9 : (arg12.view.readAt (Elt F) (Rect.unit (s := S2x16384x512) (k1_off9 i) S1x2048x512.size (k1_off9_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off9 i) S1x2048x512.size (k1_off9_inb i hc2) := by
    rw [View.readAt_unit arg12.view _ _ rfl (k1_off9_inb i hc2), hz]
  have hy10 : (arg12.view.readAt (Elt F) (Rect.unit (s := S2x16384x512) (k1_off10 i) S1x2048x512.size (k1_off10_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off10 i) S1x2048x512.size (k1_off10_inb i hc2) := by
    rw [View.readAt_unit arg12.view _ _ rfl (k1_off10_inb i hc2), hz]
  have hx3 : (arg3.view.readAt (Elt F) (Rect.unit (s := S576x512) ![0, 0] S576x512.size inb_S576x512_S576x512_0_0).toLoadRect (harg3.unread x3)) = x3 := by rw [View.readAt_full arg3.view, hf3]
  have hx4 : (arg4.view.readAt (Elt F) (Rect.unit (s := S576x1) ![0, 0] S576x1.size inb_S576x1_S576x1_0_0).toLoadRect (harg4.unread x4)) = x4 := by rw [View.readAt_full arg4.view, hf4]
  have hx5 : (arg5.view.readAt (Elt F) (Rect.unit (s := S1x512) ![0, 0] S1x512.size inb_S1x512_S1x512_0_0).toLoadRect (harg5.unread x5)) = x5 := by rw [View.readAt_full arg5.view, hf5]
  sl_exec (disch := first | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    exact (View.read_writes_full arg10.view f10 inb_S1024x512_S1024x512_0_0 _ []).trans hv
  isplitl [H11]
  · iexists _; isplitr; swap; · iexact H11
    ipureintro
    refine (View.read_writes_full arg11.view _ inb_S1x512_S1x512_0_0 _ []).trans ?_
    exact congrArg₂ k1_pay2 (by rfl) ((View.readAt_full arg11.view _ inb_S1x512_S1x512_0_0).trans hf11)
  iexists _; isplitr; swap; · iexact H12
  ipureintro
  exact hz

end Cert.Kernel.Hand

end
-- ==== Proof.Kernel.DmDat.lean ====
module

public import proofs.«01_k».proof.Proof.Kernel.DmBody
public import Idealize.ShloMosaic.Lib.ValueIdxCore
public import Idealize.ShloMosaic.Lib.Pipeline.RegionArrays

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The `build_dm` call: what its scratch and its outputs hold at each grid point -/

variable (W : Dev nD → Valuation τ sig (Elt F))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

theorem N1 : cfg1.N = 208 := N_1
theorem co1_0 (t : Fin cfg1.N) : (cfg1.grid.coords t 0).val = t.val / 16 := by
  have h : (grid1.coords t 0).val = t.val / 16 % 13 := Pipeline.Grid.coords_val t 0 (by decide) rfl
  have hN : t.val < 208 := lt_of_lt_of_eq t.isLt N1
  rw [show (cfg1.grid.coords t 0).val = (grid1.coords t 0).val from rfl, h]; omega
theorem co1_1 (t : Fin cfg1.N) : (cfg1.grid.coords t 1).val = t.val % 16 := by
  have h : (grid1.coords t 1).val = t.val / 1 % 16 := Pipeline.Grid.coords_val t 1 (by decide) rfl
  rw [show (cfg1.grid.coords t 1).val = (grid1.coords t 1).val from rfl, h, Nat.div_one]

/-- The rows of the scratch that point `t` fills lie inside it. -/
theorem inb1 (t : Fin cfg1.N) : ∀ a, k1_off1 (grid1.coords t) a + S1x1024x512.size a ≤ S2x16384x512.size a := by
  intro a
  have h0 := co1_0 t
  have h1 := co1_1 t
  have hN : t.val < 208 := lt_of_lt_of_eq t.isLt N1
  rw [k1_off1_eq]
  match a with
  | ⟨0, _⟩ => show (grid1.coords t 0).val % 2 + 1 ≤ 2; omega
  | ⟨1, _⟩ => show 1024 * (grid1.coords t 1).val + 1024 ≤ 16384; have : (grid1.coords t 1).val = t.val % 16 := h1; omega
  | ⟨2, _⟩ => show 0 + 512 ≤ 512; omega

/-- The block of `V` that point `s` builds. -/
def vblk (c : Dev nD) (s : Fin cfg1.N) : Vec F S1024x512 .bf16 :=
  vblkOf (iblk1 W c 4 s) (iblk1 W c 5 s) (iblk1 W c 6 s) (iblk1 W c 7 s)

/-- Before point `t` the scratch holds the blocks of the last 32 points. -/
def Inv1 (c : Dev nD) (t : ℕ) (x : Vec F S2x16384x512 .bf16) : Prop :=
  ∀ s : Fin cfg1.N, s.val < t → t ≤ s.val + 32 →
    VecWindow.window x (k1_off1 (grid1.coords s)) S1x1024x512.size (inb1 s) = k1_pay1 (vblk W c s)

theorem vSrc_lt (t : Fin cfg1.N) (j : Fin 8) (y : S1x2048x512.Idx) : 16 * (t.val / 16 - 1) + (2 * j.val + (y 1).val / 1024) < cfg1.N := by
  have hN : t.val < 208 := lt_of_lt_of_eq t.isLt N1
  have hy : (y 1).val < 2048 := (y 1).isLt
  have hj := j.isLt
  have := N1
  omega

/-- Chunk `j` (2048 rows) of the column of `V` built in the row of the grid before point `t`'s. -/
def vChunk (c : Dev nD) (t : Fin cfg1.N) (j : Fin 8) : Vec F S1x2048x512 .bf16 := fun y =>
  k1_pay1 (vblk W c ⟨16 * (t.val / 16 - 1) + (2 * j.val + (y 1).val / 1024), vSrc_lt t j y⟩) (ValueIdx.ix3 0 ⟨(y 1).val % 1024, Nat.mod_lt _ (by decide)⟩ (y 2))

/-- What point `t`'s 576 rows contribute to the magnitudes' gradient of the previous column. -/
def dmTileV (c : Dev nD) (t : Fin cfg1.N) : Vec F S1x512 .f32 :=
  dmTile
    (VecWindow.window (iblk1 W c 0 t) ![0, 0] S576x2048.size inb_S576x16384_S576x2048_0_0)
    (VecWindow.window (iblk1 W c 0 t) ![0, 2048] S576x2048.size inb_S576x16384_S576x2048_0_2048)
    (VecWindow.window (iblk1 W c 0 t) ![0, 4096] S576x2048.size inb_S576x16384_S576x2048_0_4096)
    (VecWindow.window (iblk1 W c 0 t) ![0, 6144] S576x2048.size inb_S576x16384_S576x2048_0_6144)
    (VecWindow.window (iblk1 W c 0 t) ![0, 8192] S576x2048.size inb_S576x16384_S576x2048_0_8192)
    (VecWindow.window (iblk1 W c 0 t) ![0, 10240] S576x2048.size inb_S576x16384_S576x2048_0_10240)
    (VecWindow.window (iblk1 W c 0 t) ![0, 12288] S576x2048.size inb_S576x16384_S576x2048_0_12288)
    (VecWindow.window (iblk1 W c 0 t) ![0, 14336] S576x2048.size inb_S576x16384_S576x2048_0_14336)
    (vChunk W c t 0) (vChunk W c t 1) (vChunk W c t 2) (vChunk W c t 3) (vChunk W c t 4) (vChunk W c t 5) (vChunk W c t 6) (vChunk W c t 7)
    (iblk1 W c 1 t) (iblk1 W c 2 t) (iblk1 W c 3 t)

/-- The running sum of the contributions, started afresh in each row of the grid. -/
def dmAcc (c : Dev nD) : ℕ → Vec F S1x512 .f32
  | 0 => dmTileV W c ⟨0, by rw [N1]; decide⟩
  | n + 1 => if h : n + 1 < cfg1.N then
      if (n + 1) % 16 = 0 then dmTileV W c ⟨n + 1, h⟩ else k1_pay2 (dmTileV W c ⟨n + 1, h⟩) (dmAcc c n)
    else dmAcc c n

theorem dmAcc_start (c : Dev nD) (t : Fin cfg1.N) (h : t.val % 16 = 0) : dmAcc W c t.val = dmTileV W c t := by
  obtain ⟨n, hn⟩ := t
  cases n with
  | zero => rfl
  | succ n => simp only at h; simp only [dmAcc]; rw [dif_pos hn, if_pos h]

theorem dmAcc_more (c : Dev nD) (t : Fin cfg1.N) (h : ¬ t.val % 16 = 0) : dmAcc W c t.val = k1_pay2 (dmTileV W c t) (dmAcc W c (t.val - 1)) := by
  obtain ⟨n, hn⟩ := t
  cases n with
  | zero => exact absurd rfl h
  | succ n => simp only at h; simp only [dmAcc]; rw [dif_pos hn, if_neg h]; rfl

/-- Putting point `t`'s block keeps the invariant. -/
theorem Inv1_step (c : Dev nD) (t : Fin cfg1.N) (x : Vec F S2x16384x512 .bf16) (h : Inv1 W c t.val x) :
    Inv1 W c (t.val + 1) (VecWindow.put x (k1_off1 (grid1.coords t)) S1x1024x512.size (k1_pay1 (vblk W c t))) := by
  intro s hs hs'
  by_cases hst : s = t
  · subst hst
    exact VecWindow.window_put_same x _ _ (inb1 s) _
  · have hne : s.val ≠ t.val := fun e => hst (Fin.ext e)
    refine (?_ : _ = VecWindow.window x (k1_off1 (grid1.coords s)) S1x1024x512.size (inb1 s)).trans (h s (by omega) (by omega))
    have s0 : (grid1.coords s 0).val = s.val / 16 := co1_0 s
    have s1 : (grid1.coords s 1).val = s.val % 16 := co1_1 s
    have t0 : (grid1.coords t 0).val = t.val / 16 := co1_0 t
    have t1 : (grid1.coords t 1).val = t.val % 16 := co1_1 t
    by_cases h0 : s.val / 16 % 2 = t.val / 16 % 2
    · refine VecWindow.window_put_of_disjoint x _ _ _ _ (inb1 s) _ 1 ?_
      rw [k1_off1_eq, k1_off1_eq]
      show 1024 * (grid1.coords s 1).val + 1024 ≤ 1024 * (grid1.coords t 1).val ∨ 1024 * (grid1.coords t 1).val + 1024 ≤ 1024 * (grid1.coords s 1).val
      omega
    · refine VecWindow.window_put_of_disjoint x _ _ _ _ (inb1 s) _ 0 ?_
      rw [k1_off1_eq, k1_off1_eq]
      show (grid1.coords s 0).val % 2 + 1 ≤ (grid1.coords t 0).val % 2 ∨ (grid1.coords t 0).val % 2 + 1 ≤ (grid1.coords s 0).val % 2
      omega

/-- With the invariant after its own store, a point of a later row reads the previous row's column, chunk by chunk. -/
theorem Inv1_read (c : Dev nD) (t : Fin cfg1.N) (ht : 16 ≤ t.val) (x : Vec F S2x16384x512 .bf16) (h : Inv1 W c (t.val + 1) x) (j : Fin 8)
    (off : Fin 3 → ℕ) (hoff : off = ![((grid1.coords t 0).val + 1) % 2, 2048 * j.val, 0])
    (inb : ∀ a, off a + S1x2048x512.size a ≤ S2x16384x512.size a) :
    VecWindow.window x off S1x2048x512.size inb = vChunk W c t j := by
  funext y
  have hN : t.val < 208 := lt_of_lt_of_eq t.isLt N1
  have hj := j.isLt
  have hy0 : (y 0).val < 1 := (y 0).isLt
  have hy : (y 1).val < 2048 := (y 1).isLt
  have t0 : (grid1.coords t 0).val = t.val / 16 := co1_0 t
  unfold vChunk
  rw [← h ⟨16 * (t.val / 16 - 1) + (2 * j.val + (y 1).val / 1024), vSrc_lt t j y⟩ (by show 16 * (t.val / 16 - 1) + (2 * j.val + (y 1).val / 1024) < _; omega)
    (by show _ ≤ 16 * (t.val / 16 - 1) + (2 * j.val + (y 1).val / 1024) + 32; omega)]
  unfold VecWindow.window
  refine congrArg x (funext fun a => Fin.ext ?_)
  generalize hsd : (⟨16 * (t.val / 16 - 1) + (2 * j.val + (y 1).val / 1024), vSrc_lt t j y⟩ : Fin cfg1.N) = s
  have hs : s.val = 16 * (t.val / 16 - 1) + (2 * j.val + (y 1).val / 1024) := by rw [← hsd]
  have s0 : (grid1.coords s 0).val = s.val / 16 := co1_0 s
  have s1 : (grid1.coords s 1).val = s.val % 16 := co1_1 s
  match a with
  | ⟨0, _⟩ =>
    have e3 : off 0 = ((grid1.coords t 0).val + 1) % 2 := congrFun hoff 0
    have e1 : k1_off1 (grid1.coords s) 0 = (grid1.coords s 0).val % 2 := congrFun (k1_off1_eq (grid1.coords s)) 0
    show off 0 + 1 * (y 0).val = k1_off1 (grid1.coords s) 0 + 1 * 0
    omega
  | ⟨1, _⟩ =>
    have e3 : off 1 = 2048 * j.val := congrFun hoff 1
    have e1 : k1_off1 (grid1.coords s) 1 = 1024 * (grid1.coords s 1).val := congrFun (k1_off1_eq (grid1.coords s)) 1
    show off 1 + 1 * (y 1).val = k1_off1 (grid1.coords s) 1 + 1 * ((y 1).val % 1024)
    omega
  | ⟨2, _⟩ =>
    have e3 : off 2 = 0 := congrFun hoff 2
    have e1 : k1_off1 (grid1.coords s) 2 = 0 := congrFun (k1_off1_eq (grid1.coords s)) 2
    show off 2 + 1 * (y 2).val = k1_off1 (grid1.coords s) 2 + 1 * (y 2).val
    omega

/-- So its contribution is the one named above. -/
theorem dmTileAt_eq (c : Dev nD) (t : Fin cfg1.N) (ht : 16 ≤ t.val) (hc2 : k1_cond2 (grid1.coords t) = 1#1) (x : Vec F S2x16384x512 .bf16) (h : Inv1 W c (t.val + 1) x) :
    dmTileAt (grid1.coords t) hc2 (iblk1 W c 0 t) (iblk1 W c 1 t) (iblk1 W c 2 t) (iblk1 W c 3 t) x = dmTileV W c t := by
  unfold dmTileAt dmTileV
  rw [Inv1_read W c t ht x h 0 (k1_off3 (grid1.coords t)) (k1_off3_eq _) (k1_off3_inb _ hc2)]
  rw [Inv1_read W c t ht x h 1 (k1_off4 (grid1.coords t)) (k1_off4_eq _) (k1_off4_inb _ hc2)]
  rw [Inv1_read W c t ht x h 2 (k1_off5 (grid1.coords t)) (k1_off5_eq _) (k1_off5_inb _ hc2)]
  rw [Inv1_read W c t ht x h 3 (k1_off6 (grid1.coords t)) (k1_off6_eq _) (k1_off6_inb _ hc2)]
  rw [Inv1_read W c t ht x h 4 (k1_off7 (grid1.coords t)) (k1_off7_eq _) (k1_off7_inb _ hc2)]
  rw [Inv1_read W c t ht x h 5 (k1_off8 (grid1.coords t)) (k1_off8_eq _) (k1_off8_inb _ hc2)]
  rw [Inv1_read W c t ht x h 6 (k1_off9 (grid1.coords t)) (k1_off9_eq _) (k1_off9_inb _ hc2)]
  rw [Inv1_read W c t ht x h 7 (k1_off10 (grid1.coords t)) (k1_off10_eq _) (k1_off10_inb _ hc2)]

/-- The proof data of the `build_dm` call entered at the contents `W`. -/
def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => iblk1 W c 7 t
    | ⟨8, _⟩ => vblk W c t
    | ⟨9, _⟩ => dmAcc W c t.val
  Φ t := iprop((∃ x, owns (c : Thread nD τ) (Memref.whole cc1_scratch0) fullShare x ∗ ⌜Inv1 W c t.val x⌝)
    ∗ Pipeline.scopedRestBut (Ix := Unit) (Name := ℕ) (U := UR sig nD τ) (Lvl := ℕ) (Val := Elt F) spec1 c [cc1_scratch0]
    ∗ (∃ r, prngReg c r))
  q _ := fullShare
  owed _ := 0

theorem before1_0_of {c : Dev nD} (dat : Dat τ (Elt F) Unit ℕ (UR sig nD τ) ℕ cfg1 c) (hA : dat.A 0 = W c (Pipeline.arrRef spec1 0))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = W c (Pipeline.arrRef spec1 1))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = W c (Pipeline.arrRef spec1 2))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = W c (Pipeline.arrRef spec1 3))
    (hafter : ∀ t, dat.after 3 t = iblk1 W c 3 t) (t : Fin cfg1.N) (d) : dat.before 3 t d = iblk1 W c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = W c (Pipeline.arrRef spec1 4))
    (hafter : ∀ t, dat.after 4 t = iblk1 W c 4 t) (t : Fin cfg1.N) (d) : dat.before 4 t d = iblk1 W c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = W c (Pipeline.arrRef spec1 5))
    (hafter : ∀ t, dat.after 5 t = iblk1 W c 5 t) (t : Fin cfg1.N) (d) : dat.before 5 t d = iblk1 W c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = W c (Pipeline.arrRef spec1 6))
    (hafter : ∀ t, dat.after 6 t = iblk1 W c 6 t) (t : Fin cfg1.N) (d) : dat.before 6 t d = iblk1 W c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = W c (Pipeline.arrRef spec1 7))
    (hafter : ∀ t, dat.after 7 t = iblk1 W c 7 t) (t : Fin cfg1.N) (d) : dat.before 7 t d = iblk1 W c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem A_eq1 (c : Dev nD) (w : Fin cfg1.W) : (dat1 W c).A w = W c (Pipeline.arrRef spec1 w) := by
  dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = iblk1 W c 7 t := by dsimp only [dat1]
theorem after1_8 (c : Dev nD) (t : Fin cfg1.N) : (dat1 W c).after 8 t = vblk W c t := by dsimp only [dat1]
theorem after1_9 (c : Dev nD) (t : Fin cfg1.N) : (dat1 W c).after 9 t = dmAcc W c t.val := by dsimp only [dat1]
theorem before1_0 (c : Dev nD) (t : Fin cfg1.N) (d) : (dat1 W c).before 0 t d = iblk1 W c 0 t :=
  before1_0_of W (dat1 W c) (A_eq1 W c 0) (after1_0 W c) t d
theorem before1_1 (c : Dev nD) (t : Fin cfg1.N) (d) : (dat1 W c).before 1 t d = iblk1 W c 1 t :=
  before1_1_of W (dat1 W c) (A_eq1 W c 1) (after1_1 W c) t d
theorem before1_2 (c : Dev nD) (t : Fin cfg1.N) (d) : (dat1 W c).before 2 t d = iblk1 W c 2 t :=
  before1_2_of W (dat1 W c) (A_eq1 W c 2) (after1_2 W c) t d
theorem before1_3 (c : Dev nD) (t : Fin cfg1.N) (d) : (dat1 W c).before 3 t d = iblk1 W c 3 t :=
  before1_3_of W (dat1 W c) (A_eq1 W c 3) (after1_3 W c) t d
theorem before1_4 (c : Dev nD) (t : Fin cfg1.N) (d) : (dat1 W c).before 4 t d = iblk1 W c 4 t :=
  before1_4_of W (dat1 W c) (A_eq1 W c 4) (after1_4 W c) t d
theorem before1_5 (c : Dev nD) (t : Fin cfg1.N) (d) : (dat1 W c).before 5 t d = iblk1 W c 5 t :=
  before1_5_of W (dat1 W c) (A_eq1 W c 5) (after1_5 W c) t d
theorem before1_6 (c : Dev nD) (t : Fin cfg1.N) (d) : (dat1 W c).before 6 t d = iblk1 W c 6 t :=
  before1_6_of W (dat1 W c) (A_eq1 W c 6) (after1_6 W c) t d
theorem before1_7 (c : Dev nD) (t : Fin cfg1.N) (d) : (dat1 W c).before 7 t d = iblk1 W c 7 t :=
  before1_7_of W (dat1 W c) (A_eq1 W c 7) (after1_7 W c) t d
theorem leaves1_0 (c : Dev nD) (t : Fin cfg1.N) : (dat1 W c).leavesExact 0 t = owns (c : Thread nD τ) (st1_0 t) fullShare (iblk1 W c 0 t) := by
  rw [show (dat1 W c).leavesExact 0 t = owns (c : Thread nD τ) (st1_0 t) fullShare ((dat1 W c).after 0 t) from by
    unfold Dat.leavesExact; rw [show cfg1.idle 0 (cfg1.grid.coords t) = false from rfl]]
  rw [after1_0]
theorem leaves1_1 (c : Dev nD) (t : Fin cfg1.N) : (dat1 W c).leavesExact 1 t = owns (c : Thread nD τ) (st1_1 t) fullShare (iblk1 W c 1 t) := by
  rw [show (dat1 W c).leavesExact 1 t = owns (c : Thread nD τ) (st1_1 t) fullShare ((dat1 W c).after 1 t) from by
    unfold Dat.leavesExact; rw [show cfg1.idle 1 (cfg1.grid.coords t) = false from rfl]]
  rw [after1_1]
theorem leaves1_2 (c : Dev nD) (t : Fin cfg1.N) : (dat1 W c).leavesExact 2 t = owns (c : Thread nD τ) (st1_2 t) fullShare (iblk1 W c 2 t) := by
  rw [show (dat1 W c).leavesExact 2 t = owns (c : Thread nD τ) (st1_2 t) fullShare ((dat1 W c).after 2 t) from by
    unfold Dat.leavesExact; rw [show cfg1.idle 2 (cfg1.grid.coords t) = false from rfl]]
  rw [after1_2]
theorem leaves1_3 (c : Dev nD) (t : Fin cfg1.N) : (dat1 W c).leavesExact 3 t = owns (c : Thread nD τ) (st1_3 t) fullShare (iblk1 W c 3 t) := by
  rw [show (dat1 W c).leavesExact 3 t = owns (c : Thread nD τ) (st1_3 t) fullShare ((dat1 W c).after 3 t) from by
    unfold Dat.leavesExact; rw [show cfg1.idle 3 (cfg1.grid.coords t) = false from rfl]]
  rw [after1_3]
theorem leaves1_4 (c : Dev nD) (t : Fin cfg1.N) : (dat1 W c).leavesExact 4 t = owns (c : Thread nD τ) (st1_4 t) fullShare (iblk1 W c 4 t) := by
  rw [show (dat1 W c).leavesExact 4 t = owns (c : Thread nD τ) (st1_4 t) fullShare ((dat1 W c).after 4 t) from by
    unfold Dat.leavesExact; rw [show cfg1.idle 4 (cfg1.grid.coords t) = false from rfl]]
  rw [after1_4]
theorem leaves1_5 (c : Dev nD) (t : Fin cfg1.N) : (dat1 W c).leavesExact 5 t = owns (c : Thread nD τ) (st1_5 t) fullShare (iblk1 W c 5 t) := by
  rw [show (dat1 W c).leavesExact 5 t = owns (c : Thread nD τ) (st1_5 t) fullShare ((dat1 W c).after 5 t) from by
    unfold Dat.leavesExact; rw [show cfg1.idle 5 (cfg1.grid.coords t) = false from rfl]]
  rw [after1_5]
theorem leaves1_6 (c : Dev nD) (t : Fin cfg1.N) : (dat1 W c).leavesExact 6 t = owns (c : Thread nD τ) (st1_6 t) fullShare (iblk1 W c 6 t) := by
  rw [show (dat1 W c).leavesExact 6 t = owns (c : Thread nD τ) (st1_6 t) fullShare ((dat1 W c).after 6 t) from by
    unfold Dat.leavesExact; rw [show cfg1.idle 6 (cfg1.grid.coords t) = false from rfl]]
  rw [after1_6]
theorem leaves1_7 (c : Dev nD) (t : Fin cfg1.N) : (dat1 W c).leavesExact 7 t = owns (c : Thread nD τ) (st1_7 t) fullShare (iblk1 W c 7 t) := by
  rw [show (dat1 W c).leavesExact 7 t = owns (c : Thread nD τ) (st1_7 t) fullShare ((dat1 W c).after 7 t) from by
    unfold Dat.leavesExact; rw [show cfg1.idle 7 (cfg1.grid.coords t) = false from rfl]]
  rw [after1_7]
/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d))
    ∗ (∃ d, owns (c : Thread nD τ) (st1_9 t) fullShare ((dat1 W c).before 9 t d)))

/-- and what it returns. -/
def bodyPost1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t
    ∗ (dat1 W c).leavesExact 6 t
    ∗ (dat1 W c).leavesExact 7 t
    ∗ (dat1 W c).leavesExact 8 t
    ∗ (dat1 W c).leavesExact 9 t)

theorem scopedRest1_split' (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem flush1_9_no (t : Fin cfg1.N) (h : ¬ t.val % 16 = 15 ∨ t.val < 16) : (cfg1.win 9).flush t = false := by
  have key : ∀ t : Fin 208, (¬ t.val % 16 = 15 ∨ t.val < 16) → (cfg1.win 9).flush (⟨t.val, lt_of_lt_of_eq t.isLt N1.symm⟩ : Fin cfg1.N) = false := by decide +kernel
  exact key ⟨t.val, lt_of_lt_of_eq t.isLt N1⟩ h

theorem idle1_9_first (t : Fin cfg1.N) (h : t.val < 16) : cfg1.idle 9 (cfg1.grid.coords t) = true := by
  have t0 : (grid1.coords t 0).val = t.val / 16 := co1_0 t
  have hc : ¬ k1_cond2 (grid1.coords t) = 1#1 := fun e => (k1_cond2_iff _).mp e (by omega)
  show (!(k1_cond2 (grid1.coords t) == 1#1 && k1_cond3 (grid1.coords t) == 1#1) && !(k1_cond2 (grid1.coords t) == 1#1 && k1_cond4 (grid1.coords t) == 1#1)) = true
  rw [beq_eq_false_iff_ne.mpr hc]; rfl

theorem idle1_9_later (t : Fin cfg1.N) (h : 16 ≤ t.val) : cfg1.idle 9 (cfg1.grid.coords t) = false := by
  have t0 : (grid1.coords t 0).val = t.val / 16 := co1_0 t
  have t1 : (grid1.coords t 1).val = t.val % 16 := co1_1 t
  have hc : k1_cond2 (grid1.coords t) = 1#1 := (k1_cond2_iff _).mpr (by omega)
  show (!(k1_cond2 (grid1.coords t) == 1#1 && k1_cond3 (grid1.coords t) == 1#1) && !(k1_cond2 (grid1.coords t) == 1#1 && k1_cond4 (grid1.coords t) == 1#1)) = false
  rw [hc]
  by_cases h0 : t.val % 16 = 0
  · rw [show k1_cond3 (grid1.coords t) = 1#1 from (k1_cond3_iff _).mpr (by omega)]; rfl
  · rw [show k1_cond4 (grid1.coords t) = 1#1 from (k1_cond4_iff _).mpr (by omega)]
    cases (k1_cond3 (grid1.coords t) == 1#1) <;> rfl

theorem idle1_8 (t : Fin cfg1.N) : cfg1.idle 8 (cfg1.grid.coords t) = false := by
  show (!(k1_cond1 (grid1.coords t) == 1#1) && !(k1_cond2 (grid1.coords t) == 1#1)) = false
  by_cases h0 : (grid1.coords t 0).val = 0
  · rw [(k1_cond1_iff _).mpr h0]; rfl
  · rw [(k1_cond2_iff _).mpr h0]; cases (k1_cond1 (grid1.coords t) == 1#1) <;> rfl

theorem leaves1_8 (c : Dev nD) (t : Fin cfg1.N) : (dat1 W c).leavesExact 8 t = owns (c : Thread nD τ) (st1_8 t) fullShare (vblk W c t) := by
  rw [show (dat1 W c).leavesExact 8 t = owns (c : Thread nD τ) (st1_8 t) fullShare ((dat1 W c).after 8 t) from by
    unfold Dat.leavesExact; rw [idle1_8]]
  rw [after1_8]

theorem leaves1_9_first (c : Dev nD) (t : Fin cfg1.N) (h : t.val < 16) :
    (dat1 W c).leavesExact 9 t = iprop(∃ d, owns (c : Thread nD τ) (st1_9 t) fullShare ((dat1 W c).before 9 t d)) := by
  unfold Dat.leavesExact
  rw [idle1_9_first t h, flush1_9_no t (.inr h)]

theorem leaves1_9_later (c : Dev nD) (t : Fin cfg1.N) (h : 16 ≤ t.val) :
    (dat1 W c).leavesExact 9 t = owns (c : Thread nD τ) (st1_9 t) fullShare (dmAcc W c t.val) := by
  rw [show (dat1 W c).leavesExact 9 t = owns (c : Thread nD τ) (st1_9 t) fullShare ((dat1 W c).after 9 t) from by
    unfold Dat.leavesExact; rw [idle1_9_later t h]]
  rw [after1_9]

/-- Past the first rows of the batch the sum's buffer holds what the point before left. -/
theorem before1_9_more (c : Dev nD) (t : Fin cfg1.N) (h : 16 ≤ t.val) (h' : ¬ t.val % 16 = 0) (d) :
    (dat1 W c).before 9 t d = dmAcc W c (t.val - 1) := by
  have hN : t.val < 208 := lt_of_lt_of_eq t.isLt N1
  rw [(dat1 W c).before_of_pos 9 t (by omega) ((cfg1.win 9).fetch_out rfl t), flush1_9_no _ (.inl (by show ¬ (t.val - 1) % 16 = 15; omega)), if_neg Bool.false_ne_true]
  unfold Dat.left
  rw [idle1_9_later _ (by show 16 ≤ t.val - 1; omega)]
  show (dat1 W c).kept 9 _ d = _
  unfold Dat.kept
  rw [Pipeline.fill_of_clip_none 9 _ (fun _ => rfl) d ((dat1 W c).after 9 _), Pipeline.Window.fill_cut, after1_9]

set_option maxHeartbeats 3200000 in
/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6, before1_7]
  rw [leaves1_0, leaves1_1, leaves1_2, leaves1_3, leaves1_4, leaves1_5, leaves1_6, leaves1_7, leaves1_8]
  rw [show (dat1 W c).owesAt () t.succ = (dat1 W c).owesAt () t.castSucc from rfl]
  rw [show (dat1 W c).Φ t.castSucc = iprop((∃ x, owns (c : Thread nD τ) (Memref.whole cc1_scratch0) fullShare x ∗ ⌜Inv1 W c t.val x⌝)
    ∗ Pipeline.scopedRestBut (Ix := Unit) (Name := ℕ) (U := UR sig nD τ) (Lvl := ℕ) (Val := Elt F) spec1 c [cc1_scratch0]
    ∗ (∃ r, prngReg c r)) from rfl]
  rw [show (dat1 W c).Φ t.succ = iprop((∃ x, owns (c : Thread nD τ) (Memref.whole cc1_scratch0) fullShare x ∗ ⌜Inv1 W c (t.val + 1) x⌝)
    ∗ Pipeline.scopedRestBut (Ix := Unit) (Name := ℕ) (U := UR sig nD τ) (Lvl := ℕ) (Val := Elt F) spec1 c [cc1_scratch0]
    ∗ (∃ r, prngReg c r)) from rfl]
  have t0 : (grid1.coords t 0).val = t.val / 16 := co1_0 t
  have t1 : (grid1.coords t 1).val = t.val % 16 := co1_1 t
  iintro ⟨⟨⟨%x, HS, %hx⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hx' := Inv1_step W c t x hx
  by_cases h : t.val < 16
  · rw [leaves1_9_first W c t h]
    iapply (dm_body_first c (grid1.coords t) _ _ _ _ _ _ _ _ _ _ _ _ _ _ _ _ _ _ _ _ _ _ ((k1_cond1_iff _).mpr (by omega)) (fun e => (k1_cond2_iff _).mp e (by omega))
      (iblk1 W c 4 t) (iblk1 W c 5 t) (iblk1 W c 6 t) (iblk1 W c 7 t) x Set.univ _)
    isplitl [H4]; · iexact H4
    isplitl [H5]; · iexact H5
    isplitl [H6]; · iexact H6
    isplitl [H7]; · iexact H7
    isplitl [H8]; · iexists _; iexact H8
    isplitl [HS]; · iexact HS
    iintro ⟨H4, H5, H6, H7, H8, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  have hc1 : ¬ k1_cond1 (grid1.coords t) = 1#1 := fun e => (show ¬ (grid1.coords t 0).val = 0 by omega) ((k1_cond1_iff _).mp e)
  have hc2 : k1_cond2 (grid1.coords t) = 1#1 := (k1_cond2_iff _).mpr (by omega)
  rw [leaves1_9_later W c t (by omega)]
  have hT := dmTileAt_eq W c t (by omega) hc2 _ hx'
  by_cases h0 : t.val % 16 = 0
  · iapply (dm_body_start c (grid1.coords t) _ _ _ _ _ _ _ _ _ _ _ _ _ _ _ _ _ _ _ _ _ _ hc1 hc2 ((k1_cond3_iff _).mpr (by omega)) (fun e => (k1_cond4_iff _).mp e (by omega))
      (iblk1 W c 0 t) (iblk1 W c 1 t) (iblk1 W c 2 t) (iblk1 W c 3 t) (iblk1 W c 4 t) (iblk1 W c 5 t) (iblk1 W c 6 t) (iblk1 W c 7 t) x Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [dmAcc_start W c t h0, ← hT]
    iexact H9
  · rw [before1_9_more W c t (by omega) h0]
    iapply (dm_body_more c (grid1.coords t) _ _ _ _ _ _ _ _ _ _ _ _ _ _ _ _ _ _ _ _ _ _ hc1 hc2 (fun e => h0 (by have := (k1_cond3_iff _).mp e; omega)) ((k1_cond4_iff _).mpr (by omega))
      (iblk1 W c 0 t) (iblk1 W c 1 t) (iblk1 W c 2 t) (iblk1 W c 3 t) (iblk1 W c 4 t) (iblk1 W c 5 t) (iblk1 W c 6 t) (iblk1 W c 7 t) (dmAcc W c (t.val - 1)) x Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS]; · iexact HS
    iintro ⟨H0, H1, H2, H3, H4, H5, H6, H7, H8, H9, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [dmAcc_more W c t h0, ← hT]
    iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 W c) (defs₀ (F := F)) Variants.none () Set.univ := fun t => by
  rw [bigSep_W1, bigSep_W1, defs₀_row1]
  exact triple_restated (sound_body1 W c t) rfl .rfl fun _ => .rfl

/-- What the launch hands the call is the invariant before the first point, -/
theorem hin1 (c : Dev nD) : iprop(Pipeline.scopedRest (Ix := Unit) (Name := ℕ) (U := UR sig nD τ) (Lvl := ℕ) (Val := Elt F) spec1 c ∗ (∃ r, prngReg c r)) ⊢ (dat1 W c).Φ 0 := by
  rw [show (dat1 W c).Φ 0 = iprop((∃ x, owns (c : Thread nD τ) (Memref.whole cc1_scratch0) fullShare x ∗ ⌜Inv1 W c 0 x⌝)
    ∗ Pipeline.scopedRestBut (Ix := Unit) (Name := ℕ) (U := UR sig nD τ) (Lvl := ℕ) (Val := Elt F) spec1 c [cc1_scratch0]
    ∗ (∃ r, prngReg c r)) from rfl, scopedRest1_split']
  simp only [owns_whole]
  iintro ⟨⟨⟨%f, HS⟩, Hr⟩, Hg⟩
  isplitl [HS]
  · iexists f; isplitl [HS]; · iexact HS
    ipureintro; exact fun s hs _ => absurd hs (Nat.not_lt_zero _)
  isplitl [Hr] <;> iassumption

/-- and the invariant after the last point gives it back. -/
theorem hout1 (c : Dev nD) : (dat1 W c).Φ (Fin.last cfg1.N) ⊢ iprop(Pipeline.scopedRest (Ix := Unit) (Name := ℕ) (U := UR sig nD τ) (Lvl := ℕ) (Val := Elt F) spec1 c ∗ (∃ r, prngReg c r)) := by
  rw [show (dat1 W c).Φ (Fin.last cfg1.N) = iprop((∃ x, owns (c : Thread nD τ) (Memref.whole cc1_scratch0) fullShare x ∗ ⌜Inv1 W c (Fin.last cfg1.N).val x⌝)
    ∗ Pipeline.scopedRestBut (Ix := Unit) (Name := ℕ) (U := UR sig nD τ) (Lvl := ℕ) (Val := Elt F) spec1 c [cc1_scratch0]
    ∗ (∃ r, prngReg c r)) from rfl, scopedRest1_split']
  simp only [owns_whole]
  iintro ⟨⟨%f, HS, -⟩, Hr, Hg⟩
  isplitl [HS Hr]
  · isplitl [HS]
    · iexists f; iexact HS
    iexact Hr
  iexact Hg

end Cert.Kernel.Hand

end
-- ==== Proof.Kernel.DxBody.lean ====
module

public import proofs.«01_k».proof.Proof.Kernel.Offs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the `dx` call, one grid point at a time -/

set_option maxHeartbeats 1000000 in
/-- At a point of the first row of the grid the body scales its block of `dy` into its rows of the scratch. -/
theorem dx_body_first (c : Dev nD) (i : grid2.Coords)
    (arg2 : Memref sig .tc .vmem S32x6144 .bf16) (harg2 : arg2.IsWhole) (arg3 : Memref sig .tc .vmem S512x6144 .bf16) (harg3 : arg3.IsWhole)
    (arg4 : Memref sig .tc .vmem S1x6144 .f32) (harg4 : arg4.IsWhole) (arg5 : Memref sig .tc .vmem S1x6144 .f32) (harg5 : arg5.IsWhole)
    (arg6 : Memref sig .tc .vmem S1024x512 .bf16) (harg6 : arg6.IsWhole) (arg7 : Memref sig .tc .vmem S2x1024x6144 .bf16) (harg7 : arg7.IsWhole)
    (hc1 : k2_cond1 i = 1#1) (hc2 : ¬ k2_cond2 i = 1#1)
    (x2 : Vec F S32x6144 .bf16) (x4 : Vec F S1x6144 .f32) (x5 : Vec F S1x6144 .f32) (x7 : Vec F S2x1024x6144 .bf16)
    (E : Set ℕ) (K : PUnit → sProp 𝕄) :
    iprop(owns (c : Thread nD τ) arg2 fullShare x2 ∗ owns (c : Thread nD τ) arg4 fullShare x4 ∗ owns (c : Thread nD τ) arg5 fullShare x5
        ∗ owns (c : Thread nD τ) arg7 fullShare x7
        ∗ (iprop(owns (c : Thread nD τ) arg2 fullShare x2 ∗ owns (c : Thread nD τ) arg4 fullShare x4 ∗ owns (c : Thread nD τ) arg5 fullShare x5
        ∗ owns (c : Thread nD τ) arg7 fullShare (VecWindow.put x7 (k2_off1 i) S1x32x6144.size (k2_pay1 x4 x5 x2))) -∗ K ⟨⟩))
      ⊢ wp frame (wpE (defs₀ (F := F)) Variants.none c none) E (cc2_dx i arg2 harg2 arg3 harg3 arg4 harg4 arg5 harg5 arg6 harg6 arg7 harg7) K := by
  simp only [cc2_dx_eq_skeleton]; unfold cc2_dx_skel
  unfold owns
  iintro ⟨⟨%f2, %hf2, H2⟩, ⟨%f4, %hf4, H4⟩, ⟨%f5, %hf5, H5⟩, ⟨%f7, %hf7, H7⟩, Hk⟩
  obtain rfl := harg2.eq_unread hf2; obtain rfl := harg4.eq_unread hf4; obtain rfl := harg5.eq_unread hf5; obtain rfl := harg7.eq_unread hf7
  sl_exec (disch := first | sl_exact hc1 | sl_exact hc2)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  iexists _; isplitr; swap; · iexact H7
  ipureintro
  rw [View.read_writes_cons_put arg7.view _ _ _ _ rfl]
  rw [View.writes_nil, harg7.read_unread]
  rw [View.readAt_full arg4.view, View.readAt_full arg5.view, View.readAt_full arg2.view, hf4, hf5, hf2]

set_option maxHeartbeats 1000000 in
/-- At a later point the body scales its block of `dy` into its rows of one half of the scratch, and multiplies the
other half by the block of `V`. -/
theorem dx_body_later (c : Dev nD) (i : grid2.Coords)
    (arg2 : Memref sig .tc .vmem S32x6144 .bf16) (harg2 : arg2.IsWhole) (arg3 : Memref sig .tc .vmem S512x6144 .bf16) (harg3 : arg3.IsWhole)
    (arg4 : Memref sig .tc .vmem S1x6144 .f32) (harg4 : arg4.IsWhole) (arg5 : Memref sig .tc .vmem S1x6144 .f32) (harg5 : arg5.IsWhole)
    (arg6 : Memref sig .tc .vmem S1024x512 .bf16) (harg6 : arg6.IsWhole) (arg7 : Memref sig .tc .vmem S2x1024x6144 .bf16) (harg7 : arg7.IsWhole)
    (hc1 : ¬ k2_cond1 i = 1#1) (hc2 : k2_cond2 i = 1#1)
    (x2 : Vec F S32x6144 .bf16) (x3 : Vec F S512x6144 .bf16) (x4 : Vec F S1x6144 .f32) (x5 : Vec F S1x6144 .f32) (x7 : Vec F S2x1024x6144 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare (k2_pay2 (VecWindow.window (VecWindow.put x7 (k2_off2 i) S1x32x6144.size (k2_pay3 x4 x5 x2)) (k2_off3 i) S1x1024x6144.size (k2_off3_inb i hc2)) x3)
        ∗ owns (c : Thread nD τ) arg7 fullShare (VecWindow.put x7 (k2_off2 i) S1x32x6144.size (k2_pay3 x4 x5 x2))) -∗ K ⟨⟩))
      ⊢ wp frame (wpE (defs₀ (F := F)) Variants.none c none) E (cc2_dx i arg2 harg2 arg3 harg3 arg4 harg4 arg5 harg5 arg6 harg6 arg7 harg7) K := by
  simp only [cc2_dx_eq_skeleton]; unfold cc2_dx_skel
  simp only [k2_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4; obtain rfl := harg5.eq_unread hf5; obtain rfl := harg7.eq_unread hf7
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    unfold dx_body_later.sl.v46 dx_body_later.sl.H7_1
    refine (View.read_writes_full arg6.view f6 inb_S1024x512_S1024x512_0_0 _ []).trans ?_
    rw [View.readAt_unit arg7.view _ _ rfl (k2_off3_inb i hc2), View.read_writes_cons_put arg7.view _ _ _ _ rfl, View.writes_nil, hf7]
    refine congrArg₂ k2_pay2 ?_ ?_
    · rw [View.readAt_full arg4.view, View.readAt_full arg5.view, View.readAt_full arg2.view, hf4, hf5, hf2]
    · exact (View.readAt_full arg3.view _ inb_S512x6144_S512x6144_0_0).trans hf3
  iexists _; isplitr; swap; · iexact H7
  ipureintro
  unfold dx_body_later.sl.H7_1
  rw [View.read_writes_cons_put arg7.view _ _ _ _ rfl, View.writes_nil, hf7]
  rw [View.readAt_full arg4.view, View.readAt_full arg5.view, View.readAt_full arg2.view, hf4, hf5, hf2]

end Cert.Kernel.Hand

end
-- ==== Proof.Kernel.DxDat.lean ====
module

public import proofs.«01_k».proof.Proof.Kernel.DxBody
public import Idealize.ShloMosaic.Lib.ValueIdxCore
public import Idealize.ShloMosaic.Lib.Pipeline.RegionArrays

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The `dx` call: what its scratch and its output hold at each grid point -/

variable (W : Dev nD → Valuation τ sig (Elt F))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

theorem N2 : cfg2.N = 320 := N_2
theorem co2_0 (t : Fin cfg2.N) : (cfg2.grid.coords t 0).val = t.val / 32 := by
  have h : (grid2.coords t 0).val = t.val / 32 % 10 := Pipeline.Grid.coords_val t 0 (by decide) rfl
  have hN : t.val < 320 := lt_of_lt_of_eq t.isLt N2
  rw [show (cfg2.grid.coords t 0).val = (grid2.coords t 0).val from rfl, h]; omega
theorem co2_1 (t : Fin cfg2.N) : (cfg2.grid.coords t 1).val = t.val % 32 := by
  have h : (grid2.coords t 1).val = t.val / 1 % 32 := Pipeline.Grid.coords_val t 1 (by decide) rfl
  rw [show (cfg2.grid.coords t 1).val = (grid2.coords t 1).val from rfl, h, Nat.div_one]

/-- The rows of the scratch that point `t` fills lie inside it. -/
theorem inb2 (t : Fin cfg2.N) : ∀ a, k2_off1 (grid2.coords t) a + S1x32x6144.size a ≤ S2x1024x6144.size a := by
  intro a
  have h0 := co2_0 t
  have h1 := co2_1 t
  have hN : t.val < 320 := lt_of_lt_of_eq t.isLt N2
  rw [k2_off1_eq]
  match a with
  | ⟨0, _⟩ => show (grid2.coords t 0).val % 2 + 1 ≤ 2; omega
  | ⟨1, _⟩ => show 32 * (grid2.coords t 1).val + 32 ≤ 1024; have : (grid2.coords t 1).val = t.val % 32 := h1; omega
  | ⟨2, _⟩ => show 0 + 6144 ≤ 6144; omega

/-- The scaled block of `dy` that point `s` leaves in the scratch. -/
def dypBlk (c : Dev nD) (s : Fin cfg2.N) : Vec F S1x32x6144 .bf16 :=
  k2_pay1 (iblk2 W c 2 s) (iblk2 W c 3 s) (iblk2 W c 0 s)

/-- Before point `t` the scratch holds the blocks of the last 64 points. -/
def Inv2 (c : Dev nD) (t : ℕ) (x : Vec F S2x1024x6144 .bf16) : Prop :=
  ∀ s : Fin cfg2.N, s.val < t → t ≤ s.val + 64 →
    VecWindow.window x (k2_off1 (grid2.coords s)) S1x32x6144.size (inb2 s) = dypBlk W c s

/-- The block of rows `y` of the half of the scratch that the row of the grid before point `t`'s has filled. -/
theorem dxSrc_lt (t : Fin cfg2.N) (y : S1x1024x6144.Idx) : 32 * (t.val / 32 - 1) + (y 1).val / 32 < cfg2.N := by
  have hN : t.val < 320 := lt_of_lt_of_eq t.isLt N2
  have hy : (y 1).val < 1024 := (y 1).isLt
  have := N2
  omega

/-- The 1024 scaled rows of `dy` that a point multiplies. -/
def dypVec (c : Dev nD) (t : Fin cfg2.N) : Vec F S1x1024x6144 .bf16 := fun y =>
  dypBlk W c ⟨32 * (t.val / 32 - 1) + (y 1).val / 32, dxSrc_lt t y⟩ (ValueIdx.ix3 0 ⟨(y 1).val % 32, Nat.mod_lt _ (by decide)⟩ (y 2))

/-- What a point of a later row of the grid stores into its block of the result. -/
def dxOut (c : Dev nD) (t : Fin cfg2.N) : Vec F S1024x512 .bf16 :=
  k2_pay2 (dypVec W c t) (iblk2 W c 1 t)

/-- Putting point `t`'s block keeps the invariant. -/
theorem Inv2_step (c : Dev nD) (t : Fin cfg2.N) (x : Vec F S2x1024x6144 .bf16) (h : Inv2 W c t.val x) :
    Inv2 W c (t.val + 1) (VecWindow.put x (k2_off1 (grid2.coords t)) S1x32x6144.size (dypBlk W c t)) := by
  intro s hs hs'
  by_cases hst : s = t
  · subst hst
    exact VecWindow.window_put_same x _ _ (inb2 s) _
  · have hne : s.val ≠ t.val := fun e => hst (Fin.ext e)
    refine (?_ : _ = VecWindow.window x (k2_off1 (grid2.coords s)) S1x32x6144.size (inb2 s)).trans (h s (by omega) (by omega))
    have s0 : (grid2.coords s 0).val = s.val / 32 := co2_0 s
    have s1 : (grid2.coords s 1).val = s.val % 32 := co2_1 s
    have t0 : (grid2.coords t 0).val = t.val / 32 := co2_0 t
    have t1 : (grid2.coords t 1).val = t.val % 32 := co2_1 t
    by_cases h0 : s.val / 32 % 2 = t.val / 32 % 2
    · refine VecWindow.window_put_of_disjoint x _ _ _ _ (inb2 s) _ 1 ?_
      rw [k2_off1_eq, k2_off1_eq]
      show 32 * (grid2.coords s 1).val + 32 ≤ 32 * (grid2.coords t 1).val ∨ 32 * (grid2.coords t 1).val + 32 ≤ 32 * (grid2.coords s 1).val
      omega
    · refine VecWindow.window_put_of_disjoint x _ _ _ _ (inb2 s) _ 0 ?_
      rw [k2_off1_eq, k2_off1_eq]
      show (grid2.coords s 0).val % 2 + 1 ≤ (grid2.coords t 0).val % 2 ∨ (grid2.coords t 0).val % 2 + 1 ≤ (grid2.coords s 0).val % 2
      omega

/-- With the invariant after its own store, a point of a later row reads the previous row's blocks. -/
theorem Inv2_read (c : Dev nD) (t : Fin cfg2.N) (ht : 32 ≤ t.val) (x : Vec F S2x1024x6144 .bf16) (h : Inv2 W c (t.val + 1) x)
    (inb : ∀ a, k2_off3 (grid2.coords t) a + S1x1024x6144.size a ≤ S2x1024x6144.size a) :
    VecWindow.window x (k2_off3 (grid2.coords t)) S1x1024x6144.size inb = dypVec W c t := by
  funext y
  have hN : t.val < 320 := lt_of_lt_of_eq t.isLt N2
  have hy0 : (y 0).val < 1 := (y 0).isLt
  have hy : (y 1).val < 1024 := (y 1).isLt
  have t0 : (grid2.coords t 0).val = t.val / 32 := co2_0 t
  unfold dypVec
  rw [← h ⟨32 * (t.val / 32 - 1) + (y 1).val / 32, dxSrc_lt t y⟩ (by show 32 * (t.val / 32 - 1) + (y 1).val / 32 < _; omega)
    (by show _ ≤ 32 * (t.val / 32 - 1) + (y 1).val / 32 + 64; omega)]
  unfold VecWindow.window
  refine congrArg x (funext fun a => Fin.ext ?_)
  generalize hsd : (⟨32 * (t.val / 32 - 1) + (y 1).val / 32, dxSrc_lt t y⟩ : Fin cfg2.N) = s
  have hs : s.val = 32 * (t.val / 32 - 1) + (y 1).val / 32 := by rw [← hsd]
  have s0 : (grid2.coords s 0).val = s.val / 32 := co2_0 s
  have s1 : (grid2.coords s 1).val = s.val % 32 := co2_1 s
  match a with
  | ⟨0, _⟩ =>
    have e3 : k2_off3 (grid2.coords t) 0 = ((grid2.coords t 0).val + 1) % 2 := congrFun (k2_off3_eq (grid2.coords t)) 0
    have e1 : k2_off1 (grid2.coords s) 0 = (grid2.coords s 0).val % 2 := congrFun (k2_off1_eq (grid2.coords s)) 0
    show k2_off3 (grid2.coords t) 0 + 1 * (y 0).val = k2_off1 (grid2.coords s) 0 + 1 * 0
    omega
  | ⟨1, _⟩ =>
    have e1 : k2_off1 (grid2.coords s) 1 = 32 * (grid2.coords s 1).val := congrFun (k2_off1_eq (grid2.coords s)) 1
    show 0 + 1 * (y 1).val = k2_off1 (grid2.coords s) 1 + 1 * ((y 1).val % 32)
    omega
  | ⟨2, _⟩ => rfl

/-- The proof data of the `dx` call entered at the contents `W`. -/
def dat2 (c : Dev nD) : Dat τ (Elt F) Unit ℕ (UR sig nD τ) ℕ cfg2 c where
  A w := W c (Pipeline.arrRef spec2 w)
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => dxOut W c t
  Φ t := iprop((∃ x, owns (c : Thread nD τ) (Memref.whole cc2_scratch0) fullShare x ∗ ⌜Inv2 W c t.val x⌝)
    ∗ Pipeline.scopedRestBut (Ix := Unit) (Name := ℕ) (U := UR sig nD τ) (Lvl := ℕ) (Val := Elt F) spec2 c [cc2_scratch0]
    ∗ (∃ r, prngReg c r))
  q _ := fullShare
  owed _ := 0

theorem before2_0_of {c : Dev nD} (dat : Dat τ (Elt F) Unit ℕ (UR sig nD τ) ℕ cfg2 c) (hA : dat.A 0 = W c (Pipeline.arrRef spec2 0))
    (hafter : ∀ t, dat.after 0 t = iblk2 W c 0 t) (t : Fin cfg2.N) (d) : dat.before 0 t d = iblk2 W c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = W c (Pipeline.arrRef spec2 1))
    (hafter : ∀ t, dat.after 1 t = iblk2 W c 1 t) (t : Fin cfg2.N) (d) : dat.before 1 t d = iblk2 W c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = W c (Pipeline.arrRef spec2 2))
    (hafter : ∀ t, dat.after 2 t = iblk2 W c 2 t) (t : Fin cfg2.N) (d) : dat.before 2 t d = iblk2 W c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = W c (Pipeline.arrRef spec2 3))
    (hafter : ∀ t, dat.after 3 t = iblk2 W c 3 t) (t : Fin cfg2.N) (d) : dat.before 3 t d = iblk2 W c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem A_eq2 (c : Dev nD) (w : Fin cfg2.W) : (dat2 W c).A w = W c (Pipeline.arrRef spec2 w) := by
  dsimp only [dat2]
theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = dxOut W c t := by dsimp only [dat2]
theorem before2_0 (c : Dev nD) (t : Fin cfg2.N) (d) : (dat2 W c).before 0 t d = iblk2 W c 0 t :=
  before2_0_of W (dat2 W c) (A_eq2 W c 0) (after2_0 W c) t d
theorem before2_1 (c : Dev nD) (t : Fin cfg2.N) (d) : (dat2 W c).before 1 t d = iblk2 W c 1 t :=
  before2_1_of W (dat2 W c) (A_eq2 W c 1) (after2_1 W c) t d
theorem before2_2 (c : Dev nD) (t : Fin cfg2.N) (d) : (dat2 W c).before 2 t d = iblk2 W c 2 t :=
  before2_2_of W (dat2 W c) (A_eq2 W c 2) (after2_2 W c) t d
theorem before2_3 (c : Dev nD) (t : Fin cfg2.N) (d) : (dat2 W c).before 3 t d = iblk2 W c 3 t :=
  before2_3_of W (dat2 W c) (A_eq2 W c 3) (after2_3 W c) t d
theorem leaves2_0 (c : Dev nD) (t : Fin cfg2.N) : (dat2 W c).leavesExact 0 t = owns (c : Thread nD τ) (st2_0 t) fullShare (iblk2 W c 0 t) := by
  rw [show (dat2 W c).leavesExact 0 t = owns (c : Thread nD τ) (st2_0 t) fullShare ((dat2 W c).after 0 t) from by
    unfold Dat.leavesExact; rw [show cfg2.idle 0 (cfg2.grid.coords t) = false from rfl]]
  rw [after2_0]
theorem leaves2_1 (c : Dev nD) (t : Fin cfg2.N) : (dat2 W c).leavesExact 1 t = owns (c : Thread nD τ) (st2_1 t) fullShare (iblk2 W c 1 t) := by
  rw [show (dat2 W c).leavesExact 1 t = owns (c : Thread nD τ) (st2_1 t) fullShare ((dat2 W c).after 1 t) from by
    unfold Dat.leavesExact; rw [show cfg2.idle 1 (cfg2.grid.coords t) = false from rfl]]
  rw [after2_1]
theorem leaves2_2 (c : Dev nD) (t : Fin cfg2.N) : (dat2 W c).leavesExact 2 t = owns (c : Thread nD τ) (st2_2 t) fullShare (iblk2 W c 2 t) := by
  rw [show (dat2 W c).leavesExact 2 t = owns (c : Thread nD τ) (st2_2 t) fullShare ((dat2 W c).after 2 t) from by
    unfold Dat.leavesExact; rw [show cfg2.idle 2 (cfg2.grid.coords t) = false from rfl]]
  rw [after2_2]
theorem leaves2_3 (c : Dev nD) (t : Fin cfg2.N) : (dat2 W c).leavesExact 3 t = owns (c : Thread nD τ) (st2_3 t) fullShare (iblk2 W c 3 t) := by
  rw [show (dat2 W c).leavesExact 3 t = owns (c : Thread nD τ) (st2_3 t) fullShare ((dat2 W c).after 3 t) from by
    unfold Dat.leavesExact; rw [show cfg2.idle 3 (cfg2.grid.coords t) = false from rfl]]
  rw [after2_3]
/-- What the body is called with at point `t`, -/
def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d)))

/-- and what it returns. -/
def bodyPost2 (c : Dev nD) (t : Fin cfg2.N) : sProp 𝕄 :=
  iprop((dat2 W c).Φ t.succ ∗ (dat2 W c).owesAt () t.succ
    ∗ (dat2 W c).leavesExact 0 t
    ∗ (dat2 W c).leavesExact 1 t
    ∗ (dat2 W c).leavesExact 2 t
    ∗ (dat2 W c).leavesExact 3 t
    ∗ (dat2 W c).leavesExact 4 t)

theorem flush2_4_first (t : Fin cfg2.N) (h : t.val < 32) : (cfg2.win 4).flush t = false := by
  have key : ∀ t : Fin 320, t.val < 32 → (cfg2.win 4).flush (⟨t.val, lt_of_lt_of_eq t.isLt N2.symm⟩ : Fin cfg2.N) = false := by decide +kernel
  exact key ⟨t.val, lt_of_lt_of_eq t.isLt N2⟩ h

theorem leaves2_4_first (c : Dev nD) (t : Fin cfg2.N) (h : t.val < 32) :
    (dat2 W c).leavesExact 4 t = iprop(∃ d, owns (c : Thread nD τ) (st2_4 t) fullShare ((dat2 W c).before 4 t d)) := by
  have t0 : (grid2.coords t 0).val = t.val / 32 := co2_0 t
  have hc : ¬ k2_cond2 (grid2.coords t) = 1#1 := fun e => (k2_cond2_iff _).mp e (by omega)
  unfold Dat.leavesExact
  rw [show cfg2.idle 4 (cfg2.grid.coords t) = true from by
    show (!(k2_cond2 (grid2.coords t) == 1#1)) = true
    rw [beq_eq_false_iff_ne.mpr hc]; rfl, flush2_4_first t h]

theorem leaves2_4_later (c : Dev nD) (t : Fin cfg2.N) (h : 32 ≤ t.val) :
    (dat2 W c).leavesExact 4 t = owns (c : Thread nD τ) (st2_4 t) fullShare (dxOut W c t) := by
  have t0 : (grid2.coords t 0).val = t.val / 32 := co2_0 t
  have hc : k2_cond2 (grid2.coords t) = 1#1 := (k2_cond2_iff _).mpr (by omega)
  rw [show (dat2 W c).leavesExact 4 t = owns (c : Thread nD τ) (st2_4 t) fullShare ((dat2 W c).after 4 t) from by
    unfold Dat.leavesExact
    rw [show cfg2.idle 4 (cfg2.grid.coords t) = false from by
      show (!(k2_cond2 (grid2.coords t) == 1#1)) = false
      rw [hc]; rfl]]
  rw [after2_4]

set_option maxHeartbeats 1600000 in
/-- The body at any point. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3]
  rw [leaves2_0, leaves2_1, leaves2_2, leaves2_3]
  rw [show (dat2 W c).owesAt () t.succ = (dat2 W c).owesAt () t.castSucc from rfl]
  rw [show (dat2 W c).Φ t.castSucc = iprop((∃ x, owns (c : Thread nD τ) (Memref.whole cc2_scratch0) fullShare x ∗ ⌜Inv2 W c t.val x⌝)
    ∗ Pipeline.scopedRestBut (Ix := Unit) (Name := ℕ) (U := UR sig nD τ) (Lvl := ℕ) (Val := Elt F) spec2 c [cc2_scratch0]
    ∗ (∃ r, prngReg c r)) from rfl]
  rw [show (dat2 W c).Φ t.succ = iprop((∃ x, owns (c : Thread nD τ) (Memref.whole cc2_scratch0) fullShare x ∗ ⌜Inv2 W c (t.val + 1) x⌝)
    ∗ Pipeline.scopedRestBut (Ix := Unit) (Name := ℕ) (U := UR sig nD τ) (Lvl := ℕ) (Val := Elt F) spec2 c [cc2_scratch0]
    ∗ (∃ r, prngReg c r)) from rfl]
  have t0 : (grid2.coords t 0).val = t.val / 32 := co2_0 t
  iintro ⟨⟨⟨%x, HS, %hx⟩, Hrest, Hg⟩, Ho, ⟨%d0, H0⟩, ⟨%d1, H1⟩, ⟨%d2, H2⟩, ⟨%d3, H3⟩, ⟨%d4, H4⟩⟩
  have hx' := Inv2_step W c t x hx
  by_cases h : t.val < 32
  · rw [leaves2_4_first W c t h]
    iapply (dx_body_first c (grid2.coords t) _ _ _ _ _ _ _ _ _ _ _ _ ((k2_cond1_iff _).mpr (by omega)) (fun e => (k2_cond2_iff _).mp e (by omega))
      (iblk2 W c 0 t) (iblk2 W c 2 t) (iblk2 W c 3 t) x Set.univ _)
    isplitl [H0]; · iexact H0
    isplitl [H2]; · iexact H2
    isplitl [H3]; · iexact H3
    isplitl [HS]; · iexact HS
    iintro ⟨H0, H2, H3, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    iexists _; iexact H4
  · rw [leaves2_4_later W c t (by omega)]
    have hc2 : k2_cond2 (grid2.coords t) = 1#1 := (k2_cond2_iff _).mpr (by omega)
    iapply (dx_body_later c (grid2.coords t) _ _ _ _ _ _ _ _ _ _ _ _ (fun e => (show ¬ (grid2.coords t 0).val = 0 by omega) ((k2_cond1_iff _).mp e)) hc2
      (iblk2 W c 0 t) (iblk2 W c 1 t) (iblk2 W c 2 t) (iblk2 W c 3 t) x Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    unfold dxOut
    rw [← Inv2_read W c t (by omega) _ hx' (k2_off3_inb (grid2.coords t) hc2)]
    iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 W c) (defs₀ (F := F)) Variants.none () Set.univ := fun t => by
  rw [bigSep_W2, bigSep_W2, defs₀_row2]
  exact triple_restated (sound_body2 W c t) rfl .rfl fun _ => .rfl

/-- What the launch hands the call is the invariant before the first point, -/
theorem hin2 (c : Dev nD) : iprop(Pipeline.scopedRest (Ix := Unit) (Name := ℕ) (U := UR sig nD τ) (Lvl := ℕ) (Val := Elt F) spec2 c ∗ (∃ r, prngReg c r)) ⊢ (dat2 W c).Φ 0 := by
  rw [show (dat2 W c).Φ 0 = iprop((∃ x, owns (c : Thread nD τ) (Memref.whole cc2_scratch0) fullShare x ∗ ⌜Inv2 W c 0 x⌝)
    ∗ Pipeline.scopedRestBut (Ix := Unit) (Name := ℕ) (U := UR sig nD τ) (Lvl := ℕ) (Val := Elt F) spec2 c [cc2_scratch0]
    ∗ (∃ r, prngReg c r)) from rfl, scopedRest2_split]
  simp only [owns_whole]
  iintro ⟨⟨⟨%f, HS⟩, Hr⟩, Hg⟩
  isplitl [HS]
  · iexists f; isplitl [HS]; · iexact HS
    ipureintro; exact fun s hs _ => absurd hs (Nat.not_lt_zero _)
  isplitl [Hr] <;> iassumption

/-- and the invariant after the last point gives it back. -/
theorem hout2 (c : Dev nD) : (dat2 W c).Φ (Fin.last cfg2.N) ⊢ iprop(Pipeline.scopedRest (Ix := Unit) (Name := ℕ) (U := UR sig nD τ) (Lvl := ℕ) (Val := Elt F) spec2 c ∗ (∃ r, prngReg c r)) := by
  rw [show (dat2 W c).Φ (Fin.last cfg2.N) = iprop((∃ x, owns (c : Thread nD τ) (Memref.whole cc2_scratch0) fullShare x ∗ ⌜Inv2 W c (Fin.last cfg2.N).val x⌝)
    ∗ Pipeline.scopedRestBut (Ix := Unit) (Name := ℕ) (U := UR sig nD τ) (Lvl := ℕ) (Val := Elt F) spec2 c [cc2_scratch0]
    ∗ (∃ r, prngReg c r)) from rfl, scopedRest2_split]
  simp only [owns_whole]
  iintro ⟨⟨%f, HS, -⟩, Hr, Hg⟩
  isplitl [HS Hr]
  · isplitl [HS]
    · iexists f; iexact HS
    iexact Hr
  iexact Hg

end Cert.Kernel.Hand

end
-- ==== Proof.Kernel.Run.lean ====
module

public import proofs.«01_k».proof.Proof.Kernel.SkDat
public import proofs.«01_k».proof.Proof.Kernel.DmDat
public import proofs.«01_k».proof.Proof.Kernel.DxDat
public import proofs.«01_k».proof.Proof.Gen.Kernel.Regions
public import Idealize.ShloMosaic.Lib.Pipeline.RegionArraysS

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The whole run: the three calls between the host's reshapes -/

variable (m : (ℓ : Loc nD τ sig) → Buf (Elt F) ℓ)

/-- No core owes another anything; the one index of the staging waits is at level zero on every TensorCore. -/
abbrev Lr : GSem nD τ sig → Finset Unit := fun g => if g.1.2 = .tc then {()} else ∅
/-- Every semaphore's waits are at level zero. -/
abbrev lvr : GSem nD τ sig → Unit → ℕ := fun _ _ => 0

/-- The buffers' contents when the `skinny` call starts, -/
def W1 (c : Dev nD) : Valuation τ sig (Elt F) := V1 m c
/-- when the `build_dm` call starts, -/
def W2 (c : Dev nD) : Valuation τ sig (Elt F) := Pipeline.afterRegion (dat0 (W1 m) c) (W1 m c)
/-- when the `dx` call starts, -/
def W3 (c : Dev nD) : Valuation τ sig (Elt F) := Pipeline.afterRegion (dat1 (W2 m) c) (W2 m c)
/-- and after it. -/
def W4 (c : Dev nD) : Valuation τ sig (Elt F) := Pipeline.afterRegion (dat2 (W3 m) c) (W3 m c)

/-- What the calls leave in the buffers they may change. -/
def outs : Outs (F := F) := fun J r c => match J with
  | 2 => W2 m c (Proc.devRef .tc r)
  | 3 => W3 m c (Proc.devRef .tc r)
  | _ => W4 m c (Proc.devRef .tc r)

/-- A call changes its output windows' arrays alone. -/
theorem afterRegion_same {cfg : Cfg sig Λ₀} {c : Dev nD} (dat : Dat τ (Elt F) Unit ℕ (UR sig nD τ) ℕ cfg c) (V : Valuation τ sig (Elt F)) (hinj : Function.Injective (Pipeline.arrRef cfg.spec))
    (hA : ∀ w, dat.A w = V (Proc.devRef .tc (Pipeline.arrRef cfg.spec w))) (b : DevRef τ sig)
    (h : ∀ w, (cfg.win w).isOut = true → b ≠ Proc.devRef .tc (Pipeline.arrRef cfg.spec w)) : Pipeline.afterRegion dat V b = V b := by
  by_cases hb : ∃ w, b = Proc.devRef .tc (Pipeline.arrRef cfg.spec w)
  · obtain ⟨w, rfl⟩ := hb
    refine Pipeline.afterRegion_keeps dat V hinj hA _ fun w' e => ?_
    obtain rfl := hinj e
    cases hw : (cfg.win w').isOut
    · rfl
    · exact absurd rfl (h w' hw)
  · unfold Pipeline.afterRegion
    rw [dif_neg hb]

/-- The buffers after the first call. -/
theorem V2_eq (c : Dev nD) : V2 m (outs m) c = W2 m c := by
  funext b
  show Function.update (Function.update (V1 m  c) (Proc.devRef .tc main_v5_0) (W2 m c (Proc.devRef .tc main_v5_0))) (Proc.devRef .tc main_v5_1) (W2 m c (Proc.devRef .tc main_v5_1)) b = _
  rw [show V1 m c = W1 m c from rfl]
  by_cases h1 : b = Proc.devRef .tc main_v5_1
  · subst h1; rw [Function.update_self]
  rw [Function.update_of_ne h1]
  by_cases h0 : b = Proc.devRef .tc main_v5_0
  · subst h0; rw [Function.update_self]
  rw [Function.update_of_ne h0]
  refine (afterRegion_same (dat0 (W1 m) c) (W1 m c) launch0.win.arr_inj (fun w => A_eq0 (W1 m) c w) b fun w hw => ?_).symm
  match w, hw with
  | ⟨0, _⟩, hw => exact absurd hw Bool.false_ne_true
  | ⟨1, _⟩, hw => exact absurd hw Bool.false_ne_true
  | ⟨2, _⟩, hw => exact absurd hw Bool.false_ne_true
  | ⟨3, _⟩, hw => exact absurd hw Bool.false_ne_true
  | ⟨4, _⟩, hw => exact absurd hw Bool.false_ne_true
  | ⟨5, _⟩, hw => exact absurd hw Bool.false_ne_true
  | ⟨6, _⟩, hw => exact absurd hw Bool.false_ne_true
  | ⟨7, _⟩, _ => exact h0
  | ⟨8, _⟩, _ => exact h1

/-- The buffers after the second call. -/
theorem V3_eq (c : Dev nD) : V3 m (outs m) c = W3 m c := by
  funext b
  show Function.update (Function.update (V2 m (outs m) c) (Proc.devRef .tc main_v6_0) (W3 m c (Proc.devRef .tc main_v6_0))) (Proc.devRef .tc main_v6_1) (W3 m c (Proc.devRef .tc main_v6_1)) b = _
  rw [V2_eq]
  by_cases h1 : b = Proc.devRef .tc main_v6_1
  · subst h1; rw [Function.update_self]
  rw [Function.update_of_ne h1]
  by_cases h0 : b = Proc.devRef .tc main_v6_0
  · subst h0; rw [Function.update_self]
  rw [Function.update_of_ne h0]
  refine (afterRegion_same (dat1 (W2 m) c) (W2 m c) launch1.win.arr_inj (fun w => A_eq1 (W2 m) c w) b fun w hw => ?_).symm
  match w, hw with
  | ⟨0, _⟩, hw => exact absurd hw Bool.false_ne_true
  | ⟨1, _⟩, hw => exact absurd hw Bool.false_ne_true
  | ⟨2, _⟩, hw => exact absurd hw Bool.false_ne_true
  | ⟨3, _⟩, hw => exact absurd hw Bool.false_ne_true
  | ⟨4, _⟩, hw => exact absurd hw Bool.false_ne_true
  | ⟨5, _⟩, hw => exact absurd hw Bool.false_ne_true
  | ⟨6, _⟩, hw => exact absurd hw Bool.false_ne_true
  | ⟨7, _⟩, hw => exact absurd hw Bool.false_ne_true
  | ⟨8, _⟩, _ => exact h0
  | ⟨9, _⟩, _ => exact h1

/-- The buffers after the third call. -/
theorem V4_eq (c : Dev nD) : V4 m (outs m) c = W4 m c := by
  funext b
  show Function.update (V3 m (outs m) c) (Proc.devRef .tc main_v7) (W4 m c (Proc.devRef .tc main_v7)) b = _
  rw [V3_eq]
  by_cases h0 : b = Proc.devRef .tc main_v7
  · subst h0; rw [Function.update_self]
  rw [Function.update_of_ne h0]
  refine (afterRegion_same (dat2 (W3 m) c) (W3 m c) launch2.win.arr_inj (fun w => A_eq2 (W3 m) c w) b fun w hw => ?_).symm
  match w, hw with
  | ⟨0, _⟩, hw => exact absurd hw Bool.false_ne_true
  | ⟨1, _⟩, hw => exact absurd hw Bool.false_ne_true
  | ⟨2, _⟩, hw => exact absurd hw Bool.false_ne_true
  | ⟨3, _⟩, hw => exact absurd hw Bool.false_ne_true
  | ⟨4, _⟩, _ => exact h0

/-- The three calls' proof data. -/
def pdats : (p : Fin 3) → (c : Dev nD) → Dat τ (Elt F) Unit ℕ (UR sig nD τ) ℕ (cfgs p) c
  | ⟨0, _⟩ => dat0 (W1 m)
  | ⟨1, _⟩ => dat1 (W2 m)
  | ⟨2, _⟩ => dat2 (W3 m)

/-- What rides beside the buffers: the core owes nothing, and its random-number register. -/
def Er (c : Dev nD) : sProp 𝕄 := iprop((∃ Wd, owes (c : Thread nD τ) (0 : CellTallies nD τ sig Unit) Wd) ∗ (∃ r, prngReg c r) ∗ emp)

/-- The levels at call 0 of the run. -/
theorem cut0 : Pipeline.LevelCut (pcfgs (F := F)) adm () Lr lvr 0 (fun _ => 0) (fun _ => 0) where
  hι _ _ _ := by show () ∈ (if _ then _ else _); rw [if_pos rfl]; exact Finset.mem_singleton_self _
  hιb _ _ _ := Nat.le_refl _
  hD _ _ _ h := absurd h (Nat.lt_irrefl 0)

set_option backward.isDefEq.respectTransparency.types false in
/-- Call 0 over all the buffers. -/
def reg0 : Pipeline.RegionSeg (pcfgs (F := F)) adm (pdats m) () defs₀ Variants.none Lr lvr 0 :=
  Pipeline.RegionSeg.ofHeldIn (pcfgs (F := F)) adm (pdats m) () defs₀ Variants.none Lr lvr 0 (fun _ => 0) (Pipeline.ucRefs τ sig)
    (fun c => iprop(∃ r, prngReg c r)) (fun c => iprop(∃ r, prngReg c r)) launch0.toP rfl
    (fun c => (body_obligation0 (W1 m) c).loose) (fun _ _ => rfl) (fun _ => rfl) (fun c => (dat0 (W1 m) c).share_full fun _ => rfl)
    (hin0 (W1 m)) (hout0 (W1 m)) (fun _ => 0) cut0 (fun _ => iprop(emp)) (W1 m) (fun c w => A_eq0 (W1 m) c w)

set_option backward.isDefEq.respectTransparency.types false in
/-- It is entered from all the buffers at the contents before it, -/
theorem reg0_pre (c : Dev nD) : iprop(StableHlo.held (c : Thread nD τ) (Pipeline.ucRefs τ sig) (W1 m c) ∗ Er c) ⊢ (reg0 m).pre c := by
  have hS : Pipeline.arrRefs (τ := τ) spec0 ⊆ Pipeline.ucRefs τ sig := Pipeline.arrRefs_sub_ucRefs spec0 launch0.win.arr_unscoped
  exact Pipeline.RegionSeg.ofHeldIn_pre (pcs := pcfgs (F := F)) (a := adm) (pdats := pdats m) (ι := ()) (defs₀ := defs₀) (𝒱₀ := Variants.none) (L := Lr) (lv := lvr) (p := 0) (D := fun _ => 0)
    (S := Pipeline.ucRefs τ sig) hS (X := fun c => iprop(∃ r, prngReg c r)) (Y := fun c => iprop(∃ r, prngReg c r)) (kit := launch0.toP) (hK := rfl)
    (hbody := fun c => (body_obligation0 (W1 m) c).loose) (howed := fun _ _ => rfl) (hrec := fun _ => rfl) (hshare := fun c => (dat0 (W1 m) c).share_full fun _ => rfl)
    (hin := hin0 (W1 m)) (hout := hout0 (W1 m)) (b := fun _ => 0) (hcut := cut0) (R := fun _ => iprop(emp)) (W := W1 m) (hW := fun c w => A_eq0 (W1 m) c w) c

set_option backward.isDefEq.respectTransparency.types false in
/-- and leaves them at the contents after it. -/
theorem reg0_post (c : Dev nD) : (reg0 m).post c ⊢ iprop(StableHlo.held (c : Thread nD τ) (Pipeline.ucRefs τ sig) (W2 m c) ∗ Er c) := by
  have hS : Pipeline.arrRefs (τ := τ) spec0 ⊆ Pipeline.ucRefs τ sig := Pipeline.arrRefs_sub_ucRefs spec0 launch0.win.arr_unscoped
  exact Pipeline.RegionSeg.ofHeldIn_post (pcs := pcfgs (F := F)) (a := adm) (pdats := pdats m) (ι := ()) (defs₀ := defs₀) (𝒱₀ := Variants.none) (L := Lr) (lv := lvr) (p := 0) (D := fun _ => 0)
    (S := Pipeline.ucRefs τ sig) hS (X := fun c => iprop(∃ r, prngReg c r)) (Y := fun c => iprop(∃ r, prngReg c r)) (kit := launch0.toP) (hK := rfl)
    (hbody := fun c => (body_obligation0 (W1 m) c).loose) (howed := fun _ _ => rfl) (hrec := fun _ => rfl) (hshare := fun c => (dat0 (W1 m) c).share_full fun _ => rfl)
    (hin := hin0 (W1 m)) (hout := hout0 (W1 m)) (b := fun _ => 0) (hcut := cut0) (R := fun _ => iprop(emp)) (W := W1 m) (hW := fun c w => A_eq0 (W1 m) c w) c

/-- The levels at call 1 of the run. -/
theorem cut1 : Pipeline.LevelCut (pcfgs (F := F)) adm () Lr lvr 1 (fun _ => 0) (fun _ => 0) where
  hι _ _ _ := by show () ∈ (if _ then _ else _); rw [if_pos rfl]; exact Finset.mem_singleton_self _
  hιb _ _ _ := Nat.le_refl _
  hD _ _ _ h := absurd h (Nat.lt_irrefl 0)

set_option backward.isDefEq.respectTransparency.types false in
/-- Call 1 over all the buffers. -/
def reg1 : Pipeline.RegionSeg (pcfgs (F := F)) adm (pdats m) () defs₀ Variants.none Lr lvr 1 :=
  Pipeline.RegionSeg.ofHeldIn (pcfgs (F := F)) adm (pdats m) () defs₀ Variants.none Lr lvr 1 (fun _ => 0) (Pipeline.ucRefs τ sig)
    (fun c => iprop(∃ r, prngReg c r)) (fun c => iprop(∃ r, prngReg c r)) launch1.toP rfl
    (fun c => (body_obligation1 (W2 m) c).loose) (fun _ _ => rfl) (fun _ => rfl) (fun c => (dat1 (W2 m) c).share_full fun _ => rfl)
    (hin1 (W2 m)) (hout1 (W2 m)) (fun _ => 0) cut1 (fun _ => iprop(emp)) (W2 m) (fun c w => A_eq1 (W2 m) c w)

set_option backward.isDefEq.respectTransparency.types false in
/-- It is entered from all the buffers at the contents before it, -/
theorem reg1_pre (c : Dev nD) : iprop(StableHlo.held (c : Thread nD τ) (Pipeline.ucRefs τ sig) (W2 m c) ∗ Er c) ⊢ (reg1 m).pre c := by
  have hS : Pipeline.arrRefs (τ := τ) spec1 ⊆ Pipeline.ucRefs τ sig := Pipeline.arrRefs_sub_ucRefs spec1 launch1.win.arr_unscoped
  exact Pipeline.RegionSeg.ofHeldIn_pre (pcs := pcfgs (F := F)) (a := adm) (pdats := pdats m) (ι := ()) (defs₀ := defs₀) (𝒱₀ := Variants.none) (L := Lr) (lv := lvr) (p := 1) (D := fun _ => 0)
    (S := Pipeline.ucRefs τ sig) hS (X := fun c => iprop(∃ r, prngReg c r)) (Y := fun c => iprop(∃ r, prngReg c r)) (kit := launch1.toP) (hK := rfl)
    (hbody := fun c => (body_obligation1 (W2 m) c).loose) (howed := fun _ _ => rfl) (hrec := fun _ => rfl) (hshare := fun c => (dat1 (W2 m) c).share_full fun _ => rfl)
    (hin := hin1 (W2 m)) (hout := hout1 (W2 m)) (b := fun _ => 0) (hcut := cut1) (R := fun _ => iprop(emp)) (W := W2 m) (hW := fun c w => A_eq1 (W2 m) c w) c

set_option backward.isDefEq.respectTransparency.types false in
/-- and leaves them at the contents after it. -/
theorem reg1_post (c : Dev nD) : (reg1 m).post c ⊢ iprop(StableHlo.held (c : Thread nD τ) (Pipeline.ucRefs τ sig) (W3 m c) ∗ Er c) := by
  have hS : Pipeline.arrRefs (τ := τ) spec1 ⊆ Pipeline.ucRefs τ sig := Pipeline.arrRefs_sub_ucRefs spec1 launch1.win.arr_unscoped
  exact Pipeline.RegionSeg.ofHeldIn_post (pcs := pcfgs (F := F)) (a := adm) (pdats := pdats m) (ι := ()) (defs₀ := defs₀) (𝒱₀ := Variants.none) (L := Lr) (lv := lvr) (p := 1) (D := fun _ => 0)
    (S := Pipeline.ucRefs τ sig) hS (X := fun c => iprop(∃ r, prngReg c r)) (Y := fun c => iprop(∃ r, prngReg c r)) (kit := launch1.toP) (hK := rfl)
    (hbody := fun c => (body_obligation1 (W2 m) c).loose) (howed := fun _ _ => rfl) (hrec := fun _ => rfl) (hshare := fun c => (dat1 (W2 m) c).share_full fun _ => rfl)
    (hin := hin1 (W2 m)) (hout := hout1 (W2 m)) (b := fun _ => 0) (hcut := cut1) (R := fun _ => iprop(emp)) (W := W2 m) (hW := fun c w => A_eq1 (W2 m) c w) c

/-- The levels at call 2 of the run. -/
theorem cut2 : Pipeline.LevelCut (pcfgs (F := F)) adm () Lr lvr 2 (fun _ => 0) (fun _ => 0) where
  hι _ _ _ := by show () ∈ (if _ then _ else _); rw [if_pos rfl]; exact Finset.mem_singleton_self _
  hιb _ _ _ := Nat.le_refl _
  hD _ _ _ h := absurd h (Nat.lt_irrefl 0)

set_option backward.isDefEq.respectTransparency.types false in
/-- Call 2 over all the buffers. -/
def reg2 : Pipeline.RegionSeg (pcfgs (F := F)) adm (pdats m) () defs₀ Variants.none Lr lvr 2 :=
  Pipeline.RegionSeg.ofHeldIn (pcfgs (F := F)) adm (pdats m) () defs₀ Variants.none Lr lvr 2 (fun _ => 0) (Pipeline.ucRefs τ sig)
    (fun c => iprop(∃ r, prngReg c r)) (fun c => iprop(∃ r, prngReg c r)) launch2.toP rfl
    (fun c => (body_obligation2 (W3 m) c).loose) (fun _ _ => rfl) (fun _ => rfl) (fun c => (dat2 (W3 m) c).share_full fun _ => rfl)
    (hin2 (W3 m)) (hout2 (W3 m)) (fun _ => 0) cut2 (fun _ => iprop(emp)) (W3 m) (fun c w => A_eq2 (W3 m) c w)

set_option backward.isDefEq.respectTransparency.types false in
/-- It is entered from all the buffers at the contents before it, -/
theorem reg2_pre (c : Dev nD) : iprop(StableHlo.held (c : Thread nD τ) (Pipeline.ucRefs τ sig) (W3 m c) ∗ Er c) ⊢ (reg2 m).pre c := by
  have hS : Pipeline.arrRefs (τ := τ) spec2 ⊆ Pipeline.ucRefs τ sig := Pipeline.arrRefs_sub_ucRefs spec2 launch2.win.arr_unscoped
  exact Pipeline.RegionSeg.ofHeldIn_pre (pcs := pcfgs (F := F)) (a := adm) (pdats := pdats m) (ι := ()) (defs₀ := defs₀) (𝒱₀ := Variants.none) (L := Lr) (lv := lvr) (p := 2) (D := fun _ => 0)
    (S := Pipeline.ucRefs τ sig) hS (X := fun c => iprop(∃ r, prngReg c r)) (Y := fun c => iprop(∃ r, prngReg c r)) (kit := launch2.toP) (hK := rfl)
    (hbody := fun c => (body_obligation2 (W3 m) c).loose) (howed := fun _ _ => rfl) (hrec := fun _ => rfl) (hshare := fun c => (dat2 (W3 m) c).share_full fun _ => rfl)
    (hin := hin2 (W3 m)) (hout := hout2 (W3 m)) (b := fun _ => 0) (hcut := cut2) (R := fun _ => iprop(emp)) (W := W3 m) (hW := fun c w => A_eq2 (W3 m) c w) c

set_option backward.isDefEq.respectTransparency.types false in
/-- and leaves them at the contents after it. -/
theorem reg2_post (c : Dev nD) : (reg2 m).post c ⊢ iprop(StableHlo.held (c : Thread nD τ) (Pipeline.ucRefs τ sig) (W4 m c) ∗ Er c) := by
  have hS : Pipeline.arrRefs (τ := τ) spec2 ⊆ Pipeline.ucRefs τ sig := Pipeline.arrRefs_sub_ucRefs spec2 launch2.win.arr_unscoped
  exact Pipeline.RegionSeg.ofHeldIn_post (pcs := pcfgs (F := F)) (a := adm) (pdats := pdats m) (ι := ()) (defs₀ := defs₀) (𝒱₀ := Variants.none) (L := Lr) (lv := lvr) (p := 2) (D := fun _ => 0)
    (S := Pipeline.ucRefs τ sig) hS (X := fun c => iprop(∃ r, prngReg c r)) (Y := fun c => iprop(∃ r, prngReg c r)) (kit := launch2.toP) (hK := rfl)
    (hbody := fun c => (body_obligation2 (W3 m) c).loose) (howed := fun _ _ => rfl) (hrec := fun _ => rfl) (hshare := fun c => (dat2 (W3 m) c).share_full fun _ => rfl)
    (hin := hin2 (W3 m)) (hout := hout2 (W3 m)) (b := fun _ => 0) (hcut := cut2) (R := fun _ => iprop(emp)) (W := W3 m) (hW := fun c w => A_eq2 (W3 m) c w) c

set_option backward.isDefEq.respectTransparency.types false in
/-- Every run ends, with every buffer at what the three calls and the host's reshapes leave there and every semaphore at zero. -/
theorem run_main (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = V5 m (outs m) c b) ∧ r.2.sem = fun _ => 0) := by
  have hu : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => iprop(emp)) := by
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  have hE : iprop((bigSep Finset.univ fun c : Dev nD => iprop(unscopedSems0 c ∗ owes (c : Thread nD τ) 0 ∅ ∗ Pipeline.launchCred 0 c ∗ prngReg c (ρ c) ∗ emp)) ∗ levAts Lr lvr)
      ⊢ (|={Set.univ}=> bigSep Finset.univ Er : sProp 𝕄) := by
    refine Pipeline.initEach Lr lvr fun c => ?_
    unfold Er
    iintro ⟨⟨-, HO, -, Hp, -⟩, -⟩
    imodintro
    isplitl [HO]; · iexists ∅; iexact HO
    isplitl [Hp]; · iexists _; iexact Hp
    iempintro
  have h4 : ∀ c : Dev nD, (reg2 m).post c ⊢ iprop(StableHlo.held (c : Thread nD τ) (Pipeline.ucRefs τ sig) (V4 m (outs m) c) ∗ Er c) := fun c => by
    rw [V4_eq]; exact reg2_post m c
  refine Pipeline.θ_run_regions_kit_dev_sems (pcfgs (F := F)) adm (pdats m) () cellOf_inj emb₁ defs₀ Variants.none Lr lvr m ρ main
    (segs m (outs m) Variants.none Lr lvr (fun _ => Er) () (pdats m) (reg0 m) (reg1 m) (reg2 m))
    (fun c Q => by
      rewrite [main_chain c, Seg.run_eq_chain,
        show (segs m (outs m) Variants.none Lr lvr (fun _ => Er) () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) 0 (fun _ h => if_neg h) (fun _ => iprop(emp)) (initOf (Pipeline.cells cfgs cellOf_inj) (Pipeline.launchToks cfgs cellOf_inj)) hu
    (T₀ := fun c => iprop(StableHlo.held (c : Thread nD τ) (Pipeline.ucRefs τ sig) (V0 m c) ∗ Er c))
    (Tₙ := fun c => StableHlo.held (c : Thread nD τ) (Pipeline.ucRefs τ sig) (V5 m (outs m) c))
    (hch := fun c => ⟨.rfl, reg0_pre m c, (reg0_post m c).trans (reg1_pre m c), (reg1_post m c).trans (reg2_pre m c), h4 c, sep_mono .rfl (by unfold Er; iintro ⟨H, -⟩; iexact H)⟩)
    (hinit := ?_) (QY := fun c s => ∀ r : Ref sig .tc, r.isScoped = false → s.mem ((c.tc : Thread nD τ).loc r) = V5 m (outs m) c r)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred 0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred 0 c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact fun r hr => h (Proc.devRef .tc r) (Finset.mem_filter.mpr ⟨StableHlo.devRef_mem_tcRefs r, fun h' => Bool.false_ne_true (hr.symm.trans h')⟩)
    · iexact HSI

end Cert.Kernel.Hand

end
-- ==== Proof.Kernel.Frame.lean ====
module

public import proofs.«01_k».proof.Proof.Kernel.Run

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame: every run ends, the arguments as launched and every semaphore at zero -/

/-- Every run of the whole program ends, each argument's buffer as it was at launch and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run _ _ _).mono (fun r h => ⟨fun c => ?_, h.2⟩) (run_main m ρ)
  exact ⟨(h.1 c main_arg0 rfl).trans (V5_main_arg0 m (outs m) c),
    (h.1 c main_arg1 rfl).trans (V5_main_arg1 m (outs m) c),
    (h.1 c main_arg2 rfl).trans (V5_main_arg2 m (outs m) c),
    (h.1 c main_arg3 rfl).trans (V5_main_arg3 m (outs m) c),
    (h.1 c main_arg4 rfl).trans (V5_main_arg4 m (outs m) c),
    (h.1 c main_arg5 rfl).trans (V5_main_arg5 m (outs m) c),
    (h.1 c main_arg6 rfl).trans (V5_main_arg6 m (outs m) c),
    (h.1 c main_arg7 rfl).trans (V5_main_arg7 m (outs m) c),
    (h.1 c main_arg8 rfl).trans (V5_main_arg8 m (outs m) c)⟩

end Cert.Kernel.Hand

end
-- ==== Proof.KernelIdeal.Offs.lean ====
module

public import proofs.«01_k».proof.Proof.Gen.KernelIdeal.Regions
public import proofs.«01_k».proof.Proof.Gen.KernelIdeal.Points
public import proofs.«01_k».proof.Proof.Gen.KernelIdeal.Skeleton
public import Idealize.ShloMosaic.Lib.VecWindow
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The offsets and conditions of the `dx` and `build_dm` bodies in closed form -/

theorem k2_off1_eq (i : grid2.Coords) : k2_off1 i = ![(i 0).val % 2, 32 * (i 1).val, 0] := by
  have h0 : ∀ a : Fin 10, k2_off1 (Fin.cons a (Fin.cons (0 : Fin 32) (fun z => z.elim0))) 0 = a.val % 2 := by decide +kernel
  have h1 : ∀ b : Fin 32, (Scalar.indexCast (Scalar.muli (BitVec.ofNat 32 b.val) 32#32) : Index).toNat = 32 * b.val := by decide +kernel
  funext a
  match a with
  | ⟨0, _⟩ => exact h0 (i 0)
  | ⟨1, _⟩ => exact h1 (i 1)
  | ⟨2, _⟩ => rfl

theorem k2_off2_eq (i : grid2.Coords) : k2_off2 i = ![(i 0).val % 2, 32 * (i 1).val, 0] := k2_off1_eq i

theorem k2_off3_eq (i : grid2.Coords) : k2_off3 i = ![((i 0).val + 1) % 2, 0, 0] := by
  have h0 : ∀ a : Fin 10, k2_off3 (Fin.cons a (Fin.cons (0 : Fin 32) (fun z => z.elim0))) 0 = (a.val + 1) % 2 := by decide +kernel
  funext a
  match a with
  | ⟨0, _⟩ => exact h0 (i 0)
  | ⟨1, _⟩ => rfl
  | ⟨2, _⟩ => rfl

instance closedOff_k2_1 (i : grid2.Coords) : ClosedOff (k2_off1 i) := ⟨_, k2_off1_eq i⟩
instance closedOff_k2_2 (i : grid2.Coords) : ClosedOff (k2_off2 i) := ⟨_, k2_off2_eq i⟩
instance closedOff_k2_3 (i : grid2.Coords) : ClosedOff (k2_off3 i) := ⟨_, k2_off3_eq i⟩

theorem mul1024 : ∀ b : Fin 16, (Scalar.indexCast (Scalar.muli (BitVec.ofNat 32 b.val) 1024#32) : Index).toNat = 1024 * b.val := by decide +kernel

theorem k1_off1_eq_1 (i : grid1.Coords) : k1_off1 i 1 = 1024 * (i 1).val := by
  unfold k1_off1
  dsimp only [Matrix.cons_val_one, Matrix.cons_val_zero]
  exact mul1024 (i 1)

theorem k1_off1_eq_0 (i : grid1.Coords) : k1_off1 i 0 = (i 0).val % 2 := by
  unfold k1_off1
  dsimp only [Matrix.cons_val_one, Matrix.cons_val_zero]
  generalize i 0 = a
  revert a
  decide +kernel

theorem k1_off1_eq (i : grid1.Coords) : k1_off1 i = ![(i 0).val % 2, 1024 * (i 1).val, 0] := by
  funext a
  match a with
  | ⟨0, _⟩ => exact k1_off1_eq_0 i
  | ⟨1, _⟩ => exact k1_off1_eq_1 i
  | ⟨2, _⟩ => rfl

theorem k1_off2_eq (i : grid1.Coords) : k1_off2 i = ![(i 0).val % 2, 1024 * (i 1).val, 0] := k1_off1_eq i

theorem k1_slot_eq : ∀ a : Fin 13, k1_off3 (Fin.cons a (Fin.cons (0 : Fin 16) (fun z => z.elim0))) 0 = (a.val + 1) % 2 := by decide +kernel

theorem k1_off3_eq (i : grid1.Coords) : k1_off3 i = ![((i 0).val + 1) % 2, 0, 0] := by
  funext a
  match a with
  | ⟨0, _⟩ => exact k1_slot_eq (i 0)
  | ⟨1, _⟩ => rfl
  | ⟨2, _⟩ => rfl

theorem k1_off4_eq (i : grid1.Coords) : k1_off4 i = ![((i 0).val + 1) % 2, 2048, 0] := by
  funext a
  match a with
  | ⟨0, _⟩ => exact k1_slot_eq (i 0)
  | ⟨1, _⟩ => rfl
  | ⟨2, _⟩ => rfl

theorem k1_off5_eq (i : grid1.Coords) : k1_off5 i = ![((i 0).val + 1) % 2, 4096, 0] := by
  funext a
  match a with
  | ⟨0, _⟩ => exact k1_slot_eq (i 0)
  | ⟨1, _⟩ => rfl
  | ⟨2, _⟩ => rfl

theorem k1_off6_eq (i : grid1.Coords) : k1_off6 i = ![((i 0).val + 1) % 2, 6144, 0] := by
  funext a
  match a with
  | ⟨0, _⟩ => exact k1_slot_eq (i 0)
  | ⟨1, _⟩ => rfl
  | ⟨2, _⟩ => rfl

theorem k1_off7_eq (i : grid1.Coords) : k1_off7 i = ![((i 0).val + 1) % 2, 8192, 0] := by
  funext a
  match a with
  | ⟨0, _⟩ => exact k1_slot_eq (i 0)
  | ⟨1, _⟩ => rfl
  | ⟨2, _⟩ => rfl

theorem k1_off8_eq (i : grid1.Coords) : k1_off8 i = ![((i 0).val + 1) % 2, 10240, 0] := by
  funext a
  match a with
  | ⟨0, _⟩ => exact k1_slot_eq (i 0)
  | ⟨1, _⟩ => rfl
  | ⟨2, _⟩ => rfl

theorem k1_off9_eq (i : grid1.Coords) : k1_off9 i = ![((i 0).val + 1) % 2, 12288, 0] := by
  funext a
  match a with
  | ⟨0, _⟩ => exact k1_slot_eq (i 0)
  | ⟨1, _⟩ => rfl
  | ⟨2, _⟩ => rfl

theorem k1_off10_eq (i : grid1.Coords) : k1_off10 i = ![((i 0).val + 1) % 2, 14336, 0] := by
  funext a
  match a with
  | ⟨0, _⟩ => exact k1_slot_eq (i 0)
  | ⟨1, _⟩ => rfl
  | ⟨2, _⟩ => rfl

instance closedOff_k1_1 (i : grid1.Coords) : ClosedOff (k1_off1 i) := ⟨_, k1_off1_eq i⟩
instance closedOff_k1_2 (i : grid1.Coords) : ClosedOff (k1_off2 i) := ⟨_, k1_off2_eq i⟩
instance closedOff_k1_3 (i : grid1.Coords) : ClosedOff (k1_off3 i) := ⟨_, k1_off3_eq i⟩
instance closedOff_k1_4 (i : grid1.Coords) : ClosedOff (k1_off4 i) := ⟨_, k1_off4_eq i⟩
instance closedOff_k1_5 (i : grid1.Coords) : ClosedOff (k1_off5 i) := ⟨_, k1_off5_eq i⟩
instance closedOff_k1_6 (i : grid1.Coords) : ClosedOff (k1_off6 i) := ⟨_, k1_off6_eq i⟩
instance closedOff_k1_7 (i : grid1.Coords) : ClosedOff (k1_off7 i) := ⟨_, k1_off7_eq i⟩
instance closedOff_k1_8 (i : grid1.Coords) : ClosedOff (k1_off8 i) := ⟨_, k1_off8_eq i⟩
instance closedOff_k1_9 (i : grid1.Coords) : ClosedOff (k1_off9 i) := ⟨_, k1_off9_eq i⟩
instance closedOff_k1_10 (i : grid1.Coords) : ClosedOff (k1_off10 i) := ⟨_, k1_off10_eq i⟩

/-- The first row of the `dx` grid. -/
theorem k2_cond1_iff (i : grid2.Coords) : k2_cond1 i = 1#1 ↔ (i 0).val = 0 := by
  have h : ∀ a : Fin 10, k2_cond1 (Fin.cons a (Fin.cons (0 : Fin 32) (fun z => z.elim0))) = 1#1 ↔ a.val = 0 := by decide +kernel
  exact h (i 0)
/-- Its later rows. -/
theorem k2_cond2_iff (i : grid2.Coords) : k2_cond2 i = 1#1 ↔ (i 0).val ≠ 0 := by
  have h : ∀ a : Fin 10, k2_cond2 (Fin.cons a (Fin.cons (0 : Fin 32) (fun z => z.elim0))) = 1#1 ↔ a.val ≠ 0 := by decide +kernel
  exact h (i 0)
/-- The first row of the `build_dm` grid. -/
theorem k1_cond1_iff (i : grid1.Coords) : k1_cond1 i = 1#1 ↔ (i 0).val = 0 := by
  have h : ∀ a : Fin 13, k1_cond1 (Fin.cons a (Fin.cons (0 : Fin 16) (fun z => z.elim0))) = 1#1 ↔ a.val = 0 := by decide +kernel
  exact h (i 0)
/-- Its later rows. -/
theorem k1_cond2_iff (i : grid1.Coords) : k1_cond2 i = 1#1 ↔ (i 0).val ≠ 0 := by
  have h : ∀ a : Fin 13, k1_cond2 (Fin.cons a (Fin.cons (0 : Fin 16) (fun z => z.elim0))) = 1#1 ↔ a.val ≠ 0 := by decide +kernel
  exact h (i 0)
/-- The first block of rows of a column of the `build_dm` grid. -/
theorem k1_cond3_iff (i : grid1.Coords) : k1_cond3 i = 1#1 ↔ (i 1).val = 0 := by
  have h : ∀ a : Fin 16, k1_cond3 (Fin.cons (0 : Fin 13) (Fin.cons a (fun z => z.elim0))) = 1#1 ↔ a.val = 0 := by decide +kernel
  exact h (i 1)
/-- Its later blocks. -/
theorem k1_cond4_iff (i : grid1.Coords) : k1_cond4 i = 1#1 ↔ (i 1).val ≠ 0 := by
  have h : ∀ a : Fin 16, k1_cond4 (Fin.cons (0 : Fin 13) (Fin.cons a (fun z => z.elim0))) = 1#1 ↔ a.val ≠ 0 := by decide +kernel
  exact h (i 1)

end Cert.KernelIdeal.Hand

end
-- ==== Proof.KernelIdeal.SkBody.lean ====
module

public import proofs.«01_k».proof.Proof.KernelIdeal.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the `skinny` call, one grid point at a time -/

/-- Chunk `j` (2048 columns) of the running sum for the left factor's gradient after 256 more rows. -/
def daChunk (x1 : Vec F S256x6144 .bf16) (x2 : Vec F S256x16384 .fp8e4m3) (x3 : Vec F S256x1 .f32) (x5 : Vec F S32x6144 .bf16) (x6 x7 : Vec F S1x6144 .f32)
    (b : Vec F S32x16384 .f32) : Fin 8 → Vec F S32x2048 .f32
  | 0 => k0_pay13 (k0_pay12 x6 x7 x1 x3 x5 (VecWindow.window x2 ![0, 0] S256x2048.size inb_S256x16384_S256x2048_0_0) (VecWindow.window b ![0, 0] S32x2048.size inb_S32x16384_S32x2048_0_0))
  | 1 => k0_pay15 (k0_pay8 x3) (k0_pay9 x6 x7 x1 x5) (VecWindow.window x2 ![0, 2048] S256x2048.size inb_S256x16384_S256x2048_0_2048) (VecWindow.window b ![0, 2048] S32x2048.size inb_S32x16384_S32x2048_0_2048)
  | 2 => k0_pay18 (k0_pay8 x3) (k0_pay9 x6 x7 x1 x5) (VecWindow.window x2 ![0, 4096] S256x2048.size inb_S256x16384_S256x2048_0_4096) (VecWindow.window b ![0, 4096] S32x2048.size inb_S32x16384_S32x2048_0_4096)
  | 3 => k0_pay20 (k0_pay8 x3) (k0_pay9 x6 x7 x1 x5) (k0_pay19 (VecWindow.window x2 ![0, 6144] S256x2048.size inb_S256x16384_S256x2048_0_6144)) (VecWindow.window b ![0, 6144] S32x2048.size inb_S32x16384_S32x2048_0_6144)
  | 4 => k0_pay22 (k0_pay8 x3) (k0_pay9 x6 x7 x1 x5) (VecWindow.window x2 ![0, 8192] S256x2048.size inb_S256x16384_S256x2048_0_8192) (VecWindow.window b ![0, 8192] S32x2048.size inb_S32x16384_S32x2048_0_8192)
  | 5 => k0_pay26 (VecWindow.window b ![0, 10240] S32x2048.size inb_S32x16384_S32x2048_0_10240) (k0_pay25 (k0_pay8 x3) (k0_pay9 x6 x7 x1 x5) (VecWindow.window x2 ![0, 10240] S256x2048.size inb_S256x16384_S256x2048_0_10240))
  | 6 => k0_pay28 (k0_pay8 x3) (k0_pay9 x6 x7 x1 x5) (VecWindow.window x2 ![0, 12288] S256x2048.size inb_S256x16384_S256x2048_0_12288) (VecWindow.window b ![0, 12288] S32x2048.size inb_S32x16384_S32x2048_0_12288)
  | 7 => k0_pay30 (k0_pay8 x3) (k0_pay9 x6 x7 x1 x5) (VecWindow.window x2 ![0, 14336] S256x2048.size inb_S256x16384_S256x2048_0_14336) (VecWindow.window b ![0, 14336] S32x2048.size inb_S32x16384_S32x2048_0_14336)

/-- The running sum for the left factor's gradient after 256 more rows: its eight chunks, put one after the other. -/
def daNew (x1 : Vec F S256x6144 .bf16) (x2 : Vec F S256x16384 .fp8e4m3) (x3 : Vec F S256x1 .f32) (x5 : Vec F S32x6144 .bf16) (x6 x7 : Vec F S1x6144 .f32)
    (b : Vec F S32x16384 .f32) : Vec F S32x16384 .f32 :=
  VecWindow.put (VecWindow.put (VecWindow.put (VecWindow.put (VecWindow.put (VecWindow.put (VecWindow.put (VecWindow.put (b) ![0, 0] S32x2048.size (daChunk x1 x2 x3 x5 x6 x7 b 0)) ![0, 2048] S32x2048.size (daChunk x1 x2 x3 x5 x6 x7 b 1)) ![0, 4096] S32x2048.size (daChunk x1 x2 x3 x5 x6 x7 b 2)) ![0, 6144] S32x2048.size (daChunk x1 x2 x3 x5 x6 x7 b 3)) ![0, 8192] S32x2048.size (daChunk x1 x2 x3 x5 x6 x7 b 4)) ![0, 10240] S32x2048.size (daChunk x1 x2 x3 x5 x6 x7 b 5)) ![0, 12288] S32x2048.size (daChunk x1 x2 x3 x5 x6 x7 b 6)) ![0, 14336] S32x2048.size (daChunk x1 x2 x3 x5 x6 x7 b 7)

/-- The running sum for the right factor's gradient after 256 more rows. -/
def dbNew (x1 : Vec F S256x6144 .bf16) (x2 : Vec F S256x16384 .fp8e4m3) (x3 : Vec F S256x1 .f32) (x4 : Vec F S16384x32 .bf16) (x6 x7 : Vec F S1x6144 .f32)
    (b : Vec F S32x6144 .f32) : Vec F S32x6144 .f32 :=
  k0_pay1 (k0_pay6 x6 x7 x1) (k0_pay31 (k0_pay7 x3) (k0_pay24 (k0_pay17 (k0_pay11 (VecWindow.window x2 ![0, 0] S256x2048.size inb_S256x16384_S256x2048_0_0) (VecWindow.window x4 ![0, 0] S2048x32.size inb_S16384x32_S2048x32_0_0))
        (VecWindow.window x2 ![0, 2048] S256x2048.size inb_S256x16384_S256x2048_0_2048) (VecWindow.window x4 ![2048, 0] S2048x32.size inb_S16384x32_S2048x32_2048_0)
        (VecWindow.window x2 ![0, 4096] S256x2048.size inb_S256x16384_S256x2048_0_4096) (VecWindow.window x4 ![4096, 0] S2048x32.size inb_S16384x32_S2048x32_4096_0))
      (k0_pay19 (VecWindow.window x2 ![0, 6144] S256x2048.size inb_S256x16384_S256x2048_0_6144)) (VecWindow.window x4 ![6144, 0] S2048x32.size inb_S16384x32_S2048x32_6144_0)
      (VecWindow.window x2 ![0, 8192] S256x2048.size inb_S256x16384_S256x2048_0_8192) (VecWindow.window x4 ![8192, 0] S2048x32.size inb_S16384x32_S2048x32_8192_0)
      (VecWindow.window x2 ![0, 10240] S256x2048.size inb_S256x16384_S256x2048_0_10240) (VecWindow.window x4 ![10240, 0] S2048x32.size inb_S16384x32_S2048x32_10240_0))
    (VecWindow.window x2 ![0, 12288] S256x2048.size inb_S256x16384_S256x2048_0_12288) (VecWindow.window x4 ![12288, 0] S2048x32.size inb_S16384x32_S2048x32_12288_0)
    (VecWindow.window x2 ![0, 14336] S256x2048.size inb_S256x16384_S256x2048_0_14336) (VecWindow.window x4 ![14336, 0] S2048x32.size inb_S16384x32_S2048x32_14336_0)) b

/-- A point is the first one, as the body tests it. -/
abbrev k0_cond0 (i : grid0.Coords) : BitVec 1 := Scalar.cmpi .ne (Scalar.extui (Scalar.cmpi .eq (BitVec.ofNat 32 (i 0).val) 0#32) : BitVec 32) 0#32

theorem k0_cond0_iff (i : grid0.Coords) : k0_cond0 i = 1#1 ↔ (i 0).val = 0 := by
  have key : ∀ n : Fin 36, (Scalar.cmpi .ne (Scalar.extui (Scalar.cmpi .eq (BitVec.ofNat 32 n.val) 0#32) : BitVec 32) 0#32) = 1#1 ↔ n.val = 0 := by decide +kernel
  exact key (i 0)

theorem k0_cond2_iff (i : grid0.Coords) : k0_cond2 i = 1#1 ↔ (i 0).val = 35 := by
  unfold k0_cond2; dsimp only
  generalize i 0 = a; revert a; decide +kernel

/-- A load of a box through stores that leave `z` in the whole buffer reads `z`'s window. -/
theorem readCov_window {sp : Space} {s : Shape} {e : EltTy} (v : View sig .tc sp s e) (L : List (View.Piece (Elt F) s e))
    (off size : Fin s.rank → ℕ) (inb : ∀ a, off a + size a ≤ s.size a) (z : s.Idx → Elt F e) (h : ∀ f, v.read (Elt F) (v.writes (Elt F) f L) = z) :
    v.readCov L (Rect.unit off size inb).toLoadRect = VecWindow.window z off size inb :=
  (View.readAt_unit v _ _ rfl inb).trans (by rw [h])

/-- Eight chunks side by side fill the whole buffer: what was there before does not matter. -/
theorem put_chunks_any (w : Fin 8 → Vec F S32x2048 .f32) (b b' : Vec F S32x16384 .f32) :
    VecWindow.put (VecWindow.put (VecWindow.put (VecWindow.put (VecWindow.put (VecWindow.put (VecWindow.put (VecWindow.put (b) ![0, 0] S32x2048.size (w 0)) ![0, 2048] S32x2048.size (w 1)) ![0, 4096] S32x2048.size (w 2)) ![0, 6144] S32x2048.size (w 3)) ![0, 8192] S32x2048.size (w 4)) ![0, 10240] S32x2048.size (w 5)) ![0, 12288] S32x2048.size (w 6)) ![0, 14336] S32x2048.size (w 7)
      = VecWindow.put (VecWindow.put (VecWindow.put (VecWindow.put (VecWindow.put (VecWindow.put (VecWindow.put (VecWindow.put (b') ![0, 0] S32x2048.size (w 0)) ![0, 2048] S32x2048.size (w 1)) ![0, 4096] S32x2048.size (w 2)) ![0, 6144] S32x2048.size (w 3)) ![0, 8192] S32x2048.size (w 4)) ![0, 10240] S32x2048.size (w 5)) ![0, 12288] S32x2048.size (w 6)) ![0, 14336] S32x2048.size (w 7) := by
  funext y
  have h0 : (y 0).val < 32 := (y 0).isLt
  have h1 : (y 1).val < 16384 := (y 1).isLt
  have key : ∀ n : ℕ, ¬ (∀ a : Fin 2, (![0, n] : Fin 2 → ℕ) a ≤ (y a).val ∧ (y a).val < (![0, n] : Fin 2 → ℕ) a + S32x2048.size a) → ¬ (n ≤ (y 1).val ∧ (y 1).val < n + 2048) := by
    intro n hn h
    refine hn fun a => ?_
    match a with
    | ⟨0, _⟩ => exact ⟨Nat.zero_le _, by show (y 0).val < 0 + 32; omega⟩
    | ⟨1, _⟩ => exact h
  unfold VecWindow.put
  refine dite_congr rfl (fun _ => rfl) fun n7 => ?_
  refine dite_congr rfl (fun _ => rfl) fun n6 => ?_
  refine dite_congr rfl (fun _ => rfl) fun n5 => ?_
  refine dite_congr rfl (fun _ => rfl) fun n4 => ?_
  refine dite_congr rfl (fun _ => rfl) fun n3 => ?_
  refine dite_congr rfl (fun _ => rfl) fun n2 => ?_
  refine dite_congr rfl (fun _ => rfl) fun n1 => ?_
  refine dite_congr rfl (fun _ => rfl) fun n0 => ?_
  have k0 := key 0 n0
  have k1 := key 2048 n1
  have k2 := key 4096 n2
  have k3 := key 6144 n3
  have k4 := key 8192 n4
  have k5 := key 10240 n5
  have k6 := key 12288 n6
  have k7 := key 14336 n7
  omega

set_option maxHeartbeats 4000000 in
/-- At the first point the body starts both running sums. -/
theorem sk_body_first (c : Dev nD) (i : grid0.Coords)
    (arg1 : Memref sig .tc .vmem S256x6144 .bf16) (harg1 : arg1.IsWhole)
    (arg2 : Memref sig .tc .vmem S256x16384 .fp8e4m3) (harg2 : arg2.IsWhole)
    (arg3 : Memref sig .tc .vmem S256x1 .f32) (harg3 : arg3.IsWhole)
    (arg4 : Memref sig .tc .vmem S16384x32 .bf16) (harg4 : arg4.IsWhole)
    (arg5 : Memref sig .tc .vmem S32x6144 .bf16) (harg5 : arg5.IsWhole)
    (arg6 : Memref sig .tc .vmem S1x6144 .f32) (harg6 : arg6.IsWhole)
    (arg7 : Memref sig .tc .vmem S1x6144 .f32) (harg7 : arg7.IsWhole)
    (arg8 : Memref sig .tc .vmem S32x16384 .bf16) (harg8 : arg8.IsWhole)
    (arg9 : Memref sig .tc .vmem S32x6144 .bf16) (harg9 : arg9.IsWhole)
    (arg10 : Memref sig .tc .vmem S32x16384 .f32) (harg10 : arg10.IsWhole)
    (arg11 : Memref sig .tc .vmem S32x6144 .f32) (harg11 : arg11.IsWhole)
    (hc0 : k0_cond0 i = 1#1) (hc2 : ¬ k0_cond2 i = 1#1)
    (x1 : Vec F S256x6144 .bf16) (x2 : Vec F S256x16384 .fp8e4m3) (x3 : Vec F S256x1 .f32) (x4 : Vec F S16384x32 .bf16) (x5 : Vec F S32x6144 .bf16) (x6 : Vec F S1x6144 .f32) (x7 : Vec F S1x6144 .f32)
    (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ (∃ d, owns (c : Thread nD τ) arg10 fullShare d)
        ∗ (∃ d, owns (c : Thread nD τ) arg11 fullShare d)
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg10 fullShare (daNew x1 x2 x3 x5 x6 x7 k0_pay4)
        ∗ owns (c : Thread nD τ) arg11 fullShare (dbNew x1 x2 x3 x4 x6 x7 k0_pay5)) -∗ K ⟨⟩))
      ⊢ wp frame (wpE (defs₀ (F := F)) Variants.none c none) E (cc0_skinny i arg1 harg1 arg2 harg2 arg3 harg3 arg4 harg4 arg5 harg5 arg6 harg6 arg7 harg7 arg8 harg8 arg9 harg9 arg10 harg10 arg11 harg11) K := by
  simp only [cc0_skinny_eq_skeleton]; unfold cc0_skinny_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d10, %f10, -, H10⟩, ⟨%d11, %f11, -, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  have hx1 : (arg1.view.readAt (Elt F) (Rect.unit (s := S256x6144) ![0, 0] S256x6144.size inb_S256x6144_S256x6144_0_0).toLoadRect (harg1.unread x1)) = x1 := by rw [View.readAt_full arg1.view, hf1]
  have hx3 : (arg3.view.readAt (Elt F) (Rect.unit (s := S256x1) ![0, 0] S256x1.size inb_S256x1_S256x1_0_0).toLoadRect (harg3.unread x3)) = x3 := by rw [View.readAt_full arg3.view, hf3]
  have hx5 : (arg5.view.readAt (Elt F) (Rect.unit (s := S32x6144) ![0, 0] S32x6144.size inb_S32x6144_S32x6144_0_0).toLoadRect (harg5.unread x5)) = x5 := by rw [View.readAt_full arg5.view, hf5]
  have hx6 : (arg6.view.readAt (Elt F) (Rect.unit (s := S1x6144) ![0, 0] S1x6144.size inb_S1x6144_S1x6144_0_0).toLoadRect (harg6.unread x6)) = x6 := by rw [View.readAt_full arg6.view, hf6]
  have hx7 : (arg7.view.readAt (Elt F) (Rect.unit (s := S1x6144) ![0, 0] S1x6144.size inb_S1x6144_S1x6144_0_0).toLoadRect (harg7.unread x7)) = x7 := by rw [View.readAt_full arg7.view, hf7]
  have hw0 : (arg2.view.readAt (Elt F) (Rect.unit (s := S256x16384) ![0, 0] S256x2048.size inb_S256x16384_S256x2048_0_0).toLoadRect (harg2.unread x2)) = (VecWindow.window x2 ![0, 0] S256x2048.size inb_S256x16384_S256x2048_0_0) := by
    rw [View.readAt_unit arg2.view _ _ rfl inb_S256x16384_S256x2048_0_0, hf2]
  have ha0 : (arg4.view.readAt (Elt F) (Rect.unit (s := S16384x32) ![0, 0] S2048x32.size inb_S16384x32_S2048x32_0_0).toLoadRect (harg4.unread x4)) = (VecWindow.window x4 ![0, 0] S2048x32.size inb_S16384x32_S2048x32_0_0) := by
    rw [View.readAt_unit arg4.view _ _ rfl inb_S16384x32_S2048x32_0_0, hf4]
  have hw1 : (arg2.view.readAt (Elt F) (Rect.unit (s := S256x16384) ![0, 2048] S256x2048.size inb_S256x16384_S256x2048_0_2048).toLoadRect (harg2.unread x2)) = (VecWindow.window x2 ![0, 2048] S256x2048.size inb_S256x16384_S256x2048_0_2048) := by
    rw [View.readAt_unit arg2.view _ _ rfl inb_S256x16384_S256x2048_0_2048, hf2]
  have ha1 : (arg4.view.readAt (Elt F) (Rect.unit (s := S16384x32) ![2048, 0] S2048x32.size inb_S16384x32_S2048x32_2048_0).toLoadRect (harg4.unread x4)) = (VecWindow.window x4 ![2048, 0] S2048x32.size inb_S16384x32_S2048x32_2048_0) := by
    rw [View.readAt_unit arg4.view _ _ rfl inb_S16384x32_S2048x32_2048_0, hf4]
  have hw2 : (arg2.view.readAt (Elt F) (Rect.unit (s := S256x16384) ![0, 4096] S256x2048.size inb_S256x16384_S256x2048_0_4096).toLoadRect (harg2.unread x2)) = (VecWindow.window x2 ![0, 4096] S256x2048.size inb_S256x16384_S256x2048_0_4096) := by
    rw [View.readAt_unit arg2.view _ _ rfl inb_S256x16384_S256x2048_0_4096, hf2]
  have ha2 : (arg4.view.readAt (Elt F) (Rect.unit (s := S16384x32) ![4096, 0] S2048x32.size inb_S16384x32_S2048x32_4096_0).toLoadRect (harg4.unread x4)) = (VecWindow.window x4 ![4096, 0] S2048x32.size inb_S16384x32_S2048x32_4096_0) := by
    rw [View.readAt_unit arg4.view _ _ rfl inb_S16384x32_S2048x32_4096_0, hf4]
  have hw3 : (arg2.view.readAt (Elt F) (Rect.unit (s := S256x16384) ![0, 6144] S256x2048.size inb_S256x16384_S256x2048_0_6144).toLoadRect (harg2.unread x2)) = (VecWindow.window x2 ![0, 6144] S256x2048.size inb_S256x16384_S256x2048_0_6144) := by
    rw [View.readAt_unit arg2.view _ _ rfl inb_S256x16384_S256x2048_0_6144, hf2]
  have ha3 : (arg4.view.readAt (Elt F) (Rect.unit (s := S16384x32) ![6144, 0] S2048x32.size inb_S16384x32_S2048x32_6144_0).toLoadRect (harg4.unread x4)) = (VecWindow.window x4 ![6144, 0] S2048x32.size inb_S16384x32_S2048x32_6144_0) := by
    rw [View.readAt_unit arg4.view _ _ rfl inb_S16384x32_S2048x32_6144_0, hf4]
  have hw4 : (arg2.view.readAt (Elt F) (Rect.unit (s := S256x16384) ![0, 8192] S256x2048.size inb_S256x16384_S256x2048_0_8192).toLoadRect (harg2.unread x2)) = (VecWindow.window x2 ![0, 8192] S256x2048.size inb_S256x16384_S256x2048_0_8192) := by
    rw [View.readAt_unit arg2.view _ _ rfl inb_S256x16384_S256x2048_0_8192, hf2]
  have ha4 : (arg4.view.readAt (Elt F) (Rect.unit (s := S16384x32) ![8192, 0] S2048x32.size inb_S16384x32_S2048x32_8192_0).toLoadRect (harg4.unread x4)) = (VecWindow.window x4 ![8192, 0] S2048x32.size inb_S16384x32_S2048x32_8192_0) := by
    rw [View.readAt_unit arg4.view _ _ rfl inb_S16384x32_S2048x32_8192_0, hf4]
  have hw5 : (arg2.view.readAt (Elt F) (Rect.unit (s := S256x16384) ![0, 10240] S256x2048.size inb_S256x16384_S256x2048_0_10240).toLoadRect (harg2.unread x2)) = (VecWindow.window x2 ![0, 10240] S256x2048.size inb_S256x16384_S256x2048_0_10240) := by
    rw [View.readAt_unit arg2.view _ _ rfl inb_S256x16384_S256x2048_0_10240, hf2]
  have ha5 : (arg4.view.readAt (Elt F) (Rect.unit (s := S16384x32) ![10240, 0] S2048x32.size inb_S16384x32_S2048x32_10240_0).toLoadRect (harg4.unread x4)) = (VecWindow.window x4 ![10240, 0] S2048x32.size inb_S16384x32_S2048x32_10240_0) := by
    rw [View.readAt_unit arg4.view _ _ rfl inb_S16384x32_S2048x32_10240_0, hf4]
  have hw6 : (arg2.view.readAt (Elt F) (Rect.unit (s := S256x16384) ![0, 12288] S256x2048.size inb_S256x16384_S256x2048_0_12288).toLoadRect (harg2.unread x2)) = (VecWindow.window x2 ![0, 12288] S256x2048.size inb_S256x16384_S256x2048_0_12288) := by
    rw [View.readAt_unit arg2.view _ _ rfl inb_S256x16384_S256x2048_0_12288, hf2]
  have ha6 : (arg4.view.readAt (Elt F) (Rect.unit (s := S16384x32) ![12288, 0] S2048x32.size inb_S16384x32_S2048x32_12288_0).toLoadRect (harg4.unread x4)) = (VecWindow.window x4 ![12288, 0] S2048x32.size inb_S16384x32_S2048x32_12288_0) := by
    rw [View.readAt_unit arg4.view _ _ rfl inb_S16384x32_S2048x32_12288_0, hf4]
  have hw7 : (arg2.view.readAt (Elt F) (Rect.unit (s := S256x16384) ![0, 14336] S256x2048.size inb_S256x16384_S256x2048_0_14336).toLoadRect (harg2.unread x2)) = (VecWindow.window x2 ![0, 14336] S256x2048.size inb_S256x16384_S256x2048_0_14336) := by
    rw [View.readAt_unit arg2.view _ _ rfl inb_S256x16384_S256x2048_0_14336, hf2]
  have ha7 : (arg4.view.readAt (Elt F) (Rect.unit (s := S16384x32) ![14336, 0] S2048x32.size inb_S16384x32_S2048x32_14336_0).toLoadRect (harg4.unread x4)) = (VecWindow.window x4 ![14336, 0] S2048x32.size inb_S16384x32_S2048x32_14336_0) := by
    rw [View.readAt_unit arg4.view _ _ rfl inb_S16384x32_S2048x32_14336_0, hf4]
  sl_exec (disch := first | sl_exact hc0 | sl_exact hc2)
  sl_step
  have h1 : ∀ f, arg10.view.read (Elt F) (arg10.view.writes (Elt F) f (sk_body_first.sl.H10_1 (F := F))) = k0_pay4 := fun f =>
    View.read_writes_full arg10.view f inb_S32x16384_S32x16384_0_0 _ []
  have e0 : sk_body_first.sl.v27 (F := F) c arg10 = VecWindow.window k0_pay4 ![0, 0] S32x2048.size inb_S32x16384_S32x2048_0_0 := by
    refine (readCov_window arg10.view _ _ _ _ _ h1).trans ?_
    rfl
  have h2 : ∀ f, arg10.view.read (Elt F) (arg10.view.writes (Elt F) f (sk_body_first.sl.H10_2 c arg10 x1 x2 x3 x5 x6 x7)) = (VecWindow.put k0_pay4 ![0, 0] S32x2048.size (daChunk x1 x2 x3 x5 x6 x7 k0_pay4 0)) := by
    intro f
    unfold sk_body_first.sl.H10_2 sk_body_first.sl.r_1
    rw [View.read_writes_cons_put arg10.view _ _ _ _ rfl, h1, e0]; rfl
  have e1 : sk_body_first.sl.v41 c arg10 x1 x2 x3 x5 x6 x7 = VecWindow.window k0_pay4 ![0, 2048] S32x2048.size inb_S32x16384_S32x2048_0_2048 := by
    refine (readCov_window arg10.view _ _ _ _ _ h2).trans ?_
    rw [VecWindow.window_put_of_disjoint _ _ _ _ _ _ _ 1 (.inr (by decide))]
  have h3 : ∀ f, arg10.view.read (Elt F) (arg10.view.writes (Elt F) f (sk_body_first.sl.H10_3 c arg10 x1 x2 x3 x5 x6 x7)) = (VecWindow.put (VecWindow.put k0_pay4 ![0, 0] S32x2048.size (daChunk x1 x2 x3 x5 x6 x7 k0_pay4 0)) ![0, 2048] S32x2048.size (daChunk x1 x2 x3 x5 x6 x7 k0_pay4 1)) := by
    intro f
    unfold sk_body_first.sl.H10_3
    rw [View.read_writes_cons_put arg10.view _ _ _ _ rfl, h2, e1]; rfl
  have e2 : sk_body_first.sl.v55 c arg10 x1 x2 x3 x5 x6 x7 = VecWindow.window k0_pay4 ![0, 4096] S32x2048.size inb_S32x16384_S32x2048_0_4096 := by
    refine (readCov_window arg10.view _ _ _ _ _ h3).trans ?_
    rw [VecWindow.window_put_of_disjoint _ _ _ _ _ _ _ 1 (.inr (by decide)), VecWindow.window_put_of_disjoint _ _ _ _ _ _ _ 1 (.inr (by decide))]
  have h4 : ∀ f, arg10.view.read (Elt F) (arg10.view.writes (Elt F) f (sk_body_first.sl.H10_4 c arg10 x1 x2 x3 x5 x6 x7)) = (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) := by
    intro f
    unfold sk_body_first.sl.H10_4
    rw [View.read_writes_cons_put arg10.view _ _ _ _ rfl, h3, e2]; rfl
  have e3 : sk_body_first.sl.v69 c arg10 x1 x2 x3 x5 x6 x7 = VecWindow.window k0_pay4 ![0, 6144] S32x2048.size inb_S32x16384_S32x2048_0_6144 := by
    refine (readCov_window arg10.view _ _ _ _ _ h4).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h5 : ∀ f, arg10.view.read (Elt F) (arg10.view.writes (Elt F) f (sk_body_first.sl.H10_5 c arg10 x1 x2 x3 x5 x6 x7)) = (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) := by
    intro f
    unfold sk_body_first.sl.H10_5
    rw [View.read_writes_cons_put arg10.view _ _ _ _ rfl, h4, e3]; rfl
  have e4 : sk_body_first.sl.v83 c arg10 x1 x2 x3 x5 x6 x7 = VecWindow.window k0_pay4 ![0, 8192] S32x2048.size inb_S32x16384_S32x2048_0_8192 := by
    refine (readCov_window arg10.view _ _ _ _ _ h5).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h6 : ∀ f, arg10.view.read (Elt F) (arg10.view.writes (Elt F) f (sk_body_first.sl.H10_6 c arg10 x1 x2 x3 x5 x6 x7)) = (VecWindow.put (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) ![0, 8192] S32x2048.size (daChunk x1 x2 x3 x5 x6 x7 k0_pay4 4)) := by
    intro f
    unfold sk_body_first.sl.H10_6
    rw [View.read_writes_cons_put arg10.view _ _ _ _ rfl, h5, e4]; rfl
  have e5 : sk_body_first.sl.v97 c arg10 x1 x2 x3 x5 x6 x7 = VecWindow.window k0_pay4 ![0, 10240] S32x2048.size inb_S32x16384_S32x2048_0_10240 := by
    refine (readCov_window arg10.view _ _ _ _ _ h6).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h7 : ∀ f, arg10.view.read (Elt F) (arg10.view.writes (Elt F) f (sk_body_first.sl.H10_7 c arg10 x1 x2 x3 x5 x6 x7)) = (VecWindow.put (VecWindow.put (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) ![0, 8192] S32x2048.size (daChunk x1 x2 x3 x5 x6 x7 k0_pay4 4)) ![0, 10240] S32x2048.size (daChunk x1 x2 x3 x5 x6 x7 k0_pay4 5)) := by
    intro f
    unfold sk_body_first.sl.H10_7
    rw [View.read_writes_cons_put arg10.view _ _ _ _ rfl, h6, e5]; rfl
  have e6 : sk_body_first.sl.v111 c arg10 x1 x2 x3 x5 x6 x7 = VecWindow.window k0_pay4 ![0, 12288] S32x2048.size inb_S32x16384_S32x2048_0_12288 := by
    refine (readCov_window arg10.view _ _ _ _ _ h7).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  have h8 : ∀ f, arg10.view.read (Elt F) (arg10.view.writes (Elt F) f (sk_body_first.sl.H10_8 c arg10 x1 x2 x3 x5 x6 x7)) = (VecWindow.put (VecWindow.put (VecWindow.put (VecWindow.put (VecWindow.put (VecWindow.put (VecWindow.put k0_pay4 ![0, 0] S32x2048.size (daChunk x1 x2 x3 x5 x6 x7 k0_pay4 0)) ![0, 2048] S32x2048.size (daChunk x1 x2 x3 x5 x6 x7 k0_pay4 1)) ![0, 4096] S32x2048.size (daChunk x1 x2 x3 x5 x6 x7 k0_pay4 2)) ![0, 6144] S32x2048.size (daChunk x1 x2 x3 x5 x6 x7 k0_pay4 3)) ![0, 8192] S32x2048.size (daChunk x1 x2 x3 x5 x6 x7 k0_pay4 4)) ![0, 10240] S32x2048.size (daChunk x1 x2 x3 x5 x6 x7 k0_pay4 5)) ![0, 12288] S32x2048.size (daChunk x1 x2 x3 x5 x6 x7 k0_pay4 6)) := by
    intro f
    unfold sk_body_first.sl.H10_8
    rw [View.read_writes_cons_put arg10.view _ _ _ _ rfl, h7, e6]; rfl
  have e7 : sk_body_first.sl.v125 c arg10 x1 x2 x3 x5 x6 x7 = VecWindow.window k0_pay4 ![0, 14336] S32x2048.size inb_S32x16384_S32x2048_0_14336 := by
    refine (readCov_window arg10.view _ _ _ _ _ h8).trans ?_
    rw [VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide)), VecWindow.window_put_of_disjoint _ _ _ _ _ _ _ 1 (.inr (by decide))]
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H10]
  · iexists _; isplitr; swap; · iexact H10
    ipureintro
    rw [View.read_writes_cons_put arg10.view _ _ _ _ rfl, h8, e7]; rfl
  iexists _; isplitr; swap; · iexact H11
  ipureintro
  refine (View.read_writes_full arg11.view f11 inb_S32x6144_S32x6144_0_0 _ _).trans ?_
  have e : sk_body_first.sl.v136 (F := F) c arg11 = k0_pay5 := View.readCov_full arg11.view inb_S32x6144_S32x6144_0_0 inb_S32x6144_S32x6144_0_0 _ []
  rw [e]; rfl

set_option maxHeartbeats 4000000 in
/-- At a middle point it adds to them. -/
theorem sk_body_more (c : Dev nD) (i : grid0.Coords)
    (arg1 : Memref sig .tc .vmem S256x6144 .bf16) (harg1 : arg1.IsWhole)
    (arg2 : Memref sig .tc .vmem S256x16384 .fp8e4m3) (harg2 : arg2.IsWhole)
    (arg3 : Memref sig .tc .vmem S256x1 .f32) (harg3 : arg3.IsWhole)
    (arg4 : Memref sig .tc .vmem S16384x32 .bf16) (harg4 : arg4.IsWhole)
    (arg5 : Memref sig .tc .vmem S32x6144 .bf16) (harg5 : arg5.IsWhole)
    (arg6 : Memref sig .tc .vmem S1x6144 .f32) (harg6 : arg6.IsWhole)
    (arg7 : Memref sig .tc .vmem S1x6144 .f32) (harg7 : arg7.IsWhole)
    (arg8 : Memref sig .tc .vmem S32x16384 .bf16) (harg8 : arg8.IsWhole)
    (arg9 : Memref sig .tc .vmem S32x6144 .bf16) (harg9 : arg9.IsWhole)
    (arg10 : Memref sig .tc .vmem S32x16384 .f32) (harg10 : arg10.IsWhole)
    (arg11 : Memref sig .tc .vmem S32x6144 .f32) (harg11 : arg11.IsWhole)
    (hc0 : ¬ k0_cond0 i = 1#1) (hc2 : ¬ k0_cond2 i = 1#1)
    (x1 : Vec F S256x6144 .bf16) (x2 : Vec F S256x16384 .fp8e4m3) (x3 : Vec F S256x1 .f32) (x4 : Vec F S16384x32 .bf16) (x5 : Vec F S32x6144 .bf16) (x6 : Vec F S1x6144 .f32) (x7 : Vec F S1x6144 .f32) (x10 : Vec F S32x16384 .f32) (x11 : Vec F S32x6144 .f32)
    (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg10 fullShare x10
        ∗ owns (c : Thread nD τ) arg11 fullShare x11
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg10 fullShare (daNew x1 x2 x3 x5 x6 x7 x10)
        ∗ owns (c : Thread nD τ) arg11 fullShare (dbNew x1 x2 x3 x4 x6 x7 x11)) -∗ K ⟨⟩))
      ⊢ wp frame (wpE (defs₀ (F := F)) Variants.none c none) E (cc0_skinny i arg1 harg1 arg2 harg2 arg3 harg3 arg4 harg4 arg5 harg5 arg6 harg6 arg7 harg7 arg8 harg8 arg9 harg9 arg10 harg10 arg11 harg11) K := by
  simp only [cc0_skinny_eq_skeleton]; unfold cc0_skinny_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11
  have hx1 : (arg1.view.readAt (Elt F) (Rect.unit (s := S256x6144) ![0, 0] S256x6144.size inb_S256x6144_S256x6144_0_0).toLoadRect (harg1.unread x1)) = x1 := by rw [View.readAt_full arg1.view, hf1]
  have hx3 : (arg3.view.readAt (Elt F) (Rect.unit (s := S256x1) ![0, 0] S256x1.size inb_S256x1_S256x1_0_0).toLoadRect (harg3.unread x3)) = x3 := by rw [View.readAt_full arg3.view, hf3]
  have hx5 : (arg5.view.readAt (Elt F) (Rect.unit (s := S32x6144) ![0, 0] S32x6144.size inb_S32x6144_S32x6144_0_0).toLoadRect (harg5.unread x5)) = x5 := by rw [View.readAt_full arg5.view, hf5]
  have hx6 : (arg6.view.readAt (Elt F) (Rect.unit (s := S1x6144) ![0, 0] S1x6144.size inb_S1x6144_S1x6144_0_0).toLoadRect (harg6.unread x6)) = x6 := by rw [View.readAt_full arg6.view, hf6]
  have hx7 : (arg7.view.readAt (Elt F) (Rect.unit (s := S1x6144) ![0, 0] S1x6144.size inb_S1x6144_S1x6144_0_0).toLoadRect (harg7.unread x7)) = x7 := by rw [View.readAt_full arg7.view, hf7]
  have hw0 : (arg2.view.readAt (Elt F) (Rect.unit (s := S256x16384) ![0, 0] S256x2048.size inb_S256x16384_S256x2048_0_0).toLoadRect (harg2.unread x2)) = (VecWindow.window x2 ![0, 0] S256x2048.size inb_S256x16384_S256x2048_0_0) := by
    rw [View.readAt_unit arg2.view _ _ rfl inb_S256x16384_S256x2048_0_0, hf2]
  have ha0 : (arg4.view.readAt (Elt F) (Rect.unit (s := S16384x32) ![0, 0] S2048x32.size inb_S16384x32_S2048x32_0_0).toLoadRect (harg4.unread x4)) = (VecWindow.window x4 ![0, 0] S2048x32.size inb_S16384x32_S2048x32_0_0) := by
    rw [View.readAt_unit arg4.view _ _ rfl inb_S16384x32_S2048x32_0_0, hf4]
  have hw1 : (arg2.view.readAt (Elt F) (Rect.unit (s := S256x16384) ![0, 2048] S256x2048.size inb_S256x16384_S256x2048_0_2048).toLoadRect (harg2.unread x2)) = (VecWindow.window x2 ![0, 2048] S256x2048.size inb_S256x16384_S256x2048_0_2048) := by
    rw [View.readAt_unit arg2.view _ _ rfl inb_S256x16384_S256x2048_0_2048, hf2]
  have ha1 : (arg4.view.readAt (Elt F) (Rect.unit (s := S16384x32) ![2048, 0] S2048x32.size inb_S16384x32_S2048x32_2048_0).toLoadRect (harg4.unread x4)) = (VecWindow.window x4 ![2048, 0] S2048x32.size inb_S16384x32_S2048x32_2048_0) := by
    rw [View.readAt_unit arg4.view _ _ rfl inb_S16384x32_S2048x32_2048_0, hf4]
  have hw2 : (arg2.view.readAt (Elt F) (Rect.unit (s := S256x16384) ![0, 4096] S256x2048.size inb_S256x16384_S256x2048_0_4096).toLoadRect (harg2.unread x2)) = (VecWindow.window x2 ![0, 4096] S256x2048.size inb_S256x16384_S256x2048_0_4096) := by
    rw [View.readAt_unit arg2.view _ _ rfl inb_S256x16384_S256x2048_0_4096, hf2]
  have ha2 : (arg4.view.readAt (Elt F) (Rect.unit (s := S16384x32) ![4096, 0] S2048x32.size inb_S16384x32_S2048x32_4096_0).toLoadRect (harg4.unread x4)) = (VecWindow.window x4 ![4096, 0] S2048x32.size inb_S16384x32_S2048x32_4096_0) := by
    rw [View.readAt_unit arg4.view _ _ rfl inb_S16384x32_S2048x32_4096_0, hf4]
  have hw3 : (arg2.view.readAt (Elt F) (Rect.unit (s := S256x16384) ![0, 6144] S256x2048.size inb_S256x16384_S256x2048_0_6144).toLoadRect (harg2.unread x2)) = (VecWindow.window x2 ![0, 6144] S256x2048.size inb_S256x16384_S256x2048_0_6144) := by
    rw [View.readAt_unit arg2.view _ _ rfl inb_S256x16384_S256x2048_0_6144, hf2]
  have ha3 : (arg4.view.readAt (Elt F) (Rect.unit (s := S16384x32) ![6144, 0] S2048x32.size inb_S16384x32_S2048x32_6144_0).toLoadRect (harg4.unread x4)) = (VecWindow.window x4 ![6144, 0] S2048x32.size inb_S16384x32_S2048x32_6144_0) := by
    rw [View.readAt_unit arg4.view _ _ rfl inb_S16384x32_S2048x32_6144_0, hf4]
  have hw4 : (arg2.view.readAt (Elt F) (Rect.unit (s := S256x16384) ![0, 8192] S256x2048.size inb_S256x16384_S256x2048_0_8192).toLoadRect (harg2.unread x2)) = (VecWindow.window x2 ![0, 8192] S256x2048.size inb_S256x16384_S256x2048_0_8192) := by
    rw [View.readAt_unit arg2.view _ _ rfl inb_S256x16384_S256x2048_0_8192, hf2]
  have ha4 : (arg4.view.readAt (Elt F) (Rect.unit (s := S16384x32) ![8192, 0] S2048x32.size inb_S16384x32_S2048x32_8192_0).toLoadRect (harg4.unread x4)) = (VecWindow.window x4 ![8192, 0] S2048x32.size inb_S16384x32_S2048x32_8192_0) := by
    rw [View.readAt_unit arg4.view _ _ rfl inb_S16384x32_S2048x32_8192_0, hf4]
  have hw5 : (arg2.view.readAt (Elt F) (Rect.unit (s := S256x16384) ![0, 10240] S256x2048.size inb_S256x16384_S256x2048_0_10240).toLoadRect (harg2.unread x2)) = (VecWindow.window x2 ![0, 10240] S256x2048.size inb_S256x16384_S256x2048_0_10240) := by
    rw [View.readAt_unit arg2.view _ _ rfl inb_S256x16384_S256x2048_0_10240, hf2]
  have ha5 : (arg4.view.readAt (Elt F) (Rect.unit (s := S16384x32) ![10240, 0] S2048x32.size inb_S16384x32_S2048x32_10240_0).toLoadRect (harg4.unread x4)) = (VecWindow.window x4 ![10240, 0] S2048x32.size inb_S16384x32_S2048x32_10240_0) := by
    rw [View.readAt_unit arg4.view _ _ rfl inb_S16384x32_S2048x32_10240_0, hf4]
  have hw6 : (arg2.view.readAt (Elt F) (Rect.unit (s := S256x16384) ![0, 12288] S256x2048.size inb_S256x16384_S256x2048_0_12288).toLoadRect (harg2.unread x2)) = (VecWindow.window x2 ![0, 12288] S256x2048.size inb_S256x16384_S256x2048_0_12288) := by
    rw [View.readAt_unit arg2.view _ _ rfl inb_S256x16384_S256x2048_0_12288, hf2]
  have ha6 : (arg4.view.readAt (Elt F) (Rect.unit (s := S16384x32) ![12288, 0] S2048x32.size inb_S16384x32_S2048x32_12288_0).toLoadRect (harg4.unread x4)) = (VecWindow.window x4 ![12288, 0] S2048x32.size inb_S16384x32_S2048x32_12288_0) := by
    rw [View.readAt_unit arg4.view _ _ rfl inb_S16384x32_S2048x32_12288_0, hf4]
  have hw7 : (arg2.view.readAt (Elt F) (Rect.unit (s := S256x16384) ![0, 14336] S256x2048.size inb_S256x16384_S256x2048_0_14336).toLoadRect (harg2.unread x2)) = (VecWindow.window x2 ![0, 14336] S256x2048.size inb_S256x16384_S256x2048_0_14336) := by
    rw [View.readAt_unit arg2.view _ _ rfl inb_S256x16384_S256x2048_0_14336, hf2]
  have ha7 : (arg4.view.readAt (Elt F) (Rect.unit (s := S16384x32) ![14336, 0] S2048x32.size inb_S16384x32_S2048x32_14336_0).toLoadRect (harg4.unread x4)) = (VecWindow.window x4 ![14336, 0] S2048x32.size inb_S16384x32_S2048x32_14336_0) := by
    rw [View.readAt_unit arg4.view _ _ rfl inb_S16384x32_S2048x32_14336_0, hf4]
  have hb0 : (arg10.view.readAt (Elt F) (Rect.unit (s := S32x16384) ![0, 0] S32x2048.size inb_S32x16384_S32x2048_0_0).toLoadRect (harg10.unread x10)) = (VecWindow.window x10 ![0, 0] S32x2048.size inb_S32x16384_S32x2048_0_0) := by
    rw [View.readAt_unit arg10.view _ _ rfl inb_S32x16384_S32x2048_0_0, hf10]
  have hb1 : (arg10.view.readAt (Elt F) (Rect.unit (s := S32x16384) ![0, 2048] S32x2048.size inb_S32x16384_S32x2048_0_2048).toLoadRect (harg10.unread x10)) = (VecWindow.window x10 ![0, 2048] S32x2048.size inb_S32x16384_S32x2048_0_2048) := by
    rw [View.readAt_unit arg10.view _ _ rfl inb_S32x16384_S32x2048_0_2048, hf10]
  have hb2 : (arg10.view.readAt (Elt F) (Rect.unit (s := S32x16384) ![0, 4096] S32x2048.size inb_S32x16384_S32x2048_0_4096).toLoadRect (harg10.unread x10)) = (VecWindow.window x10 ![0, 4096] S32x2048.size inb_S32x16384_S32x2048_0_4096) := by
    rw [View.readAt_unit arg10.view _ _ rfl inb_S32x16384_S32x2048_0_4096, hf10]
  have hb3 : (arg10.view.readAt (Elt F) (Rect.unit (s := S32x16384) ![0, 6144] S32x2048.size inb_S32x16384_S32x2048_0_6144).toLoadRect (harg10.unread x10)) = (VecWindow.window x10 ![0, 6144] S32x2048.size inb_S32x16384_S32x2048_0_6144) := by
    rw [View.readAt_unit arg10.view _ _ rfl inb_S32x16384_S32x2048_0_6144, hf10]
  have hb4 : (arg10.view.readAt (Elt F) (Rect.unit (s := S32x16384) ![0, 8192] S32x2048.size inb_S32x16384_S32x2048_0_8192).toLoadRect (harg10.unread x10)) = (VecWindow.window x10 ![0, 8192] S32x2048.size inb_S32x16384_S32x2048_0_8192) := by
    rw [View.readAt_unit arg10.view _ _ rfl inb_S32x16384_S32x2048_0_8192, hf10]
  have hb5 : (arg10.view.readAt (Elt F) (Rect.unit (s := S32x16384) ![0, 10240] S32x2048.size inb_S32x16384_S32x2048_0_10240).toLoadRect (harg10.unread x10)) = (VecWindow.window x10 ![0, 10240] S32x2048.size inb_S32x16384_S32x2048_0_10240) := by
    rw [View.readAt_unit arg10.view _ _ rfl inb_S32x16384_S32x2048_0_10240, hf10]
  have hb6 : (arg10.view.readAt (Elt F) (Rect.unit (s := S32x16384) ![0, 12288] S32x2048.size inb_S32x16384_S32x2048_0_12288).toLoadRect (harg10.unread x10)) = (VecWindow.window x10 ![0, 12288] S32x2048.size inb_S32x16384_S32x2048_0_12288) := by
    rw [View.readAt_unit arg10.view _ _ rfl inb_S32x16384_S32x2048_0_12288, hf10]
  have hb7 : (arg10.view.readAt (Elt F) (Rect.unit (s := S32x16384) ![0, 14336] S32x2048.size inb_S32x16384_S32x2048_0_14336).toLoadRect (harg10.unread x10)) = (VecWindow.window x10 ![0, 14336] S32x2048.size inb_S32x16384_S32x2048_0_14336) := by
    rw [View.readAt_unit arg10.view _ _ rfl inb_S32x16384_S32x2048_0_14336, hf10]
  have hx11 : (arg11.view.readAt (Elt F) (Rect.unit (s := S32x6144) ![0, 0] S32x6144.size inb_S32x6144_S32x6144_0_0).toLoadRect (harg11.unread x11)) = x11 := by rw [View.readAt_full arg11.view, hf11]
  sl_exec (disch := first | sl_exact hc0 | sl_exact hc2)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H10]
  · iexists _; isplitr; swap; · iexact H10
    ipureintro
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.writes_nil, hf10]; rfl
  iexists _; isplitr; swap; · iexact H11
  ipureintro
  exact (View.read_writes_full arg11.view _ inb_S32x6144_S32x6144_0_0 _ []).trans rfl

set_option maxHeartbeats 4000000 in
/-- At the last point it adds to them and stores half of each. -/
theorem sk_body_last (c : Dev nD) (i : grid0.Coords)
    (arg1 : Memref sig .tc .vmem S256x6144 .bf16) (harg1 : arg1.IsWhole)
    (arg2 : Memref sig .tc .vmem S256x16384 .fp8e4m3) (harg2 : arg2.IsWhole)
    (arg3 : Memref sig .tc .vmem S256x1 .f32) (harg3 : arg3.IsWhole)
    (arg4 : Memref sig .tc .vmem S16384x32 .bf16) (harg4 : arg4.IsWhole)
    (arg5 : Memref sig .tc .vmem S32x6144 .bf16) (harg5 : arg5.IsWhole)
    (arg6 : Memref sig .tc .vmem S1x6144 .f32) (harg6 : arg6.IsWhole)
    (arg7 : Memref sig .tc .vmem S1x6144 .f32) (harg7 : arg7.IsWhole)
    (arg8 : Memref sig .tc .vmem S32x16384 .bf16) (harg8 : arg8.IsWhole)
    (arg9 : Memref sig .tc .vmem S32x6144 .bf16) (harg9 : arg9.IsWhole)
    (arg10 : Memref sig .tc .vmem S32x16384 .f32) (harg10 : arg10.IsWhole)
    (arg11 : Memref sig .tc .vmem S32x6144 .f32) (harg11 : arg11.IsWhole)
    (hc0 : ¬ k0_cond0 i = 1#1) (hc2 : k0_cond2 i = 1#1)
    (x1 : Vec F S256x6144 .bf16) (x2 : Vec F S256x16384 .fp8e4m3) (x3 : Vec F S256x1 .f32) (x4 : Vec F S16384x32 .bf16) (x5 : Vec F S32x6144 .bf16) (x6 : Vec F S1x6144 .f32) (x7 : Vec F S1x6144 .f32) (x10 : Vec F S32x16384 .f32) (x11 : Vec F S32x6144 .f32)
    (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ (∃ d, owns (c : Thread nD τ) arg8 fullShare d)
        ∗ (∃ d, owns (c : Thread nD τ) arg9 fullShare d)
        ∗ owns (c : Thread nD τ) arg10 fullShare x10
        ∗ owns (c : Thread nD τ) arg11 fullShare x11
        ∗ (iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare (k0_pay2 (daNew x1 x2 x3 x5 x6 x7 x10))
        ∗ owns (c : Thread nD τ) arg9 fullShare (k0_pay3 (dbNew x1 x2 x3 x4 x6 x7 x11))
        ∗ owns (c : Thread nD τ) arg10 fullShare (daNew x1 x2 x3 x5 x6 x7 x10)
        ∗ owns (c : Thread nD τ) arg11 fullShare (dbNew x1 x2 x3 x4 x6 x7 x11)) -∗ K ⟨⟩))
      ⊢ wp frame (wpE (defs₀ (F := F)) Variants.none c none) E (cc0_skinny i arg1 harg1 arg2 harg2 arg3 harg3 arg4 harg4 arg5 harg5 arg6 harg6 arg7 harg7 arg8 harg8 arg9 harg9 arg10 harg10 arg11 harg11) K := by
  simp only [cc0_skinny_eq_skeleton]; unfold cc0_skinny_skel
  simp only [k0_part1_eq_skeleton, k0_part2_eq_skeleton, k0_part3_eq_skeleton, k0_part4_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11
  have hx1 : (arg1.view.readAt (Elt F) (Rect.unit (s := S256x6144) ![0, 0] S256x6144.size inb_S256x6144_S256x6144_0_0).toLoadRect (harg1.unread x1)) = x1 := by rw [View.readAt_full arg1.view, hf1]
  have hx3 : (arg3.view.readAt (Elt F) (Rect.unit (s := S256x1) ![0, 0] S256x1.size inb_S256x1_S256x1_0_0).toLoadRect (harg3.unread x3)) = x3 := by rw [View.readAt_full arg3.view, hf3]
  have hx5 : (arg5.view.readAt (Elt F) (Rect.unit (s := S32x6144) ![0, 0] S32x6144.size inb_S32x6144_S32x6144_0_0).toLoadRect (harg5.unread x5)) = x5 := by rw [View.readAt_full arg5.view, hf5]
  have hx6 : (arg6.view.readAt (Elt F) (Rect.unit (s := S1x6144) ![0, 0] S1x6144.size inb_S1x6144_S1x6144_0_0).toLoadRect (harg6.unread x6)) = x6 := by rw [View.readAt_full arg6.view, hf6]
  have hx7 : (arg7.view.readAt (Elt F) (Rect.unit (s := S1x6144) ![0, 0] S1x6144.size inb_S1x6144_S1x6144_0_0).toLoadRect (harg7.unread x7)) = x7 := by rw [View.readAt_full arg7.view, hf7]
  have hw0 : (arg2.view.readAt (Elt F) (Rect.unit (s := S256x16384) ![0, 0] S256x2048.size inb_S256x16384_S256x2048_0_0).toLoadRect (harg2.unread x2)) = (VecWindow.window x2 ![0, 0] S256x2048.size inb_S256x16384_S256x2048_0_0) := by
    rw [View.readAt_unit arg2.view _ _ rfl inb_S256x16384_S256x2048_0_0, hf2]
  have ha0 : (arg4.view.readAt (Elt F) (Rect.unit (s := S16384x32) ![0, 0] S2048x32.size inb_S16384x32_S2048x32_0_0).toLoadRect (harg4.unread x4)) = (VecWindow.window x4 ![0, 0] S2048x32.size inb_S16384x32_S2048x32_0_0) := by
    rw [View.readAt_unit arg4.view _ _ rfl inb_S16384x32_S2048x32_0_0, hf4]
  have hw1 : (arg2.view.readAt (Elt F) (Rect.unit (s := S256x16384) ![0, 2048] S256x2048.size inb_S256x16384_S256x2048_0_2048).toLoadRect (harg2.unread x2)) = (VecWindow.window x2 ![0, 2048] S256x2048.size inb_S256x16384_S256x2048_0_2048) := by
    rw [View.readAt_unit arg2.view _ _ rfl inb_S256x16384_S256x2048_0_2048, hf2]
  have ha1 : (arg4.view.readAt (Elt F) (Rect.unit (s := S16384x32) ![2048, 0] S2048x32.size inb_S16384x32_S2048x32_2048_0).toLoadRect (harg4.unread x4)) = (VecWindow.window x4 ![2048, 0] S2048x32.size inb_S16384x32_S2048x32_2048_0) := by
    rw [View.readAt_unit arg4.view _ _ rfl inb_S16384x32_S2048x32_2048_0, hf4]
  have hw2 : (arg2.view.readAt (Elt F) (Rect.unit (s := S256x16384) ![0, 4096] S256x2048.size inb_S256x16384_S256x2048_0_4096).toLoadRect (harg2.unread x2)) = (VecWindow.window x2 ![0, 4096] S256x2048.size inb_S256x16384_S256x2048_0_4096) := by
    rw [View.readAt_unit arg2.view _ _ rfl inb_S256x16384_S256x2048_0_4096, hf2]
  have ha2 : (arg4.view.readAt (Elt F) (Rect.unit (s := S16384x32) ![4096, 0] S2048x32.size inb_S16384x32_S2048x32_4096_0).toLoadRect (harg4.unread x4)) = (VecWindow.window x4 ![4096, 0] S2048x32.size inb_S16384x32_S2048x32_4096_0) := by
    rw [View.readAt_unit arg4.view _ _ rfl inb_S16384x32_S2048x32_4096_0, hf4]
  have hw3 : (arg2.view.readAt (Elt F) (Rect.unit (s := S256x16384) ![0, 6144] S256x2048.size inb_S256x16384_S256x2048_0_6144).toLoadRect (harg2.unread x2)) = (VecWindow.window x2 ![0, 6144] S256x2048.size inb_S256x16384_S256x2048_0_6144) := by
    rw [View.readAt_unit arg2.view _ _ rfl inb_S256x16384_S256x2048_0_6144, hf2]
  have ha3 : (arg4.view.readAt (Elt F) (Rect.unit (s := S16384x32) ![6144, 0] S2048x32.size inb_S16384x32_S2048x32_6144_0).toLoadRect (harg4.unread x4)) = (VecWindow.window x4 ![6144, 0] S2048x32.size inb_S16384x32_S2048x32_6144_0) := by
    rw [View.readAt_unit arg4.view _ _ rfl inb_S16384x32_S2048x32_6144_0, hf4]
  have hw4 : (arg2.view.readAt (Elt F) (Rect.unit (s := S256x16384) ![0, 8192] S256x2048.size inb_S256x16384_S256x2048_0_8192).toLoadRect (harg2.unread x2)) = (VecWindow.window x2 ![0, 8192] S256x2048.size inb_S256x16384_S256x2048_0_8192) := by
    rw [View.readAt_unit arg2.view _ _ rfl inb_S256x16384_S256x2048_0_8192, hf2]
  have ha4 : (arg4.view.readAt (Elt F) (Rect.unit (s := S16384x32) ![8192, 0] S2048x32.size inb_S16384x32_S2048x32_8192_0).toLoadRect (harg4.unread x4)) = (VecWindow.window x4 ![8192, 0] S2048x32.size inb_S16384x32_S2048x32_8192_0) := by
    rw [View.readAt_unit arg4.view _ _ rfl inb_S16384x32_S2048x32_8192_0, hf4]
  have hw5 : (arg2.view.readAt (Elt F) (Rect.unit (s := S256x16384) ![0, 10240] S256x2048.size inb_S256x16384_S256x2048_0_10240).toLoadRect (harg2.unread x2)) = (VecWindow.window x2 ![0, 10240] S256x2048.size inb_S256x16384_S256x2048_0_10240) := by
    rw [View.readAt_unit arg2.view _ _ rfl inb_S256x16384_S256x2048_0_10240, hf2]
  have ha5 : (arg4.view.readAt (Elt F) (Rect.unit (s := S16384x32) ![10240, 0] S2048x32.size inb_S16384x32_S2048x32_10240_0).toLoadRect (harg4.unread x4)) = (VecWindow.window x4 ![10240, 0] S2048x32.size inb_S16384x32_S2048x32_10240_0) := by
    rw [View.readAt_unit arg4.view _ _ rfl inb_S16384x32_S2048x32_10240_0, hf4]
  have hw6 : (arg2.view.readAt (Elt F) (Rect.unit (s := S256x16384) ![0, 12288] S256x2048.size inb_S256x16384_S256x2048_0_12288).toLoadRect (harg2.unread x2)) = (VecWindow.window x2 ![0, 12288] S256x2048.size inb_S256x16384_S256x2048_0_12288) := by
    rw [View.readAt_unit arg2.view _ _ rfl inb_S256x16384_S256x2048_0_12288, hf2]
  have ha6 : (arg4.view.readAt (Elt F) (Rect.unit (s := S16384x32) ![12288, 0] S2048x32.size inb_S16384x32_S2048x32_12288_0).toLoadRect (harg4.unread x4)) = (VecWindow.window x4 ![12288, 0] S2048x32.size inb_S16384x32_S2048x32_12288_0) := by
    rw [View.readAt_unit arg4.view _ _ rfl inb_S16384x32_S2048x32_12288_0, hf4]
  have hw7 : (arg2.view.readAt (Elt F) (Rect.unit (s := S256x16384) ![0, 14336] S256x2048.size inb_S256x16384_S256x2048_0_14336).toLoadRect (harg2.unread x2)) = (VecWindow.window x2 ![0, 14336] S256x2048.size inb_S256x16384_S256x2048_0_14336) := by
    rw [View.readAt_unit arg2.view _ _ rfl inb_S256x16384_S256x2048_0_14336, hf2]
  have ha7 : (arg4.view.readAt (Elt F) (Rect.unit (s := S16384x32) ![14336, 0] S2048x32.size inb_S16384x32_S2048x32_14336_0).toLoadRect (harg4.unread x4)) = (VecWindow.window x4 ![14336, 0] S2048x32.size inb_S16384x32_S2048x32_14336_0) := by
    rw [View.readAt_unit arg4.view _ _ rfl inb_S16384x32_S2048x32_14336_0, hf4]
  have hb0 : (arg10.view.readAt (Elt F) (Rect.unit (s := S32x16384) ![0, 0] S32x2048.size inb_S32x16384_S32x2048_0_0).toLoadRect (harg10.unread x10)) = (VecWindow.window x10 ![0, 0] S32x2048.size inb_S32x16384_S32x2048_0_0) := by
    rw [View.readAt_unit arg10.view _ _ rfl inb_S32x16384_S32x2048_0_0, hf10]
  have hb1 : (arg10.view.readAt (Elt F) (Rect.unit (s := S32x16384) ![0, 2048] S32x2048.size inb_S32x16384_S32x2048_0_2048).toLoadRect (harg10.unread x10)) = (VecWindow.window x10 ![0, 2048] S32x2048.size inb_S32x16384_S32x2048_0_2048) := by
    rw [View.readAt_unit arg10.view _ _ rfl inb_S32x16384_S32x2048_0_2048, hf10]
  have hb2 : (arg10.view.readAt (Elt F) (Rect.unit (s := S32x16384) ![0, 4096] S32x2048.size inb_S32x16384_S32x2048_0_4096).toLoadRect (harg10.unread x10)) = (VecWindow.window x10 ![0, 4096] S32x2048.size inb_S32x16384_S32x2048_0_4096) := by
    rw [View.readAt_unit arg10.view _ _ rfl inb_S32x16384_S32x2048_0_4096, hf10]
  have hb3 : (arg10.view.readAt (Elt F) (Rect.unit (s := S32x16384) ![0, 6144] S32x2048.size inb_S32x16384_S32x2048_0_6144).toLoadRect (harg10.unread x10)) = (VecWindow.window x10 ![0, 6144] S32x2048.size inb_S32x16384_S32x2048_0_6144) := by
    rw [View.readAt_unit arg10.view _ _ rfl inb_S32x16384_S32x2048_0_6144, hf10]
  have hb4 : (arg10.view.readAt (Elt F) (Rect.unit (s := S32x16384) ![0, 8192] S32x2048.size inb_S32x16384_S32x2048_0_8192).toLoadRect (harg10.unread x10)) = (VecWindow.window x10 ![0, 8192] S32x2048.size inb_S32x16384_S32x2048_0_8192) := by
    rw [View.readAt_unit arg10.view _ _ rfl inb_S32x16384_S32x2048_0_8192, hf10]
  have hb5 : (arg10.view.readAt (Elt F) (Rect.unit (s := S32x16384) ![0, 10240] S32x2048.size inb_S32x16384_S32x2048_0_10240).toLoadRect (harg10.unread x10)) = (VecWindow.window x10 ![0, 10240] S32x2048.size inb_S32x16384_S32x2048_0_10240) := by
    rw [View.readAt_unit arg10.view _ _ rfl inb_S32x16384_S32x2048_0_10240, hf10]
  have hb6 : (arg10.view.readAt (Elt F) (Rect.unit (s := S32x16384) ![0, 12288] S32x2048.size inb_S32x16384_S32x2048_0_12288).toLoadRect (harg10.unread x10)) = (VecWindow.window x10 ![0, 12288] S32x2048.size inb_S32x16384_S32x2048_0_12288) := by
    rw [View.readAt_unit arg10.view _ _ rfl inb_S32x16384_S32x2048_0_12288, hf10]
  have hb7 : (arg10.view.readAt (Elt F) (Rect.unit (s := S32x16384) ![0, 14336] S32x2048.size inb_S32x16384_S32x2048_0_14336).toLoadRect (harg10.unread x10)) = (VecWindow.window x10 ![0, 14336] S32x2048.size inb_S32x16384_S32x2048_0_14336) := by
    rw [View.readAt_unit arg10.view _ _ rfl inb_S32x16384_S32x2048_0_14336, hf10]
  have hx11 : (arg11.view.readAt (Elt F) (Rect.unit (s := S32x6144) ![0, 0] S32x6144.size inb_S32x6144_S32x6144_0_0).toLoadRect (harg11.unread x11)) = x11 := by rw [View.readAt_full arg11.view, hf11]
  sl_exec (disch := first | sl_exact hc0 | sl_exact hc2)
  sl_step
  have h10 : ∀ f, arg10.view.read (Elt F) (arg10.view.writes (Elt F) f (sk_body_last.sl.H10_8 x1 x2 x3 x5 x6 x7 x10)) = daNew x1 x2 x3 x5 x6 x7 x10 := by
    intro f
    unfold sk_body_last.sl.H10_8
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.read_writes_cons_put arg10.view _ _ _ _ rfl]
    rw [View.writes_nil]
    exact put_chunks_any (daChunk x1 x2 x3 x5 x6 x7 x10) _ x10
  have h11 : arg11.view.read (Elt F) (arg11.view.writes (Elt F) (harg11.unread x11) (sk_body_last.sl.H11_1 x1 x2 x3 x4 x6 x7 x11)) = dbNew x1 x2 x3 x4 x6 x7 x11 := by
    exact (View.read_writes_full arg11.view _ inb_S32x6144_S32x6144_0_0 _ []).trans rfl
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (View.read_writes_full arg8.view f8 inb_S32x16384_S32x16384_0_0 _ []).trans (congrArg k0_pay2 ?_)
    unfold sk_body_last.sl.v145
    exact (View.readAt_full arg10.view _ inb_S32x16384_S32x16384_0_0).trans (h10 _)
  isplitl [H9]
  · iexists _; isplitr; swap; · iexact H9
    ipureintro
    refine (View.read_writes_full arg9.view f9 inb_S32x6144_S32x6144_0_0 _ []).trans (congrArg k0_pay3 ?_)
    unfold sk_body_last.sl.v150 sk_body_last.sl.H11_1
    exact (View.readCov_full arg11.view inb_S32x6144_S32x6144_0_0 inb_S32x6144_S32x6144_0_0 _ []).trans rfl
  isplitl [H10]
  · iexists _; isplitr; swap; · iexact H10
    ipureintro
    exact h10 _
  iexists _; isplitr; swap; · iexact H11
  ipureintro
  exact h11

end Cert.KernelIdeal.Hand

end
-- ==== Proof.KernelIdeal.SkDat.lean ====
module

public import proofs.«01_k».proof.Proof.KernelIdeal.SkBody
public import Idealize.ShloMosaic.Lib.Pipeline.RegionArrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The `skinny` call: what its scratch and its outputs hold at each grid point -/

variable (W : Dev nD → Valuation τ sig (Elt F))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Pipeline.arrRef spec0 w))

theorem N0 : cfg0.N = 36 := N_0
theorem co0_0 (t : Fin cfg0.N) : (cfg0.grid.coords t 0).val = t.val := by
  have h : (grid0.coords t 0).val = t.val / 1 % 36 := Pipeline.Grid.coords_val t 0 (by decide) rfl
  have hN : t.val < 36 := lt_of_lt_of_eq t.isLt N0
  rw [show (cfg0.grid.coords t 0).val = (grid0.coords t 0).val from rfl, h]; omega

/-- The left factor's gradient, transposed and before the last scaling, summed over the rows of points `0 … n`. -/
def daAcc (c : Dev nD) : ℕ → Vec F S32x16384 .f32
  | 0 => daNew (iblk0 W c 0 (⟨0, by rw [N0]; decide⟩ : Fin cfg0.N)) (iblk0 W c 1 (⟨0, by rw [N0]; decide⟩ : Fin cfg0.N)) (iblk0 W c 2 (⟨0, by rw [N0]; decide⟩ : Fin cfg0.N)) (iblk0 W c 4 (⟨0, by rw [N0]; decide⟩ : Fin cfg0.N)) (iblk0 W c 5 (⟨0, by rw [N0]; decide⟩ : Fin cfg0.N)) (iblk0 W c 6 (⟨0, by rw [N0]; decide⟩ : Fin cfg0.N)) k0_pay4
  | n + 1 => if h : n + 1 < cfg0.N then daNew (iblk0 W c 0 (⟨n + 1, h⟩ : Fin cfg0.N)) (iblk0 W c 1 (⟨n + 1, h⟩ : Fin cfg0.N)) (iblk0 W c 2 (⟨n + 1, h⟩ : Fin cfg0.N)) (iblk0 W c 4 (⟨n + 1, h⟩ : Fin cfg0.N)) (iblk0 W c 5 (⟨n + 1, h⟩ : Fin cfg0.N)) (iblk0 W c 6 (⟨n + 1, h⟩ : Fin cfg0.N)) (daAcc c n) else daAcc c n

theorem daAcc_start (c : Dev nD) (t : Fin cfg0.N) (h : t.val = 0) : daAcc W c t.val = daNew (iblk0 W c 0 t) (iblk0 W c 1 t) (iblk0 W c 2 t) (iblk0 W c 4 t) (iblk0 W c 5 t) (iblk0 W c 6 t) k0_pay4 := by
  obtain ⟨n, hn⟩ := t
  simp only at h; subst h; rfl

theorem daAcc_more (c : Dev nD) (t : Fin cfg0.N) (h : t.val ≠ 0) : daAcc W c t.val = daNew (iblk0 W c 0 t) (iblk0 W c 1 t) (iblk0 W c 2 t) (iblk0 W c 4 t) (iblk0 W c 5 t) (iblk0 W c 6 t) (daAcc W c (t.val - 1)) := by
  obtain ⟨n, hn⟩ := t
  cases n with
  | zero => exact absurd rfl h
  | succ n => simp only [daAcc]; rw [dif_pos hn]; rfl

/-- The right factor's gradient, before the last scaling, summed over the rows of points `0 … n`. -/
def dbAcc (c : Dev nD) : ℕ → Vec F S32x6144 .f32
  | 0 => dbNew (iblk0 W c 0 (⟨0, by rw [N0]; decide⟩ : Fin cfg0.N)) (iblk0 W c 1 (⟨0, by rw [N0]; decide⟩ : Fin cfg0.N)) (iblk0 W c 2 (⟨0, by rw [N0]; decide⟩ : Fin cfg0.N)) (iblk0 W c 3 (⟨0, by rw [N0]; decide⟩ : Fin cfg0.N)) (iblk0 W c 5 (⟨0, by rw [N0]; decide⟩ : Fin cfg0.N)) (iblk0 W c 6 (⟨0, by rw [N0]; decide⟩ : Fin cfg0.N)) k0_pay5
  | n + 1 => if h : n + 1 < cfg0.N then dbNew (iblk0 W c 0 (⟨n + 1, h⟩ : Fin cfg0.N)) (iblk0 W c 1 (⟨n + 1, h⟩ : Fin cfg0.N)) (iblk0 W c 2 (⟨n + 1, h⟩ : Fin cfg0.N)) (iblk0 W c 3 (⟨n + 1, h⟩ : Fin cfg0.N)) (iblk0 W c 5 (⟨n + 1, h⟩ : Fin cfg0.N)) (iblk0 W c 6 (⟨n + 1, h⟩ : Fin cfg0.N)) (dbAcc c n) else dbAcc c n

theorem dbAcc_start (c : Dev nD) (t : Fin cfg0.N) (h : t.val = 0) : dbAcc W c t.val = dbNew (iblk0 W c 0 t) (iblk0 W c 1 t) (iblk0 W c 2 t) (iblk0 W c 3 t) (iblk0 W c 5 t) (iblk0 W c 6 t) k0_pay5 := by
  obtain ⟨n, hn⟩ := t
  simp only at h; subst h; rfl

theorem dbAcc_more (c : Dev nD) (t : Fin cfg0.N) (h : t.val ≠ 0) : dbAcc W c t.val = dbNew (iblk0 W c 0 t) (iblk0 W c 1 t) (iblk0 W c 2 t) (iblk0 W c 3 t) (iblk0 W c 5 t) (iblk0 W c 6 t) (dbAcc W c (t.val - 1)) := by
  obtain ⟨n, hn⟩ := t
  cases n with
  | zero => exact absurd rfl h
  | succ n => simp only [dbAcc]; rw [dif_pos hn]; rfl

/-- The proof data of the `skinny` call entered at the contents `W`. -/
def dat0 (c : Dev nD) : Dat τ (Elt F) Unit ℕ (UR sig nD τ) ℕ cfg0 c where
  A w := W c (Pipeline.arrRef spec0 w)
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => k0_pay2 (daAcc W c t.val)
    | ⟨8, _⟩ => k0_pay3 (dbAcc W c t.val)
  Φ t := iprop((∃ x y, owns (c : Thread nD τ) (Memref.whole cc0_scratch0) fullShare x ∗ owns (c : Thread nD τ) (Memref.whole cc0_scratch1) fullShare y
      ∗ ⌜t.val ≠ 0 → x = daAcc W c (t.val - 1) ∧ y = dbAcc W c (t.val - 1)⌝)
    ∗ Pipeline.scopedRestBut (Ix := Unit) (Name := ℕ) (U := UR sig nD τ) (Lvl := ℕ) (Val := Elt F) spec0 c [cc0_scratch0, cc0_scratch1]
    ∗ (∃ r, prngReg c r))
  q _ := fullShare
  owed _ := 0

theorem before0_0_of {c : Dev nD} (dat : Dat τ (Elt F) Unit ℕ (UR sig nD τ) ℕ cfg0 c) (hA : dat.A 0 = W c (Pipeline.arrRef spec0 0))
    (hafter : ∀ t, dat.after 0 t = iblk0 W c 0 t) (t : Fin cfg0.N) (d) : dat.before 0 t d = iblk0 W c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = W c (Pipeline.arrRef spec0 1))
    (hafter : ∀ t, dat.after 1 t = iblk0 W c 1 t) (t : Fin cfg0.N) (d) : dat.before 1 t d = iblk0 W c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = W c (Pipeline.arrRef spec0 2))
    (hafter : ∀ t, dat.after 2 t = iblk0 W c 2 t) (t : Fin cfg0.N) (d) : dat.before 2 t d = iblk0 W c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = W c (Pipeline.arrRef spec0 3))
    (hafter : ∀ t, dat.after 3 t = iblk0 W c 3 t) (t : Fin cfg0.N) (d) : dat.before 3 t d = iblk0 W c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = W c (Pipeline.arrRef spec0 4))
    (hafter : ∀ t, dat.after 4 t = iblk0 W c 4 t) (t : Fin cfg0.N) (d) : dat.before 4 t d = iblk0 W c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = W c (Pipeline.arrRef spec0 5))
    (hafter : ∀ t, dat.after 5 t = iblk0 W c 5 t) (t : Fin cfg0.N) (d) : dat.before 5 t d = iblk0 W c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = W c (Pipeline.arrRef spec0 6))
    (hafter : ∀ t, dat.after 6 t = iblk0 W c 6 t) (t : Fin cfg0.N) (d) : dat.before 6 t d = iblk0 W c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem A_eq0 (c : Dev nD) (w : Fin cfg0.W) : (dat0 W c).A w = W c (Pipeline.arrRef spec0 w) := by
  dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = iblk0 W c 3 t := by dsimp only [dat0]
theorem after0_4 (c : Dev nD) (t : Fin cfg0.N) : (dat0 W c).after 4 t = iblk0 W c 4 t := by dsimp only [dat0]
theorem after0_5 (c : Dev nD) (t : Fin cfg0.N) : (dat0 W c).after 5 t = iblk0 W c 5 t := by dsimp only [dat0]
theorem after0_6 (c : Dev nD) (t : Fin cfg0.N) : (dat0 W c).after 6 t = iblk0 W c 6 t := by dsimp only [dat0]
theorem after0_7 (c : Dev nD) (t : Fin cfg0.N) : (dat0 W c).after 7 t = k0_pay2 (daAcc W c t.val) := by dsimp only [dat0]
theorem after0_8 (c : Dev nD) (t : Fin cfg0.N) : (dat0 W c).after 8 t = k0_pay3 (dbAcc W c t.val) := by dsimp only [dat0]
theorem before0_0 (c : Dev nD) (t : Fin cfg0.N) (d) : (dat0 W c).before 0 t d = iblk0 W c 0 t :=
  before0_0_of W (dat0 W c) (A_eq0 W c 0) (after0_0 W c) t d
theorem before0_1 (c : Dev nD) (t : Fin cfg0.N) (d) : (dat0 W c).before 1 t d = iblk0 W c 1 t :=
  before0_1_of W (dat0 W c) (A_eq0 W c 1) (after0_1 W c) t d
theorem before0_2 (c : Dev nD) (t : Fin cfg0.N) (d) : (dat0 W c).before 2 t d = iblk0 W c 2 t :=
  before0_2_of W (dat0 W c) (A_eq0 W c 2) (after0_2 W c) t d
theorem before0_3 (c : Dev nD) (t : Fin cfg0.N) (d) : (dat0 W c).before 3 t d = iblk0 W c 3 t :=
  before0_3_of W (dat0 W c) (A_eq0 W c 3) (after0_3 W c) t d
theorem before0_4 (c : Dev nD) (t : Fin cfg0.N) (d) : (dat0 W c).before 4 t d = iblk0 W c 4 t :=
  before0_4_of W (dat0 W c) (A_eq0 W c 4) (after0_4 W c) t d
theorem before0_5 (c : Dev nD) (t : Fin cfg0.N) (d) : (dat0 W c).before 5 t d = iblk0 W c 5 t :=
  before0_5_of W (dat0 W c) (A_eq0 W c 5) (after0_5 W c) t d
theorem before0_6 (c : Dev nD) (t : Fin cfg0.N) (d) : (dat0 W c).before 6 t d = iblk0 W c 6 t :=
  before0_6_of W (dat0 W c) (A_eq0 W c 6) (after0_6 W c) t d
theorem leaves0_0 (c : Dev nD) (t : Fin cfg0.N) : (dat0 W c).leavesExact 0 t = owns (c : Thread nD τ) (st0_0 t) fullShare (iblk0 W c 0 t) := by
  rw [show (dat0 W c).leavesExact 0 t = owns (c : Thread nD τ) (st0_0 t) fullShare ((dat0 W c).after 0 t) from by
    unfold Dat.leavesExact; rw [show cfg0.idle 0 (cfg0.grid.coords t) = false from rfl]]
  rw [after0_0]
theorem leaves0_1 (c : Dev nD) (t : Fin cfg0.N) : (dat0 W c).leavesExact 1 t = owns (c : Thread nD τ) (st0_1 t) fullShare (iblk0 W c 1 t) := by
  rw [show (dat0 W c).leavesExact 1 t = owns (c : Thread nD τ) (st0_1 t) fullShare ((dat0 W c).after 1 t) from by
    unfold Dat.leavesExact; rw [show cfg0.idle 1 (cfg0.grid.coords t) = false from rfl]]
  rw [after0_1]
theorem leaves0_2 (c : Dev nD) (t : Fin cfg0.N) : (dat0 W c).leavesExact 2 t = owns (c : Thread nD τ) (st0_2 t) fullShare (iblk0 W c 2 t) := by
  rw [show (dat0 W c).leavesExact 2 t = owns (c : Thread nD τ) (st0_2 t) fullShare ((dat0 W c).after 2 t) from by
    unfold Dat.leavesExact; rw [show cfg0.idle 2 (cfg0.grid.coords t) = false from rfl]]
  rw [after0_2]
theorem leaves0_3 (c : Dev nD) (t : Fin cfg0.N) : (dat0 W c).leavesExact 3 t = owns (c : Thread nD τ) (st0_3 t) fullShare (iblk0 W c 3 t) := by
  rw [show (dat0 W c).leavesExact 3 t = owns (c : Thread nD τ) (st0_3 t) fullShare ((dat0 W c).after 3 t) from by
    unfold Dat.leavesExact; rw [show cfg0.idle 3 (cfg0.grid.coords t) = false from rfl]]
  rw [after0_3]
theorem leaves0_4 (c : Dev nD) (t : Fin cfg0.N) : (dat0 W c).leavesExact 4 t = owns (c : Thread nD τ) (st0_4 t) fullShare (iblk0 W c 4 t) := by
  rw [show (dat0 W c).leavesExact 4 t = owns (c : Thread nD τ) (st0_4 t) fullShare ((dat0 W c).after 4 t) from by
    unfold Dat.leavesExact; rw [show cfg0.idle 4 (cfg0.grid.coords t) = false from rfl]]
  rw [after0_4]
theorem leaves0_5 (c : Dev nD) (t : Fin cfg0.N) : (dat0 W c).leavesExact 5 t = owns (c : Thread nD τ) (st0_5 t) fullShare (iblk0 W c 5 t) := by
  rw [show (dat0 W c).leavesExact 5 t = owns (c : Thread nD τ) (st0_5 t) fullShare ((dat0 W c).after 5 t) from by
    unfold Dat.leavesExact; rw [show cfg0.idle 5 (cfg0.grid.coords t) = false from rfl]]
  rw [after0_5]
theorem leaves0_6 (c : Dev nD) (t : Fin cfg0.N) : (dat0 W c).leavesExact 6 t = owns (c : Thread nD τ) (st0_6 t) fullShare (iblk0 W c 6 t) := by
  rw [show (dat0 W c).leavesExact 6 t = owns (c : Thread nD τ) (st0_6 t) fullShare ((dat0 W c).after 6 t) from by
    unfold Dat.leavesExact; rw [show cfg0.idle 6 (cfg0.grid.coords t) = false from rfl]]
  rw [after0_6]
/-- What the body is called with at point `t`, -/
def bodyPre0 (c : Dev nD) (t : Fin cfg0.N) : sProp 𝕄 :=
  iprop((dat0 W c).Φ t.castSucc ∗ (dat0 W c).owesAt () t.castSucc
    ∗ (∃ d, owns (c : Thread nD τ) (st0_0 t) fullShare ((dat0 W c).before 0 t d))
    ∗ (∃ d, owns (c : Thread nD τ) (st0_1 t) fullShare ((dat0 W c).before 1 t d))
    ∗ (∃ d, owns (c : Thread nD τ) (st0_2 t) fullShare ((dat0 W c).before 2 t d))
    ∗ (∃ d, owns (c : Thread nD τ) (st0_3 t) fullShare ((dat0 W c).before 3 t d))
    ∗ (∃ d, owns (c : Thread nD τ) (st0_4 t) fullShare ((dat0 W c).before 4 t d))
    ∗ (∃ d, owns (c : Thread nD τ) (st0_5 t) fullShare ((dat0 W c).before 5 t d))
    ∗ (∃ d, owns (c : Thread nD τ) (st0_6 t) fullShare ((dat0 W c).before 6 t d))
    ∗ (∃ d, owns (c : Thread nD τ) (st0_7 t) fullShare ((dat0 W c).before 7 t d))
    ∗ (∃ d, owns (c : Thread nD τ) (st0_8 t) fullShare ((dat0 W c).before 8 t d)))

/-- and what it returns. -/
def bodyPost0 (c : Dev nD) (t : Fin cfg0.N) : sProp 𝕄 :=
  iprop((dat0 W c).Φ t.succ ∗ (dat0 W c).owesAt () t.succ
    ∗ (dat0 W c).leavesExact 0 t
    ∗ (dat0 W c).leavesExact 1 t
    ∗ (dat0 W c).leavesExact 2 t
    ∗ (dat0 W c).leavesExact 3 t
    ∗ (dat0 W c).leavesExact 4 t
    ∗ (dat0 W c).leavesExact 5 t
    ∗ (dat0 W c).leavesExact 6 t
    ∗ (dat0 W c).leavesExact 7 t
    ∗ (dat0 W c).leavesExact 8 t)

theorem flush0_7_no (t : Fin cfg0.N) (h : t.val ≠ 35) : (cfg0.win 7).flush t = false := by
  have key : ∀ t : Fin 36, t.val ≠ 35 → (cfg0.win 7).flush (⟨t.val, lt_of_lt_of_eq t.isLt N0.symm⟩ : Fin cfg0.N) = false := by decide +kernel
  exact key ⟨t.val, lt_of_lt_of_eq t.isLt N0⟩ h

theorem idle0_7_yes (t : Fin cfg0.N) (h : t.val ≠ 35) : cfg0.idle 7 (cfg0.grid.coords t) = true := by
  have t0 : (grid0.coords t 0).val = t.val := co0_0 t
  have hc : ¬ k0_cond2 (grid0.coords t) = 1#1 := fun e => h (t0.symm.trans ((k0_cond2_iff _).mp e))
  show (!(k0_cond2 (grid0.coords t) == 1#1)) = true
  rw [beq_eq_false_iff_ne.mpr hc]; rfl

theorem idle0_7_no (t : Fin cfg0.N) (h : t.val = 35) : cfg0.idle 7 (cfg0.grid.coords t) = false := by
  have t0 : (grid0.coords t 0).val = t.val := co0_0 t
  show (!(k0_cond2 (grid0.coords t) == 1#1)) = false
  rw [(k0_cond2_iff _).mpr (t0.trans h)]; rfl

theorem leaves0_7_idle (c : Dev nD) (t : Fin cfg0.N) (h : t.val ≠ 35) :
    (dat0 W c).leavesExact 7 t = iprop(∃ d, owns (c : Thread nD τ) (st0_7 t) fullShare ((dat0 W c).before 7 t d)) := by
  unfold Dat.leavesExact
  rw [idle0_7_yes t h, flush0_7_no t h]

theorem leaves0_7_last (c : Dev nD) (t : Fin cfg0.N) (h : t.val = 35) :
    (dat0 W c).leavesExact 7 t = owns (c : Thread nD τ) (st0_7 t) fullShare (k0_pay2 (daAcc W c t.val)) := by
  rw [show (dat0 W c).leavesExact 7 t = owns (c : Thread nD τ) (st0_7 t) fullShare ((dat0 W c).after 7 t) from by
    unfold Dat.leavesExact; rw [idle0_7_no t h]]
  rw [after0_7]

theorem flush0_8_no (t : Fin cfg0.N) (h : t.val ≠ 35) : (cfg0.win 8).flush t = false := by
  have key : ∀ t : Fin 36, t.val ≠ 35 → (cfg0.win 8).flush (⟨t.val, lt_of_lt_of_eq t.isLt N0.symm⟩ : Fin cfg0.N) = false := by decide +kernel
  exact key ⟨t.val, lt_of_lt_of_eq t.isLt N0⟩ h

theorem idle0_8_yes (t : Fin cfg0.N) (h : t.val ≠ 35) : cfg0.idle 8 (cfg0.grid.coords t) = true := by
  have t0 : (grid0.coords t 0).val = t.val := co0_0 t
  have hc : ¬ k0_cond2 (grid0.coords t) = 1#1 := fun e => h (t0.symm.trans ((k0_cond2_iff _).mp e))
  show (!(k0_cond2 (grid0.coords t) == 1#1)) = true
  rw [beq_eq_false_iff_ne.mpr hc]; rfl

theorem idle0_8_no (t : Fin cfg0.N) (h : t.val = 35) : cfg0.idle 8 (cfg0.grid.coords t) = false := by
  have t0 : (grid0.coords t 0).val = t.val := co0_0 t
  show (!(k0_cond2 (grid0.coords t) == 1#1)) = false
  rw [(k0_cond2_iff _).mpr (t0.trans h)]; rfl

theorem leaves0_8_idle (c : Dev nD) (t : Fin cfg0.N) (h : t.val ≠ 35) :
    (dat0 W c).leavesExact 8 t = iprop(∃ d, owns (c : Thread nD τ) (st0_8 t) fullShare ((dat0 W c).before 8 t d)) := by
  unfold Dat.leavesExact
  rw [idle0_8_yes t h, flush0_8_no t h]

theorem leaves0_8_last (c : Dev nD) (t : Fin cfg0.N) (h : t.val = 35) :
    (dat0 W c).leavesExact 8 t = owns (c : Thread nD τ) (st0_8 t) fullShare (k0_pay3 (dbAcc W c t.val)) := by
  rw [show (dat0 W c).leavesExact 8 t = owns (c : Thread nD τ) (st0_8 t) fullShare ((dat0 W c).after 8 t) from by
    unfold Dat.leavesExact; rw [idle0_8_no t h]]
  rw [after0_8]

set_option maxHeartbeats 3200000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6]
  rw [leaves0_0, leaves0_1, leaves0_2, leaves0_3, leaves0_4, leaves0_5, leaves0_6]
  rw [show (dat0 W c).owesAt () t.succ = (dat0 W c).owesAt () t.castSucc from rfl]
  rw [show (dat0 W c).Φ t.castSucc = iprop((∃ x y, owns (c : Thread nD τ) (Memref.whole cc0_scratch0) fullShare x ∗ owns (c : Thread nD τ) (Memref.whole cc0_scratch1) fullShare y
      ∗ ⌜t.val ≠ 0 → x = daAcc W c (t.val - 1) ∧ y = dbAcc W c (t.val - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl]
  rw [show (dat0 W c).Φ t.succ = iprop((∃ x y, owns (c : Thread nD τ) (Memref.whole cc0_scratch0) fullShare x ∗ owns (c : Thread nD τ) (Memref.whole cc0_scratch1) fullShare y
      ∗ ⌜(t.val + 1) ≠ 0 → x = daAcc W c ((t.val + 1) - 1) ∧ y = dbAcc W c ((t.val + 1) - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl]
  have t0 : (grid0.coords t 0).val = t.val := co0_0 t
  iintro ⟨⟨⟨%x, %y, HS, HT, %hx⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  by_cases h0 : t.val = 0
  · rw [leaves0_7_idle W c t (by omega), leaves0_8_idle W c t (by omega)]
    iapply (sk_body_first c (grid0.coords t) _ _ _ _ _ _ _ _ _ _ _ _ _ _ _ _ _ _ _ _ _ _ ((k0_cond0_iff _).mpr (t0.trans h0)) (fun e => (by omega : ¬ (grid0.coords t 0).val = 35) ((k0_cond2_iff _).mp e))
      (iblk0 W c 0 t) (iblk0 W c 1 t) (iblk0 W c 2 t) (iblk0 W c 3 t) (iblk0 W c 4 t) (iblk0 W c 5 t) (iblk0 W c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexists _; iexact HS
    isplitl [HT]; · iexists _; iexact HT
    iintro ⟨H0, H1, H2, H3, H4, H5, H6, HS, HT⟩
    isplitl [HS HT Hrest Hg]
    · isplitl [HS HT]
      · iexists _; iexists _
        isplitl [HS]; · iexact HS
        isplitl [HT]; · iexact HT
        ipureintro
        exact fun _ => ⟨(daAcc_start W c t h0).symm, (dbAcc_start W c t h0).symm⟩
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  obtain ⟨rfl, rfl⟩ := hx h0
  by_cases h35 : t.val = 35
  · rw [leaves0_7_last W c t h35, leaves0_8_last W c t h35]
    iapply (sk_body_last c (grid0.coords t) _ _ _ _ _ _ _ _ _ _ _ _ _ _ _ _ _ _ _ _ _ _ (fun e => h0 (t0.symm.trans ((k0_cond0_iff _).mp e))) ((k0_cond2_iff _).mpr (t0.trans h35))
      (iblk0 W c 0 t) (iblk0 W c 1 t) (iblk0 W c 2 t) (iblk0 W c 3 t) (iblk0 W c 4 t) (iblk0 W c 5 t) (iblk0 W c 6 t) (daAcc W c (t.val - 1)) (dbAcc W c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    isplitl [HT]; · iexact HT
    iintro ⟨H0, H1, H2, H3, H4, H5, H6, H7, H8, HS, HT⟩
    isplitl [HS HT Hrest Hg]
    · isplitl [HS HT]
      · iexists _; iexists _
        isplitl [HS]; · iexact HS
        isplitl [HT]; · iexact HT
        ipureintro
        exact fun _ => ⟨(daAcc_more W c t h0).symm, (dbAcc_more W c t h0).symm⟩
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    rw [daAcc_more W c t h0, dbAcc_more W c t h0]
    isplitl [H7]; · iexact H7
    iexact H8
  · rw [leaves0_7_idle W c t h35, leaves0_8_idle W c t h35]
    iapply (sk_body_more c (grid0.coords t) _ _ _ _ _ _ _ _ _ _ _ _ _ _ _ _ _ _ _ _ _ _ (fun e => h0 (t0.symm.trans ((k0_cond0_iff _).mp e))) (fun e => (by omega : ¬ (grid0.coords t 0).val = 35) ((k0_cond2_iff _).mp e))
      (iblk0 W c 0 t) (iblk0 W c 1 t) (iblk0 W c 2 t) (iblk0 W c 3 t) (iblk0 W c 4 t) (iblk0 W c 5 t) (iblk0 W c 6 t) (daAcc W c (t.val - 1)) (dbAcc W c (t.val - 1)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    isplitl [HT]; · iexact HT
    iintro ⟨H0, H1, H2, H3, H4, H5, H6, HS, HT⟩
    isplitl [HS HT Hrest Hg]
    · isplitl [HS HT]
      · iexists _; iexists _
        isplitl [HS]; · iexact HS
        isplitl [HT]; · iexact HT
        ipureintro
        exact fun _ => ⟨(daAcc_more W c t h0).symm, (dbAcc_more W c t h0).symm⟩
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 W c) (defs₀ (F := F)) Variants.none () Set.univ := fun t => by
  rw [bigSep_W0, bigSep_W0, defs₀_row0]
  exact triple_restated (sound_body0 W c t) rfl .rfl fun _ => .rfl

/-- What the launch hands the call is the invariant before the first point, -/
theorem hin0 (c : Dev nD) : iprop(Pipeline.scopedRest (Ix := Unit) (Name := ℕ) (U := UR sig nD τ) (Lvl := ℕ) (Val := Elt F) spec0 c ∗ (∃ r, prngReg c r)) ⊢ (dat0 W c).Φ 0 := by
  rw [show (dat0 W c).Φ 0 = iprop((∃ x y, owns (c : Thread nD τ) (Memref.whole cc0_scratch0) fullShare x ∗ owns (c : Thread nD τ) (Memref.whole cc0_scratch1) fullShare y
      ∗ ⌜0 ≠ 0 → x = daAcc W c (0 - 1) ∧ y = dbAcc W c (0 - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl, scopedRest0_split]
  simp only [owns_whole]
  iintro ⟨⟨⟨⟨%f, HS⟩, ⟨%g, HT⟩⟩, Hr⟩, Hg⟩
  isplitl [HS HT]
  · iexists f; iexists g
    isplitl [HS]; · iexact HS
    isplitl [HT]; · iexact HT
    ipureintro; exact fun h => absurd rfl h
  isplitl [Hr] <;> iassumption

/-- and the invariant after the last point gives it back. -/
theorem hout0 (c : Dev nD) : (dat0 W c).Φ (Fin.last cfg0.N) ⊢ iprop(Pipeline.scopedRest (Ix := Unit) (Name := ℕ) (U := UR sig nD τ) (Lvl := ℕ) (Val := Elt F) spec0 c ∗ (∃ r, prngReg c r)) := by
  rw [show (dat0 W c).Φ (Fin.last cfg0.N) = iprop((∃ x y, owns (c : Thread nD τ) (Memref.whole cc0_scratch0) fullShare x ∗ owns (c : Thread nD τ) (Memref.whole cc0_scratch1) fullShare y
      ∗ ⌜(Fin.last cfg0.N).val ≠ 0 → x = daAcc W c ((Fin.last cfg0.N).val - 1) ∧ y = dbAcc W c ((Fin.last cfg0.N).val - 1)⌝)
    ∗ Pipeline.scopedRestBut (Ix := Unit) (Name := ℕ) (U := UR sig nD τ) (Lvl := ℕ) (Val := Elt F) spec0 c [cc0_scratch0, cc0_scratch1]
    ∗ (∃ r, prngReg c r)) from rfl, scopedRest0_split]
  simp only [owns_whole]
  iintro ⟨⟨%f, %g, HS, HT, -⟩, Hr, Hg⟩
  isplitl [HS HT Hr]
  · isplitl [HS HT]
    · isplitl [HS]
      · iexists f; iexact HS
      iexists g; iexact HT
    iexact Hr
  iexact Hg

end Cert.KernelIdeal.Hand

end
-- ==== Proof.KernelIdeal.DmBody.lean ====
module

public import proofs.«01_k».proof.Proof.KernelIdeal.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the `build_dm` call, one grid point at a time -/

/-- The block of `V` that a point builds from its blocks of packed integers, scales and low-rank factors. -/
def vblkOf (x6 : Vec F S512x512 .i8) (x7 : Vec F S8x512 .bf16) (x8 : Vec F S1024x32 .bf16) (x9 : Vec F S32x512 .bf16) : Vec F S1024x512 .bf16 :=
  k1_pay12 (k1_pay3 x6) x7 (k1_pay4 x8 x9) (k1_pay5 x6 x7 x8 x9) (k1_pay7 (k1_pay4 x8 x9) (k1_pay6 x6 x7)) (k1_pay8 (k1_pay3 x6) x7 (k1_pay4 x8 x9))
    (k1_pay9 (k1_pay3 x6) x7 (k1_pay4 x8 x9)) (k1_pay10 (k1_pay3 x6) x7) (k1_pay11 (k1_pay4 x8 x9))

/-- What 576 rows contribute to a block of the magnitudes' gradient, from eight chunks of the rows and eight chunks of a column of `V`. -/
def dmTile (w0 w1 w2 w3 w4 w5 w6 w7 : Vec F S576x2048 .fp8e4m3)
    (y3 y4 y5 y6 y7 y8 y9 y10 : Vec F S1x2048x512 .bf16) (x3 : Vec F S576x512 .bf16) (x4 : Vec F S576x1 .f32) (x5 : Vec F S1x512 .f32) : Vec F S1x512 .f32 :=
  k1_pay27 (k1_pay25 (k1_pay24 w0 y3) w1 y4 w2 y5 w3 y6 w4 y7) (k1_pay26 w5) y8 w6 y9 w7 y10 x3 x4 x5

/-- The same with the chunks of the rows cut out of a block, and those of the column read out of the half of the scratch that holds it. -/
def dmTileAt (i : grid1.Coords) (hc2 : k1_cond2 i = 1#1) (x2 : Vec F S576x16384 .fp8e4m3) (x3 : Vec F S576x512 .bf16) (x4 : Vec F S576x1 .f32) (x5 : Vec F S1x512 .f32)
    (z : Vec F S2x16384x512 .bf16) : Vec F S1x512 .f32 :=
  dmTile
    (VecWindow.window x2 ![0, 0] S576x2048.size inb_S576x16384_S576x2048_0_0)
    (VecWindow.window x2 ![0, 2048] S576x2048.size inb_S576x16384_S576x2048_0_2048)
    (VecWindow.window x2 ![0, 4096] S576x2048.size inb_S576x16384_S576x2048_0_4096)
    (VecWindow.window x2 ![0, 6144] S576x2048.size inb_S576x16384_S576x2048_0_6144)
    (VecWindow.window x2 ![0, 8192] S576x2048.size inb_S576x16384_S576x2048_0_8192)
    (VecWindow.window x2 ![0, 10240] S576x2048.size inb_S576x16384_S576x2048_0_10240)
    (VecWindow.window x2 ![0, 12288] S576x2048.size inb_S576x16384_S576x2048_0_12288)
    (VecWindow.window x2 ![0, 14336] S576x2048.size inb_S576x16384_S576x2048_0_14336)
    (VecWindow.window z (k1_off3 i) S1x2048x512.size (k1_off3_inb i hc2))
    (VecWindow.window z (k1_off4 i) S1x2048x512.size (k1_off4_inb i hc2))
    (VecWindow.window z (k1_off5 i) S1x2048x512.size (k1_off5_inb i hc2))
    (VecWindow.window z (k1_off6 i) S1x2048x512.size (k1_off6_inb i hc2))
    (VecWindow.window z (k1_off7 i) S1x2048x512.size (k1_off7_inb i hc2))
    (VecWindow.window z (k1_off8 i) S1x2048x512.size (k1_off8_inb i hc2))
    (VecWindow.window z (k1_off9 i) S1x2048x512.size (k1_off9_inb i hc2))
    (VecWindow.window z (k1_off10 i) S1x2048x512.size (k1_off10_inb i hc2))
    x3 x4 x5

set_option maxHeartbeats 4000000 in
/-- In the first row of the grid the body builds its block of `V`, stores it as its result and keeps it in the scratch. -/
theorem dm_body_first (c : Dev nD) (i : grid1.Coords)
    (arg2 : Memref sig .tc .vmem S576x16384 .fp8e4m3) (harg2 : arg2.IsWhole)
    (arg3 : Memref sig .tc .vmem S576x512 .bf16) (harg3 : arg3.IsWhole)
    (arg4 : Memref sig .tc .vmem S576x1 .f32) (harg4 : arg4.IsWhole)
    (arg5 : Memref sig .tc .vmem S1x512 .f32) (harg5 : arg5.IsWhole)
    (arg6 : Memref sig .tc .vmem S512x512 .i8) (harg6 : arg6.IsWhole)
    (arg7 : Memref sig .tc .vmem S8x512 .bf16) (harg7 : arg7.IsWhole)
    (arg8 : Memref sig .tc .vmem S1024x32 .bf16) (harg8 : arg8.IsWhole)
    (arg9 : Memref sig .tc .vmem S32x512 .bf16) (harg9 : arg9.IsWhole)
    (arg10 : Memref sig .tc .vmem S1024x512 .bf16) (harg10 : arg10.IsWhole)
    (arg11 : Memref sig .tc .vmem S1x512 .f32) (harg11 : arg11.IsWhole)
    (arg12 : Memref sig .tc .vmem S2x16384x512 .bf16) (harg12 : arg12.IsWhole)
    (hc1 : k1_cond1 i = 1#1) (hc2 : ¬ k1_cond2 i = 1#1)
    (x6 : Vec F S512x512 .i8) (x7 : Vec F S8x512 .bf16) (x8 : Vec F S1024x32 .bf16) (x9 : Vec F S32x512 .bf16) (x12 : Vec F S2x16384x512 .bf16)
    (E : Set ℕ) (K : PUnit → sProp 𝕄) :
    iprop(owns (c : Thread nD τ) arg6 fullShare x6
        ∗ owns (c : Thread nD τ) arg7 fullShare x7
        ∗ owns (c : Thread nD τ) arg8 fullShare x8
        ∗ owns (c : Thread nD τ) arg9 fullShare x9
        ∗ (∃ d, owns (c : Thread nD τ) arg10 fullShare d)
        ∗ owns (c : Thread nD τ) arg12 fullShare x12
        ∗ (iprop(owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (vblkOf x6 x7 x8 x9)
        ∗ owns (c : Thread nD τ) arg12 fullShare (VecWindow.put x12 (k1_off1 i) S1x1024x512.size (k1_pay1 (vblkOf x6 x7 x8 x9)))) -∗ K ⟨⟩))
      ⊢ wp frame (wpE (defs₀ (F := F)) Variants.none c none) E (cc1_build_dm i arg2 harg2 arg3 harg3 arg4 harg4 arg5 harg5 arg6 harg6 arg7 harg7 arg8 harg8 arg9 harg9 arg10 harg10 arg11 harg11 arg12 harg12) K := by
  simp only [cc1_build_dm_eq_skeleton]; unfold cc1_build_dm_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f6, %hf6, H6⟩, ⟨%f7, %hf7, H7⟩, ⟨%f8, %hf8, H8⟩, ⟨%f9, %hf9, H9⟩, ⟨%d10, %f10, -, H10⟩, ⟨%f12, %hf12, H12⟩, Hk⟩
  obtain rfl := harg6.eq_unread hf6; obtain rfl := harg7.eq_unread hf7; obtain rfl := harg8.eq_unread hf8; obtain rfl := harg9.eq_unread hf9; obtain rfl := harg12.eq_unread hf12
  have hv : vblkOf (arg6.view.readAt (Elt F) (Rect.unit (s := S512x512) ![0, 0] S512x512.size inb_S512x512_S512x512_0_0).toLoadRect (harg6.unread x6))
      (arg7.view.readAt (Elt F) (Rect.unit (s := S8x512) ![0, 0] S8x512.size inb_S8x512_S8x512_0_0).toLoadRect (harg7.unread x7))
      (arg8.view.readAt (Elt F) (Rect.unit (s := S1024x32) ![0, 0] S1024x32.size inb_S1024x32_S1024x32_0_0).toLoadRect (harg8.unread x8))
      (arg9.view.readAt (Elt F) (Rect.unit (s := S32x512) ![0, 0] S32x512.size inb_S32x512_S32x512_0_0).toLoadRect (harg9.unread x9)) = vblkOf x6 x7 x8 x9 := by
    rw [View.readAt_full arg6.view, View.readAt_full arg7.view, View.readAt_full arg8.view, View.readAt_full arg9.view, hf6, hf7, hf8, hf9]
  sl_exec (disch := first | sl_exact hc1 | sl_exact hc2)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    exact (View.read_writes_full arg10.view f10 inb_S1024x512_S1024x512_0_0 _ []).trans hv
  iexists _; isplitr; swap; · iexact H12
  ipureintro
  rw [View.read_writes_cons_put arg12.view _ _ _ _ rfl, View.writes_nil, hf12]
  exact congrArg (fun z => VecWindow.put x12 (k1_off1 i) S1x1024x512.size (k1_pay1 z)) hv

set_option maxHeartbeats 4000000 in
/-- In a later row, at the first rows of the batch, the body also starts the sum over the rows for the previous column. -/
theorem dm_body_start (c : Dev nD) (i : grid1.Coords)
    (arg2 : Memref sig .tc .vmem S576x16384 .fp8e4m3) (harg2 : arg2.IsWhole)
    (arg3 : Memref sig .tc .vmem S576x512 .bf16) (harg3 : arg3.IsWhole)
    (arg4 : Memref sig .tc .vmem S576x1 .f32) (harg4 : arg4.IsWhole)
    (arg5 : Memref sig .tc .vmem S1x512 .f32) (harg5 : arg5.IsWhole)
    (arg6 : Memref sig .tc .vmem S512x512 .i8) (harg6 : arg6.IsWhole)
    (arg7 : Memref sig .tc .vmem S8x512 .bf16) (harg7 : arg7.IsWhole)
    (arg8 : Memref sig .tc .vmem S1024x32 .bf16) (harg8 : arg8.IsWhole)
    (arg9 : Memref sig .tc .vmem S32x512 .bf16) (harg9 : arg9.IsWhole)
    (arg10 : Memref sig .tc .vmem S1024x512 .bf16) (harg10 : arg10.IsWhole)
    (arg11 : Memref sig .tc .vmem S1x512 .f32) (harg11 : arg11.IsWhole)
    (arg12 : Memref sig .tc .vmem S2x16384x512 .bf16) (harg12 : arg12.IsWhole)
    (hc1 : ¬ k1_cond1 i = 1#1) (hc2 : k1_cond2 i = 1#1) (hc3 : k1_cond3 i = 1#1) (hc4 : ¬ k1_cond4 i = 1#1)
    (x2 : Vec F S576x16384 .fp8e4m3) (x3 : Vec F S576x512 .bf16) (x4 : Vec F S576x1 .f32) (x5 : Vec F S1x512 .f32) (x6 : Vec F S512x512 .i8) (x7 : Vec F S8x512 .bf16) (x8 : Vec F S1024x32 .bf16) (x9 : Vec F S32x512 .bf16) (x12 : Vec F S2x16384x512 .bf16)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ (∃ d, owns (c : Thread nD τ) arg10 fullShare d)
        ∗ (∃ d, owns (c : Thread nD τ) arg11 fullShare d)
        ∗ owns (c : Thread nD τ) arg12 fullShare x12
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (vblkOf x6 x7 x8 x9)
        ∗ owns (c : Thread nD τ) arg11 fullShare (dmTileAt i hc2 x2 x3 x4 x5 (VecWindow.put x12 (k1_off2 i) S1x1024x512.size (k1_pay23 (vblkOf x6 x7 x8 x9))))
        ∗ owns (c : Thread nD τ) arg12 fullShare (VecWindow.put x12 (k1_off2 i) S1x1024x512.size (k1_pay23 (vblkOf x6 x7 x8 x9)))) -∗ K ⟨⟩))
      ⊢ wp frame (wpE (defs₀ (F := F)) Variants.none c none) E (cc1_build_dm i arg2 harg2 arg3 harg3 arg4 harg4 arg5 harg5 arg6 harg6 arg7 harg7 arg8 harg8 arg9 harg9 arg10 harg10 arg11 harg11 arg12 harg12) K := by
  simp only [cc1_build_dm_eq_skeleton]; unfold cc1_build_dm_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg12.eq_unread hf12
  have hv : vblkOf (arg6.view.readAt (Elt F) (Rect.unit (s := S512x512) ![0, 0] S512x512.size inb_S512x512_S512x512_0_0).toLoadRect (harg6.unread x6))
      (arg7.view.readAt (Elt F) (Rect.unit (s := S8x512) ![0, 0] S8x512.size inb_S8x512_S8x512_0_0).toLoadRect (harg7.unread x7))
      (arg8.view.readAt (Elt F) (Rect.unit (s := S1024x32) ![0, 0] S1024x32.size inb_S1024x32_S1024x32_0_0).toLoadRect (harg8.unread x8))
      (arg9.view.readAt (Elt F) (Rect.unit (s := S32x512) ![0, 0] S32x512.size inb_S32x512_S32x512_0_0).toLoadRect (harg9.unread x9)) = vblkOf x6 x7 x8 x9 := by
    rw [View.readAt_full arg6.view, View.readAt_full arg7.view, View.readAt_full arg8.view, View.readAt_full arg9.view, hf6, hf7, hf8, hf9]
  have hz : arg12.view.read (Elt F) (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩]) = (VecWindow.put x12 (k1_off2 i) S1x1024x512.size (k1_pay23 (vblkOf x6 x7 x8 x9))) := by
    rw [View.read_writes_cons_put arg12.view _ _ _ _ rfl, View.writes_nil, hf12, hv]
  have hw0 : (arg2.view.readAt (Elt F) (Rect.unit (s := S576x16384) ![0, 0] S576x2048.size inb_S576x16384_S576x2048_0_0).toLoadRect (harg2.unread x2)) = VecWindow.window x2 ![0, 0] S576x2048.size inb_S576x16384_S576x2048_0_0 := by
    rw [View.readAt_unit arg2.view _ _ rfl inb_S576x16384_S576x2048_0_0, hf2]
  have hw1 : (arg2.view.readAt (Elt F) (Rect.unit (s := S576x16384) ![0, 2048] S576x2048.size inb_S576x16384_S576x2048_0_2048).toLoadRect (harg2.unread x2)) = VecWindow.window x2 ![0, 2048] S576x2048.size inb_S576x16384_S576x2048_0_2048 := by
    rw [View.readAt_unit arg2.view _ _ rfl inb_S576x16384_S576x2048_0_2048, hf2]
  have hw2 : (arg2.view.readAt (Elt F) (Rect.unit (s := S576x16384) ![0, 4096] S576x2048.size inb_S576x16384_S576x2048_0_4096).toLoadRect (harg2.unread x2)) = VecWindow.window x2 ![0, 4096] S576x2048.size inb_S576x16384_S576x2048_0_4096 := by
    rw [View.readAt_unit arg2.view _ _ rfl inb_S576x16384_S576x2048_0_4096, hf2]
  have hw3 : (arg2.view.readAt (Elt F) (Rect.unit (s := S576x16384) ![0, 6144] S576x2048.size inb_S576x16384_S576x2048_0_6144).toLoadRect (harg2.unread x2)) = VecWindow.window x2 ![0, 6144] S576x2048.size inb_S576x16384_S576x2048_0_6144 := by
    rw [View.readAt_unit arg2.view _ _ rfl inb_S576x16384_S576x2048_0_6144, hf2]
  have hw4 : (arg2.view.readAt (Elt F) (Rect.unit (s := S576x16384) ![0, 8192] S576x2048.size inb_S576x16384_S576x2048_0_8192).toLoadRect (harg2.unread x2)) = VecWindow.window x2 ![0, 8192] S576x2048.size inb_S576x16384_S576x2048_0_8192 := by
    rw [View.readAt_unit arg2.view _ _ rfl inb_S576x16384_S576x2048_0_8192, hf2]
  have hw5 : (arg2.view.readAt (Elt F) (Rect.unit (s := S576x16384) ![0, 10240] S576x2048.size inb_S576x16384_S576x2048_0_10240).toLoadRect (harg2.unread x2)) = VecWindow.window x2 ![0, 10240] S576x2048.size inb_S576x16384_S576x2048_0_10240 := by
    rw [View.readAt_unit arg2.view _ _ rfl inb_S576x16384_S576x2048_0_10240, hf2]
  have hw6 : (arg2.view.readAt (Elt F) (Rect.unit (s := S576x16384) ![0, 12288] S576x2048.size inb_S576x16384_S576x2048_0_12288).toLoadRect (harg2.unread x2)) = VecWindow.window x2 ![0, 12288] S576x2048.size inb_S576x16384_S576x2048_0_12288 := by
    rw [View.readAt_unit arg2.view _ _ rfl inb_S576x16384_S576x2048_0_12288, hf2]
  have hw7 : (arg2.view.readAt (Elt F) (Rect.unit (s := S576x16384) ![0, 14336] S576x2048.size inb_S576x16384_S576x2048_0_14336).toLoadRect (harg2.unread x2)) = VecWindow.window x2 ![0, 14336] S576x2048.size inb_S576x16384_S576x2048_0_14336 := by
    rw [View.readAt_unit arg2.view _ _ rfl inb_S576x16384_S576x2048_0_14336, hf2]
  have hy3 : (arg12.view.readAt (Elt F) (Rect.unit (s := S2x16384x512) (k1_off3 i) S1x2048x512.size (k1_off3_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off3 i) S1x2048x512.size (k1_off3_inb i hc2) := by
    rw [View.readAt_unit arg12.view _ _ rfl (k1_off3_inb i hc2), hz]
  have hy4 : (arg12.view.readAt (Elt F) (Rect.unit (s := S2x16384x512) (k1_off4 i) S1x2048x512.size (k1_off4_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off4 i) S1x2048x512.size (k1_off4_inb i hc2) := by
    rw [View.readAt_unit arg12.view _ _ rfl (k1_off4_inb i hc2), hz]
  have hy5 : (arg12.view.readAt (Elt F) (Rect.unit (s := S2x16384x512) (k1_off5 i) S1x2048x512.size (k1_off5_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off5 i) S1x2048x512.size (k1_off5_inb i hc2) := by
    rw [View.readAt_unit arg12.view _ _ rfl (k1_off5_inb i hc2), hz]
  have hy6 : (arg12.view.readAt (Elt F) (Rect.unit (s := S2x16384x512) (k1_off6 i) S1x2048x512.size (k1_off6_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off6 i) S1x2048x512.size (k1_off6_inb i hc2) := by
    rw [View.readAt_unit arg12.view _ _ rfl (k1_off6_inb i hc2), hz]
  have hy7 : (arg12.view.readAt (Elt F) (Rect.unit (s := S2x16384x512) (k1_off7 i) S1x2048x512.size (k1_off7_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off7 i) S1x2048x512.size (k1_off7_inb i hc2) := by
    rw [View.readAt_unit arg12.view _ _ rfl (k1_off7_inb i hc2), hz]
  have hy8 : (arg12.view.readAt (Elt F) (Rect.unit (s := S2x16384x512) (k1_off8 i) S1x2048x512.size (k1_off8_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off8 i) S1x2048x512.size (k1_off8_inb i hc2) := by
    rw [View.readAt_unit arg12.view _ _ rfl (k1_off8_inb i hc2), hz]
  have hy9 : (arg12.view.readAt (Elt F) (Rect.unit (s := S2x16384x512) (k1_off9 i) S1x2048x512.size (k1_off9_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off9 i) S1x2048x512.size (k1_off9_inb i hc2) := by
    rw [View.readAt_unit arg12.view _ _ rfl (k1_off9_inb i hc2), hz]
  have hy10 : (arg12.view.readAt (Elt F) (Rect.unit (s := S2x16384x512) (k1_off10 i) S1x2048x512.size (k1_off10_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off10 i) S1x2048x512.size (k1_off10_inb i hc2) := by
    rw [View.readAt_unit arg12.view _ _ rfl (k1_off10_inb i hc2), hz]
  have hx3 : (arg3.view.readAt (Elt F) (Rect.unit (s := S576x512) ![0, 0] S576x512.size inb_S576x512_S576x512_0_0).toLoadRect (harg3.unread x3)) = x3 := by rw [View.readAt_full arg3.view, hf3]
  have hx4 : (arg4.view.readAt (Elt F) (Rect.unit (s := S576x1) ![0, 0] S576x1.size inb_S576x1_S576x1_0_0).toLoadRect (harg4.unread x4)) = x4 := by rw [View.readAt_full arg4.view, hf4]
  have hx5 : (arg5.view.readAt (Elt F) (Rect.unit (s := S1x512) ![0, 0] S1x512.size inb_S1x512_S1x512_0_0).toLoadRect (harg5.unread x5)) = x5 := by rw [View.readAt_full arg5.view, hf5]
  sl_exec (disch := first | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    exact (View.read_writes_full arg10.view f10 inb_S1024x512_S1024x512_0_0 _ []).trans hv
  isplitl [H11]
  · iexists _; isplitr; swap; · iexact H11
    ipureintro
    refine (View.read_writes_full arg11.view f11 inb_S1x512_S1x512_0_0 _ []).trans ?_
    rfl
  iexists _; isplitr; swap; · iexact H12
  ipureintro
  exact hz

set_option maxHeartbeats 4000000 in
/-- In a later row, at later rows of the batch, the body adds to that sum. -/
theorem dm_body_more (c : Dev nD) (i : grid1.Coords)
    (arg2 : Memref sig .tc .vmem S576x16384 .fp8e4m3) (harg2 : arg2.IsWhole)
    (arg3 : Memref sig .tc .vmem S576x512 .bf16) (harg3 : arg3.IsWhole)
    (arg4 : Memref sig .tc .vmem S576x1 .f32) (harg4 : arg4.IsWhole)
    (arg5 : Memref sig .tc .vmem S1x512 .f32) (harg5 : arg5.IsWhole)
    (arg6 : Memref sig .tc .vmem S512x512 .i8) (harg6 : arg6.IsWhole)
    (arg7 : Memref sig .tc .vmem S8x512 .bf16) (harg7 : arg7.IsWhole)
    (arg8 : Memref sig .tc .vmem S1024x32 .bf16) (harg8 : arg8.IsWhole)
    (arg9 : Memref sig .tc .vmem S32x512 .bf16) (harg9 : arg9.IsWhole)
    (arg10 : Memref sig .tc .vmem S1024x512 .bf16) (harg10 : arg10.IsWhole)
    (arg11 : Memref sig .tc .vmem S1x512 .f32) (harg11 : arg11.IsWhole)
    (arg12 : Memref sig .tc .vmem S2x16384x512 .bf16) (harg12 : arg12.IsWhole)
    (hc1 : ¬ k1_cond1 i = 1#1) (hc2 : k1_cond2 i = 1#1) (hc3 : ¬ k1_cond3 i = 1#1) (hc4 : k1_cond4 i = 1#1)
    (x2 : Vec F S576x16384 .fp8e4m3) (x3 : Vec F S576x512 .bf16) (x4 : Vec F S576x1 .f32) (x5 : Vec F S1x512 .f32) (x6 : Vec F S512x512 .i8) (x7 : Vec F S8x512 .bf16) (x8 : Vec F S1024x32 .bf16) (x9 : Vec F S32x512 .bf16) (x11 : Vec F S1x512 .f32) (x12 : Vec F S2x16384x512 .bf16)
    (E : Set ℕ) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ (∃ d, owns (c : Thread nD τ) arg10 fullShare d)
        ∗ owns (c : Thread nD τ) arg11 fullShare x11
        ∗ owns (c : Thread nD τ) arg12 fullShare x12
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare (vblkOf x6 x7 x8 x9)
        ∗ owns (c : Thread nD τ) arg11 fullShare (k1_pay2 (dmTileAt i hc2 x2 x3 x4 x5 (VecWindow.put x12 (k1_off2 i) S1x1024x512.size (k1_pay23 (vblkOf x6 x7 x8 x9)))) x11)
        ∗ owns (c : Thread nD τ) arg12 fullShare (VecWindow.put x12 (k1_off2 i) S1x1024x512.size (k1_pay23 (vblkOf x6 x7 x8 x9)))) -∗ K ⟨⟩))
      ⊢ wp frame (wpE (defs₀ (F := F)) Variants.none c none) E (cc1_build_dm i arg2 harg2 arg3 harg3 arg4 harg4 arg5 harg5 arg6 harg6 arg7 harg7 arg8 harg8 arg9 harg9 arg10 harg10 arg11 harg11 arg12 harg12) K := by
  simp only [cc1_build_dm_eq_skeleton]; unfold cc1_build_dm_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f11, %hf11, H11⟩, ⟨%f12, %hf12, H12⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg11.eq_unread hf11; obtain rfl := harg12.eq_unread hf12
  have hv : vblkOf (arg6.view.readAt (Elt F) (Rect.unit (s := S512x512) ![0, 0] S512x512.size inb_S512x512_S512x512_0_0).toLoadRect (harg6.unread x6))
      (arg7.view.readAt (Elt F) (Rect.unit (s := S8x512) ![0, 0] S8x512.size inb_S8x512_S8x512_0_0).toLoadRect (harg7.unread x7))
      (arg8.view.readAt (Elt F) (Rect.unit (s := S1024x32) ![0, 0] S1024x32.size inb_S1024x32_S1024x32_0_0).toLoadRect (harg8.unread x8))
      (arg9.view.readAt (Elt F) (Rect.unit (s := S32x512) ![0, 0] S32x512.size inb_S32x512_S32x512_0_0).toLoadRect (harg9.unread x9)) = vblkOf x6 x7 x8 x9 := by
    rw [View.readAt_full arg6.view, View.readAt_full arg7.view, View.readAt_full arg8.view, View.readAt_full arg9.view, hf6, hf7, hf8, hf9]
  have hz : arg12.view.read (Elt F) (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩]) = (VecWindow.put x12 (k1_off2 i) S1x1024x512.size (k1_pay23 (vblkOf x6 x7 x8 x9))) := by
    rw [View.read_writes_cons_put arg12.view _ _ _ _ rfl, View.writes_nil, hf12, hv]
  have hw0 : (arg2.view.readAt (Elt F) (Rect.unit (s := S576x16384) ![0, 0] S576x2048.size inb_S576x16384_S576x2048_0_0).toLoadRect (harg2.unread x2)) = VecWindow.window x2 ![0, 0] S576x2048.size inb_S576x16384_S576x2048_0_0 := by
    rw [View.readAt_unit arg2.view _ _ rfl inb_S576x16384_S576x2048_0_0, hf2]
  have hw1 : (arg2.view.readAt (Elt F) (Rect.unit (s := S576x16384) ![0, 2048] S576x2048.size inb_S576x16384_S576x2048_0_2048).toLoadRect (harg2.unread x2)) = VecWindow.window x2 ![0, 2048] S576x2048.size inb_S576x16384_S576x2048_0_2048 := by
    rw [View.readAt_unit arg2.view _ _ rfl inb_S576x16384_S576x2048_0_2048, hf2]
  have hw2 : (arg2.view.readAt (Elt F) (Rect.unit (s := S576x16384) ![0, 4096] S576x2048.size inb_S576x16384_S576x2048_0_4096).toLoadRect (harg2.unread x2)) = VecWindow.window x2 ![0, 4096] S576x2048.size inb_S576x16384_S576x2048_0_4096 := by
    rw [View.readAt_unit arg2.view _ _ rfl inb_S576x16384_S576x2048_0_4096, hf2]
  have hw3 : (arg2.view.readAt (Elt F) (Rect.unit (s := S576x16384) ![0, 6144] S576x2048.size inb_S576x16384_S576x2048_0_6144).toLoadRect (harg2.unread x2)) = VecWindow.window x2 ![0, 6144] S576x2048.size inb_S576x16384_S576x2048_0_6144 := by
    rw [View.readAt_unit arg2.view _ _ rfl inb_S576x16384_S576x2048_0_6144, hf2]
  have hw4 : (arg2.view.readAt (Elt F) (Rect.unit (s := S576x16384) ![0, 8192] S576x2048.size inb_S576x16384_S576x2048_0_8192).toLoadRect (harg2.unread x2)) = VecWindow.window x2 ![0, 8192] S576x2048.size inb_S576x16384_S576x2048_0_8192 := by
    rw [View.readAt_unit arg2.view _ _ rfl inb_S576x16384_S576x2048_0_8192, hf2]
  have hw5 : (arg2.view.readAt (Elt F) (Rect.unit (s := S576x16384) ![0, 10240] S576x2048.size inb_S576x16384_S576x2048_0_10240).toLoadRect (harg2.unread x2)) = VecWindow.window x2 ![0, 10240] S576x2048.size inb_S576x16384_S576x2048_0_10240 := by
    rw [View.readAt_unit arg2.view _ _ rfl inb_S576x16384_S576x2048_0_10240, hf2]
  have hw6 : (arg2.view.readAt (Elt F) (Rect.unit (s := S576x16384) ![0, 12288] S576x2048.size inb_S576x16384_S576x2048_0_12288).toLoadRect (harg2.unread x2)) = VecWindow.window x2 ![0, 12288] S576x2048.size inb_S576x16384_S576x2048_0_12288 := by
    rw [View.readAt_unit arg2.view _ _ rfl inb_S576x16384_S576x2048_0_12288, hf2]
  have hw7 : (arg2.view.readAt (Elt F) (Rect.unit (s := S576x16384) ![0, 14336] S576x2048.size inb_S576x16384_S576x2048_0_14336).toLoadRect (harg2.unread x2)) = VecWindow.window x2 ![0, 14336] S576x2048.size inb_S576x16384_S576x2048_0_14336 := by
    rw [View.readAt_unit arg2.view _ _ rfl inb_S576x16384_S576x2048_0_14336, hf2]
  have hy3 : (arg12.view.readAt (Elt F) (Rect.unit (s := S2x16384x512) (k1_off3 i) S1x2048x512.size (k1_off3_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off3 i) S1x2048x512.size (k1_off3_inb i hc2) := by
    rw [View.readAt_unit arg12.view _ _ rfl (k1_off3_inb i hc2), hz]
  have hy4 : (arg12.view.readAt (Elt F) (Rect.unit (s := S2x16384x512) (k1_off4 i) S1x2048x512.size (k1_off4_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off4 i) S1x2048x512.size (k1_off4_inb i hc2) := by
    rw [View.readAt_unit arg12.view _ _ rfl (k1_off4_inb i hc2), hz]
  have hy5 : (arg12.view.readAt (Elt F) (Rect.unit (s := S2x16384x512) (k1_off5 i) S1x2048x512.size (k1_off5_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off5 i) S1x2048x512.size (k1_off5_inb i hc2) := by
    rw [View.readAt_unit arg12.view _ _ rfl (k1_off5_inb i hc2), hz]
  have hy6 : (arg12.view.readAt (Elt F) (Rect.unit (s := S2x16384x512) (k1_off6 i) S1x2048x512.size (k1_off6_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off6 i) S1x2048x512.size (k1_off6_inb i hc2) := by
    rw [View.readAt_unit arg12.view _ _ rfl (k1_off6_inb i hc2), hz]
  have hy7 : (arg12.view.readAt (Elt F) (Rect.unit (s := S2x16384x512) (k1_off7 i) S1x2048x512.size (k1_off7_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off7 i) S1x2048x512.size (k1_off7_inb i hc2) := by
    rw [View.readAt_unit arg12.view _ _ rfl (k1_off7_inb i hc2), hz]
  have hy8 : (arg12.view.readAt (Elt F) (Rect.unit (s := S2x16384x512) (k1_off8 i) S1x2048x512.size (k1_off8_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off8 i) S1x2048x512.size (k1_off8_inb i hc2) := by
    rw [View.readAt_unit arg12.view _ _ rfl (k1_off8_inb i hc2), hz]
  have hy9 : (arg12.view.readAt (Elt F) (Rect.unit (s := S2x16384x512) (k1_off9 i) S1x2048x512.size (k1_off9_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off9 i) S1x2048x512.size (k1_off9_inb i hc2) := by
    rw [View.readAt_unit arg12.view _ _ rfl (k1_off9_inb i hc2), hz]
  have hy10 : (arg12.view.readAt (Elt F) (Rect.unit (s := S2x16384x512) (k1_off10 i) S1x2048x512.size (k1_off10_inb i hc2)).toLoadRect (arg12.view.writes (Elt F) (harg12.unread x12) [⟨Rect.unit (s := S2x16384x512) (k1_off2 i) S1x1024x512.size (k1_off2_inb i hc2), k1_pay23 (vblkOf (arg6.view.readAt (Elt F) (Rect.unit (s := S512x512) ![0, 0] S512x512.size inb_S512x512_S512x512_0_0).toLoadRect (harg6.unread x6)) (arg7.view.readAt (Elt F) (Rect.unit (s := S8x512) ![0, 0] S8x512.size inb_S8x512_S8x512_0_0).toLoadRect (harg7.unread x7)) (arg8.view.readAt (Elt F) (Rect.unit (s := S1024x32) ![0, 0] S1024x32.size inb_S1024x32_S1024x32_0_0).toLoadRect (harg8.unread x8)) (arg9.view.readAt (Elt F) (Rect.unit (s := S32x512) ![0, 0] S32x512.size inb_S32x512_S32x512_0_0).toLoadRect (harg9.unread x9)))⟩])) = VecWindow.window (VecWindow.put x12 (k1_off2 i) S1x1024x512.size (k1_pay23 (vblkOf x6 x7 x8 x9))) (k1_off10 i) S1x2048x512.size (k1_off10_inb i hc2) := by
    rw [View.readAt_unit arg12.view _ _ rfl (k1_off10_inb i hc2), hz]
  have hx3 : (arg3.view.readAt (Elt F) (Rect.unit (s := S576x512) ![0, 0] S576x512.size inb_S576x512_S576x512_0_0).toLoadRect (harg3.unread x3)) = x3 := by rw [View.readAt_full arg3.view, hf3]
  have hx4 : (arg4.view.readAt (Elt F) (Rect.unit (s := S576x1) ![0, 0] S576x1.size inb_S576x1_S576x1_0_0).toLoadRect (harg4.unread x4)) = x4 := by rw [View.readAt_full arg4.view, hf4]
  have hx5 : (arg5.view.readAt (Elt F) (Rect.unit (s := S1x512) ![0, 0] S1x512.size inb_S1x512_S1x512_0_0).toLoadRect (harg5.unread x5)) = x5 := by rw [View.readAt_full arg5.view, hf5]
  sl_exec (disch := first | sl_exact hc1 | sl_exact hc2 | sl_exact hc3 | sl_exact hc4)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    exact (View.read_writes_full arg10.view f10 inb_S1024x512_S1024x512_0_0 _ []).trans hv
  isplitl [H11]
  · iexists _; isplitr; swap; · iexact H11
    ipureintro
    refine (View.read_writes_full arg11.view _ inb_S1x512_S1x512_0_0 _ []).trans ?_
    exact congrArg₂ k1_pay2 (by rfl) ((View.readAt_full arg11.view _ inb_S1x512_S1x512_0_0).trans hf11)
  iexists _; isplitr; swap; · iexact H12
  ipureintro
  exact hz

end Cert.KernelIdeal.Hand

end
-- ==== Proof.KernelIdeal.DmDat.lean ====
module

public import proofs.«01_k».proof.Proof.KernelIdeal.DmBody
public import Idealize.ShloMosaic.Lib.ValueIdxCore
public import Idealize.ShloMosaic.Lib.Pipeline.RegionArrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The `build_dm` call: what its scratch and its outputs hold at each grid point -/

variable (W : Dev nD → Valuation τ sig (Elt F))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Pipeline.arrRef spec1 w))

theorem N1 : cfg1.N = 208 := N_1
theorem co1_0 (t : Fin cfg1.N) : (cfg1.grid.coords t 0).val = t.val / 16 := by
  have h : (grid1.coords t 0).val = t.val / 16 % 13 := Pipeline.Grid.coords_val t 0 (by decide) rfl
  have hN : t.val < 208 := lt_of_lt_of_eq t.isLt N1
  rw [show (cfg1.grid.coords t 0).val = (grid1.coords t 0).val from rfl, h]; omega
theorem co1_1 (t : Fin cfg1.N) : (cfg1.grid.coords t 1).val = t.val % 16 := by
  have h : (grid1.coords t 1).val = t.val / 1 % 16 := Pipeline.Grid.coords_val t 1 (by decide) rfl
  rw [show (cfg1.grid.coords t 1).val = (grid1.coords t 1).val from rfl, h, Nat.div_one]

/-- The rows of the scratch that point `t` fills lie inside it. -/
theorem inb1 (t : Fin cfg1.N) : ∀ a, k1_off1 (grid1.coords t) a + S1x1024x512.size a ≤ S2x16384x512.size a := by
  intro a
  have h0 := co1_0 t
  have h1 := co1_1 t
  have hN : t.val < 208 := lt_of_lt_of_eq t.isLt N1
  rw [k1_off1_eq]
  match a with
  | ⟨0, _⟩ => show (grid1.coords t 0).val % 2 + 1 ≤ 2; omega
  | ⟨1, _⟩ => show 1024 * (grid1.coords t 1).val + 1024 ≤ 16384; have : (grid1.coords t 1).val = t.val % 16 := h1; omega
  | ⟨2, _⟩ => show 0 + 512 ≤ 512; omega

/-- The block of `V` that point `s` builds. -/
def vblk (c : Dev nD) (s : Fin cfg1.N) : Vec F S1024x512 .bf16 :=
  vblkOf (iblk1 W c 4 s) (iblk1 W c 5 s) (iblk1 W c 6 s) (iblk1 W c 7 s)

/-- Before point `t` the scratch holds the blocks of the last 32 points. -/
def Inv1 (c : Dev nD) (t : ℕ) (x : Vec F S2x16384x512 .bf16) : Prop :=
  ∀ s : Fin cfg1.N, s.val < t → t ≤ s.val + 32 →
    VecWindow.window x (k1_off1 (grid1.coords s)) S1x1024x512.size (inb1 s) = k1_pay1 (vblk W c s)

theorem vSrc_lt (t : Fin cfg1.N) (j : Fin 8) (y : S1x2048x512.Idx) : 16 * (t.val / 16 - 1) + (2 * j.val + (y 1).val / 1024) < cfg1.N := by
  have hN : t.val < 208 := lt_of_lt_of_eq t.isLt N1
  have hy : (y 1).val < 2048 := (y 1).isLt
  have hj := j.isLt
  have := N1
  omega

/-- Chunk `j` (2048 rows) of the column of `V` built in the row of the grid before point `t`'s. -/
def vChunk (c : Dev nD) (t : Fin cfg1.N) (j : Fin 8) : Vec F S1x2048x512 .bf16 := fun y =>
  k1_pay1 (vblk W c ⟨16 * (t.val / 16 - 1) + (2 * j.val + (y 1).val / 1024), vSrc_lt t j y⟩) (ValueIdx.ix3 0 ⟨(y 1).val % 1024, Nat.mod_lt _ (by decide)⟩ (y 2))

/-- What point `t`'s 576 rows contribute to the magnitudes' gradient of the previous column. -/
def dmTileV (c : Dev nD) (t : Fin cfg1.N) : Vec F S1x512 .f32 :=
  dmTile
    (VecWindow.window (iblk1 W c 0 t) ![0, 0] S576x2048.size inb_S576x16384_S576x2048_0_0)
    (VecWindow.window (iblk1 W c 0 t) ![0, 2048] S576x2048.size inb_S576x16384_S576x2048_0_2048)
    (VecWindow.window (iblk1 W c 0 t) ![0, 4096] S576x2048.size inb_S576x16384_S576x2048_0_4096)
    (VecWindow.window (iblk1 W c 0 t) ![0, 6144] S576x2048.size inb_S576x16384_S576x2048_0_6144)
    (VecWindow.window (iblk1 W c 0 t) ![0, 8192] S576x2048.size inb_S576x16384_S576x2048_0_8192)
    (VecWindow.window (iblk1 W c 0 t) ![0, 10240] S576x2048.size inb_S576x16384_S576x2048_0_10240)
    (VecWindow.window (iblk1 W c 0 t) ![0, 12288] S576x2048.size inb_S576x16384_S576x2048_0_12288)
    (VecWindow.window (iblk1 W c 0 t) ![0, 14336] S576x2048.size inb_S576x16384_S576x2048_0_14336)
    (vChunk W c t 0) (vChunk W c t 1) (vChunk W c t 2) (vChunk W c t 3) (vChunk W c t 4) (vChunk W c t 5) (vChunk W c t 6) (vChunk W c t 7)
    (iblk1 W c 1 t) (iblk1 W c 2 t) (iblk1 W c 3 t)

/-- The running sum of the contributions, started afresh in each row of the grid. -/
def dmAcc (c : Dev nD) : ℕ → Vec F S1x512 .f32
  | 0 => dmTileV W c ⟨0, by rw [N1]; decide⟩
  | n + 1 => if h : n + 1 < cfg1.N then
      if (n + 1) % 16 = 0 then dmTileV W c ⟨n + 1, h⟩ else k1_pay2 (dmTileV W c ⟨n + 1, h⟩) (dmAcc c n)
    else dmAcc c n

theorem dmAcc_start (c : Dev nD) (t : Fin cfg1.N) (h : t.val % 16 = 0) : dmAcc W c t.val = dmTileV W c t := by
  obtain ⟨n, hn⟩ := t
  cases n with
  | zero => rfl
  | succ n => simp only at h; simp only [dmAcc]; rw [dif_pos hn, if_pos h]

theorem dmAcc_more (c : Dev nD) (t : Fin cfg1.N) (h : ¬ t.val % 16 = 0) : dmAcc W c t.val = k1_pay2 (dmTileV W c t) (dmAcc W c (t.val - 1)) := by
  obtain ⟨n, hn⟩ := t
  cases n with
  | zero => exact absurd rfl h
  | succ n => simp only at h; simp only [dmAcc]; rw [dif_pos hn, if_neg h]; rfl

/-- Putting point `t`'s block keeps the invariant. -/
theorem Inv1_step (c : Dev nD) (t : Fin cfg1.N) (x : Vec F S2x16384x512 .bf16) (h : Inv1 W c t.val x) :
    Inv1 W c (t.val + 1) (VecWindow.put x (k1_off1 (grid1.coords t)) S1x1024x512.size (k1_pay1 (vblk W c t))) := by
  intro s hs hs'
  by_cases hst : s = t
  · subst hst
    exact VecWindow.window_put_same x _ _ (inb1 s) _
  · have hne : s.val ≠ t.val := fun e => hst (Fin.ext e)
    refine (?_ : _ = VecWindow.window x (k1_off1 (grid1.coords s)) S1x1024x512.size (inb1 s)).trans (h s (by omega) (by omega))
    have s0 : (grid1.coords s 0).val = s.val / 16 := co1_0 s
    have s1 : (grid1.coords s 1).val = s.val % 16 := co1_1 s
    have t0 : (grid1.coords t 0).val = t.val / 16 := co1_0 t
    have t1 : (grid1.coords t 1).val = t.val % 16 := co1_1 t
    by_cases h0 : s.val / 16 % 2 = t.val / 16 % 2
    · refine VecWindow.window_put_of_disjoint x _ _ _ _ (inb1 s) _ 1 ?_
      rw [k1_off1_eq, k1_off1_eq]
      show 1024 * (grid1.coords s 1).val + 1024 ≤ 1024 * (grid1.coords t 1).val ∨ 1024 * (grid1.coords t 1).val + 1024 ≤ 1024 * (grid1.coords s 1).val
      omega
    · refine VecWindow.window_put_of_disjoint x _ _ _ _ (inb1 s) _ 0 ?_
      rw [k1_off1_eq, k1_off1_eq]
      show (grid1.coords s 0).val % 2 + 1 ≤ (grid1.coords t 0).val % 2 ∨ (grid1.coords t 0).val % 2 + 1 ≤ (grid1.coords s 0).val % 2
      omega

/-- With the invariant after its own store, a point of a later row reads the previous row's column, chunk by chunk. -/
theorem Inv1_read (c : Dev nD) (t : Fin cfg1.N) (ht : 16 ≤ t.val) (x : Vec F S2x16384x512 .bf16) (h : Inv1 W c (t.val + 1) x) (j : Fin 8)
    (off : Fin 3 → ℕ) (hoff : off = ![((grid1.coords t 0).val + 1) % 2, 2048 * j.val, 0])
    (inb : ∀ a, off a + S1x2048x512.size a ≤ S2x16384x512.size a) :
    VecWindow.window x off S1x2048x512.size inb = vChunk W c t j := by
  funext y
  have hN : t.val < 208 := lt_of_lt_of_eq t.isLt N1
  have hj := j.isLt
  have hy0 : (y 0).val < 1 := (y 0).isLt
  have hy : (y 1).val < 2048 := (y 1).isLt
  have t0 : (grid1.coords t 0).val = t.val / 16 := co1_0 t
  unfold vChunk
  rw [← h ⟨16 * (t.val / 16 - 1) + (2 * j.val + (y 1).val / 1024), vSrc_lt t j y⟩ (by show 16 * (t.val / 16 - 1) + (2 * j.val + (y 1).val / 1024) < _; omega)
    (by show _ ≤ 16 * (t.val / 16 - 1) + (2 * j.val + (y 1).val / 1024) + 32; omega)]
  unfold VecWindow.window
  refine congrArg x (funext fun a => Fin.ext ?_)
  generalize hsd : (⟨16 * (t.val / 16 - 1) + (2 * j.val + (y 1).val / 1024), vSrc_lt t j y⟩ : Fin cfg1.N) = s
  have hs : s.val = 16 * (t.val / 16 - 1) + (2 * j.val + (y 1).val / 1024) := by rw [← hsd]
  have s0 : (grid1.coords s 0).val = s.val / 16 := co1_0 s
  have s1 : (grid1.coords s 1).val = s.val % 16 := co1_1 s
  match a with
  | ⟨0, _⟩ =>
    have e3 : off 0 = ((grid1.coords t 0).val + 1) % 2 := congrFun hoff 0
    have e1 : k1_off1 (grid1.coords s) 0 = (grid1.coords s 0).val % 2 := congrFun (k1_off1_eq (grid1.coords s)) 0
    show off 0 + 1 * (y 0).val = k1_off1 (grid1.coords s) 0 + 1 * 0
    omega
  | ⟨1, _⟩ =>
    have e3 : off 1 = 2048 * j.val := congrFun hoff 1
    have e1 : k1_off1 (grid1.coords s) 1 = 1024 * (grid1.coords s 1).val := congrFun (k1_off1_eq (grid1.coords s)) 1
    show off 1 + 1 * (y 1).val = k1_off1 (grid1.coords s) 1 + 1 * ((y 1).val % 1024)
    omega
  | ⟨2, _⟩ =>
    have e3 : off 2 = 0 := congrFun hoff 2
    have e1 : k1_off1 (grid1.coords s) 2 = 0 := congrFun (k1_off1_eq (grid1.coords s)) 2
    show off 2 + 1 * (y 2).val = k1_off1 (grid1.coords s) 2 + 1 * (y 2).val
    omega

/-- So its contribution is the one named above. -/
theorem dmTileAt_eq (c : Dev nD) (t : Fin cfg1.N) (ht : 16 ≤ t.val) (hc2 : k1_cond2 (grid1.coords t) = 1#1) (x : Vec F S2x16384x512 .bf16) (h : Inv1 W c (t.val + 1) x) :
    dmTileAt (grid1.coords t) hc2 (iblk1 W c 0 t) (iblk1 W c 1 t) (iblk1 W c 2 t) (iblk1 W c 3 t) x = dmTileV W c t := by
  unfold dmTileAt dmTileV
  rw [Inv1_read W c t ht x h 0 (k1_off3 (grid1.coords t)) (k1_off3_eq _) (k1_off3_inb _ hc2)]
  rw [Inv1_read W c t ht x h 1 (k1_off4 (grid1.coords t)) (k1_off4_eq _) (k1_off4_inb _ hc2)]
  rw [Inv1_read W c t ht x h 2 (k1_off5 (grid1.coords t)) (k1_off5_eq _) (k1_off5_inb _ hc2)]
  rw [Inv1_read W c t ht x h 3 (k1_off6 (grid1.coords t)) (k1_off6_eq _) (k1_off6_inb _ hc2)]
  rw [Inv1_read W c t ht x h 4 (k1_off7 (grid1.coords t)) (k1_off7_eq _) (k1_off7_inb _ hc2)]
  rw [Inv1_read W c t ht x h 5 (k1_off8 (grid1.coords t)) (k1_off8_eq _) (k1_off8_inb _ hc2)]
  rw [Inv1_read W c t ht x h 6 (k1_off9 (grid1.coords t)) (k1_off9_eq _) (k1_off9_inb _ hc2)]
  rw [Inv1_read W c t ht x h 7 (k1_off10 (grid1.coords t)) (k1_off10_eq _) (k1_off10_inb _ hc2)]

/-- The proof data of the `build_dm` call entered at the contents `W`. -/
def dat1 (c : Dev nD) : Dat τ (Elt F) Unit ℕ (UR sig nD τ) ℕ cfg1 c where
  A w := W c (Pipeline.arrRef spec1 w)
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => iblk1 W c 6 t
    | ⟨7, _⟩ => iblk1 W c 7 t
    | ⟨8, _⟩ => vblk W c t
    | ⟨9, _⟩ => dmAcc W c t.val
  Φ t := iprop((∃ x, owns (c : Thread nD τ) (Memref.whole cc1_scratch0) fullShare x ∗ ⌜Inv1 W c t.val x⌝)
    ∗ Pipeline.scopedRestBut (Ix := Unit) (Name := ℕ) (U := UR sig nD τ) (Lvl := ℕ) (Val := Elt F) spec1 c [cc1_scratch0]
    ∗ (∃ r, prngReg c r))
  q _ := fullShare
  owed _ := 0

theorem before1_0_of {c : Dev nD} (dat : Dat τ (Elt F) Unit ℕ (UR sig nD τ) ℕ cfg1 c) (hA : dat.A 0 = W c (Pipeline.arrRef spec1 0))
    (hafter : ∀ t, dat.after 0 t = iblk1 W c 0 t) (t : Fin cfg1.N) (d) : dat.before 0 t d = iblk1 W c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = W c (Pipeline.arrRef spec1 1))
    (hafter : ∀ t, dat.after 1 t = iblk1 W c 1 t) (t : Fin cfg1.N) (d) : dat.before 1 t d = iblk1 W c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = W c (Pipeline.arrRef spec1 2))
    (hafter : ∀ t, dat.after 2 t = iblk1 W c 2 t) (t : Fin cfg1.N) (d) : dat.before 2 t d = iblk1 W c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = W c (Pipeline.arrRef spec1 3))
    (hafter : ∀ t, dat.after 3 t = iblk1 W c 3 t) (t : Fin cfg1.N) (d) : dat.before 3 t d = iblk1 W c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = W c (Pipeline.arrRef spec1 4))
    (hafter : ∀ t, dat.after 4 t = iblk1 W c 4 t) (t : Fin cfg1.N) (d) : dat.before 4 t d = iblk1 W c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = W c (Pipeline.arrRef spec1 5))
    (hafter : ∀ t, dat.after 5 t = iblk1 W c 5 t) (t : Fin cfg1.N) (d) : dat.before 5 t d = iblk1 W c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = W c (Pipeline.arrRef spec1 6))
    (hafter : ∀ t, dat.after 6 t = iblk1 W c 6 t) (t : Fin cfg1.N) (d) : dat.before 6 t d = iblk1 W c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ (UR sig nD τ) ℕ cfg1 c) (hA : dat.A 7 = W c (Pipeline.arrRef spec1 7))
    (hafter : ∀ t, dat.after 7 t = iblk1 W c 7 t) (t : Fin cfg1.N) (d) : dat.before 7 t d = iblk1 W c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
theorem A_eq1 (c : Dev nD) (w : Fin cfg1.W) : (dat1 W c).A w = W c (Pipeline.arrRef spec1 w) := by
  dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = iblk1 W c 6 t := by dsimp only [dat1]
theorem after1_7 (c : Dev nD) (t : Fin cfg1.N) : (dat1 W c).after 7 t = iblk1 W c 7 t := by dsimp only [dat1]
theorem after1_8 (c : Dev nD) (t : Fin cfg1.N) : (dat1 W c).after 8 t = vblk W c t := by dsimp only [dat1]
theorem after1_9 (c : Dev nD) (t : Fin cfg1.N) : (dat1 W c).after 9 t = dmAcc W c t.val := by dsimp only [dat1]
theorem before1_0 (c : Dev nD) (t : Fin cfg1.N) (d) : (dat1 W c).before 0 t d = iblk1 W c 0 t :=
  before1_0_of W (dat1 W c) (A_eq1 W c 0) (after1_0 W c) t d
theorem before1_1 (c : Dev nD) (t : Fin cfg1.N) (d) : (dat1 W c).before 1 t d = iblk1 W c 1 t :=
  before1_1_of W (dat1 W c) (A_eq1 W c 1) (after1_1 W c) t d
theorem before1_2 (c : Dev nD) (t : Fin cfg1.N) (d) : (dat1 W c).before 2 t d = iblk1 W c 2 t :=
  before1_2_of W (dat1 W c) (A_eq1 W c 2) (after1_2 W c) t d
theorem before1_3 (c : Dev nD) (t : Fin cfg1.N) (d) : (dat1 W c).before 3 t d = iblk1 W c 3 t :=
  before1_3_of W (dat1 W c) (A_eq1 W c 3) (after1_3 W c) t d
theorem before1_4 (c : Dev nD) (t : Fin cfg1.N) (d) : (dat1 W c).before 4 t d = iblk1 W c 4 t :=
  before1_4_of W (dat1 W c) (A_eq1 W c 4) (after1_4 W c) t d
theorem before1_5 (c : Dev nD) (t : Fin cfg1.N) (d) : (dat1 W c).before 5 t d = iblk1 W c 5 t :=
  before1_5_of W (dat1 W c) (A_eq1 W c 5) (after1_5 W c) t d
theorem before1_6 (c : Dev nD) (t : Fin cfg1.N) (d) : (dat1 W c).before 6 t d = iblk1 W c 6 t :=
  before1_6_of W (dat1 W c) (A_eq1 W c 6) (after1_6 W c) t d
theorem before1_7 (c : Dev nD) (t : Fin cfg1.N) (d) : (dat1 W c).before 7 t d = iblk1 W c 7 t :=
  before1_7_of W (dat1 W c) (A_eq1 W c 7) (after1_7 W c) t d
theorem leaves1_0 (c : Dev nD) (t : Fin cfg1.N) : (dat1 W c).leavesExact 0 t = owns (c : Thread nD τ) (st1_0 t) fullShare (iblk1 W c 0 t) := by
  rw [show (dat1 W c).leavesExact 0 t = owns (c : Thread nD τ) (st1_0 t) fullShare ((dat1 W c).after 0 t) from by
    unfold Dat.leavesExact; rw [show cfg1.idle 0 (cfg1.grid.coords t) = false from rfl]]
  rw [after1_0]
theorem leaves1_1 (c : Dev nD) (t : Fin cfg1.N) : (dat1 W c).leavesExact 1 t = owns (c : Thread nD τ) (st1_1 t) fullShare (iblk1 W c 1 t) := by
  rw [show (dat1 W c).leavesExact 1 t = owns (c : Thread nD τ) (st1_1 t) fullShare ((dat1 W c).after 1 t) from by
    unfold Dat.leavesExact; rw [show cfg1.idle 1 (cfg1.grid.coords t) = false from rfl]]
  rw [after1_1]
theorem leaves1_2 (c : Dev nD) (t : Fin cfg1.N) : (dat1 W c).leavesExact 2 t = owns (c : Thread nD τ) (st1_2 t) fullShare (iblk1 W c 2 t) := by
  rw [show (dat1 W c).leavesExact 2 t = owns (c : Thread nD τ) (st1_2 t) fullShare ((dat1 W c).after 2 t) from by
    unfold Dat.leavesExact; rw [show cfg1.idle 2 (cfg1.grid.coords t) = false from rfl]]
  rw [after1_2]
theorem leaves1_3 (c : Dev nD) (t : Fin cfg1.N) : (dat1 W c).leavesExact 3 t = owns (c : Thread nD τ) (st1_3 t) fullShare (iblk1 W c 3 t) := by
  rw [show (dat1 W c).leavesExact 3 t = owns (c : Thread nD τ) (st1_3 t) fullShare ((dat1 W c).after 3 t) from by
    unfold Dat.leavesExact; rw [show cfg1.idle 3 (cfg1.grid.coords t) = false from rfl]]
  rw [after1_3]
theorem leaves1_4 (c : Dev nD) (t : Fin cfg1.N) : (dat1 W c).leavesExact 4 t = owns (c : Thread nD τ) (st1_4 t) fullShare (iblk1 W c 4 t) := by
  rw [show (dat1 W c).leavesExact 4 t = owns (c : Thread nD τ) (st1_4 t) fullShare ((dat1 W c).after 4 t) from by
    unfold Dat.leavesExact; rw [show cfg1.idle 4 (cfg1.grid.coords t) = false from rfl]]
  rw [after1_4]
theorem leaves1_5 (c : Dev nD) (t : Fin cfg1.N) : (dat1 W c).leavesExact 5 t = owns (c : Thread nD τ) (st1_5 t) fullShare (iblk1 W c 5 t) := by
  rw [show (dat1 W c).leavesExact 5 t = owns (c : Thread nD τ) (st1_5 t) fullShare ((dat1 W c).after 5 t) from by
    unfold Dat.leavesExact; rw [show cfg1.idle 5 (cfg1.grid.coords t) = false from rfl]]
  rw [after1_5]
theorem leaves1_6 (c : Dev nD) (t : Fin cfg1.N) : (dat1 W c).leavesExact 6 t = owns (c : Thread nD τ) (st1_6 t) fullShare (iblk1 W c 6 t) := by
  rw [show (dat1 W c).leavesExact 6 t = owns (c : Thread nD τ) (st1_6 t) fullShare ((dat1 W c).after 6 t) from by
    unfold Dat.leavesExact; rw [show cfg1.idle 6 (cfg1.grid.coords t) = false from rfl]]
  rw [after1_6]
theorem leaves1_7 (c : Dev nD) (t : Fin cfg1.N) : (dat1 W c).leavesExact 7 t = owns (c : Thread nD τ) (st1_7 t) fullShare (iblk1 W c 7 t) := by
  rw [show (dat1 W c).leavesExact 7 t = owns (c : Thread nD τ) (st1_7 t) fullShare ((dat1 W c).after 7 t) from by
    unfold Dat.leavesExact; rw [show cfg1.idle 7 (cfg1.grid.coords t) = false from rfl]]
  rw [after1_7]
/-- What the body is called with at point `t`, -/
def bodyPre1 (c : Dev nD) (t : Fin cfg1.N) : sProp 𝕄 :=
  iprop((dat1 W c).Φ t.castSucc ∗ (dat1 W c).owesAt () t.castSucc
    ∗ (∃ d, owns (c : Thread nD τ) (st1_0 t) fullShare ((dat1 W c).before 0 t d))
    ∗ (∃ d, owns (c : Thread nD τ) (st1_1 t) fullShare ((dat1 W c).before 1 t d))
    ∗ (∃ d, owns (c : Thread nD τ) (st1_2 t) fullShare ((dat1 W c).before 2 t d))
    ∗ (∃ d, owns (c : Thread nD τ) (st1_3 t) fullShare ((dat1 W c).before 3 t d))
    ∗ (∃ d, owns (c : Thread nD τ) (st1_4 t) fullShare ((dat1 W c).before 4 t d))
    ∗ (∃ d, owns (c : Thread nD τ) (st1_5 t) fullShare ((dat1 W c).before 5 t d))
    ∗ (∃ d, owns (c : Thread nD τ) (st1_6 t) fullShare ((dat1 W c).before 6 t d))
    ∗ (∃ d, owns (c : Thread nD τ) (st1_7 t) fullShare ((dat1 W c).before 7 t d))
    ∗ (∃ d, owns (c : Thread nD τ) (st1_8 t) fullShare ((dat1 W c).before 8 t d))
    ∗ (∃ d, owns (c : Thread nD τ) (st1_9 t) fullShare ((dat1 W c).before 9 t d)))

/-- and what it returns. -/
def bodyPost1 (c : Dev nD) (t : Fin cfg1.N) : sProp 𝕄 :=
  iprop((dat1 W c).Φ t.succ ∗ (dat1 W c).owesAt () t.succ
    ∗ (dat1 W c).leavesExact 0 t
    ∗ (dat1 W c).leavesExact 1 t
    ∗ (dat1 W c).leavesExact 2 t
    ∗ (dat1 W c).leavesExact 3 t
    ∗ (dat1 W c).leavesExact 4 t
    ∗ (dat1 W c).leavesExact 5 t
    ∗ (dat1 W c).leavesExact 6 t
    ∗ (dat1 W c).leavesExact 7 t
    ∗ (dat1 W c).leavesExact 8 t
    ∗ (dat1 W c).leavesExact 9 t)

theorem scopedRest1_split' (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

theorem flush1_9_no (t : Fin cfg1.N) (h : ¬ t.val % 16 = 15 ∨ t.val < 16) : (cfg1.win 9).flush t = false := by
  have key : ∀ t : Fin 208, (¬ t.val % 16 = 15 ∨ t.val < 16) → (cfg1.win 9).flush (⟨t.val, lt_of_lt_of_eq t.isLt N1.symm⟩ : Fin cfg1.N) = false := by decide +kernel
  exact key ⟨t.val, lt_of_lt_of_eq t.isLt N1⟩ h

theorem idle1_9_first (t : Fin cfg1.N) (h : t.val < 16) : cfg1.idle 9 (cfg1.grid.coords t) = true := by
  have t0 : (grid1.coords t 0).val = t.val / 16 := co1_0 t
  have hc : ¬ k1_cond2 (grid1.coords t) = 1#1 := fun e => (k1_cond2_iff _).mp e (by omega)
  show (!(k1_cond2 (grid1.coords t) == 1#1 && k1_cond3 (grid1.coords t) == 1#1) && !(k1_cond2 (grid1.coords t) == 1#1 && k1_cond4 (grid1.coords t) == 1#1)) = true
  rw [beq_eq_false_iff_ne.mpr hc]; rfl

theorem idle1_9_later (t : Fin cfg1.N) (h : 16 ≤ t.val) : cfg1.idle 9 (cfg1.grid.coords t) = false := by
  have t0 : (grid1.coords t 0).val = t.val / 16 := co1_0 t
  have t1 : (grid1.coords t 1).val = t.val % 16 := co1_1 t
  have hc : k1_cond2 (grid1.coords t) = 1#1 := (k1_cond2_iff _).mpr (by omega)
  show (!(k1_cond2 (grid1.coords t) == 1#1 && k1_cond3 (grid1.coords t) == 1#1) && !(k1_cond2 (grid1.coords t) == 1#1 && k1_cond4 (grid1.coords t) == 1#1)) = false
  rw [hc]
  by_cases h0 : t.val % 16 = 0
  · rw [show k1_cond3 (grid1.coords t) = 1#1 from (k1_cond3_iff _).mpr (by omega)]; rfl
  · rw [show k1_cond4 (grid1.coords t) = 1#1 from (k1_cond4_iff _).mpr (by omega)]
    cases (k1_cond3 (grid1.coords t) == 1#1) <;> rfl

theorem idle1_8 (t : Fin cfg1.N) : cfg1.idle 8 (cfg1.grid.coords t) = false := by
  show (!(k1_cond1 (grid1.coords t) == 1#1) && !(k1_cond2 (grid1.coords t) == 1#1)) = false
  by_cases h0 : (grid1.coords t 0).val = 0
  · rw [(k1_cond1_iff _).mpr h0]; rfl
  · rw [(k1_cond2_iff _).mpr h0]; cases (k1_cond1 (grid1.coords t) == 1#1) <;> rfl

theorem leaves1_8 (c : Dev nD) (t : Fin cfg1.N) : (dat1 W c).leavesExact 8 t = owns (c : Thread nD τ) (st1_8 t) fullShare (vblk W c t) := by
  rw [show (dat1 W c).leavesExact 8 t = owns (c : Thread nD τ) (st1_8 t) fullShare ((dat1 W c).after 8 t) from by
    unfold Dat.leavesExact; rw [idle1_8]]
  rw [after1_8]

theorem leaves1_9_first (c : Dev nD) (t : Fin cfg1.N) (h : t.val < 16) :
    (dat1 W c).leavesExact 9 t = iprop(∃ d, owns (c : Thread nD τ) (st1_9 t) fullShare ((dat1 W c).before 9 t d)) := by
  unfold Dat.leavesExact
  rw [idle1_9_first t h, flush1_9_no t (.inr h)]

theorem leaves1_9_later (c : Dev nD) (t : Fin cfg1.N) (h : 16 ≤ t.val) :
    (dat1 W c).leavesExact 9 t = owns (c : Thread nD τ) (st1_9 t) fullShare (dmAcc W c t.val) := by
  rw [show (dat1 W c).leavesExact 9 t = owns (c : Thread nD τ) (st1_9 t) fullShare ((dat1 W c).after 9 t) from by
    unfold Dat.leavesExact; rw [idle1_9_later t h]]
  rw [after1_9]

/-- Past the first rows of the batch the sum's buffer holds what the point before left. -/
theorem before1_9_more (c : Dev nD) (t : Fin cfg1.N) (h : 16 ≤ t.val) (h' : ¬ t.val % 16 = 0) (d) :
    (dat1 W c).before 9 t d = dmAcc W c (t.val - 1) := by
  have hN : t.val < 208 := lt_of_lt_of_eq t.isLt N1
  rw [(dat1 W c).before_of_pos 9 t (by omega) ((cfg1.win 9).fetch_out rfl t), flush1_9_no _ (.inl (by show ¬ (t.val - 1) % 16 = 15; omega)), if_neg Bool.false_ne_true]
  unfold Dat.left
  rw [idle1_9_later _ (by show 16 ≤ t.val - 1; omega)]
  show (dat1 W c).kept 9 _ d = _
  unfold Dat.kept
  rw [Pipeline.fill_of_clip_none 9 _ (fun _ => rfl) d ((dat1 W c).after 9 _), Pipeline.Window.fill_cut, after1_9]

set_option maxHeartbeats 3200000 in
/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5, before1_6, before1_7]
  rw [leaves1_0, leaves1_1, leaves1_2, leaves1_3, leaves1_4, leaves1_5, leaves1_6, leaves1_7, leaves1_8]
  rw [show (dat1 W c).owesAt () t.succ = (dat1 W c).owesAt () t.castSucc from rfl]
  rw [show (dat1 W c).Φ t.castSucc = iprop((∃ x, owns (c : Thread nD τ) (Memref.whole cc1_scratch0) fullShare x ∗ ⌜Inv1 W c t.val x⌝)
    ∗ Pipeline.scopedRestBut (Ix := Unit) (Name := ℕ) (U := UR sig nD τ) (Lvl := ℕ) (Val := Elt F) spec1 c [cc1_scratch0]
    ∗ (∃ r, prngReg c r)) from rfl]
  rw [show (dat1 W c).Φ t.succ = iprop((∃ x, owns (c : Thread nD τ) (Memref.whole cc1_scratch0) fullShare x ∗ ⌜Inv1 W c (t.val + 1) x⌝)
    ∗ Pipeline.scopedRestBut (Ix := Unit) (Name := ℕ) (U := UR sig nD τ) (Lvl := ℕ) (Val := Elt F) spec1 c [cc1_scratch0]
    ∗ (∃ r, prngReg c r)) from rfl]
  have t0 : (grid1.coords t 0).val = t.val / 16 := co1_0 t
  have t1 : (grid1.coords t 1).val = t.val % 16 := co1_1 t
  iintro ⟨⟨⟨%x, HS, %hx⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have hx' := Inv1_step W c t x hx
  by_cases h : t.val < 16
  · rw [leaves1_9_first W c t h]
    iapply (dm_body_first c (grid1.coords t) _ _ _ _ _ _ _ _ _ _ _ _ _ _ _ _ _ _ _ _ _ _ ((k1_cond1_iff _).mpr (by omega)) (fun e => (k1_cond2_iff _).mp e (by omega))
      (iblk1 W c 4 t) (iblk1 W c 5 t) (iblk1 W c 6 t) (iblk1 W c 7 t) x Set.univ _)
    isplitl [H4]; · iexact H4
    isplitl [H5]; · iexact H5
    isplitl [H6]; · iexact H6
    isplitl [H7]; · iexact H7
    isplitl [H8]; · iexists _; iexact H8
    isplitl [HS]; · iexact HS
    iintro ⟨H4, H5, H6, H7, H8, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9
  have hc1 : ¬ k1_cond1 (grid1.coords t) = 1#1 := fun e => (show ¬ (grid1.coords t 0).val = 0 by omega) ((k1_cond1_iff _).mp e)
  have hc2 : k1_cond2 (grid1.coords t) = 1#1 := (k1_cond2_iff _).mpr (by omega)
  rw [leaves1_9_later W c t (by omega)]
  have hT := dmTileAt_eq W c t (by omega) hc2 _ hx'
  by_cases h0 : t.val % 16 = 0
  · iapply (dm_body_start c (grid1.coords t) _ _ _ _ _ _ _ _ _ _ _ _ _ _ _ _ _ _ _ _ _ _ hc1 hc2 ((k1_cond3_iff _).mpr (by omega)) (fun e => (k1_cond4_iff _).mp e (by omega))
      (iblk1 W c 0 t) (iblk1 W c 1 t) (iblk1 W c 2 t) (iblk1 W c 3 t) (iblk1 W c 4 t) (iblk1 W c 5 t) (iblk1 W c 6 t) (iblk1 W c 7 t) x Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS]; · iexact HS
    iintro ⟨H0, H1, H2, H3, H4, H5, H6, H7, H8, H9, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [dmAcc_start W c t h0, ← hT]
    iexact H9
  · rw [before1_9_more W c t (by omega) h0]
    iapply (dm_body_more c (grid1.coords t) _ _ _ _ _ _ _ _ _ _ _ _ _ _ _ _ _ _ _ _ _ _ hc1 hc2 (fun e => h0 (by have := (k1_cond3_iff _).mp e; omega)) ((k1_cond4_iff _).mpr (by omega))
      (iblk1 W c 0 t) (iblk1 W c 1 t) (iblk1 W c 2 t) (iblk1 W c 3 t) (iblk1 W c 4 t) (iblk1 W c 5 t) (iblk1 W c 6 t) (iblk1 W c 7 t) (dmAcc W c (t.val - 1)) x Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    isplitl [HS]; · iexact HS
    iintro ⟨H0, H1, H2, H3, H4, H5, H6, H7, H8, H9, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    rw [dmAcc_more W c t h0, ← hT]
    iexact H9

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 W c) (defs₀ (F := F)) Variants.none () Set.univ := fun t => by
  rw [bigSep_W1, bigSep_W1, defs₀_row1]
  exact triple_restated (sound_body1 W c t) rfl .rfl fun _ => .rfl

/-- What the launch hands the call is the invariant before the first point, -/
theorem hin1 (c : Dev nD) : iprop(Pipeline.scopedRest (Ix := Unit) (Name := ℕ) (U := UR sig nD τ) (Lvl := ℕ) (Val := Elt F) spec1 c ∗ (∃ r, prngReg c r)) ⊢ (dat1 W c).Φ 0 := by
  rw [show (dat1 W c).Φ 0 = iprop((∃ x, owns (c : Thread nD τ) (Memref.whole cc1_scratch0) fullShare x ∗ ⌜Inv1 W c 0 x⌝)
    ∗ Pipeline.scopedRestBut (Ix := Unit) (Name := ℕ) (U := UR sig nD τ) (Lvl := ℕ) (Val := Elt F) spec1 c [cc1_scratch0]
    ∗ (∃ r, prngReg c r)) from rfl, scopedRest1_split']
  simp only [owns_whole]
  iintro ⟨⟨⟨%f, HS⟩, Hr⟩, Hg⟩
  isplitl [HS]
  · iexists f; isplitl [HS]; · iexact HS
    ipureintro; exact fun s hs _ => absurd hs (Nat.not_lt_zero _)
  isplitl [Hr] <;> iassumption

/-- and the invariant after the last point gives it back. -/
theorem hout1 (c : Dev nD) : (dat1 W c).Φ (Fin.last cfg1.N) ⊢ iprop(Pipeline.scopedRest (Ix := Unit) (Name := ℕ) (U := UR sig nD τ) (Lvl := ℕ) (Val := Elt F) spec1 c ∗ (∃ r, prngReg c r)) := by
  rw [show (dat1 W c).Φ (Fin.last cfg1.N) = iprop((∃ x, owns (c : Thread nD τ) (Memref.whole cc1_scratch0) fullShare x ∗ ⌜Inv1 W c (Fin.last cfg1.N).val x⌝)
    ∗ Pipeline.scopedRestBut (Ix := Unit) (Name := ℕ) (U := UR sig nD τ) (Lvl := ℕ) (Val := Elt F) spec1 c [cc1_scratch0]
    ∗ (∃ r, prngReg c r)) from rfl, scopedRest1_split']
  simp only [owns_whole]
  iintro ⟨⟨%f, HS, -⟩, Hr, Hg⟩
  isplitl [HS Hr]
  · isplitl [HS]
    · iexists f; iexact HS
    iexact Hr
  iexact Hg

end Cert.KernelIdeal.Hand

end
-- ==== Proof.KernelIdeal.DxBody.lean ====
module

public import proofs.«01_k».proof.Proof.KernelIdeal.Offs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The body of the `dx` call, one grid point at a time -/

set_option maxHeartbeats 1000000 in
/-- At a point of the first row of the grid the body scales its block of `dy` into its rows of the scratch. -/
theorem dx_body_first (c : Dev nD) (i : grid2.Coords)
    (arg2 : Memref sig .tc .vmem S32x6144 .bf16) (harg2 : arg2.IsWhole) (arg3 : Memref sig .tc .vmem S512x6144 .bf16) (harg3 : arg3.IsWhole)
    (arg4 : Memref sig .tc .vmem S1x6144 .f32) (harg4 : arg4.IsWhole) (arg5 : Memref sig .tc .vmem S1x6144 .f32) (harg5 : arg5.IsWhole)
    (arg6 : Memref sig .tc .vmem S1024x512 .bf16) (harg6 : arg6.IsWhole) (arg7 : Memref sig .tc .vmem S2x1024x6144 .bf16) (harg7 : arg7.IsWhole)
    (hc1 : k2_cond1 i = 1#1) (hc2 : ¬ k2_cond2 i = 1#1)
    (x2 : Vec F S32x6144 .bf16) (x4 : Vec F S1x6144 .f32) (x5 : Vec F S1x6144 .f32) (x7 : Vec F S2x1024x6144 .bf16)
    (E : Set ℕ) (K : PUnit → sProp 𝕄) :
    iprop(owns (c : Thread nD τ) arg2 fullShare x2 ∗ owns (c : Thread nD τ) arg4 fullShare x4 ∗ owns (c : Thread nD τ) arg5 fullShare x5
        ∗ owns (c : Thread nD τ) arg7 fullShare x7
        ∗ (iprop(owns (c : Thread nD τ) arg2 fullShare x2 ∗ owns (c : Thread nD τ) arg4 fullShare x4 ∗ owns (c : Thread nD τ) arg5 fullShare x5
        ∗ owns (c : Thread nD τ) arg7 fullShare (VecWindow.put x7 (k2_off1 i) S1x32x6144.size (k2_pay1 x4 x5 x2))) -∗ K ⟨⟩))
      ⊢ wp frame (wpE (defs₀ (F := F)) Variants.none c none) E (cc2_dx i arg2 harg2 arg3 harg3 arg4 harg4 arg5 harg5 arg6 harg6 arg7 harg7) K := by
  simp only [cc2_dx_eq_skeleton]; unfold cc2_dx_skel
  unfold owns
  iintro ⟨⟨%f2, %hf2, H2⟩, ⟨%f4, %hf4, H4⟩, ⟨%f5, %hf5, H5⟩, ⟨%f7, %hf7, H7⟩, Hk⟩
  obtain rfl := harg2.eq_unread hf2; obtain rfl := harg4.eq_unread hf4; obtain rfl := harg5.eq_unread hf5; obtain rfl := harg7.eq_unread hf7
  sl_exec (disch := first | sl_exact hc1 | sl_exact hc2)
  sl_step
  iapply Hk
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  iexists _; isplitr; swap; · iexact H7
  ipureintro
  rw [View.read_writes_cons_put arg7.view _ _ _ _ rfl]
  rw [View.writes_nil, harg7.read_unread]
  rw [View.readAt_full arg4.view, View.readAt_full arg5.view, View.readAt_full arg2.view, hf4, hf5, hf2]

set_option maxHeartbeats 1000000 in
/-- At a later point the body scales its block of `dy` into its rows of one half of the scratch, and multiplies the
other half by the block of `V`. -/
theorem dx_body_later (c : Dev nD) (i : grid2.Coords)
    (arg2 : Memref sig .tc .vmem S32x6144 .bf16) (harg2 : arg2.IsWhole) (arg3 : Memref sig .tc .vmem S512x6144 .bf16) (harg3 : arg3.IsWhole)
    (arg4 : Memref sig .tc .vmem S1x6144 .f32) (harg4 : arg4.IsWhole) (arg5 : Memref sig .tc .vmem S1x6144 .f32) (harg5 : arg5.IsWhole)
    (arg6 : Memref sig .tc .vmem S1024x512 .bf16) (harg6 : arg6.IsWhole) (arg7 : Memref sig .tc .vmem S2x1024x6144 .bf16) (harg7 : arg7.IsWhole)
    (hc1 : ¬ k2_cond1 i = 1#1) (hc2 : k2_cond2 i = 1#1)
    (x2 : Vec F S32x6144 .bf16) (x3 : Vec F S512x6144 .bf16) (x4 : Vec F S1x6144 .f32) (x5 : Vec F S1x6144 .f32) (x7 : Vec F S2x1024x6144 .bf16)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5
        ∗ (∃ d, owns (c : Thread nD τ) arg6 fullShare d) ∗ owns (c : Thread nD τ) arg7 fullShare x7
        ∗ (iprop(owns (c : Thread nD τ) arg2 fullShare x2 ∗ owns (c : Thread nD τ) arg3 fullShare x3 ∗ owns (c : Thread nD τ) arg4 fullShare x4 ∗ owns (c : Thread nD τ) arg5 fullShare x5
        ∗ owns (c : Thread nD τ) arg6 fullShare (k2_pay2 (VecWindow.window (VecWindow.put x7 (k2_off2 i) S1x32x6144.size (k2_pay3 x4 x5 x2)) (k2_off3 i) S1x1024x6144.size (k2_off3_inb i hc2)) x3)
        ∗ owns (c : Thread nD τ) arg7 fullShare (VecWindow.put x7 (k2_off2 i) S1x32x6144.size (k2_pay3 x4 x5 x2))) -∗ K ⟨⟩))
      ⊢ wp frame (wpE (defs₀ (F := F)) Variants.none c none) E (cc2_dx i arg2 harg2 arg3 harg3 arg4 harg4 arg5 harg5 arg6 harg6 arg7 harg7) K := by
  simp only [cc2_dx_eq_skeleton]; unfold cc2_dx_skel
  simp only [k2_part1_eq_skeleton]
  unfold owns
  iintro ⟨⟨%f2, %hf2, H2⟩, ⟨%f3, %hf3, H3⟩, ⟨%f4, %hf4, H4⟩, ⟨%f5, %hf5, H5⟩, ⟨%d6, %f6, -, H6⟩, ⟨%f7, %hf7, H7⟩, Hk⟩
  obtain rfl := harg2.eq_unread hf2; obtain rfl := harg3.eq_unread hf3; obtain rfl := harg4.eq_unread hf4; obtain rfl := harg5.eq_unread hf5; obtain rfl := harg7.eq_unread hf7
  sl_exec (disch := first | sl_exact hc1 | sl_exact hc2)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; swap; · iexact H6
    ipureintro
    unfold dx_body_later.sl.v46 dx_body_later.sl.H7_1
    refine (View.read_writes_full arg6.view f6 inb_S1024x512_S1024x512_0_0 _ []).trans ?_
    rw [View.readAt_unit arg7.view _ _ rfl (k2_off3_inb i hc2), View.read_writes_cons_put arg7.view _ _ _ _ rfl, View.writes_nil, hf7]
    refine congrArg₂ k2_pay2 ?_ ?_
    · rw [View.readAt_full arg4.view, View.readAt_full arg5.view, View.readAt_full arg2.view, hf4, hf5, hf2]
    · exact (View.readAt_full arg3.view _ inb_S512x6144_S512x6144_0_0).trans hf3
  iexists _; isplitr; swap; · iexact H7
  ipureintro
  unfold dx_body_later.sl.H7_1
  rw [View.read_writes_cons_put arg7.view _ _ _ _ rfl, View.writes_nil, hf7]
  rw [View.readAt_full arg4.view, View.readAt_full arg5.view, View.readAt_full arg2.view, hf4, hf5, hf2]

end Cert.KernelIdeal.Hand

end
-- ==== Proof.KernelIdeal.DxDat.lean ====
module

public import proofs.«01_k».proof.Proof.KernelIdeal.DxBody
public import Idealize.ShloMosaic.Lib.ValueIdxCore
public import Idealize.ShloMosaic.Lib.Pipeline.RegionArrays

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The `dx` call: what its scratch and its output hold at each grid point -/

variable (W : Dev nD → Valuation τ sig (Elt F))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (W c (Pipeline.arrRef spec2 w))

theorem N2 : cfg2.N = 320 := N_2
theorem co2_0 (t : Fin cfg2.N) : (cfg2.grid.coords t 0).val = t.val / 32 := by
  have h : (grid2.coords t 0).val = t.val / 32 % 10 := Pipeline.Grid.coords_val t 0 (by decide) rfl
  have hN : t.val < 320 := lt_of_lt_of_eq t.isLt N2
  rw [show (cfg2.grid.coords t 0).val = (grid2.coords t 0).val from rfl, h]; omega
theorem co2_1 (t : Fin cfg2.N) : (cfg2.grid.coords t 1).val = t.val % 32 := by
  have h : (grid2.coords t 1).val = t.val / 1 % 32 := Pipeline.Grid.coords_val t 1 (by decide) rfl
  rw [show (cfg2.grid.coords t 1).val = (grid2.coords t 1).val from rfl, h, Nat.div_one]

/-- The rows of the scratch that point `t` fills lie inside it. -/
theorem inb2 (t : Fin cfg2.N) : ∀ a, k2_off1 (grid2.coords t) a + S1x32x6144.size a ≤ S2x1024x6144.size a := by
  intro a
  have h0 := co2_0 t
  have h1 := co2_1 t
  have hN : t.val < 320 := lt_of_lt_of_eq t.isLt N2
  rw [k2_off1_eq]
  match a with
  | ⟨0, _⟩ => show (grid2.coords t 0).val % 2 + 1 ≤ 2; omega
  | ⟨1, _⟩ => show 32 * (grid2.coords t 1).val + 32 ≤ 1024; have : (grid2.coords t 1).val = t.val % 32 := h1; omega
  | ⟨2, _⟩ => show 0 + 6144 ≤ 6144; omega

/-- The scaled block of `dy` that point `s` leaves in the scratch. -/
def dypBlk (c : Dev nD) (s : Fin cfg2.N) : Vec F S1x32x6144 .bf16 :=
  k2_pay1 (iblk2 W c 2 s) (iblk2 W c 3 s) (iblk2 W c 0 s)

/-- Before point `t` the scratch holds the blocks of the last 64 points. -/
def Inv2 (c : Dev nD) (t : ℕ) (x : Vec F S2x1024x6144 .bf16) : Prop :=
  ∀ s : Fin cfg2.N, s.val < t → t ≤ s.val + 64 →
    VecWindow.window x (k2_off1 (grid2.coords s)) S1x32x6144.size (inb2 s) = dypBlk W c s

/-- The block of rows `y` of the half of the scratch that the row of the grid before point `t`'s has filled. -/
theorem dxSrc_lt (t : Fin cfg2.N) (y : S1x1024x6144.Idx) : 32 * (t.val / 32 - 1) + (y 1).val / 32 < cfg2.N := by
  have hN : t.val < 320 := lt_of_lt_of_eq t.isLt N2
  have hy : (y 1).val < 1024 := (y 1).isLt
  have := N2
  omega

/-- The 1024 scaled rows of `dy` that a point multiplies. -/
def dypVec (c : Dev nD) (t : Fin cfg2.N) : Vec F S1x1024x6144 .bf16 := fun y =>
  dypBlk W c ⟨32 * (t.val / 32 - 1) + (y 1).val / 32, dxSrc_lt t y⟩ (ValueIdx.ix3 0 ⟨(y 1).val % 32, Nat.mod_lt _ (by decide)⟩ (y 2))

/-- What a point of a later row of the grid stores into its block of the result. -/
def dxOut (c : Dev nD) (t : Fin cfg2.N) : Vec F S1024x512 .bf16 :=
  k2_pay2 (dypVec W c t) (iblk2 W c 1 t)

/-- Putting point `t`'s block keeps the invariant. -/
theorem Inv2_step (c : Dev nD) (t : Fin cfg2.N) (x : Vec F S2x1024x6144 .bf16) (h : Inv2 W c t.val x) :
    Inv2 W c (t.val + 1) (VecWindow.put x (k2_off1 (grid2.coords t)) S1x32x6144.size (dypBlk W c t)) := by
  intro s hs hs'
  by_cases hst : s = t
  · subst hst
    exact VecWindow.window_put_same x _ _ (inb2 s) _
  · have hne : s.val ≠ t.val := fun e => hst (Fin.ext e)
    refine (?_ : _ = VecWindow.window x (k2_off1 (grid2.coords s)) S1x32x6144.size (inb2 s)).trans (h s (by omega) (by omega))
    have s0 : (grid2.coords s 0).val = s.val / 32 := co2_0 s
    have s1 : (grid2.coords s 1).val = s.val % 32 := co2_1 s
    have t0 : (grid2.coords t 0).val = t.val / 32 := co2_0 t
    have t1 : (grid2.coords t 1).val = t.val % 32 := co2_1 t
    by_cases h0 : s.val / 32 % 2 = t.val / 32 % 2
    · refine VecWindow.window_put_of_disjoint x _ _ _ _ (inb2 s) _ 1 ?_
      rw [k2_off1_eq, k2_off1_eq]
      show 32 * (grid2.coords s 1).val + 32 ≤ 32 * (grid2.coords t 1).val ∨ 32 * (grid2.coords t 1).val + 32 ≤ 32 * (grid2.coords s 1).val
      omega
    · refine VecWindow.window_put_of_disjoint x _ _ _ _ (inb2 s) _ 0 ?_
      rw [k2_off1_eq, k2_off1_eq]
      show (grid2.coords s 0).val % 2 + 1 ≤ (grid2.coords t 0).val % 2 ∨ (grid2.coords t 0).val % 2 + 1 ≤ (grid2.coords s 0).val % 2
      omega

/-- With the invariant after its own store, a point of a later row reads the previous row's blocks. -/
theorem Inv2_read (c : Dev nD) (t : Fin cfg2.N) (ht : 32 ≤ t.val) (x : Vec F S2x1024x6144 .bf16) (h : Inv2 W c (t.val + 1) x)
    (inb : ∀ a, k2_off3 (grid2.coords t) a + S1x1024x6144.size a ≤ S2x1024x6144.size a) :
    VecWindow.window x (k2_off3 (grid2.coords t)) S1x1024x6144.size inb = dypVec W c t := by
  funext y
  have hN : t.val < 320 := lt_of_lt_of_eq t.isLt N2
  have hy0 : (y 0).val < 1 := (y 0).isLt
  have hy : (y 1).val < 1024 := (y 1).isLt
  have t0 : (grid2.coords t 0).val = t.val / 32 := co2_0 t
  unfold dypVec
  rw [← h ⟨32 * (t.val / 32 - 1) + (y 1).val / 32, dxSrc_lt t y⟩ (by show 32 * (t.val / 32 - 1) + (y 1).val / 32 < _; omega)
    (by show _ ≤ 32 * (t.val / 32 - 1) + (y 1).val / 32 + 64; omega)]
  unfold VecWindow.window
  refine congrArg x (funext fun a => Fin.ext ?_)
  generalize hsd : (⟨32 * (t.val / 32 - 1) + (y 1).val / 32, dxSrc_lt t y⟩ : Fin cfg2.N) = s
  have hs : s.val = 32 * (t.val / 32 - 1) + (y 1).val / 32 := by rw [← hsd]
  have s0 : (grid2.coords s 0).val = s.val / 32 := co2_0 s
  have s1 : (grid2.coords s 1).val = s.val % 32 := co2_1 s
  match a with
  | ⟨0, _⟩ =>
    have e3 : k2_off3 (grid2.coords t) 0 = ((grid2.coords t 0).val + 1) % 2 := congrFun (k2_off3_eq (grid2.coords t)) 0
    have e1 : k2_off1 (grid2.coords s) 0 = (grid2.coords s 0).val % 2 := congrFun (k2_off1_eq (grid2.coords s)) 0
    show k2_off3 (grid2.coords t) 0 + 1 * (y 0).val = k2_off1 (grid2.coords s) 0 + 1 * 0
    omega
  | ⟨1, _⟩ =>
    have e1 : k2_off1 (grid2.coords s) 1 = 32 * (grid2.coords s 1).val := congrFun (k2_off1_eq (grid2.coords s)) 1
    show 0 + 1 * (y 1).val = k2_off1 (grid2.coords s) 1 + 1 * ((y 1).val % 32)
    omega
  | ⟨2, _⟩ => rfl

/-- The proof data of the `dx` call entered at the contents `W`. -/
def dat2 (c : Dev nD) : Dat τ (Elt F) Unit ℕ (UR sig nD τ) ℕ cfg2 c where
  A w := W c (Pipeline.arrRef spec2 w)
  after w t := match w with
    | ⟨0, _⟩ => iblk2 W c 0 t
    | ⟨1, _⟩ => iblk2 W c 1 t
    | ⟨2, _⟩ => iblk2 W c 2 t
    | ⟨3, _⟩ => iblk2 W c 3 t
    | ⟨4, _⟩ => dxOut W c t
  Φ t := iprop((∃ x, owns (c : Thread nD τ) (Memref.whole cc2_scratch0) fullShare x ∗ ⌜Inv2 W c t.val x⌝)
    ∗ Pipeline.scopedRestBut (Ix := Unit) (Name := ℕ) (U := UR sig nD τ) (Lvl := ℕ) (Val := Elt F) spec2 c [cc2_scratch0]
    ∗ (∃ r, prngReg c r))
  q _ := fullShare
  owed _ := 0

theorem before2_0_of {c : Dev nD} (dat : Dat τ (Elt F) Unit ℕ (UR sig nD τ) ℕ cfg2 c) (hA : dat.A 0 = W c (Pipeline.arrRef spec2 0))
    (hafter : ∀ t, dat.after 0 t = iblk2 W c 0 t) (t : Fin cfg2.N) (d) : dat.before 0 t d = iblk2 W c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = W c (Pipeline.arrRef spec2 1))
    (hafter : ∀ t, dat.after 1 t = iblk2 W c 1 t) (t : Fin cfg2.N) (d) : dat.before 1 t d = iblk2 W c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = W c (Pipeline.arrRef spec2 2))
    (hafter : ∀ t, dat.after 2 t = iblk2 W c 2 t) (t : Fin cfg2.N) (d) : dat.before 2 t d = iblk2 W c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = W c (Pipeline.arrRef spec2 3))
    (hafter : ∀ t, dat.after 3 t = iblk2 W c 3 t) (t : Fin cfg2.N) (d) : dat.before 3 t d = iblk2 W c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem A_eq2 (c : Dev nD) (w : Fin cfg2.W) : (dat2 W c).A w = W c (Pipeline.arrRef spec2 w) := by
  dsimp only [dat2]
theorem after2_0 (c : Dev nD) (t : Fin cfg2.N) : (dat2 W c).after 0 t = iblk2 W c 0 t := by dsimp only [dat2]
theorem after2_1 (c : Dev nD) (t : Fin cfg2.N) : (dat2 W c).after 1 t = iblk2 W c 1 t := by dsimp only [dat2]
theorem after2_2 (c : Dev nD) (t : Fin cfg2.N) : (dat2 W c).after 2 t = iblk2 W c 2 t := by dsimp only [dat2]
theorem after2_3 (c : Dev nD) (t : Fin cfg2.N) : (dat2 W c).after 3 t = iblk2 W c 3 t := by dsimp only [dat2]
theorem after2_4 (c : Dev nD) (t : Fin cfg2.N) : (dat2 W c).after 4 t = dxOut W c t := by dsimp only [dat2]
theorem before2_0 (c : Dev nD) (t : Fin cfg2.N) (d) : (dat2 W c).before 0 t d = iblk2 W c 0 t :=
  before2_0_of W (dat2 W c) (A_eq2 W c 0) (after2_0 W c) t d
theorem before2_1 (c : Dev nD) (t : Fin cfg2.N) (d) : (dat2 W c).before 1 t d = iblk2 W c 1 t :=
  before2_1_of W (dat2 W c) (A_eq2 W c 1) (after2_1 W c) t d
theorem before2_2 (c : Dev nD) (t : Fin cfg2.N) (d) : (dat2 W c).before 2 t d = iblk2 W c 2 t :=
  before2_2_of W (dat2 W c) (A_eq2 W c 2) (after2_2 W c) t d
theorem before2_3 (c : Dev nD) (t : Fin cfg2.N) (d) : (dat2 W c).before 3 t d = iblk2 W c 3 t :=
  before2_3_of W (dat2 W c) (A_eq2 W c 3) (after2_3 W c) t d
theorem leaves2_0 (c : Dev nD) (t : Fin cfg2.N) : (dat2 W c).leavesExact 0 t = owns (c : Thread nD τ) (st2_0 t) fullShare (iblk2 W c 0 t) := by
  rw [show (dat2 W c).leavesExact 0 t = owns (c : Thread nD τ) (st2_0 t) fullShare ((dat2 W c).after 0 t) from by
    unfold Dat.leavesExact; rw [show cfg2.idle 0 (cfg2.grid.coords t) = false from rfl]]
  rw [after2_0]
theorem leaves2_1 (c : Dev nD) (t : Fin cfg2.N) : (dat2 W c).leavesExact 1 t = owns (c : Thread nD τ) (st2_1 t) fullShare (iblk2 W c 1 t) := by
  rw [show (dat2 W c).leavesExact 1 t = owns (c : Thread nD τ) (st2_1 t) fullShare ((dat2 W c).after 1 t) from by
    unfold Dat.leavesExact; rw [show cfg2.idle 1 (cfg2.grid.coords t) = false from rfl]]
  rw [after2_1]
theorem leaves2_2 (c : Dev nD) (t : Fin cfg2.N) : (dat2 W c).leavesExact 2 t = owns (c : Thread nD τ) (st2_2 t) fullShare (iblk2 W c 2 t) := by
  rw [show (dat2 W c).leavesExact 2 t = owns (c : Thread nD τ) (st2_2 t) fullShare ((dat2 W c).after 2 t) from by
    unfold Dat.leavesExact; rw [show cfg2.idle 2 (cfg2.grid.coords t) = false from rfl]]
  rw [after2_2]
theorem leaves2_3 (c : Dev nD) (t : Fin cfg2.N) : (dat2 W c).leavesExact 3 t = owns (c : Thread nD τ) (st2_3 t) fullShare (iblk2 W c 3 t) := by
  rw [show (dat2 W c).leavesExact 3 t = owns (c : Thread nD τ) (st2_3 t) fullShare ((dat2 W c).after 3 t) from by
    unfold Dat.leavesExact; rw [show cfg2.idle 3 (cfg2.grid.coords t) = false from rfl]]
  rw [after2_3]
/-- What the body is called with at point `t`, -/
def bodyPre2 (c : Dev nD) (t : Fin cfg2.N) : sProp 𝕄 :=
  iprop((dat2 W c).Φ t.castSucc ∗ (dat2 W c).owesAt () t.castSucc
    ∗ (∃ d, owns (c : Thread nD τ) (st2_0 t) fullShare ((dat2 W c).before 0 t d))
    ∗ (∃ d, owns (c : Thread nD τ) (st2_1 t) fullShare ((dat2 W c).before 1 t d))
    ∗ (∃ d, owns (c : Thread nD τ) (st2_2 t) fullShare ((dat2 W c).before 2 t d))
    ∗ (∃ d, owns (c : Thread nD τ) (st2_3 t) fullShare ((dat2 W c).before 3 t d))
    ∗ (∃ d, owns (c : Thread nD τ) (st2_4 t) fullShare ((dat2 W c).before 4 t d)))

/-- and what it returns. -/
def bodyPost2 (c : Dev nD) (t : Fin cfg2.N) : sProp 𝕄 :=
  iprop((dat2 W c).Φ t.succ ∗ (dat2 W c).owesAt () t.succ
    ∗ (dat2 W c).leavesExact 0 t
    ∗ (dat2 W c).leavesExact 1 t
    ∗ (dat2 W c).leavesExact 2 t
    ∗ (dat2 W c).leavesExact 3 t
    ∗ (dat2 W c).leavesExact 4 t)

theorem flush2_4_first (t : Fin cfg2.N) (h : t.val < 32) : (cfg2.win 4).flush t = false := by
  have key : ∀ t : Fin 320, t.val < 32 → (cfg2.win 4).flush (⟨t.val, lt_of_lt_of_eq t.isLt N2.symm⟩ : Fin cfg2.N) = false := by decide +kernel
  exact key ⟨t.val, lt_of_lt_of_eq t.isLt N2⟩ h

theorem leaves2_4_first (c : Dev nD) (t : Fin cfg2.N) (h : t.val < 32) :
    (dat2 W c).leavesExact 4 t = iprop(∃ d, owns (c : Thread nD τ) (st2_4 t) fullShare ((dat2 W c).before 4 t d)) := by
  have t0 : (grid2.coords t 0).val = t.val / 32 := co2_0 t
  have hc : ¬ k2_cond2 (grid2.coords t) = 1#1 := fun e => (k2_cond2_iff _).mp e (by omega)
  unfold Dat.leavesExact
  rw [show cfg2.idle 4 (cfg2.grid.coords t) = true from by
    show (!(k2_cond2 (grid2.coords t) == 1#1)) = true
    rw [beq_eq_false_iff_ne.mpr hc]; rfl, flush2_4_first t h]

theorem leaves2_4_later (c : Dev nD) (t : Fin cfg2.N) (h : 32 ≤ t.val) :
    (dat2 W c).leavesExact 4 t = owns (c : Thread nD τ) (st2_4 t) fullShare (dxOut W c t) := by
  have t0 : (grid2.coords t 0).val = t.val / 32 := co2_0 t
  have hc : k2_cond2 (grid2.coords t) = 1#1 := (k2_cond2_iff _).mpr (by omega)
  rw [show (dat2 W c).leavesExact 4 t = owns (c : Thread nD τ) (st2_4 t) fullShare ((dat2 W c).after 4 t) from by
    unfold Dat.leavesExact
    rw [show cfg2.idle 4 (cfg2.grid.coords t) = false from by
      show (!(k2_cond2 (grid2.coords t) == 1#1)) = false
      rw [hc]; rfl]]
  rw [after2_4]

set_option maxHeartbeats 1600000 in
/-- The body at any point. -/
theorem sound_body2 (c : Dev nD) (t : Fin cfg2.N) :
    bodyPre2 W c t ⊢ wp frame (wpE (defs₀ (F := F)) Variants.none c none) Set.univ (bodyAt2 t) (fun _ => bodyPost2 W c t) := by
  unfold bodyPre2 bodyPost2 bodyAt2
  simp only [before2_0, before2_1, before2_2, before2_3]
  rw [leaves2_0, leaves2_1, leaves2_2, leaves2_3]
  rw [show (dat2 W c).owesAt () t.succ = (dat2 W c).owesAt () t.castSucc from rfl]
  rw [show (dat2 W c).Φ t.castSucc = iprop((∃ x, owns (c : Thread nD τ) (Memref.whole cc2_scratch0) fullShare x ∗ ⌜Inv2 W c t.val x⌝)
    ∗ Pipeline.scopedRestBut (Ix := Unit) (Name := ℕ) (U := UR sig nD τ) (Lvl := ℕ) (Val := Elt F) spec2 c [cc2_scratch0]
    ∗ (∃ r, prngReg c r)) from rfl]
  rw [show (dat2 W c).Φ t.succ = iprop((∃ x, owns (c : Thread nD τ) (Memref.whole cc2_scratch0) fullShare x ∗ ⌜Inv2 W c (t.val + 1) x⌝)
    ∗ Pipeline.scopedRestBut (Ix := Unit) (Name := ℕ) (U := UR sig nD τ) (Lvl := ℕ) (Val := Elt F) spec2 c [cc2_scratch0]
    ∗ (∃ r, prngReg c r)) from rfl]
  have t0 : (grid2.coords t 0).val = t.val / 32 := co2_0 t
  iintro ⟨⟨⟨%x, HS, %hx⟩, Hrest, Hg⟩, Ho, ⟨%d0, H0⟩, ⟨%d1, H1⟩, ⟨%d2, H2⟩, ⟨%d3, H3⟩, ⟨%d4, H4⟩⟩
  have hx' := Inv2_step W c t x hx
  by_cases h : t.val < 32
  · rw [leaves2_4_first W c t h]
    iapply (dx_body_first c (grid2.coords t) _ _ _ _ _ _ _ _ _ _ _ _ ((k2_cond1_iff _).mpr (by omega)) (fun e => (k2_cond2_iff _).mp e (by omega))
      (iblk2 W c 0 t) (iblk2 W c 2 t) (iblk2 W c 3 t) x Set.univ _)
    isplitl [H0]; · iexact H0
    isplitl [H2]; · iexact H2
    isplitl [H3]; · iexact H3
    isplitl [HS]; · iexact HS
    iintro ⟨H0, H2, H3, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    iexists _; iexact H4
  · rw [leaves2_4_later W c t (by omega)]
    have hc2 : k2_cond2 (grid2.coords t) = 1#1 := (k2_cond2_iff _).mpr (by omega)
    iapply (dx_body_later c (grid2.coords t) _ _ _ _ _ _ _ _ _ _ _ _ (fun e => (show ¬ (grid2.coords t 0).val = 0 by omega) ((k2_cond1_iff _).mp e)) hc2
      (iblk2 W c 0 t) (iblk2 W c 1 t) (iblk2 W c 2 t) (iblk2 W c 3 t) x Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hrest Hg]
    · isplitl [HS]
      · iexists _; isplitl [HS]; · iexact HS
        ipureintro; exact hx'
      isplitl [Hrest] <;> iassumption
    isplitl [Ho]; · iexact Ho
    isplitl [H0]; · iexact H0
    isplitl [H1]; · iexact H1
    isplitl [H2]; · iexact H2
    isplitl [H3]; · iexact H3
    unfold dxOut
    rw [← Inv2_read W c t (by omega) _ hx' (k2_off3_inb (grid2.coords t) hc2)]
    iexact H4

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 W c) (defs₀ (F := F)) Variants.none () Set.univ := fun t => by
  rw [bigSep_W2, bigSep_W2, defs₀_row2]
  exact triple_restated (sound_body2 W c t) rfl .rfl fun _ => .rfl

/-- What the launch hands the call is the invariant before the first point, -/
theorem hin2 (c : Dev nD) : iprop(Pipeline.scopedRest (Ix := Unit) (Name := ℕ) (U := UR sig nD τ) (Lvl := ℕ) (Val := Elt F) spec2 c ∗ (∃ r, prngReg c r)) ⊢ (dat2 W c).Φ 0 := by
  rw [show (dat2 W c).Φ 0 = iprop((∃ x, owns (c : Thread nD τ) (Memref.whole cc2_scratch0) fullShare x ∗ ⌜Inv2 W c 0 x⌝)
    ∗ Pipeline.scopedRestBut (Ix := Unit) (Name := ℕ) (U := UR sig nD τ) (Lvl := ℕ) (Val := Elt F) spec2 c [cc2_scratch0]
    ∗ (∃ r, prngReg c r)) from rfl, scopedRest2_split]
  simp only [owns_whole]
  iintro ⟨⟨⟨%f, HS⟩, Hr⟩, Hg⟩
  isplitl [HS]
  · iexists f; isplitl [HS]; · iexact HS
    ipureintro; exact fun s hs _ => absurd hs (Nat.not_lt_zero _)
  isplitl [Hr] <;> iassumption

/-- and the invariant after the last point gives it back. -/
theorem hout2 (c : Dev nD) : (dat2 W c).Φ (Fin.last cfg2.N) ⊢ iprop(Pipeline.scopedRest (Ix := Unit) (Name := ℕ) (U := UR sig nD τ) (Lvl := ℕ) (Val := Elt F) spec2 c ∗ (∃ r, prngReg c r)) := by
  rw [show (dat2 W c).Φ (Fin.last cfg2.N) = iprop((∃ x, owns (c : Thread nD τ) (Memref.whole cc2_scratch0) fullShare x ∗ ⌜Inv2 W c (Fin.last cfg2.N).val x⌝)
    ∗ Pipeline.scopedRestBut (Ix := Unit) (Name := ℕ) (U := UR sig nD τ) (Lvl := ℕ) (Val := Elt F) spec2 c [cc2_scratch0]
    ∗ (∃ r, prngReg c r)) from rfl, scopedRest2_split]
  simp only [owns_whole]
  iintro ⟨⟨%f, HS, -⟩, Hr, Hg⟩
  isplitl [HS Hr]
  · isplitl [HS]
    · iexists f; iexact HS
    iexact Hr
  iexact Hg

end Cert.KernelIdeal.Hand

end
-- ==== Proof.KernelIdeal.Run.lean ====
module

public import proofs.«01_k».proof.Proof.KernelIdeal.SkDat
public import proofs.«01_k».proof.Proof.KernelIdeal.DmDat
public import proofs.«01_k».proof.Proof.KernelIdeal.DxDat
public import proofs.«01_k».proof.Proof.Gen.KernelIdeal.Regions
public import Idealize.ShloMosaic.Lib.Pipeline.RegionArraysS

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The whole run: the three calls between the host's reshapes -/

variable (m : (ℓ : Loc nD τ sig) → Buf (Elt F) ℓ)

/-- No core owes another anything; the one index of the staging waits is at level zero on every TensorCore. -/
abbrev Lr : GSem nD τ sig → Finset Unit := fun g => if g.1.2 = .tc then {()} else ∅
/-- Every semaphore's waits are at level zero. -/
abbrev lvr : GSem nD τ sig → Unit → ℕ := fun _ _ => 0

/-- The buffers' contents when the `skinny` call starts, -/
def W1 (c : Dev nD) : Valuation τ sig (Elt F) := V1 m c
/-- when the `build_dm` call starts, -/
def W2 (c : Dev nD) : Valuation τ sig (Elt F) := Pipeline.afterRegion (dat0 (W1 m) c) (W1 m c)
/-- when the `dx` call starts, -/
def W3 (c : Dev nD) : Valuation τ sig (Elt F) := Pipeline.afterRegion (dat1 (W2 m) c) (W2 m c)
/-- and after it. -/
def W4 (c : Dev nD) : Valuation τ sig (Elt F) := Pipeline.afterRegion (dat2 (W3 m) c) (W3 m c)

/-- What the calls leave in the buffers they may change. -/
def outs : Outs (F := F) := fun J r c => match J with
  | 2 => W2 m c (Proc.devRef .tc r)
  | 3 => W3 m c (Proc.devRef .tc r)
  | _ => W4 m c (Proc.devRef .tc r)

/-- A call changes its output windows' arrays alone. -/
theorem afterRegion_same {cfg : Cfg sig Λ₀} {c : Dev nD} (dat : Dat τ (Elt F) Unit ℕ (UR sig nD τ) ℕ cfg c) (V : Valuation τ sig (Elt F)) (hinj : Function.Injective (Pipeline.arrRef cfg.spec))
    (hA : ∀ w, dat.A w = V (Proc.devRef .tc (Pipeline.arrRef cfg.spec w))) (b : DevRef τ sig)
    (h : ∀ w, (cfg.win w).isOut = true → b ≠ Proc.devRef .tc (Pipeline.arrRef cfg.spec w)) : Pipeline.afterRegion dat V b = V b := by
  by_cases hb : ∃ w, b = Proc.devRef .tc (Pipeline.arrRef cfg.spec w)
  · obtain ⟨w, rfl⟩ := hb
    refine Pipeline.afterRegion_keeps dat V hinj hA _ fun w' e => ?_
    obtain rfl := hinj e
    cases hw : (cfg.win w').isOut
    · rfl
    · exact absurd rfl (h w' hw)
  · unfold Pipeline.afterRegion
    rw [dif_neg hb]

/-- The buffers after the first call. -/
theorem V2_eq (c : Dev nD) : V2 m (outs m) c = W2 m c := by
  funext b
  show Function.update (Function.update (V1 m  c) (Proc.devRef .tc main_v5_0) (W2 m c (Proc.devRef .tc main_v5_0))) (Proc.devRef .tc main_v5_1) (W2 m c (Proc.devRef .tc main_v5_1)) b = _
  rw [show V1 m c = W1 m c from rfl]
  by_cases h1 : b = Proc.devRef .tc main_v5_1
  · subst h1; rw [Function.update_self]
  rw [Function.update_of_ne h1]
  by_cases h0 : b = Proc.devRef .tc main_v5_0
  · subst h0; rw [Function.update_self]
  rw [Function.update_of_ne h0]
  refine (afterRegion_same (dat0 (W1 m) c) (W1 m c) launch0.win.arr_inj (fun w => A_eq0 (W1 m) c w) b fun w hw => ?_).symm
  match w, hw with
  | ⟨0, _⟩, hw => exact absurd hw Bool.false_ne_true
  | ⟨1, _⟩, hw => exact absurd hw Bool.false_ne_true
  | ⟨2, _⟩, hw => exact absurd hw Bool.false_ne_true
  | ⟨3, _⟩, hw => exact absurd hw Bool.false_ne_true
  | ⟨4, _⟩, hw => exact absurd hw Bool.false_ne_true
  | ⟨5, _⟩, hw => exact absurd hw Bool.false_ne_true
  | ⟨6, _⟩, hw => exact absurd hw Bool.false_ne_true
  | ⟨7, _⟩, _ => exact h0
  | ⟨8, _⟩, _ => exact h1

/-- The buffers after the second call. -/
theorem V3_eq (c : Dev nD) : V3 m (outs m) c = W3 m c := by
  funext b
  show Function.update (Function.update (V2 m (outs m) c) (Proc.devRef .tc main_v6_0) (W3 m c (Proc.devRef .tc main_v6_0))) (Proc.devRef .tc main_v6_1) (W3 m c (Proc.devRef .tc main_v6_1)) b = _
  rw [V2_eq]
  by_cases h1 : b = Proc.devRef .tc main_v6_1
  · subst h1; rw [Function.update_self]
  rw [Function.update_of_ne h1]
  by_cases h0 : b = Proc.devRef .tc main_v6_0
  · subst h0; rw [Function.update_self]
  rw [Function.update_of_ne h0]
  refine (afterRegion_same (dat1 (W2 m) c) (W2 m c) launch1.win.arr_inj (fun w => A_eq1 (W2 m) c w) b fun w hw => ?_).symm
  match w, hw with
  | ⟨0, _⟩, hw => exact absurd hw Bool.false_ne_true
  | ⟨1, _⟩, hw => exact absurd hw Bool.false_ne_true
  | ⟨2, _⟩, hw => exact absurd hw Bool.false_ne_true
  | ⟨3, _⟩, hw => exact absurd hw Bool.false_ne_true
  | ⟨4, _⟩, hw => exact absurd hw Bool.false_ne_true
  | ⟨5, _⟩, hw => exact absurd hw Bool.false_ne_true
  | ⟨6, _⟩, hw => exact absurd hw Bool.false_ne_true
  | ⟨7, _⟩, hw => exact absurd hw Bool.false_ne_true
  | ⟨8, _⟩, _ => exact h0
  | ⟨9, _⟩, _ => exact h1

/-- The buffers after the third call. -/
theorem V4_eq (c : Dev nD) : V4 m (outs m) c = W4 m c := by
  funext b
  show Function.update (V3 m (outs m) c) (Proc.devRef .tc main_v7) (W4 m c (Proc.devRef .tc main_v7)) b = _
  rw [V3_eq]
  by_cases h0 : b = Proc.devRef .tc main_v7
  · subst h0; rw [Function.update_self]
  rw [Function.update_of_ne h0]
  refine (afterRegion_same (dat2 (W3 m) c) (W3 m c) launch2.win.arr_inj (fun w => A_eq2 (W3 m) c w) b fun w hw => ?_).symm
  match w, hw with
  | ⟨0, _⟩, hw => exact absurd hw Bool.false_ne_true
  | ⟨1, _⟩, hw => exact absurd hw Bool.false_ne_true
  | ⟨2, _⟩, hw => exact absurd hw Bool.false_ne_true
  | ⟨3, _⟩, hw => exact absurd hw Bool.false_ne_true
  | ⟨4, _⟩, _ => exact h0

/-- The three calls' proof data. -/
def pdats : (p : Fin 3) → (c : Dev nD) → Dat τ (Elt F) Unit ℕ (UR sig nD τ) ℕ (cfgs p) c
  | ⟨0, _⟩ => dat0 (W1 m)
  | ⟨1, _⟩ => dat1 (W2 m)
  | ⟨2, _⟩ => dat2 (W3 m)

/-- What rides beside the buffers: the core owes nothing, and its random-number register. -/
def Er (c : Dev nD) : sProp 𝕄 := iprop((∃ Wd, owes (c : Thread nD τ) (0 : CellTallies nD τ sig Unit) Wd) ∗ (∃ r, prngReg c r) ∗ emp)

/-- The levels at call 0 of the run. -/
theorem cut0 : Pipeline.LevelCut (pcfgs (F := F)) adm () Lr lvr 0 (fun _ => 0) (fun _ => 0) where
  hι _ _ _ := by show () ∈ (if _ then _ else _); rw [if_pos rfl]; exact Finset.mem_singleton_self _
  hιb _ _ _ := Nat.le_refl _
  hD _ _ _ h := absurd h (Nat.lt_irrefl 0)

set_option backward.isDefEq.respectTransparency.types false in
/-- Call 0 over all the buffers. -/
def reg0 : Pipeline.RegionSeg (pcfgs (F := F)) adm (pdats m) () defs₀ Variants.none Lr lvr 0 :=
  Pipeline.RegionSeg.ofHeldIn (pcfgs (F := F)) adm (pdats m) () defs₀ Variants.none Lr lvr 0 (fun _ => 0) (Pipeline.ucRefs τ sig)
    (fun c => iprop(∃ r, prngReg c r)) (fun c => iprop(∃ r, prngReg c r)) launch0.toP rfl
    (fun c => (body_obligation0 (W1 m) c).loose) (fun _ _ => rfl) (fun _ => rfl) (fun c => (dat0 (W1 m) c).share_full fun _ => rfl)
    (hin0 (W1 m)) (hout0 (W1 m)) (fun _ => 0) cut0 (fun _ => iprop(emp)) (W1 m) (fun c w => A_eq0 (W1 m) c w)

set_option backward.isDefEq.respectTransparency.types false in
/-- It is entered from all the buffers at the contents before it, -/
theorem reg0_pre (c : Dev nD) : iprop(StableHlo.held (c : Thread nD τ) (Pipeline.ucRefs τ sig) (W1 m c) ∗ Er c) ⊢ (reg0 m).pre c := by
  have hS : Pipeline.arrRefs (τ := τ) spec0 ⊆ Pipeline.ucRefs τ sig := Pipeline.arrRefs_sub_ucRefs spec0 launch0.win.arr_unscoped
  exact Pipeline.RegionSeg.ofHeldIn_pre (pcs := pcfgs (F := F)) (a := adm) (pdats := pdats m) (ι := ()) (defs₀ := defs₀) (𝒱₀ := Variants.none) (L := Lr) (lv := lvr) (p := 0) (D := fun _ => 0)
    (S := Pipeline.ucRefs τ sig) hS (X := fun c => iprop(∃ r, prngReg c r)) (Y := fun c => iprop(∃ r, prngReg c r)) (kit := launch0.toP) (hK := rfl)
    (hbody := fun c => (body_obligation0 (W1 m) c).loose) (howed := fun _ _ => rfl) (hrec := fun _ => rfl) (hshare := fun c => (dat0 (W1 m) c).share_full fun _ => rfl)
    (hin := hin0 (W1 m)) (hout := hout0 (W1 m)) (b := fun _ => 0) (hcut := cut0) (R := fun _ => iprop(emp)) (W := W1 m) (hW := fun c w => A_eq0 (W1 m) c w) c

set_option backward.isDefEq.respectTransparency.types false in
/-- and leaves them at the contents after it. -/
theorem reg0_post (c : Dev nD) : (reg0 m).post c ⊢ iprop(StableHlo.held (c : Thread nD τ) (Pipeline.ucRefs τ sig) (W2 m c) ∗ Er c) := by
  have hS : Pipeline.arrRefs (τ := τ) spec0 ⊆ Pipeline.ucRefs τ sig := Pipeline.arrRefs_sub_ucRefs spec0 launch0.win.arr_unscoped
  exact Pipeline.RegionSeg.ofHeldIn_post (pcs := pcfgs (F := F)) (a := adm) (pdats := pdats m) (ι := ()) (defs₀ := defs₀) (𝒱₀ := Variants.none) (L := Lr) (lv := lvr) (p := 0) (D := fun _ => 0)
    (S := Pipeline.ucRefs τ sig) hS (X := fun c => iprop(∃ r, prngReg c r)) (Y := fun c => iprop(∃ r, prngReg c r)) (kit := launch0.toP) (hK := rfl)
    (hbody := fun c => (body_obligation0 (W1 m) c).loose) (howed := fun _ _ => rfl) (hrec := fun _ => rfl) (hshare := fun c => (dat0 (W1 m) c).share_full fun _ => rfl)
    (hin := hin0 (W1 m)) (hout := hout0 (W1 m)) (b := fun _ => 0) (hcut := cut0) (R := fun _ => iprop(emp)) (W := W1 m) (hW := fun c w => A_eq0 (W1 m) c w) c

/-- The levels at call 1 of the run. -/
theorem cut1 : Pipeline.LevelCut (pcfgs (F := F)) adm () Lr lvr 1 (fun _ => 0) (fun _ => 0) where
  hι _ _ _ := by show () ∈ (if _ then _ else _); rw [if_pos rfl]; exact Finset.mem_singleton_self _
  hιb _ _ _ := Nat.le_refl _
  hD _ _ _ h := absurd h (Nat.lt_irrefl 0)

set_option backward.isDefEq.respectTransparency.types false in
/-- Call 1 over all the buffers. -/
def reg1 : Pipeline.RegionSeg (pcfgs (F := F)) adm (pdats m) () defs₀ Variants.none Lr lvr 1 :=
  Pipeline.RegionSeg.ofHeldIn (pcfgs (F := F)) adm (pdats m) () defs₀ Variants.none Lr lvr 1 (fun _ => 0) (Pipeline.ucRefs τ sig)
    (fun c => iprop(∃ r, prngReg c r)) (fun c => iprop(∃ r, prngReg c r)) launch1.toP rfl
    (fun c => (body_obligation1 (W2 m) c).loose) (fun _ _ => rfl) (fun _ => rfl) (fun c => (dat1 (W2 m) c).share_full fun _ => rfl)
    (hin1 (W2 m)) (hout1 (W2 m)) (fun _ => 0) cut1 (fun _ => iprop(emp)) (W2 m) (fun c w => A_eq1 (W2 m) c w)

set_option backward.isDefEq.respectTransparency.types false in
/-- It is entered from all the buffers at the contents before it, -/
theorem reg1_pre (c : Dev nD) : iprop(StableHlo.held (c : Thread nD τ) (Pipeline.ucRefs τ sig) (W2 m c) ∗ Er c) ⊢ (reg1 m).pre c := by
  have hS : Pipeline.arrRefs (τ := τ) spec1 ⊆ Pipeline.ucRefs τ sig := Pipeline.arrRefs_sub_ucRefs spec1 launch1.win.arr_unscoped
  exact Pipeline.RegionSeg.ofHeldIn_pre (pcs := pcfgs (F := F)) (a := adm) (pdats := pdats m) (ι := ()) (defs₀ := defs₀) (𝒱₀ := Variants.none) (L := Lr) (lv := lvr) (p := 1) (D := fun _ => 0)
    (S := Pipeline.ucRefs τ sig) hS (X := fun c => iprop(∃ r, prngReg c r)) (Y := fun c => iprop(∃ r, prngReg c r)) (kit := launch1.toP) (hK := rfl)
    (hbody := fun c => (body_obligation1 (W2 m) c).loose) (howed := fun _ _ => rfl) (hrec := fun _ => rfl) (hshare := fun c => (dat1 (W2 m) c).share_full fun _ => rfl)
    (hin := hin1 (W2 m)) (hout := hout1 (W2 m)) (b := fun _ => 0) (hcut := cut1) (R := fun _ => iprop(emp)) (W := W2 m) (hW := fun c w => A_eq1 (W2 m) c w) c

set_option backward.isDefEq.respectTransparency.types false in
/-- and leaves them at the contents after it. -/
theorem reg1_post (c : Dev nD) : (reg1 m).post c ⊢ iprop(StableHlo.held (c : Thread nD τ) (Pipeline.ucRefs τ sig) (W3 m c) ∗ Er c) := by
  have hS : Pipeline.arrRefs (τ := τ) spec1 ⊆ Pipeline.ucRefs τ sig := Pipeline.arrRefs_sub_ucRefs spec1 launch1.win.arr_unscoped
  exact Pipeline.RegionSeg.ofHeldIn_post (pcs := pcfgs (F := F)) (a := adm) (pdats := pdats m) (ι := ()) (defs₀ := defs₀) (𝒱₀ := Variants.none) (L := Lr) (lv := lvr) (p := 1) (D := fun _ => 0)
    (S := Pipeline.ucRefs τ sig) hS (X := fun c => iprop(∃ r, prngReg c r)) (Y := fun c => iprop(∃ r, prngReg c r)) (kit := launch1.toP) (hK := rfl)
    (hbody := fun c => (body_obligation1 (W2 m) c).loose) (howed := fun _ _ => rfl) (hrec := fun _ => rfl) (hshare := fun c => (dat1 (W2 m) c).share_full fun _ => rfl)
    (hin := hin1 (W2 m)) (hout := hout1 (W2 m)) (b := fun _ => 0) (hcut := cut1) (R := fun _ => iprop(emp)) (W := W2 m) (hW := fun c w => A_eq1 (W2 m) c w) c

/-- The levels at call 2 of the run. -/
theorem cut2 : Pipeline.LevelCut (pcfgs (F := F)) adm () Lr lvr 2 (fun _ => 0) (fun _ => 0) where
  hι _ _ _ := by show () ∈ (if _ then _ else _); rw [if_pos rfl]; exact Finset.mem_singleton_self _
  hιb _ _ _ := Nat.le_refl _
  hD _ _ _ h := absurd h (Nat.lt_irrefl 0)

set_option backward.isDefEq.respectTransparency.types false in
/-- Call 2 over all the buffers. -/
def reg2 : Pipeline.RegionSeg (pcfgs (F := F)) adm (pdats m) () defs₀ Variants.none Lr lvr 2 :=
  Pipeline.RegionSeg.ofHeldIn (pcfgs (F := F)) adm (pdats m) () defs₀ Variants.none Lr lvr 2 (fun _ => 0) (Pipeline.ucRefs τ sig)
    (fun c => iprop(∃ r, prngReg c r)) (fun c => iprop(∃ r, prngReg c r)) launch2.toP rfl
    (fun c => (body_obligation2 (W3 m) c).loose) (fun _ _ => rfl) (fun _ => rfl) (fun c => (dat2 (W3 m) c).share_full fun _ => rfl)
    (hin2 (W3 m)) (hout2 (W3 m)) (fun _ => 0) cut2 (fun _ => iprop(emp)) (W3 m) (fun c w => A_eq2 (W3 m) c w)

set_option backward.isDefEq.respectTransparency.types false in
/-- It is entered from all the buffers at the contents before it, -/
theorem reg2_pre (c : Dev nD) : iprop(StableHlo.held (c : Thread nD τ) (Pipeline.ucRefs τ sig) (W3 m c) ∗ Er c) ⊢ (reg2 m).pre c := by
  have hS : Pipeline.arrRefs (τ := τ) spec2 ⊆ Pipeline.ucRefs τ sig := Pipeline.arrRefs_sub_ucRefs spec2 launch2.win.arr_unscoped
  exact Pipeline.RegionSeg.ofHeldIn_pre (pcs := pcfgs (F := F)) (a := adm) (pdats := pdats m) (ι := ()) (defs₀ := defs₀) (𝒱₀ := Variants.none) (L := Lr) (lv := lvr) (p := 2) (D := fun _ => 0)
    (S := Pipeline.ucRefs τ sig) hS (X := fun c => iprop(∃ r, prngReg c r)) (Y := fun c => iprop(∃ r, prngReg c r)) (kit := launch2.toP) (hK := rfl)
    (hbody := fun c => (body_obligation2 (W3 m) c).loose) (howed := fun _ _ => rfl) (hrec := fun _ => rfl) (hshare := fun c => (dat2 (W3 m) c).share_full fun _ => rfl)
    (hin := hin2 (W3 m)) (hout := hout2 (W3 m)) (b := fun _ => 0) (hcut := cut2) (R := fun _ => iprop(emp)) (W := W3 m) (hW := fun c w => A_eq2 (W3 m) c w) c

set_option backward.isDefEq.respectTransparency.types false in
/-- and leaves them at the contents after it. -/
theorem reg2_post (c : Dev nD) : (reg2 m).post c ⊢ iprop(StableHlo.held (c : Thread nD τ) (Pipeline.ucRefs τ sig) (W4 m c) ∗ Er c) := by
  have hS : Pipeline.arrRefs (τ := τ) spec2 ⊆ Pipeline.ucRefs τ sig := Pipeline.arrRefs_sub_ucRefs spec2 launch2.win.arr_unscoped
  exact Pipeline.RegionSeg.ofHeldIn_post (pcs := pcfgs (F := F)) (a := adm) (pdats := pdats m) (ι := ()) (defs₀ := defs₀) (𝒱₀ := Variants.none) (L := Lr) (lv := lvr) (p := 2) (D := fun _ => 0)
    (S := Pipeline.ucRefs τ sig) hS (X := fun c => iprop(∃ r, prngReg c r)) (Y := fun c => iprop(∃ r, prngReg c r)) (kit := launch2.toP) (hK := rfl)
    (hbody := fun c => (body_obligation2 (W3 m) c).loose) (howed := fun _ _ => rfl) (hrec := fun _ => rfl) (hshare := fun c => (dat2 (W3 m) c).share_full fun _ => rfl)
    (hin := hin2 (W3 m)) (hout := hout2 (W3 m)) (b := fun _ => 0) (hcut := cut2) (R := fun _ => iprop(emp)) (W := W3 m) (hW := fun c w => A_eq2 (W3 m) c w) c

set_option backward.isDefEq.respectTransparency.types false in
/-- Every run ends, with every buffer at what the three calls and the host's reshapes leave there and every semaphore at zero. -/
theorem run_main (ρ : Dev nD → PrngReg) :
    θ_run defs (onTc (τ := τ) (main (F := F))) ⟨m, fun _ => 0, ρ⟩ (fun r =>
      (∀ (c : Dev nD) (b : Ref sig .tc), b.isScoped = false → r.2.mem ((c.tc : Thread nD τ).loc b) = V5 m (outs m) c b) ∧ r.2.sem = fun _ => 0) := by
  have hu : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ fun _ : Dev nD => iprop(emp)) := by
    iintro Hu; imodintro
    isplitl [Hu]; · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  have hE : iprop((bigSep Finset.univ fun c : Dev nD => iprop(unscopedSems0 c ∗ owes (c : Thread nD τ) 0 ∅ ∗ Pipeline.launchCred 0 c ∗ prngReg c (ρ c) ∗ emp)) ∗ levAts Lr lvr)
      ⊢ (|={Set.univ}=> bigSep Finset.univ Er : sProp 𝕄) := by
    refine Pipeline.initEach Lr lvr fun c => ?_
    unfold Er
    iintro ⟨⟨-, HO, -, Hp, -⟩, -⟩
    imodintro
    isplitl [HO]; · iexists ∅; iexact HO
    isplitl [Hp]; · iexists _; iexact Hp
    iempintro
  have h4 : ∀ c : Dev nD, (reg2 m).post c ⊢ iprop(StableHlo.held (c : Thread nD τ) (Pipeline.ucRefs τ sig) (V4 m (outs m) c) ∗ Er c) := fun c => by
    rw [V4_eq]; exact reg2_post m c
  refine Pipeline.θ_run_regions_kit_dev_sems (pcfgs (F := F)) adm (pdats m) () cellOf_inj emb₁ defs₀ Variants.none Lr lvr m ρ main
    (segs m (outs m) Variants.none Lr lvr (fun _ => Er) () (pdats m) (reg0 m) (reg1 m) (reg2 m))
    (fun c Q => by
      rewrite [main_chain c, Seg.run_eq_chain,
        show (segs m (outs m) Variants.none Lr lvr (fun _ => Er) () (pdats m) (reg0 m) (reg1 m) (reg2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) 0 (fun _ h => if_neg h) (fun _ => iprop(emp)) (initOf (Pipeline.cells cfgs cellOf_inj) (Pipeline.launchToks cfgs cellOf_inj)) hu
    (T₀ := fun c => iprop(StableHlo.held (c : Thread nD τ) (Pipeline.ucRefs τ sig) (V0 m c) ∗ Er c))
    (Tₙ := fun c => StableHlo.held (c : Thread nD τ) (Pipeline.ucRefs τ sig) (V5 m (outs m) c))
    (hch := fun c => ⟨.rfl, reg0_pre m c, (reg0_post m c).trans (reg1_pre m c), (reg1_post m c).trans (reg2_pre m c), h4 c, sep_mono .rfl (by unfold Er; iintro ⟨H, -⟩; iexact H)⟩)
    (hinit := ?_) (QY := fun c s => ∀ r : Ref sig .tc, r.isScoped = false → s.mem ((c.tc : Thread nD τ).loc r) = V5 m (outs m) c r)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred 0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred 0 c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod hE $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact fun r hr => h (Proc.devRef .tc r) (Finset.mem_filter.mpr ⟨StableHlo.devRef_mem_tcRefs r, fun h' => Bool.false_ne_true (hr.symm.trans h')⟩)
    · iexact HSI

end Cert.KernelIdeal.Hand

end
-- ==== Proof.KernelIdeal.Frame.lean ====
module

public import proofs.«01_k».proof.Proof.KernelIdeal.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The frame: every run ends, the arguments as launched and every semaphore at zero -/

/-- Every run of the whole program ends, each argument's buffer as it was at launch and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run _ _ _).mono (fun r h => ⟨fun c => ?_, h.2⟩) (run_main m ρ)
  exact ⟨(h.1 c main_arg0 rfl).trans (V5_main_arg0 m (outs m) c),
    (h.1 c main_arg1 rfl).trans (V5_main_arg1 m (outs m) c),
    (h.1 c main_arg2 rfl).trans (V5_main_arg2 m (outs m) c),
    (h.1 c main_arg3 rfl).trans (V5_main_arg3 m (outs m) c),
    (h.1 c main_arg4 rfl).trans (V5_main_arg4 m (outs m) c),
    (h.1 c main_arg5 rfl).trans (V5_main_arg5 m (outs m) c),
    (h.1 c main_arg6 rfl).trans (V5_main_arg6 m (outs m) c),
    (h.1 c main_arg7 rfl).trans (V5_main_arg7 m (outs m) c),
    (h.1 c main_arg8 rfl).trans (V5_main_arg8 m (outs m) c)⟩

end Cert.KernelIdeal.Hand

end
-- ==== Proof.Value.Spec.lean ====
module

public import Idealize.ShloMosaic.PureOps.Ideal.Laws
public import Idealize.ShloMosaic.Lib.Pointwise

@[expose] public section

noncomputable section

namespace Cert.Value

open Idealize.ShloMosaic
open scoped BigOperators

/-! # The four gradients as sums over plain coordinates

The batch and the sequence are one axis of 9216 tokens. -/

/-- The nine arguments, read at plain coordinates. -/
structure Inputs where
  dy : Fin 9216 → Fin 6144 → EReal
  x : Fin 9216 → Fin 16384 → EReal
  xs : Fin 9216 → EReal
  w : Fin 8192 → Fin 6144 → BitVec 8
  s : Fin 128 → Fin 6144 → EReal
  a : Fin 16384 → Fin 32 → EReal
  b : Fin 32 → Fin 6144 → EReal
  mag : Fin 6144 → EReal
  n : Fin 6144 → EReal

/-- One half. -/
def half : EReal := Ideal.ofBits .f32 0x3F000000#32

/-- The signed four-bit code in a byte: the low half at an even position, the high half at an odd one. -/
def code (b : BitVec 8) (k : ℕ) : EReal := (((b.extractLsb' (4 * (k % 2)) 4).toInt : ℝ) : EReal)

namespace Inputs

variable (I : Inputs)

/-- The merged weight: the dequantized code plus half the product of the two low-rank factors. -/
def v (i : Fin 16384) (o : Fin 6144) : EReal :=
  code (I.w ⟨i.val / 2, by omega⟩ o) i.val * I.s ⟨i.val / 128, by omega⟩ o + half * ∑ r : Fin 32, I.a i r * I.b r o

/-- The output's gradient scaled by magnitude over norm. -/
def dyp (t : Fin 9216) (o : Fin 6144) : EReal := I.dy t o * Ideal.div (I.mag o) (I.n o)

/-- The input's gradient. -/
def dx (t : Fin 9216) (i : Fin 16384) : EReal := ∑ o : Fin 6144, I.dyp t o * I.v i o

/-- The scaled gradient through the right factor. -/
def h (t : Fin 9216) (r : Fin 32) : EReal := ∑ o : Fin 6144, I.dyp t o * I.b r o

/-- The left factor's gradient. -/
def dA (i : Fin 16384) (r : Fin 32) : EReal := half * ∑ t : Fin 9216, I.x t i * I.xs t * I.h t r

/-- The input through the left factor. -/
def xa (t : Fin 9216) (r : Fin 32) : EReal := (∑ i : Fin 16384, I.x t i * I.a i r) * I.xs t

/-- The right factor's gradient. -/
def dB (r : Fin 32) (o : Fin 6144) : EReal := half * ∑ t : Fin 9216, I.xa t r * I.dyp t o

/-- What one token contributes to the magnitude's gradient, before the division by the norm. -/
def dmTerm (t : Fin 9216) (o : Fin 6144) : EReal := I.dy t o * ((∑ i : Fin 16384, I.x t i * I.v i o) * I.xs t)

/-- The magnitude's gradient. -/
def dm (o : Fin 6144) : EReal := ∑ t : Fin 9216, Ideal.div (I.dmTerm t o) (I.n o)

end Inputs

/-- The token's batch and place in the sequence. -/
def tok0 (t : Fin 9216) : Fin 3 := ⟨t.val / 3072, by omega⟩
/-- The token's place in the sequence. -/
def tok1 (t : Fin 9216) : Fin 3072 := ⟨t.val % 3072, Nat.mod_lt _ (by decide)⟩
/-- The token of a batch and a place in the sequence. -/
def tok (b : Fin 3) (s : Fin 3072) : Fin 9216 := ⟨b.val * 3072 + s.val, by omega⟩

/-- The batch of a token. -/
theorem tok0_tok (b : Fin 3) (s : Fin 3072) : tok0 (tok b s) = b := Fin.ext (by show (b.val * 3072 + s.val) / 3072 = b.val; omega)
/-- The place of a token in its batch. -/
theorem tok1_tok (b : Fin 3) (s : Fin 3072) : tok1 (tok b s) = s := Fin.ext (by show (b.val * 3072 + s.val) % 3072 = s.val; omega)
/-- A token is the token of its batch and place. -/
theorem tok_tok (t : Fin 9216) : tok (tok0 t) (tok1 t) = t := Fin.ext (by show t.val / 3072 * 3072 + t.val % 3072 = t.val; omega)

/-- The arguments' arrays at plain coordinates. -/
def inputs (x0 : (⟨3, ![3, 3072, 6144]⟩ : Shape).Idx → EReal) (x1 : (⟨3, ![3, 3072, 16384]⟩ : Shape).Idx → EReal)
    (x2 : (⟨2, ![3, 3072]⟩ : Shape).Idx → EReal) (x3 : (⟨2, ![8192, 6144]⟩ : Shape).Idx → BitVec 8)
    (x4 : (⟨2, ![128, 6144]⟩ : Shape).Idx → EReal) (x5 : (⟨2, ![16384, 32]⟩ : Shape).Idx → EReal)
    (x6 : (⟨2, ![32, 6144]⟩ : Shape).Idx → EReal) (x7 x8 : (⟨1, ![6144]⟩ : Shape).Idx → EReal) : Inputs where
  dy t o := x0 (ix3 (tok0 t) (tok1 t) o)
  x t i := x1 (ix3 (tok0 t) (tok1 t) i)
  xs t := x2 (ix2 (tok0 t) (tok1 t))
  w k o := x3 (ix2 k o)
  s g o := x4 (ix2 g o)
  a i r := x5 (ix2 i r)
  b r o := x6 (ix2 r o)
  mag o := x7 (ix1 o)
  n o := x8 (ix1 o)

/-- A sum over batches and places in the sequence is a sum over tokens. -/
theorem sum_tok (f : Fin 9216 → EReal) : ∑ b : Fin 3, ∑ s : Fin 3072, f (tok b s) = ∑ t : Fin 9216, f t := by
  rw [← Fintype.sum_prod_type' (f := fun b s => f (tok b s))]
  exact Fintype.sum_bijective (fun p : Fin 3 × Fin 3072 => tok p.1 p.2)
    (Function.bijective_iff_has_inverse.mpr ⟨fun t => (tok0 t, tok1 t), fun p => Prod.ext (tok0_tok p.1 p.2) (tok1_tok p.1 p.2), tok_tok⟩)
    _ _ fun _ => rfl

/-- A sum cut into `n` blocks of `m`. -/
theorem sum_blocks {n m N : ℕ} (hN : N = n * m) (f : Fin N → EReal) :
    ∑ t : Fin N, f t = ∑ p : Fin n, ∑ q : Fin m, f ⟨p.val * m + q.val, by subst hN; have := p.isLt; have := q.isLt; nlinarith⟩ := by
  subst hN
  rw [← finProdFinEquiv.sum_comp, Fintype.sum_prod_type]
  refine Finset.sum_congr rfl fun p _ => Finset.sum_congr rfl fun q _ => congrArg f (Fin.ext ?_)
  simp [finProdFinEquiv]; ring

/-- Multiplying by a factor between zero and infinity distributes over a finite sum. -/
theorem sum_mul_of_nonneg {ι : Type*} (s : Finset ι) (f : ι → EReal) {y : EReal} (h0 : 0 ≤ y) (h1 : y ≠ ⊤) :
    ∑ i ∈ s, f i * y = (∑ i ∈ s, f i) * y := by
  classical
  induction s using Finset.induction_on with
  | empty => simp
  | insert i s hi ih => rw [Finset.sum_insert hi, Finset.sum_insert hi, ih, EReal.right_distrib_of_nonneg_of_ne_top h0 h1]

/-- Dividing by a positive norm distributes over a finite sum. -/
theorem sum_div {ι : Type*} (s : Finset ι) (f : ι → EReal) {y : EReal} (h : 0 < y) :
    ∑ i ∈ s, Ideal.div (f i) y = Ideal.div (∑ i ∈ s, f i) y := by
  have hd : ∀ x, Ideal.div x y = x * y⁻¹ := fun x => if_neg h.ne'
  simp only [hd]
  refine sum_mul_of_nonneg s f (EReal.inv_nonneg_of_nonneg h.le) ?_
  induction y with
  | bot => simp
  | top => simp
  | coe r => rw [← EReal.coe_inv]; exact EReal.coe_ne_top _

/-- The exponent trick: the half byte written into the last bits of 136 and read as a float is 136 more than the signed code. -/
theorem code_of_bits (n : BitVec 4) :
    Ideal.ofBits .bf16 (0x4308#16 ^^^ n.setWidth 16) - Ideal.ofBits .bf16 0x4308#16 = ((n.toInt : ℝ) : EReal) := by
  have h : ∀ n : BitVec 4, n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 := by decide
  rcases h n with h | h | h | h | h | h | h | h | h | h | h | h | h | h | h | h <;> subst h <;>
    simp [Ideal.ofBits, Ideal.ieee, -EReal.coe_mul, ← EReal.coe_sub] <;> norm_num

end Cert.Value

end
-- ==== Proof.KernelIdeal.ValIn.lean ====
module

public import proofs.«01_k».proof.Proof.KernelIdeal.Run
public import proofs.«01_k».proof.Proof.Value.Spec
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- The arrays the calls read hold the arguments. -/
structure Reads (X : Valuation τ sig (Elt Ideal)) (I : Inputs) : Prop where
  dy : ∀ t o, X main_v0 (ix2 t o) = I.dy t o
  x : ∀ t i, X main_v1 (ix2 t i) = I.x t i
  xs : ∀ t, X main_v2 (ix2 t 0) = I.xs t
  w : ∀ k o, X main_arg3 (ix2 k o) = I.w k o
  s : ∀ g o, X main_arg4 (ix2 g o) = I.s g o
  a : ∀ i r, X main_arg5 (ix2 i r) = I.a i r
  b : ∀ r o, X main_arg6 (ix2 r o) = I.b r o
  mag : ∀ o, X main_v3 (ix2 0 o) = I.mag o
  n : ∀ o, X main_v4 (ix2 0 o) = I.n o

end Cert.KernelIdeal.Hand

end
-- ==== Proof.KernelIdeal.ValIn0.lean ====
module

public import proofs.«01_k».proof.Proof.KernelIdeal.ValIn

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-! # What the blocks of the low-rank call hold, element by element -/
theorem e0_0 : ∀ t : Fin grid0.N, win0_0.index t = ![t.val, 0] := by decide +kernel
/-- The block of call 0's window 1 at each point of the grid. -/
theorem e0_1 : ∀ t : Fin grid0.N, win0_1.index t = ![t.val, 0] := by decide +kernel
/-- The block of call 0's window 2 at each point of the grid. -/
theorem e0_2 : ∀ t : Fin grid0.N, win0_2.index t = ![t.val, 0] := by decide +kernel
/-- The block of call 0's window 3 at each point of the grid. -/
theorem e0_3 : ∀ t : Fin grid0.N, win0_3.index t = ![0, 0] := by decide +kernel
/-- The block of call 0's window 4 at each point of the grid. -/
theorem e0_4 : ∀ t : Fin grid0.N, win0_4.index t = ![0, 0] := by decide +kernel
/-- The block of call 0's window 5 at each point of the grid. -/
theorem e0_5 : ∀ t : Fin grid0.N, win0_5.index t = ![0, 0] := by decide +kernel
/-- The block of call 0's window 6 at each point of the grid. -/
theorem e0_6 : ∀ t : Fin grid0.N, win0_6.index t = ![0, 0] := by decide +kernel
variable (W : Dev nD → Valuation τ sig (Elt Ideal)) {c : Dev nD} {I : Inputs} (h : Reads (W c) I)
include h
/-- An element of the block of call 0's window 0, as an element of the inputs. -/
theorem iblk0_0_apply (t : Fin cfg0.N) (p : Fin 256) (q : Fin 6144) :
    iblk0 W c 0 t (ix2 p q) = I.dy ⟨(t.val) * 256 + p.val, by have hN : t.val < cfg0.N := t.isLt; have := N0; omega⟩ q := by
  unfold iblk0
  blk_simp
  refine (congrArg (W c main_v0) (funext fun a => Fin.ext ?_)).trans (h.dy ⟨(t.val) * 256 + p.val, by have hN : t.val < cfg0.N := t.isLt; have := N0; omega⟩ q)
  match a with
  | ⟨0, _⟩ => blk_simp [e0_0]
  | ⟨1, _⟩ => blk_simp [e0_0]
/-- An element of the block of call 0's window 1, as an element of the inputs. -/
theorem iblk0_1_apply (t : Fin cfg0.N) (p : Fin 256) (q : Fin 16384) :
    iblk0 W c 1 t (ix2 p q) = I.x ⟨(t.val) * 256 + p.val, by have hN : t.val < cfg0.N := t.isLt; have := N0; omega⟩ q := by
  unfold iblk0
  blk_simp
  refine (congrArg (W c main_v1) (funext fun a => Fin.ext ?_)).trans (h.x ⟨(t.val) * 256 + p.val, by have hN : t.val < cfg0.N := t.isLt; have := N0; omega⟩ q)
  match a with
  | ⟨0, _⟩ => blk_simp [e0_1]
  | ⟨1, _⟩ => blk_simp [e0_1]
/-- An element of the block of call 0's window 2, as an element of the inputs. -/
theorem iblk0_2_apply (t : Fin cfg0.N) (p : Fin 256) :
    iblk0 W c 2 t (ix2 p 0) = I.xs ⟨(t.val) * 256 + p.val, by have hN : t.val < cfg0.N := t.isLt; have := N0; omega⟩ := by
  unfold iblk0
  blk_simp
  refine (congrArg (W c main_v2) (funext fun a => Fin.ext ?_)).trans (h.xs ⟨(t.val) * 256 + p.val, by have hN : t.val < cfg0.N := t.isLt; have := N0; omega⟩ )
  match a with
  | ⟨0, _⟩ => blk_simp [e0_2]
  | ⟨1, _⟩ => blk_simp [e0_2]
/-- An element of the block of call 0's window 3, as an element of the inputs. -/
theorem iblk0_3_apply (t : Fin cfg0.N) (p : Fin 16384) (q : Fin 32) :
    iblk0 W c 3 t (ix2 p q) = I.a p q := by
  unfold iblk0
  blk_simp
  refine (congrArg (W c main_arg5) (funext fun a => Fin.ext ?_)).trans (h.a p q)
  match a with
  | ⟨0, _⟩ => blk_simp [e0_3]
  | ⟨1, _⟩ => blk_simp [e0_3]
/-- An element of the block of call 0's window 4, as an element of the inputs. -/
theorem iblk0_4_apply (t : Fin cfg0.N) (p : Fin 32) (q : Fin 6144) :
    iblk0 W c 4 t (ix2 p q) = I.b p q := by
  unfold iblk0
  blk_simp
  refine (congrArg (W c main_arg6) (funext fun a => Fin.ext ?_)).trans (h.b p q)
  match a with
  | ⟨0, _⟩ => blk_simp [e0_4]
  | ⟨1, _⟩ => blk_simp [e0_4]
/-- An element of the block of call 0's window 5, as an element of the inputs. -/
theorem iblk0_5_apply (t : Fin cfg0.N) (q : Fin 6144) :
    iblk0 W c 5 t (ix2 0 q) = I.mag q := by
  unfold iblk0
  blk_simp
  refine (congrArg (W c main_v3) (funext fun a => Fin.ext ?_)).trans (h.mag  q)
  match a with
  | ⟨0, _⟩ => blk_simp [e0_5]
  | ⟨1, _⟩ => blk_simp [e0_5]
/-- An element of the block of call 0's window 6, as an element of the inputs. -/
theorem iblk0_6_apply (t : Fin cfg0.N) (q : Fin 6144) :
    iblk0 W c 6 t (ix2 0 q) = I.n q := by
  unfold iblk0
  blk_simp
  refine (congrArg (W c main_v4) (funext fun a => Fin.ext ?_)).trans (h.n  q)
  match a with
  | ⟨0, _⟩ => blk_simp [e0_6]
  | ⟨1, _⟩ => blk_simp [e0_6]

end Cert.KernelIdeal.Hand

end
-- ==== Proof.KernelIdeal.ValSkA.lean ====
module

public import proofs.«01_k».proof.Proof.KernelIdeal.ValIn0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- An element of the value call 0's body names `k0_pay6`. -/
theorem k0_pay6_apply (x y : Vec Ideal S1x6144 .f32) (z : Vec Ideal S256x6144 .bf16) (p : Fin 256) (q : Fin 6144) :
    k0_pay6 x y z (ix2 p q) = z (ix2 p q) * Ideal.div (x (ix2 0 q)) (y (ix2 0 q)) := by
  unfold k0_pay6
  pointwise
/-- An element of the value call 0's body names `k0_pay9`. -/
theorem k0_pay9_apply (a b) (c : Vec Ideal S256x6144 .bf16) (d : Vec Ideal S32x6144 .bf16) (p : Fin 256) (q : Fin 32) :
    k0_pay9 (F := Ideal) a b c d (ix2 p q) = ∑ o : Fin 6144, k0_pay6 a b c (ix2 p o) * d (ix2 q o) := by
  unfold k0_pay9
  pointwise
/-- An element of the value call 0's body names `k0_pay7`. -/
theorem k0_pay7_apply (a) (p : Fin 256) : k0_pay7 (F := Ideal) a (ix2 p 0) = a (ix2 p 0) := by
  unfold k0_pay7
  pointwise
/-- An element of the value call 0's body names `k0_pay8`. -/
theorem k0_pay8_apply (a) (p : Fin 256) : k0_pay8 (F := Ideal) a (ix2 p 0) = a (ix2 p 0) := by
  unfold k0_pay8
  pointwise
  exact k0_pay7_apply a p
/-- An element of the value call 0's body names `k0_pay10`. -/
theorem k0_pay10_apply (a) (p : Fin 256) (q : Fin 2048) : k0_pay10 (F := Ideal) a (ix2 p q) = a (ix2 p q) := by
  unfold k0_pay10
  pointwise
/-- An element of the value call 0's body names `k0_pay14`. -/
theorem k0_pay14_apply (a) (p : Fin 256) (q : Fin 2048) : k0_pay14 (F := Ideal) a (ix2 p q) = a (ix2 p q) := by
  unfold k0_pay14
  pointwise
/-- An element of the value call 0's body names `k0_pay16`. -/
theorem k0_pay16_apply (a) (p : Fin 256) (q : Fin 2048) : k0_pay16 (F := Ideal) a (ix2 p q) = a (ix2 p q) := by
  unfold k0_pay16
  pointwise
/-- An element of the value call 0's body names `k0_pay19`. -/
theorem k0_pay19_apply (a) (p : Fin 256) (q : Fin 2048) : k0_pay19 (F := Ideal) a (ix2 p q) = a (ix2 p q) := by
  unfold k0_pay19
  pointwise
/-- An element of the value call 0's body names `k0_pay21`. -/
theorem k0_pay21_apply (a) (p : Fin 256) (q : Fin 2048) : k0_pay21 (F := Ideal) a (ix2 p q) = a (ix2 p q) := by
  unfold k0_pay21
  pointwise
/-- An element of the value call 0's body names `k0_pay23`. -/
theorem k0_pay23_apply (a) (p : Fin 256) (q : Fin 2048) : k0_pay23 (F := Ideal) a (ix2 p q) = a (ix2 p q) := by
  unfold k0_pay23
  pointwise
/-- An element of the value call 0's body names `k0_pay27`. -/
theorem k0_pay27_apply (a) (p : Fin 256) (q : Fin 2048) : k0_pay27 (F := Ideal) a (ix2 p q) = a (ix2 p q) := by
  unfold k0_pay27
  pointwise
/-- An element of the value call 0's body names `k0_pay29`. -/
theorem k0_pay29_apply (a) (p : Fin 256) (q : Fin 2048) : k0_pay29 (F := Ideal) a (ix2 p q) = a (ix2 p q) := by
  unfold k0_pay29
  pointwise

/-- One chunk of the left factor's gradient, grown by a block of tokens. -/
def daSum (s : Vec Ideal S256x1 .f32) (g : FVec Ideal S256x32 .bf16) (x : Vec Ideal S256x2048 .fp8e4m3) (b : Vec Ideal S32x2048 .f32) (p : Fin 32) (q : Fin 2048) : EReal :=
  b (ix2 p q) + ∑ y : Fin 256, g (ix2 y p) * (x (ix2 y q) * s (ix2 y 0))
/-- What the body adds to columns 0 to 2047 of the left factor's gradient: the old value plus a product over the block's rows. -/
theorem chunk0 (a b c d e f g) (p : Fin 32) (q : Fin 2048) :
    k0_pay13 (F := Ideal) (k0_pay12 a b c d e f g) (ix2 p q) = daSum d (k0_pay9 a b c e) f g p q := by
  unfold k0_pay13 k0_pay12 daSum
  pointwise
  simp only [k0_pay10_apply, k0_pay8_apply]
/-- What the body adds to columns 2048 to 4095 of the left factor's gradient: the old value plus a product over the block's rows. -/
theorem chunk1 (a b c d) (p : Fin 32) (q : Fin 2048) :
    k0_pay15 (F := Ideal) (k0_pay8 a) b c d (ix2 p q) = daSum a b c d p q := by
  unfold k0_pay15 daSum
  pointwise
  simp only [k0_pay8_apply, k0_pay14_apply, k0_pay16_apply, k0_pay19_apply, k0_pay21_apply, k0_pay23_apply, k0_pay27_apply, k0_pay29_apply]
/-- What the body adds to columns 4096 to 6143 of the left factor's gradient: the old value plus a product over the block's rows. -/
theorem chunk2 (a b c d) (p : Fin 32) (q : Fin 2048) :
    k0_pay18 (F := Ideal) (k0_pay8 a) b c d (ix2 p q) = daSum a b c d p q := by
  unfold k0_pay18 daSum
  pointwise
  simp only [k0_pay8_apply, k0_pay14_apply, k0_pay16_apply, k0_pay19_apply, k0_pay21_apply, k0_pay23_apply, k0_pay27_apply, k0_pay29_apply]
/-- What the body adds to columns 6144 to 8191 of the left factor's gradient: the old value plus a product over the block's rows. -/
theorem chunk3 (a b c d) (p : Fin 32) (q : Fin 2048) :
    k0_pay20 (F := Ideal) (k0_pay8 a) b (k0_pay19 c) d (ix2 p q) = daSum a b c d p q := by
  unfold k0_pay20 daSum
  pointwise
  simp only [k0_pay8_apply, k0_pay14_apply, k0_pay16_apply, k0_pay19_apply, k0_pay21_apply, k0_pay23_apply, k0_pay27_apply, k0_pay29_apply]
/-- What the body adds to columns 8192 to 10239 of the left factor's gradient: the old value plus a product over the block's rows. -/
theorem chunk4 (a b c d) (p : Fin 32) (q : Fin 2048) :
    k0_pay22 (F := Ideal) (k0_pay8 a) b c d (ix2 p q) = daSum a b c d p q := by
  unfold k0_pay22 daSum
  pointwise
  simp only [k0_pay8_apply, k0_pay14_apply, k0_pay16_apply, k0_pay19_apply, k0_pay21_apply, k0_pay23_apply, k0_pay27_apply, k0_pay29_apply]
/-- What the body adds to columns 12288 to 14335 of the left factor's gradient: the old value plus a product over the block's rows. -/
theorem chunk6 (a b c d) (p : Fin 32) (q : Fin 2048) :
    k0_pay28 (F := Ideal) (k0_pay8 a) b c d (ix2 p q) = daSum a b c d p q := by
  unfold k0_pay28 daSum
  pointwise
  simp only [k0_pay8_apply, k0_pay14_apply, k0_pay16_apply, k0_pay19_apply, k0_pay21_apply, k0_pay23_apply, k0_pay27_apply, k0_pay29_apply]
/-- What the body adds to columns 14336 to 16383 of the left factor's gradient: the old value plus a product over the block's rows. -/
theorem chunk7 (a b c d) (p : Fin 32) (q : Fin 2048) :
    k0_pay30 (F := Ideal) (k0_pay8 a) b c d (ix2 p q) = daSum a b c d p q := by
  unfold k0_pay30 daSum
  pointwise
  simp only [k0_pay8_apply, k0_pay14_apply, k0_pay16_apply, k0_pay19_apply, k0_pay21_apply, k0_pay23_apply, k0_pay27_apply, k0_pay29_apply]
/-- What the body adds to columns 10240 to 12287 of the left factor's gradient: the old value plus a product over the block's rows. -/
theorem chunk5 (a b c d) (p : Fin 32) (q : Fin 2048) :
    k0_pay26 (F := Ideal) d (k0_pay25 (k0_pay8 a) b c) (ix2 p q) = daSum a b c d p q := by
  unfold k0_pay26 k0_pay25 daSum
  pointwise
  simp only [k0_pay8_apply, k0_pay23_apply]

/-- An element of the value call 0's body names `k0_pay2`. -/
theorem k0_pay2_apply (a) (p : Fin 32) (q : Fin 16384) : k0_pay2 (F := Ideal) a (ix2 p q) = half * a (ix2 p q) := by
  unfold k0_pay2 half
  pointwise
/-- An element of the value call 0's body names `k0_pay3`. -/
theorem k0_pay3_apply (a) (p : Fin 32) (q : Fin 6144) : k0_pay3 (F := Ideal) a (ix2 p q) = half * a (ix2 p q) := by
  unfold k0_pay3 half
  pointwise
/-- An element of the value call 0's body names `k0_pay4`. -/
theorem k0_pay4_apply (p : Fin 32) (q : Fin 16384) : k0_pay4 (F := Ideal) (ix2 p q) = 0 := by
  unfold k0_pay4
  pointwise
/-- An element of the value call 0's body names `k0_pay5`. -/
theorem k0_pay5_apply (p : Fin 32) (q : Fin 6144) : k0_pay5 (F := Ideal) (ix2 p q) = 0 := by
  unfold k0_pay5
  pointwise

end Cert.KernelIdeal.Hand

end
-- ==== Proof.KernelIdeal.ValSkB.lean ====
module

public import proofs.«01_k».proof.Proof.KernelIdeal.ValSkA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- An element of the value call 0's body names `k0_pay1`. -/
theorem k0_pay1_apply (x : FVec Ideal S256x6144 .bf16) (y : FVec Ideal S256x32 .bf16) (z) (p : Fin 32) (q : Fin 6144) :
    k0_pay1 (F := Ideal) x y z (ix2 p q) = z (ix2 p q) + ∑ t : Fin 256, y (ix2 t p) * x (ix2 t q) := by
  unfold k0_pay1
  pointwise
/-- An element of the value call 0's body names `k0_pay11`. -/
theorem k0_pay11_apply (a b) (p : Fin 256) (q : Fin 32) :
    k0_pay11 (F := Ideal) a b (ix2 p q) = ∑ k : Fin 2048, a (ix2 p k) * b (ix2 k q) := by
  unfold k0_pay11
  pointwise
  simp only [k0_pay10_apply]
/-- An element of the value call 0's body names `k0_pay17`. -/
theorem k0_pay17_apply (a b c d e) (p : Fin 256) (q : Fin 32) :
    k0_pay17 (F := Ideal) a b c d e (ix2 p q) = a (ix2 p q) + ∑ k : Fin 2048, b (ix2 p k) * c (ix2 k q) + ∑ k : Fin 2048, d (ix2 p k) * e (ix2 k q) := by
  unfold k0_pay17
  pointwise
  simp only [k0_pay14_apply, k0_pay16_apply]
/-- An element of the value call 0's body names `k0_pay24`. -/
theorem k0_pay24_apply (a b c d e f g) (p : Fin 256) (q : Fin 32) :
    k0_pay24 (F := Ideal) a (k0_pay19 b) c d e f g (ix2 p q) = a (ix2 p q) + ∑ k : Fin 2048, b (ix2 p k) * c (ix2 k q) + ∑ k : Fin 2048, d (ix2 p k) * e (ix2 k q)
      + ∑ k : Fin 2048, f (ix2 p k) * g (ix2 k q) := by
  unfold k0_pay24
  pointwise
  simp only [k0_pay19_apply, k0_pay21_apply, k0_pay23_apply]
/-- An element of the value call 0's body names `k0_pay31`. -/
theorem k0_pay31_apply (a b c d e f) (p : Fin 256) (q : Fin 32) :
    k0_pay31 (F := Ideal) (k0_pay7 a) b c d e f (ix2 p q) = (b (ix2 p q) + ∑ k : Fin 2048, c (ix2 p k) * d (ix2 k q) + ∑ k : Fin 2048, e (ix2 p k) * f (ix2 k q)) * a (ix2 p 0) := by
  unfold k0_pay31
  pointwise
  simp only [k0_pay7_apply, k0_pay27_apply, k0_pay29_apply]

/-- A cut of 2048 columns of the tokens' codes. -/
theorem xwin0_apply (x : Vec Ideal S256x16384 .fp8e4m3) (o : ℕ) (inb) (ho : o + 2048 ≤ 16384) (p : Fin 256) (k : Fin 2048) :
    VecWindow.window x ![0, o] S256x2048.size inb (ix2 p k) = x (ix2 p ⟨o + k.val, by omega⟩) := by
  unfold VecWindow.window
  refine congrArg x (funext fun a => Fin.ext ?_)
  match a with
  | ⟨0, _⟩ => show 0 + 1 * p.val = p.val; omega
  | ⟨1, _⟩ => show o + 1 * k.val = o + k.val; omega
/-- A cut of 2048 rows of the left factor. -/
theorem awin0_apply (x : Vec Ideal S16384x32 .bf16) (o : ℕ) (inb) (ho : o + 2048 ≤ 16384) (k : Fin 2048) (q : Fin 32) :
    VecWindow.window x ![o, 0] S2048x32.size inb (ix2 k q) = x (ix2 ⟨o + k.val, by omega⟩ q) := by
  unfold VecWindow.window
  refine congrArg x (funext fun a => Fin.ext ?_)
  match a with
  | ⟨0, _⟩ => show o + 1 * k.val = o + k.val; omega
  | ⟨1, _⟩ => show 0 + 1 * q.val = q.val; omega
/-- A cut of 2048 columns of the accumulated gradient. -/
theorem bwin0_apply (x : Vec Ideal S32x16384 .f32) (o : ℕ) (inb) (ho : o + 2048 ≤ 16384) (p : Fin 32) (k : Fin 2048) :
    VecWindow.window x ![0, o] S32x2048.size inb (ix2 p k) = x (ix2 p ⟨o + k.val, by omega⟩) := by
  unfold VecWindow.window
  refine congrArg x (funext fun a => Fin.ext ?_)
  match a with
  | ⟨0, _⟩ => show 0 + 1 * p.val = p.val; omega
  | ⟨1, _⟩ => show o + 1 * k.val = o + k.val; omega
/-- Inside the columns just written the array holds what was written. -/
theorem put0_in (b : Vec Ideal S32x16384 .f32) (o : ℕ) (v : Vec Ideal S32x2048 .f32) (p : Fin 32) (i : Fin 16384) (h : o ≤ i.val) (h' : i.val < o + 2048) :
    VecWindow.put b ![0, o] S32x2048.size v (ix2 p i) = v (ix2 p ⟨i.val - o, by omega⟩) := by
  unfold VecWindow.put
  rw [dif_pos (by
    intro a
    match a with
    | ⟨0, _⟩ => show 0 ≤ p.val ∧ p.val < 0 + 32; omega
    | ⟨1, _⟩ => show o ≤ i.val ∧ i.val < o + 2048; omega)]
  refine congrArg v (funext fun a => Fin.ext ?_)
  match a with
  | ⟨0, _⟩ => show p.val - 0 = p.val; omega
  | ⟨1, _⟩ => rfl
/-- Left of them it holds what it held. -/
theorem put0_out (b : Vec Ideal S32x16384 .f32) (o : ℕ) (v : Vec Ideal S32x2048 .f32) (p : Fin 32) (i : Fin 16384) (h : i.val < o) :
    VecWindow.put b ![0, o] S32x2048.size v (ix2 p i) = b (ix2 p i) := by
  unfold VecWindow.put
  rw [dif_neg (fun hh => by
    have : o ≤ i.val := (hh 1).1
    omega)]

/-- A chunk at its place in the whole array. -/
theorem daSum_at (x2 : Vec Ideal S256x16384 .fp8e4m3) (x3 : Vec Ideal S256x1 .f32) (g : FVec Ideal S256x32 .bf16) (b : Vec Ideal S32x16384 .f32) (o : ℕ) (inb inb')
    (ho : o + 2048 ≤ 16384) (p : Fin 32) (i : Fin 16384) (h : o ≤ i.val) (h' : i.val < o + 2048) :
    daSum x3 g (VecWindow.window x2 ![0, o] S256x2048.size inb) (VecWindow.window b ![0, o] S32x2048.size inb') p ⟨i.val - o, by omega⟩
      = b (ix2 p i) + ∑ y : Fin 256, g (ix2 y p) * (x2 (ix2 y i) * x3 (ix2 y 0)) := by
  unfold daSum
  have e : (⟨o + (i.val - o), by omega⟩ : Fin 16384) = i := Fin.ext (by show o + (i.val - o) = i.val; omega)
  rw [bwin0_apply _ _ _ ho]
  simp only [xwin0_apply _ _ _ ho, e]

/-- The left factor's gradient, grown by a block of tokens. -/
theorem daNew_apply (x1 x2 x3 x5 x6 x7) (b : Vec Ideal S32x16384 .f32) (p : Fin 32) (i : Fin 16384) :
    daNew (F := Ideal) x1 x2 x3 x5 x6 x7 b (ix2 p i)
      = b (ix2 p i) + ∑ y : Fin 256, k0_pay9 x6 x7 x1 x5 (ix2 y p) * (x2 (ix2 y i) * x3 (ix2 y 0)) := by
  have hi := i.isLt
  unfold daNew daChunk
  by_cases h7 : 14336 ≤ i.val
  · exact (put0_in _ 14336 _ p i h7 (by omega)).trans ((chunk7 _ _ _ _ p _).trans (daSum_at x2 x3 _ b 14336 _ _ (by omega) p i h7 (by omega)))
  refine (put0_out _ 14336 _ p i (by omega)).trans ?_
  by_cases h6 : 12288 ≤ i.val
  · exact (put0_in _ 12288 _ p i h6 (by omega)).trans ((chunk6 _ _ _ _ p _).trans (daSum_at x2 x3 _ b 12288 _ _ (by omega) p i h6 (by omega)))
  refine (put0_out _ 12288 _ p i (by omega)).trans ?_
  by_cases h5 : 10240 ≤ i.val
  · exact (put0_in _ 10240 _ p i h5 (by omega)).trans ((chunk5 _ _ _ _ p _).trans (daSum_at x2 x3 _ b 10240 _ _ (by omega) p i h5 (by omega)))
  refine (put0_out _ 10240 _ p i (by omega)).trans ?_
  by_cases h4 : 8192 ≤ i.val
  · exact (put0_in _ 8192 _ p i h4 (by omega)).trans ((chunk4 _ _ _ _ p _).trans (daSum_at x2 x3 _ b 8192 _ _ (by omega) p i h4 (by omega)))
  refine (put0_out _ 8192 _ p i (by omega)).trans ?_
  by_cases h3 : 6144 ≤ i.val
  · exact (put0_in _ 6144 _ p i h3 (by omega)).trans ((chunk3 _ _ _ _ p _).trans (daSum_at x2 x3 _ b 6144 _ _ (by omega) p i h3 (by omega)))
  refine (put0_out _ 6144 _ p i (by omega)).trans ?_
  by_cases h2 : 4096 ≤ i.val
  · exact (put0_in _ 4096 _ p i h2 (by omega)).trans ((chunk2 _ _ _ _ p _).trans (daSum_at x2 x3 _ b 4096 _ _ (by omega) p i h2 (by omega)))
  refine (put0_out _ 4096 _ p i (by omega)).trans ?_
  by_cases h1 : 2048 ≤ i.val
  · exact (put0_in _ 2048 _ p i h1 (by omega)).trans ((chunk1 _ _ _ _ p _).trans (daSum_at x2 x3 _ b 2048 _ _ (by omega) p i h1 (by omega)))
  refine (put0_out _ 2048 _ p i (by omega)).trans ?_
  exact (put0_in _ 0 _ p i (by omega) (by omega)).trans ((chunk0 _ _ _ _ _ _ _ p _).trans (daSum_at x2 x3 _ b 0 _ _ (by omega) p i (by omega) (by omega)))

/-- One chunk of a token's product with the left factor. -/
theorem xa_chunk (x2 : Vec Ideal S256x16384 .fp8e4m3) (x4 : Vec Ideal S16384x32 .bf16) (j : Fin 8) (o : ℕ) (ho : o = j.val * 2048) (inb inb') (p : Fin 256) (q : Fin 32) :
    ∑ k : Fin 2048, VecWindow.window x2 ![0, o] S256x2048.size inb (ix2 p k) * VecWindow.window x4 ![o, 0] S2048x32.size inb' (ix2 k q)
      = ∑ k : Fin 2048, x2 (ix2 p ⟨j.val * 2048 + k.val, by omega⟩) * x4 (ix2 ⟨j.val * 2048 + k.val, by omega⟩ q) := by
  subst ho
  have hj := j.isLt
  exact Finset.sum_congr rfl fun k _ => congrArg₂ (· * ·) (xwin0_apply x2 _ inb (by omega) p k) (awin0_apply x4 _ inb' (by omega) k q)

/-- The right factor's gradient, grown by a block of tokens. -/
theorem dbNew_apply (x1) (x2 : Vec Ideal S256x16384 .fp8e4m3) (x3) (x4 : Vec Ideal S16384x32 .bf16) (x6 x7) (b : Vec Ideal S32x6144 .f32) (p : Fin 32) (q : Fin 6144) :
    dbNew (F := Ideal) x1 x2 x3 x4 x6 x7 b (ix2 p q)
      = b (ix2 p q) + ∑ y : Fin 256, ((∑ i : Fin 16384, x2 (ix2 y i) * x4 (ix2 i p)) * x3 (ix2 y 0)) * k0_pay6 x6 x7 x1 (ix2 y q) := by
  unfold dbNew
  rw [k0_pay1_apply]
  refine congrArg (b (ix2 p q) + ·) (Finset.sum_congr rfl fun y _ => congrArg (fun z : EReal => z * k0_pay6 x6 x7 x1 (ix2 y q)) ?_)
  rw [k0_pay31_apply, k0_pay24_apply, k0_pay17_apply, k0_pay11_apply]
  rw [xa_chunk x2 x4 0 0 rfl, xa_chunk x2 x4 1 2048 rfl, xa_chunk x2 x4 2 4096 rfl, xa_chunk x2 x4 3 6144 rfl, xa_chunk x2 x4 4 8192 rfl,
    xa_chunk x2 x4 5 10240 rfl, xa_chunk x2 x4 6 12288 rfl, xa_chunk x2 x4 7 14336 rfl]
  rw [sum_blocks (n := 8) (m := 2048) (N := 16384) (by norm_num) (fun i => x2 (ix2 y i) * x4 (ix2 i p)), Fin.sum_univ_eight]

end Cert.KernelIdeal.Hand

end
-- ==== Proof.KernelIdeal.ValSk.lean ====
module

public import proofs.«01_k».proof.Proof.KernelIdeal.ValSkB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- The block of call 0's window 7 at each point of the grid. -/
theorem e0_7 : ∀ t : Fin grid0.N, win0_7.index t = ![0, 0] := by decide +kernel
/-- The block of call 0's window 8 at each point of the grid. -/
theorem e0_8 : ∀ t : Fin grid0.N, win0_8.index t = ![0, 0] := by decide +kernel
/-- When call 0's window 7 is written back. -/
theorem flush0_7 : ∀ t : Fin grid0.N, win0_7.flush t = true → t.val = 35 := by decide +kernel
/-- When call 0's window 8 is written back. -/
theorem flush0_8 : ∀ t : Fin grid0.N, win0_8.flush t = true → t.val = 35 := by decide +kernel

variable (W : Dev nD → Valuation τ sig (Elt Ideal)) {c : Dev nD} {I : Inputs} (h : Reads (W c) I)
include h

/-- The scaled rows of `dy` of a point. -/
theorem dyp0_apply (t : Fin cfg0.N) (p : Fin 256) (o : Fin 6144) :
    k0_pay6 (F := Ideal) (iblk0 W c 5 t) (iblk0 W c 6 t) (iblk0 W c 0 t) (ix2 p o)
      = I.dyp ⟨t.val * 256 + p.val, by have hN : t.val < cfg0.N := t.isLt; have := N0; omega⟩ o := by
  refine (k0_pay6_apply _ _ _ p o).trans ?_
  rw [iblk0_0_apply W h, iblk0_5_apply W h, iblk0_6_apply W h]
  rfl

/-- The scaled rows of `dy` of a point through the right factor. -/
theorem h0_apply (t : Fin cfg0.N) (p : Fin 256) (r : Fin 32) :
    k0_pay9 (F := Ideal) (iblk0 W c 5 t) (iblk0 W c 6 t) (iblk0 W c 0 t) (iblk0 W c 4 t) (ix2 p r)
      = I.h ⟨t.val * 256 + p.val, by have hN : t.val < cfg0.N := t.isLt; have := N0; omega⟩ r := by
  refine (k0_pay9_apply _ _ _ _ p r).trans (Finset.sum_congr rfl fun o _ => ?_)
  rw [dyp0_apply W h, iblk0_4_apply W h]

/-- What a point adds to the left factor's gradient. -/
def daTerm (I : Inputs) (n : ℕ) (hn : n < 36) (r : Fin 32) (i : Fin 16384) : EReal :=
  ∑ y : Fin 256, I.x ⟨n * 256 + y.val, by omega⟩ i * I.xs ⟨n * 256 + y.val, by omega⟩ * I.h ⟨n * 256 + y.val, by omega⟩ r

/-- What a point adds to the right factor's gradient. -/
def dbTerm (I : Inputs) (n : ℕ) (hn : n < 36) (r : Fin 32) (o : Fin 6144) : EReal :=
  ∑ y : Fin 256, I.xa ⟨n * 256 + y.val, by omega⟩ r * I.dyp ⟨n * 256 + y.val, by omega⟩ o

/-- One point's update of the left factor's gradient: the old value plus the sum over its 256 tokens. -/
theorem daNew_val (t : Fin cfg0.N) (b : Vec Ideal S32x16384 .f32) (r : Fin 32) (i : Fin 16384) :
    daNew (iblk0 W c 0 t) (iblk0 W c 1 t) (iblk0 W c 2 t) (iblk0 W c 4 t) (iblk0 W c 5 t) (iblk0 W c 6 t) b (ix2 r i)
      = b (ix2 r i) + daTerm I t.val (by have hN : t.val < cfg0.N := t.isLt; have := N0; omega) r i := by
  refine (daNew_apply _ _ _ _ _ _ b r i).trans (congrArg (fun z : EReal => b (ix2 r i) + z) (Finset.sum_congr rfl fun y _ => ?_))
  rw [h0_apply W h, iblk0_1_apply W h, iblk0_2_apply W h, mul_comm]

/-- One point's update of the right factor's gradient: the old value plus the sum over its 256 tokens. -/
theorem dbNew_val (t : Fin cfg0.N) (b : Vec Ideal S32x6144 .f32) (r : Fin 32) (o : Fin 6144) :
    dbNew (iblk0 W c 0 t) (iblk0 W c 1 t) (iblk0 W c 2 t) (iblk0 W c 3 t) (iblk0 W c 5 t) (iblk0 W c 6 t) b (ix2 r o)
      = b (ix2 r o) + dbTerm I t.val (by have hN : t.val < cfg0.N := t.isLt; have := N0; omega) r o := by
  refine (dbNew_apply _ _ _ _ _ _ b r o).trans (congrArg (fun z : EReal => b (ix2 r o) + z) (Finset.sum_congr rfl fun y _ => ?_))
  rw [dyp0_apply W h, iblk0_2_apply W h]
  simp only [iblk0_1_apply W h, iblk0_3_apply W h]
  rfl

/-- The left factor's gradient after `n + 1` points. -/
theorem daAcc_apply (r : Fin 32) (i : Fin 16384) (n : ℕ) (hn : n < 36) :
    daAcc W c n (ix2 r i) = ∑ s : Fin (n + 1), daTerm I s.val (by omega) r i := by
  have hN := N0
  induction n with
  | zero =>
    rw [daAcc_start W c ⟨0, by omega⟩ rfl, daNew_val W h, k0_pay4_apply, zero_add, Fin.sum_univ_one]
    rfl
  | succ n ih =>
    rw [daAcc_more W c ⟨n + 1, by omega⟩ (by simp), daNew_val W h]
    refine Eq.trans ?_ (Fin.sum_univ_castSucc (M := EReal) (fun s : Fin (n + 1 + 1) => daTerm I s.val (by omega) r i)).symm
    exact congrArg (· + daTerm I (n + 1) hn r i) (ih (by omega))

/-- The right factor's gradient after `n + 1` points. -/
theorem dbAcc_apply (r : Fin 32) (o : Fin 6144) (n : ℕ) (hn : n < 36) :
    dbAcc W c n (ix2 r o) = ∑ s : Fin (n + 1), dbTerm I s.val (by omega) r o := by
  have hN := N0
  induction n with
  | zero =>
    rw [dbAcc_start W c ⟨0, by omega⟩ rfl, dbNew_val W h, k0_pay5_apply, zero_add, Fin.sum_univ_one]
    rfl
  | succ n ih =>
    rw [dbAcc_more W c ⟨n + 1, by omega⟩ (by simp), dbNew_val W h]
    refine Eq.trans ?_ (Fin.sum_univ_castSucc (M := EReal) (fun s : Fin (n + 1 + 1) => dbTerm I s.val (by omega) r o)).symm
    exact congrArg (· + dbTerm I (n + 1) hn r o) (ih (by omega))

/-- The array of the left factor's gradient, transposed, that the call leaves. -/
theorem da_arr : (dat0 W c).arrAt 7 cfg0.N = fun j => I.dA (j 1) (j 0) := by
  refine (dat0 W c).arrAt_eq_of_covers 7 _ (by decide +kernel) fun t hf y => ?_
  have ht := flush0_7 t hf
  blk_simp
  rw [after0_7]
  rw [eq_ix2 y]
  refine (k0_pay2_apply _ (y 0) (y 1)).trans ?_
  have key : ∀ (n : ℕ) (hn : n = 35) (r : Fin 32) (i : Fin 16384), daAcc W c n (ix2 r i) = ∑ s : Fin 36, daTerm I s.val (by omega) r i := by
    intro n hn r i
    subst hn
    exact daAcc_apply W h r i 35 (by omega)
  refine (congrArg (fun z : EReal => half * z) (key t.val ht (y 0) (y 1))).trans ?_
  have e : ∀ (r r' : Fin 32) (i i' : Fin 16384), r' = r → i' = i → half * ∑ s : Fin 36, daTerm I s.val (by omega) r i = I.dA i' r' := by
    intro r r' i i' hr hi
    rw [hr, hi]
    exact congrArg (half * ·) (sum_blocks (n := 36) (m := 256) (by norm_num) (fun t => I.x t i * I.xs t * I.h t r)).symm
  refine e _ _ _ _ (Fin.ext ?_) (Fin.ext ?_)
  · blk_simp [e0_7 t]
  · blk_simp [e0_7 t]

/-- The array of the right factor's gradient that the call leaves. -/
theorem db_arr : (dat0 W c).arrAt 8 cfg0.N = fun j => I.dB (j 0) (j 1) := by
  refine (dat0 W c).arrAt_eq_of_covers 8 _ (by decide +kernel) fun t hf y => ?_
  have ht := flush0_8 t hf
  blk_simp
  rw [after0_8]
  rw [eq_ix2 y]
  refine (k0_pay3_apply _ (y 0) (y 1)).trans ?_
  have key : ∀ (n : ℕ) (hn : n = 35) (r : Fin 32) (i : Fin 6144), dbAcc W c n (ix2 r i) = ∑ s : Fin 36, dbTerm I s.val (by omega) r i := by
    intro n hn r i
    subst hn
    exact dbAcc_apply W h r i 35 (by omega)
  refine (congrArg (fun z : EReal => half * z) (key t.val ht (y 0) (y 1))).trans ?_
  have e : ∀ (r r' : Fin 32) (i i' : Fin 6144), r' = r → i' = i → half * ∑ s : Fin 36, dbTerm I s.val (by omega) r i = I.dB r' i' := by
    intro r r' i i' hr hi
    rw [hr, hi]
    exact congrArg (half * ·) (sum_blocks (n := 36) (m := 256) (by norm_num) (fun t => I.xa t r * I.dyp t i)).symm
  refine e _ _ _ _ (Fin.ext ?_) (Fin.ext ?_)
  · blk_simp [e0_8 t]
  · blk_simp [e0_8 t]

end Cert.KernelIdeal.Hand

end
-- ==== Proof.KernelIdeal.ValIn1.lean ====
module

public import proofs.«01_k».proof.Proof.KernelIdeal.ValIn

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-! # What the blocks of the merged-weight call hold, element by element -/
theorem e1_0 : ∀ t : Fin grid1.N, 16 ≤ t.val → win1_0.index t = ![t.val % 16, 0] := by decide +kernel
/-- The block of call 1's window 1 at each point of the grid. -/
theorem e1_1 : ∀ t : Fin grid1.N, 16 ≤ t.val → win1_1.index t = ![t.val % 16, t.val / 16 - 1] := by decide +kernel
/-- The block of call 1's window 2 at each point of the grid. -/
theorem e1_2 : ∀ t : Fin grid1.N, 16 ≤ t.val → win1_2.index t = ![t.val % 16, 0] := by decide +kernel
/-- The block of call 1's window 3 at each point of the grid. -/
theorem e1_3 : ∀ t : Fin grid1.N, 16 ≤ t.val → win1_3.index t = ![0, t.val / 16 - 1] := by decide +kernel
/-- The block of call 1's window 4 at each point of the grid. -/
theorem e1_4 : ∀ t : Fin grid1.N, win1_4.index t = ![t.val % 16, min (t.val / 16) 11] := by decide +kernel
/-- The block of call 1's window 5 at each point of the grid. -/
theorem e1_5 : ∀ t : Fin grid1.N, win1_5.index t = ![t.val % 16, min (t.val / 16) 11] := by decide +kernel
/-- The block of call 1's window 6 at each point of the grid. -/
theorem e1_6 : ∀ t : Fin grid1.N, win1_6.index t = ![t.val % 16, 0] := by decide +kernel
/-- The block of call 1's window 7 at each point of the grid. -/
theorem e1_7 : ∀ t : Fin grid1.N, win1_7.index t = ![0, min (t.val / 16) 11] := by decide +kernel
variable (W : Dev nD → Valuation τ sig (Elt Ideal)) {c : Dev nD} {I : Inputs} (h : Reads (W c) I)
include h
/-- An element of the block of call 1's window 0, as an element of the inputs. -/
theorem iblk1_0_apply (t : Fin cfg1.N) (ht : 16 ≤ t.val) (p : Fin 576) (q : Fin 16384) :
    iblk1 W c 0 t (ix2 p q) = I.x ⟨(t.val % 16) * 576 + p.val, by have hN : t.val < cfg1.N := t.isLt; have := N1; omega⟩ q := by
  unfold iblk1
  blk_simp
  refine (congrArg (W c main_v1) (funext fun a => Fin.ext ?_)).trans (h.x ⟨(t.val % 16) * 576 + p.val, by have hN : t.val < cfg1.N := t.isLt; have := N1; omega⟩ q)
  match a with
  | ⟨0, _⟩ => blk_simp [e1_0 t ht]
  | ⟨1, _⟩ => blk_simp [e1_0 t ht]
/-- An element of the block of call 1's window 1, as an element of the inputs. -/
theorem iblk1_1_apply (t : Fin cfg1.N) (ht : 16 ≤ t.val) (p : Fin 576) (q : Fin 512) :
    iblk1 W c 1 t (ix2 p q) = I.dy ⟨(t.val % 16) * 576 + p.val, by have hN : t.val < cfg1.N := t.isLt; have := N1; omega⟩ ⟨(t.val / 16 - 1) * 512 + q.val, by have hN : t.val < cfg1.N := t.isLt; have := N1; omega⟩ := by
  unfold iblk1
  blk_simp
  refine (congrArg (W c main_v0) (funext fun a => Fin.ext ?_)).trans (h.dy ⟨(t.val % 16) * 576 + p.val, by have hN : t.val < cfg1.N := t.isLt; have := N1; omega⟩ ⟨(t.val / 16 - 1) * 512 + q.val, by have hN : t.val < cfg1.N := t.isLt; have := N1; omega⟩)
  match a with
  | ⟨0, _⟩ => blk_simp [e1_1 t ht]
  | ⟨1, _⟩ => blk_simp [e1_1 t ht]
/-- An element of the block of call 1's window 2, as an element of the inputs. -/
theorem iblk1_2_apply (t : Fin cfg1.N) (ht : 16 ≤ t.val) (p : Fin 576) :
    iblk1 W c 2 t (ix2 p 0) = I.xs ⟨(t.val % 16) * 576 + p.val, by have hN : t.val < cfg1.N := t.isLt; have := N1; omega⟩ := by
  unfold iblk1
  blk_simp
  refine (congrArg (W c main_v2) (funext fun a => Fin.ext ?_)).trans (h.xs ⟨(t.val % 16) * 576 + p.val, by have hN : t.val < cfg1.N := t.isLt; have := N1; omega⟩ )
  match a with
  | ⟨0, _⟩ => blk_simp [e1_2 t ht]
  | ⟨1, _⟩ => blk_simp [e1_2 t ht]
/-- An element of the block of call 1's window 3, as an element of the inputs. -/
theorem iblk1_3_apply (t : Fin cfg1.N) (ht : 16 ≤ t.val) (q : Fin 512) :
    iblk1 W c 3 t (ix2 0 q) = I.n ⟨(t.val / 16 - 1) * 512 + q.val, by have hN : t.val < cfg1.N := t.isLt; have := N1; omega⟩ := by
  unfold iblk1
  blk_simp
  refine (congrArg (W c main_v4) (funext fun a => Fin.ext ?_)).trans (h.n  ⟨(t.val / 16 - 1) * 512 + q.val, by have hN : t.val < cfg1.N := t.isLt; have := N1; omega⟩)
  match a with
  | ⟨0, _⟩ => blk_simp [e1_3 t ht]
  | ⟨1, _⟩ => blk_simp [e1_3 t ht]
/-- An element of the block of call 1's window 4, as an element of the inputs. -/
theorem iblk1_4_apply (t : Fin cfg1.N) (p : Fin 512) (q : Fin 512) :
    iblk1 W c 4 t (ix2 p q) = I.w ⟨(t.val % 16) * 512 + p.val, by have hN : t.val < cfg1.N := t.isLt; have := N1; omega⟩ ⟨(min (t.val / 16) 11) * 512 + q.val, by have hN : t.val < cfg1.N := t.isLt; have := N1; omega⟩ := by
  unfold iblk1
  blk_simp
  refine (congrArg (W c main_arg3) (funext fun a => Fin.ext ?_)).trans (h.w ⟨(t.val % 16) * 512 + p.val, by have hN : t.val < cfg1.N := t.isLt; have := N1; omega⟩ ⟨(min (t.val / 16) 11) * 512 + q.val, by have hN : t.val < cfg1.N := t.isLt; have := N1; omega⟩)
  match a with
  | ⟨0, _⟩ => blk_simp [e1_4]
  | ⟨1, _⟩ => blk_simp [e1_4]
/-- An element of the block of call 1's window 5, as an element of the inputs. -/
theorem iblk1_5_apply (t : Fin cfg1.N) (p : Fin 8) (q : Fin 512) :
    iblk1 W c 5 t (ix2 p q) = I.s ⟨(t.val % 16) * 8 + p.val, by have hN : t.val < cfg1.N := t.isLt; have := N1; omega⟩ ⟨(min (t.val / 16) 11) * 512 + q.val, by have hN : t.val < cfg1.N := t.isLt; have := N1; omega⟩ := by
  unfold iblk1
  blk_simp
  refine (congrArg (W c main_arg4) (funext fun a => Fin.ext ?_)).trans (h.s ⟨(t.val % 16) * 8 + p.val, by have hN : t.val < cfg1.N := t.isLt; have := N1; omega⟩ ⟨(min (t.val / 16) 11) * 512 + q.val, by have hN : t.val < cfg1.N := t.isLt; have := N1; omega⟩)
  match a with
  | ⟨0, _⟩ => blk_simp [e1_5]
  | ⟨1, _⟩ => blk_simp [e1_5]
/-- An element of the block of call 1's window 6, as an element of the inputs. -/
theorem iblk1_6_apply (t : Fin cfg1.N) (p : Fin 1024) (q : Fin 32) :
    iblk1 W c 6 t (ix2 p q) = I.a ⟨(t.val % 16) * 1024 + p.val, by have hN : t.val < cfg1.N := t.isLt; have := N1; omega⟩ q := by
  unfold iblk1
  blk_simp
  refine (congrArg (W c main_arg5) (funext fun a => Fin.ext ?_)).trans (h.a ⟨(t.val % 16) * 1024 + p.val, by have hN : t.val < cfg1.N := t.isLt; have := N1; omega⟩ q)
  match a with
  | ⟨0, _⟩ => blk_simp [e1_6]
  | ⟨1, _⟩ => blk_simp [e1_6]
/-- An element of the block of call 1's window 7, as an element of the inputs. -/
theorem iblk1_7_apply (t : Fin cfg1.N) (p : Fin 32) (q : Fin 512) :
    iblk1 W c 7 t (ix2 p q) = I.b p ⟨(min (t.val / 16) 11) * 512 + q.val, by have hN : t.val < cfg1.N := t.isLt; have := N1; omega⟩ := by
  unfold iblk1
  blk_simp
  refine (congrArg (W c main_arg6) (funext fun a => Fin.ext ?_)).trans (h.b p ⟨(min (t.val / 16) 11) * 512 + q.val, by have hN : t.val < cfg1.N := t.isLt; have := N1; omega⟩)
  match a with
  | ⟨0, _⟩ => blk_simp [e1_7]
  | ⟨1, _⟩ => blk_simp [e1_7]

end Cert.KernelIdeal.Hand

end
-- ==== Proof.KernelIdeal.ValV.lean ====
module

public import proofs.«01_k».proof.Proof.KernelIdeal.ValIn0
public import proofs.«01_k».proof.Proof.KernelIdeal.ValIn1
public import Idealize.ShloMosaic.Lib.BitcastPair

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- The eight bits of a byte, spread over a 32-bit word and combined with the exponent's bits. -/
theorem code_bits : ∀ b : BitVec 8, ∀ k < 2, (((b.setWidth 32 &&& 15#32) ||| ((b.setWidth 32 &&& 240#32) <<< 12)) ^^^ 1124614920#32).extractLsb' (16 * k) 16
      = 0x4308#16 ^^^ (b.extractLsb' (4 * k) 4).setWidth 16 := by decide +kernel

/-- The decoded block: a byte's low half in the even row, its high half in the odd one. -/
theorem codes_apply (x : Vec Ideal S512x512 .i8) (p : Fin 1024) (q : Fin 512) :
    k1_pay3 (F := Ideal) x (ix2 p q) = code (x (ix2 ⟨p.val / 2, by omega⟩ q)) p.val := by
  unfold k1_pay3
  pointwise
  rw [bitcast_32_16]
  unfold code
  rw [← code_of_bits, ← code_bits _ _ (Nat.mod_lt _ (by decide))]
  have hi : ∀ hp, bitcasts_S512x512_w32_S1024x512_w16.srcIdx (ix2 p q) (S1024x512.row (ix2 p q) / 2) hp = ix2 (⟨p.val / 2, by omega⟩ : Fin 512) q := by
    intro hp
    funext a
    match a with
    | ⟨0, _⟩ => rfl
    | ⟨1, _⟩ => rfl
  rw [hi]
  rfl
/-- An element of the value call 1's body names `k1_pay4`. -/
theorem k1_pay4_apply (x y) (p : Fin 1024) (q : Fin 512) :
    k1_pay4 (F := Ideal) x y (ix2 p q) = ∑ r : Fin 32, x (ix2 p r) * y (ix2 r q) := by
  unfold k1_pay4
  pointwise

/-- A block of the merged weight, from the decoded block and the product of the factors. -/
theorem vblkOf_split (x6 x7 x8 x9) (p : Fin 1024) (q : Fin 512) :
    vblkOf (F := Ideal) x6 x7 x8 x9 (ix2 p q)
      = k1_pay3 x6 (ix2 p q) * x7 (ix2 ⟨p.val / 128, by omega⟩ q) + half * k1_pay4 x8 x9 (ix2 p q) := by
  unfold vblkOf k1_pay12 k1_pay11 k1_pay10 k1_pay9 k1_pay8 k1_pay7 k1_pay6 k1_pay5
  pointwise
  have key : ∀ (r r' : Fin 1024) (g : Fin 8), r = p → r' = p → g.val = p.val / 128 →
      k1_pay3 x6 (ix2 r q) * x7 (ix2 g q) + Ideal.ofBits FTy.f32 1056964608#32 * k1_pay4 x8 x9 (ix2 r' q)
        = k1_pay3 x6 (ix2 p q) * x7 (ix2 ⟨p.val / 128, by omega⟩ q) + half * k1_pay4 x8 x9 (ix2 p q) := by
    intro r r' g hr hr' hg
    rw [hr, hr', show g = ⟨p.val / 128, by omega⟩ from Fin.ext hg]
    rfl
  split_ifs <;> refine key _ _ _ (Fin.ext ?_) (Fin.ext ?_) ?_ <;> (try simp only [Fin.isValue]) <;> first | omega | (show _ = p.val / 128; simp; omega)

variable (W : Dev nD → Valuation τ sig (Elt Ideal)) {c : Dev nD} {I : Inputs} (h : Reads (W c) I)
include h

/-- The block of the merged weight that a point writes. -/
theorem vblk_apply (t : Fin cfg1.N) (p : Fin 1024) (q : Fin 512) :
    vblk W c t (ix2 p q) = I.v ⟨t.val % 16 * 1024 + p.val, by omega⟩ ⟨min (t.val / 16) 11 * 512 + q.val, by omega⟩ := by
  unfold vblk Inputs.v
  rw [vblkOf_split, codes_apply, k1_pay4_apply, iblk1_4_apply W h, iblk1_5_apply W h]
  simp only [iblk1_6_apply W h, iblk1_7_apply W h]
  refine congrArg₂ (· + ·) (congrArg₂ (· * ·) ?_ ?_) rfl
  · have e : (⟨t.val % 16 * 512 + p.val / 2, by omega⟩ : Fin 8192) = ⟨(t.val % 16 * 1024 + p.val) / 2, by omega⟩ := Fin.ext (by simp only; omega)
    unfold code
    rw [← e, show (t.val % 16 * 1024 + p.val) % 2 = p.val % 2 by omega]
  · refine congrArg (fun g => I.s g _) (Fin.ext ?_)
    show t.val % 16 * 8 + p.val / 128 = (t.val % 16 * 1024 + p.val) / 128
    omega

omit h in
theorem e1_8 : ∀ t : Fin grid1.N, win1_8.index t = ![t.val % 16, min (t.val / 16) 11] := by decide +kernel

/-- The array of the merged weight the call leaves. -/
theorem v_arr : (dat1 W c).arrAt 8 cfg1.N = fun j => I.v (j 0) (j 1) := by
  refine (dat1 W c).arrAt_eq_of_covers 8 _ (by decide +kernel) fun t hf y => ?_
  blk_simp
  rw [after1_8]
  rw [eq_ix2 y]
  refine (vblk_apply W h t (y 0) (y 1)).trans ?_
  refine congrArg₂ I.v (Fin.ext ?_) (Fin.ext ?_)
  · blk_simp [e1_8 t]
  · blk_simp [e1_8 t]

end Cert.KernelIdeal.Hand

end
-- ==== Proof.KernelIdeal.ValDm.lean ====
module

public import proofs.«01_k».proof.Proof.KernelIdeal.ValV

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- An element of the value call 1's body names `k1_pay24`. -/
theorem k1_pay24_apply (a b) (p : Fin 576) (q : Fin 512) :
    k1_pay24 (F := Ideal) a b (ix2 p q) = ∑ x : Fin 2048, a (ix2 p x) * b (ix3 0 x q) := by
  unfold k1_pay24
  pointwise
/-- An element of the value call 1's body names `k1_pay25`. -/
theorem k1_pay25_apply (a b c d e f g h i) (p : Fin 576) (q : Fin 512) :
    k1_pay25 (F := Ideal) a b c d e f g h i (ix2 p q)
      = a (ix2 p q) + ∑ x : Fin 2048, b (ix2 p x) * c (ix3 0 x q) + ∑ x : Fin 2048, d (ix2 p x) * e (ix3 0 x q)
        + ∑ x : Fin 2048, f (ix2 p x) * g (ix3 0 x q) + ∑ x : Fin 2048, h (ix2 p x) * i (ix3 0 x q) := by
  unfold k1_pay25
  pointwise
/-- An element of the value call 1's body names `k1_pay26`. -/
theorem k1_pay26_apply (a) (p : Fin 576) (q : Fin 2048) : k1_pay26 (F := Ideal) a (ix2 p q) = a (ix2 p q) := by
  unfold k1_pay26
  pointwise
/-- An element of the value call 1's body names `k1_pay27`. -/
theorem k1_pay27_apply (a b c d e f g h i j) (q : Fin 512) :
    k1_pay27 (F := Ideal) a b c d e f g h i j (ix2 0 q)
      = Ideal.div (∑ x : Fin 576, h (ix2 x q) * ((a (ix2 x q) + ∑ y : Fin 2048, b (ix2 x y) * c (ix3 0 y q)
          + ∑ y : Fin 2048, d (ix2 x y) * e (ix3 0 y q) + ∑ y : Fin 2048, f (ix2 x y) * g (ix3 0 y q)) * i (ix2 x 0))) (j (ix2 0 q)) := by
  unfold k1_pay27
  pointwise
/-- An element of the value call 1's body names `k1_pay2`. -/
theorem k1_pay2_apply (a b) (q : Fin 512) :
    k1_pay2 (F := Ideal) a b (ix2 0 q) = b (ix2 0 q) + a (ix2 0 q) := by
  unfold k1_pay2
  pointwise
/-- An element of the value call 1's body names `k1_pay1`. -/
theorem k1_pay1_apply (a) (p : Fin 1024) (q : Fin 512) : k1_pay1 (F := Ideal) a (ix3 0 p q) = a (ix2 p q) := by
  unfold k1_pay1
  pointwise

/-- A cut of 2048 columns, element by element. -/
theorem xwin_apply (x : Vec Ideal S576x16384 .fp8e4m3) (o : ℕ) (inb) (ho : o + 2048 ≤ 16384) (p : Fin 576) (k : Fin 2048) :
    VecWindow.window x ![0, o] S576x2048.size inb (ix2 p k) = x (ix2 p ⟨o + k.val, by omega⟩) := by
  unfold VecWindow.window
  refine congrArg x (funext fun a => Fin.ext ?_)
  match a with
  | ⟨0, _⟩ => show 0 + 1 * p.val = p.val; omega
  | ⟨1, _⟩ => show o + 1 * k.val = o + k.val; omega

variable (W : Dev nD → Valuation τ sig (Elt Ideal)) {c : Dev nD} {I : Inputs} (h : Reads (W c) I)
include h

/-- A chunk of the previous column of the merged weight. -/
theorem vChunk_apply (t : Fin cfg1.N) (ht : 16 ≤ t.val) (j : Fin 8) (p : Fin 2048) (q : Fin 512) :
    vChunk W c t j (ix3 0 p q) = I.v ⟨j.val * 2048 + p.val, by omega⟩
      ⟨(t.val / 16 - 1) * 512 + q.val, by have hN : t.val < cfg1.N := t.isLt; have := N1; omega⟩ := by
  have hN : t.val < cfg1.N := t.isLt
  have := N1
  have hj := j.isLt
  refine (k1_pay1_apply _ ⟨p.val % 1024, Nat.mod_lt _ (by decide)⟩ q).trans ((vblk_apply W h _ _ _).trans ?_)
  refine congrArg₂ I.v (Fin.ext ?_) (Fin.ext ?_)
  · show (16 * (t.val / 16 - 1) + (2 * j.val + p.val / 1024)) % 16 * 1024 + p.val % 1024 = j.val * 2048 + p.val
    omega
  · show min ((16 * (t.val / 16 - 1) + (2 * j.val + p.val / 1024)) / 16) 11 * 512 + q.val = (t.val / 16 - 1) * 512 + q.val
    omega

/-- One chunk of a row's product with a column of the merged weight. -/
theorem chunk_sum (t : Fin cfg1.N) (ht : 16 ≤ t.val) (X : Vec Ideal S576x16384 .fp8e4m3) (hX : X = iblk1 W c 0 t)
    (j : Fin 8) (o : ℕ) (ho : o = 2048 * j.val) (inb) (p : Fin 576) (q : Fin 512) :
    ∑ k : Fin 2048, VecWindow.window X ![0, o] S576x2048.size inb (ix2 p k) * vChunk W c t j (ix3 0 k q)
      = ∑ k : Fin 2048, I.x ⟨t.val % 16 * 576 + p.val, by omega⟩ ⟨j.val * 2048 + k.val, by omega⟩ * I.v ⟨j.val * 2048 + k.val, by omega⟩
          ⟨(t.val / 16 - 1) * 512 + q.val, by have hN : t.val < cfg1.N := t.isLt; have := N1; omega⟩ := by
  have hj := j.isLt
  subst hX
  refine Finset.sum_congr rfl fun k _ => congrArg₂ (· * ·) ?_ (vChunk_apply W h t ht j k q)
  refine (xwin_apply _ o inb (by omega) p k).trans ((iblk1_0_apply W h t ht p _).trans ?_)
  refine congrArg (I.x _) (Fin.ext ?_)
  show o + k.val = j.val * 2048 + k.val
  omega

omit h in
/-- A whole row's product with a column of the merged weight is the eight chunks' in a row. -/
theorem row_sum (t : Fin 9216) (o : Fin 6144) :
    ∑ i : Fin 16384, I.x t i * I.v i o = ∑ j : Fin 8, ∑ k : Fin 2048, I.x t ⟨j.val * 2048 + k.val, by omega⟩ * I.v ⟨j.val * 2048 + k.val, by omega⟩ o :=
  sum_blocks (n := 8) (m := 2048) (by norm_num) fun i => I.x t i * I.v i o

/-- What a point contributes: its 576 tokens' terms, summed and divided by the norm. -/
theorem dmTileV_apply (t : Fin cfg1.N) (ht : 16 ≤ t.val) (q : Fin 512) :
    dmTileV W c t (ix2 0 q) = Ideal.div
      (∑ p : Fin 576, I.dmTerm ⟨t.val % 16 * 576 + p.val, by omega⟩ ⟨(t.val / 16 - 1) * 512 + q.val, by have hN : t.val < cfg1.N := t.isLt; have := N1; omega⟩)
      (I.n ⟨(t.val / 16 - 1) * 512 + q.val, by have hN : t.val < cfg1.N := t.isLt; have := N1; omega⟩) := by
  unfold dmTileV dmTile
  rw [k1_pay27_apply, iblk1_3_apply W h t ht]
  refine congrArg (fun z => Ideal.div z _) (Finset.sum_congr rfl fun p _ => ?_)
  rw [iblk1_1_apply W h t ht, iblk1_2_apply W h t ht, k1_pay25_apply, k1_pay24_apply]
  simp only [k1_pay26_apply]
  rw [chunk_sum W h t ht _ rfl 0 0 rfl, chunk_sum W h t ht _ rfl 1 2048 rfl, chunk_sum W h t ht _ rfl 2 4096 rfl, chunk_sum W h t ht _ rfl 3 6144 rfl,
    chunk_sum W h t ht _ rfl 4 8192 rfl, chunk_sum W h t ht _ rfl 5 10240 rfl, chunk_sum W h t ht _ rfl 6 12288 rfl, chunk_sum W h t ht _ rfl 7 14336 rfl]
  unfold Inputs.dmTerm
  rw [row_sum, Fin.sum_univ_eight]

/-- The running sum after `r + 1` tiles of a column. -/
theorem dmAcc_apply (hn : ∀ o, 0 < I.n o) (p : ℕ) (hp : 1 ≤ p) (hp' : p ≤ 12) (q : Fin 512) (r : ℕ) (hr : r < 16) :
    dmAcc W c (p * 16 + r) (ix2 0 q)
      = ∑ s : Fin (r + 1), ∑ k : Fin 576, Ideal.div (I.dmTerm ⟨s.val * 576 + k.val, by omega⟩ ⟨(p - 1) * 512 + q.val, by omega⟩) (I.n ⟨(p - 1) * 512 + q.val, by omega⟩) := by
  have hN := N1
  have tile : ∀ r (hr : r < 16), dmTileV W c ⟨p * 16 + r, by omega⟩ (ix2 0 q)
      = ∑ k : Fin 576, Ideal.div (I.dmTerm ⟨r * 576 + k.val, by omega⟩ ⟨(p - 1) * 512 + q.val, by omega⟩) (I.n ⟨(p - 1) * 512 + q.val, by omega⟩) := by
    intro r hr
    rw [dmTileV_apply W h _ (by show 16 ≤ p * 16 + r; omega), ← sum_div _ _ (hn _)]
    have e1 : (p * 16 + r) % 16 = r := by omega
    have e2 : (p * 16 + r) / 16 = p := by omega
    simp only [e1, e2]
  induction r with
  | zero =>
    rw [dmAcc_start W c ⟨p * 16 + 0, by omega⟩ (by show (p * 16 + 0) % 16 = 0; omega), tile 0 hr, Fin.sum_univ_one]
    rfl
  | succ r ih =>
    rw [dmAcc_more W c ⟨p * 16 + (r + 1), by omega⟩ (by show ¬ (p * 16 + (r + 1)) % 16 = 0; omega), k1_pay2_apply, tile (r + 1) hr,
      show p * 16 + (r + 1) - 1 = p * 16 + r from by omega, ih (by omega) tile]
    exact (Fin.sum_univ_castSucc (M := EReal) (fun s : Fin (r + 1 + 1) => ∑ k : Fin 576,
      Ideal.div (I.dmTerm ⟨s.val * 576 + k.val, by omega⟩ ⟨(p - 1) * 512 + q.val, by omega⟩) (I.n ⟨(p - 1) * 512 + q.val, by omega⟩))).symm

omit h in
theorem e1_9 : ∀ t : Fin grid1.N, 16 ≤ t.val → win1_9.index t = ![0, t.val / 16 - 1] := by decide +kernel
omit h in
theorem flush1_9 : ∀ t : Fin grid1.N, win1_9.flush t = true → t.val % 16 = 15 ∧ 16 ≤ t.val := by decide +kernel

/-- The array of the magnitudes' gradient the call leaves. -/
theorem dm_arr (hn : ∀ o, 0 < I.n o) : (dat1 W c).arrAt 9 cfg1.N = fun j => I.dm (j 1) := by
  refine (dat1 W c).arrAt_eq_of_covers 9 _ (by decide +kernel) fun t hf y => ?_
  obtain ⟨h15, h16⟩ := flush1_9 t hf
  have hN : t.val < cfg1.N := t.isLt
  have := N1
  blk_simp
  rw [after1_9]
  rw [eq_ix2 y]
  have hy0 : y 0 = (0 : Fin 1) := Subsingleton.elim (α := Fin 1) _ _
  rw [hy0]
  have et : t.val = t.val / 16 * 16 + 15 := by omega
  have key := dmAcc_apply W h hn (t.val / 16) (by omega) (by omega) (y 1) 15 (by omega)
  rw [← et] at key
  refine key.trans ?_
  unfold Inputs.dm
  refine Eq.trans ?_ (sum_blocks (n := 16) (m := 576) (by norm_num) _).symm
  have eo : ∀ o o' : Fin 6144, o = o' → ∑ s : Fin 16, ∑ k : Fin 576, Ideal.div (I.dmTerm ⟨s.val * 576 + k.val, by omega⟩ o) (I.n o)
      = ∑ s : Fin 16, ∑ k : Fin 576, Ideal.div (I.dmTerm ⟨s.val * 576 + k.val, by omega⟩ o') (I.n o') := by
    intro o o' e; rw [e]
  refine eo _ _ (Fin.ext ?_)
  blk_simp [e1_9 t h16]

end Cert.KernelIdeal.Hand

end
-- ==== Proof.KernelIdeal.ValIn2.lean ====
module

public import proofs.«01_k».proof.Proof.KernelIdeal.ValIn

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-! # What the blocks of the `dx` call hold, element by element -/
theorem e2_0 : ∀ t : Fin grid2.N, win2_0.index t = ![min t.val 287, 0] := by decide +kernel
/-- The block of call 2's window 2 at each point of the grid. -/
theorem e2_2 : ∀ t : Fin grid2.N, win2_2.index t = ![0, 0] := by decide +kernel
/-- The block of call 2's window 3 at each point of the grid. -/
theorem e2_3 : ∀ t : Fin grid2.N, win2_3.index t = ![0, 0] := by decide +kernel
variable (W : Dev nD → Valuation τ sig (Elt Ideal)) {c : Dev nD} {I : Inputs} (h : Reads (W c) I)
include h
/-- An element of the block of call 2's window 0, as an element of the inputs. -/
theorem iblk2_0_apply (t : Fin cfg2.N) (p : Fin 32) (q : Fin 6144) :
    iblk2 W c 0 t (ix2 p q) = I.dy ⟨(min t.val 287) * 32 + p.val, by have hN : t.val < cfg2.N := t.isLt; have := N2; omega⟩ q := by
  unfold iblk2
  blk_simp
  refine (congrArg (W c main_v0) (funext fun a => Fin.ext ?_)).trans (h.dy ⟨(min t.val 287) * 32 + p.val, by have hN : t.val < cfg2.N := t.isLt; have := N2; omega⟩ q)
  match a with
  | ⟨0, _⟩ => blk_simp [e2_0]
  | ⟨1, _⟩ => blk_simp [e2_0]
/-- An element of the block of call 2's window 2, as an element of the inputs. -/
theorem iblk2_2_apply (t : Fin cfg2.N) (q : Fin 6144) :
    iblk2 W c 2 t (ix2 0 q) = I.mag q := by
  unfold iblk2
  blk_simp
  refine (congrArg (W c main_v3) (funext fun a => Fin.ext ?_)).trans (h.mag  q)
  match a with
  | ⟨0, _⟩ => blk_simp [e2_2]
  | ⟨1, _⟩ => blk_simp [e2_2]
/-- An element of the block of call 2's window 3, as an element of the inputs. -/
theorem iblk2_3_apply (t : Fin cfg2.N) (q : Fin 6144) :
    iblk2 W c 3 t (ix2 0 q) = I.n q := by
  unfold iblk2
  blk_simp
  refine (congrArg (W c main_v4) (funext fun a => Fin.ext ?_)).trans (h.n  q)
  match a with
  | ⟨0, _⟩ => blk_simp [e2_3]
  | ⟨1, _⟩ => blk_simp [e2_3]

end Cert.KernelIdeal.Hand

end
-- ==== Proof.KernelIdeal.ValDx.lean ====
module

public import proofs.«01_k».proof.Proof.KernelIdeal.ValIn2

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- The block of call 2's window 1 at each point of the grid. -/
theorem e2_1 : ∀ t : Fin grid2.N, 32 ≤ t.val → win2_1.index t = ![t.val % 32, 0] := by decide +kernel
/-- The block of call 2's window 4 at each point of the grid. -/
theorem e2_4 : ∀ t : Fin grid2.N, 32 ≤ t.val → win2_4.index t = ![t.val / 32 - 1, t.val % 32] := by decide +kernel
/-- When call 2's window 4 is written back. -/
theorem flush2_4 : ∀ t : Fin grid2.N, win2_4.flush t = true → 32 ≤ t.val := by decide +kernel

/-- An element of the value call 2's body names `k2_pay1`. -/
theorem k2_pay1_apply (x y : Vec Ideal S1x6144 .f32) (z : Vec Ideal S32x6144 .bf16) (p : Fin 32) (q : Fin 6144) :
    k2_pay1 x y z (ix3 0 p q) = z (ix2 p q) * Ideal.div (x (ix2 0 q)) (y (ix2 0 q)) := by
  unfold k2_pay1
  pointwise

/-- An element of the value call 2's body names `k2_pay2`. -/
theorem k2_pay2_apply (x : Vec Ideal S1x1024x6144 .bf16) (y : Vec Ideal S512x6144 .bf16) (p : Fin 1024) (q : Fin 512) :
   k2_pay2 x y (ix2 p q) = ∑ k : Fin 6144, x (ix3 0 p k) * y (ix2 q k) := by
  unfold k2_pay2
  pointwise

variable (W : Dev nD → Valuation τ sig (Elt Ideal)) {c : Dev nD} {I : Inputs} (h : Reads (W c) I)
include h

/-- The 1024 rows a point multiplies are scaled rows of `dy`. -/
theorem dypVec_apply (t : Fin cfg2.N) (ht : 32 ≤ t.val) (p : Fin 1024) (q : Fin 6144) :
    dypVec W c t (ix3 0 p q) = I.dyp ⟨(t.val / 32 - 1) * 1024 + p.val, by have hN : t.val < cfg2.N := t.isLt; have := N2; omega⟩ q := by
  have hN : t.val < cfg2.N := t.isLt
  have := N2
  refine (k2_pay1_apply _ _ _ ⟨p.val % 32, Nat.mod_lt _ (by decide)⟩ q).trans ?_
  rw [iblk2_0_apply W h, iblk2_2_apply W h, iblk2_3_apply W h]
  refine congrArg (fun r => I.dyp r q) (Fin.ext ?_)
  show min (32 * (t.val / 32 - 1) + p.val / 32) 287 * 32 + p.val % 32 = (t.val / 32 - 1) * 1024 + p.val
  omega

/-- A block of the result. -/
theorem dxOut_apply (hv : ∀ i o, W c main_v6_0 (ix2 i o) = I.v i o) (t : Fin cfg2.N) (ht : 32 ≤ t.val) (p : Fin 1024) (q : Fin 512) :
    dxOut W c t (ix2 p q) = I.dx ⟨(t.val / 32 - 1) * 1024 + p.val, by have hN : t.val < cfg2.N := t.isLt; have := N2; omega⟩ ⟨t.val % 32 * 512 + q.val, by omega⟩ := by
  refine (k2_pay2_apply _ _ p q).trans (Finset.sum_congr rfl fun k _ => ?_)
  rw [dypVec_apply W h t ht]
  show I.dyp _ k * _ = I.dyp _ k * _
  congr 1
  unfold iblk2
  blk_simp
  refine (congrArg (W c main_v6_0) (funext fun a => Fin.ext ?_)).trans (hv _ _)
  match a with
  | ⟨0, _⟩ => blk_simp [e2_1 t ht]
  | ⟨1, _⟩ => blk_simp [e2_1 t ht]

/-- The array the call leaves. -/
theorem dx_arr (hv : ∀ i o, W c main_v6_0 (ix2 i o) = I.v i o) :
    (dat2 W c).arrAt 4 cfg2.N = fun j => I.dx (j 0) (j 1) := by
  refine (dat2 W c).arrAt_eq_of_covers 4 _ (by decide +kernel) fun t hf y => ?_
  have ht : 32 ≤ t.val := flush2_4 t hf
  blk_simp
  rw [after2_4]
  rw [eq_ix2 y]
  refine (dxOut_apply W h hv t ht (y 0) (y 1)).trans ?_
  refine congrArg₂ I.dx (Fin.ext ?_) (Fin.ext ?_)
  · blk_simp [e2_4 t ht]
  · blk_simp [e2_4 t ht]

end Cert.KernelIdeal.Hand

end
-- ==== Proof.KernelIdeal.ValRun.lean ====
module

public import proofs.«01_k».proof.Proof.KernelIdeal.ValSk
public import proofs.«01_k».proof.Proof.KernelIdeal.ValDm
public import proofs.«01_k».proof.Proof.KernelIdeal.ValDx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
variable (m : (ℓ : Loc nD τ sig) → Buf (Elt Ideal) ℓ)

/-- The arguments a device starts with, at plain coordinates. -/
def args (c : Dev nD) : Inputs :=
  inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The first call reads the arguments. -/
theorem reads1 (c : Dev nD) : Reads (W1 m c) (args m c) where
  dy t o := by
    unfold W1
    after_results_simp
    pointwise
    rfl
  x t i := by
    unfold W1
    after_results_simp
    pointwise
    rfl
  xs t := by
    unfold W1
    after_results_simp
    pointwise
    rfl
  w k o := by
    unfold W1
    rw [V1_of m c main_arg3 (by decide)]
    rfl
  s g o := by
    unfold W1
    rw [V1_of m c main_arg4 (by decide)]
    rfl
  a i r := by
    unfold W1
    rw [V1_of m c main_arg5 (by decide)]
    rfl
  b r o := by
    unfold W1
    rw [V1_of m c main_arg6 (by decide)]
    rfl
  mag o := by
    unfold W1
    after_results_simp
    pointwise
    rfl
  n o := by
    unfold W1
    after_results_simp
    pointwise
    rfl

/-- Reading the arguments survives any change to the calls' results alone. -/
theorem Reads.of_eq {X Y : Valuation τ sig (Elt Ideal)} {I : Inputs} (h : Reads X I)
    (e : ∀ r : Ref sig .tc, r ∉ ([main_v5_0, main_v5_1, main_v6_0, main_v6_1] : List (Ref sig .tc)) → Y r = X r) : Reads Y I where
  dy t o := (congrFun (e main_v0 (by decide)) _).trans (h.dy t o)
  x t i := (congrFun (e main_v1 (by decide)) _).trans (h.x t i)
  xs t := (congrFun (e main_v2 (by decide)) _).trans (h.xs t)
  w k o := (congrFun (e main_arg3 (by decide)) _).trans (h.w k o)
  s g o := (congrFun (e main_arg4 (by decide)) _).trans (h.s g o)
  a i r := (congrFun (e main_arg5 (by decide)) _).trans (h.a i r)
  b r o := (congrFun (e main_arg6 (by decide)) _).trans (h.b r o)
  mag o := (congrFun (e main_v3 (by decide)) _).trans (h.mag o)
  n o := (congrFun (e main_v4 (by decide)) _).trans (h.n o)

/-- The second call reads the arguments. -/
theorem reads2 (c : Dev nD) : Reads (W2 m c) (args m c) :=
  (reads1 m c).of_eq fun r hr => by
    rw [← V2_eq]
    exact V2_of m (outs m) c r fun h => hr (by simp only [List.mem_cons, List.not_mem_nil, or_false] at h ⊢; tauto)

/-- The third call reads the arguments. -/
theorem reads3 (c : Dev nD) : Reads (W3 m c) (args m c) :=
  (reads2 m c).of_eq fun r hr => by
    rw [← V3_eq, ← V2_eq]
    exact V3_of m (outs m) c r fun h => hr (by simp only [List.mem_cons, List.not_mem_nil, or_false] at h ⊢; tauto)

/-- A call leaves an output window's array as its blocks were written. -/
theorem W2_v5_0 (c : Dev nD) : W2 m c main_v5_0 = (dat0 (W1 m) c).arrAt 7 cfg0.N := Pipeline.afterRegion_arr _ _ launch0.win.arr_inj 7
/-- The right factor's gradient after the first call. -/
theorem W2_v5_1 (c : Dev nD) : W2 m c main_v5_1 = (dat0 (W1 m) c).arrAt 8 cfg0.N := Pipeline.afterRegion_arr _ _ launch0.win.arr_inj 8
/-- The merged weight after the second call. -/
theorem W3_v6_0 (c : Dev nD) : W3 m c main_v6_0 = (dat1 (W2 m) c).arrAt 8 cfg1.N := Pipeline.afterRegion_arr _ _ launch1.win.arr_inj 8
/-- The magnitude's gradient after the second call. -/
theorem W3_v6_1 (c : Dev nD) : W3 m c main_v6_1 = (dat1 (W2 m) c).arrAt 9 cfg1.N := Pipeline.afterRegion_arr _ _ launch1.win.arr_inj 9
/-- The input's gradient after the third call. -/
theorem W4_v7 (c : Dev nD) : W4 m c main_v7 = (dat2 (W3 m) c).arrAt 4 cfg2.N := Pipeline.afterRegion_arr _ _ launch2.win.arr_inj 4

/-- The first result is the input's gradient. -/
theorem out_dx (c : Dev nD) (b : Fin 3) (s : Fin 3072) (i : Fin 16384) : V5 m (outs m) c main_v8 (ix3 b s i) = (args m c).dx (tok b s) i := by
  unfold V5
  after_results_simp
  pointwise
  rw [V4_eq, W4_v7, dx_arr (W3 m) (reads3 m c) (fun i o => by rw [W3_v6_0, v_arr (W2 m) (reads2 m c)]; rfl)]
  rfl

/-- The second result is the left factor's gradient. -/
theorem out_dA (c : Dev nD) (i : Fin 16384) (r : Fin 32) : V5 m (outs m) c main_v9 (ix2 i r) = (args m c).dA i r := by
  unfold V5
  after_results_simp
  pointwise
  change V4 m (outs m) c main_v5_0 (ix2 r i) = _
  rw [V4_of m (outs m) c main_v5_0 (by decide), V3_of m (outs m) c main_v5_0 (by decide), V2_eq, W2_v5_0, da_arr (W1 m) (reads1 m c)]
  rfl

/-- The third result is the right factor's gradient. -/
theorem out_dB (c : Dev nD) (r : Fin 32) (o : Fin 6144) : V5 m (outs m) c main_v5_1 (ix2 r o) = (args m c).dB r o := by
  rw [V5_of m (outs m) c main_v5_1 (by decide), V4_of m (outs m) c main_v5_1 (by decide), V3_of m (outs m) c main_v5_1 (by decide), V2_eq, W2_v5_1, db_arr (W1 m) (reads1 m c)]
  rfl

/-- The fourth result is the magnitude's gradient. -/
theorem out_dm (c : Dev nD) (hn : ∀ o, 0 < (args m c).n o) (o : Fin 6144) : V5 m (outs m) c main_v10 (ix1 o) = (args m c).dm o := by
  unfold V5
  after_results_simp
  pointwise
  change V4 m (outs m) c main_v6_1 (ix2 0 o) = _
  rw [V4_of m (outs m) c main_v6_1 (by decide), V3_eq, W3_v6_1, dm_arr (W2 m) (reads2 m c) hn]
  rfl

end Cert.KernelIdeal.Hand

end
-- ==== Proof.KernelIdeal.RunValue.lean ====
module

public import proofs.«01_k».proof.Proof.KernelIdeal.ValRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
variable (m : (ℓ : Loc nD τ sig) → Buf (Elt Ideal) ℓ) (ρ : Dev nD → PrngReg)

/-- The kernel's run: its four results, as functions of its arguments, at every device, where the norms are positive. -/
theorem run_values (hn : ∀ c o, 0 < (args m c).n o) : θ_run defs (onTc (τ := τ) (main (F := Ideal))) ⟨m, fun _ => 0, ρ⟩ (fun r => ∀ c : Dev nD,
    r.2.mem ((c.tc : Thread nD τ).loc main_v8) = (fun j => (args m c).dx (tok (j 0) (j 1)) (j 2))
    ∧ r.2.mem ((c.tc : Thread nD τ).loc main_v9) = (fun j => (args m c).dA (j 0) (j 1))
    ∧ r.2.mem ((c.tc : Thread nD τ).loc main_v5_1) = (fun j => (args m c).dB (j 0) (j 1))
    ∧ r.2.mem ((c.tc : Thread nD τ).loc main_v10) = (fun j => (args m c).dm (j 0))) := by
  refine (θ_run defs _ _).mono (fun r h c => ⟨?_, ?_, ?_, ?_⟩) (run_main m ρ)
  · refine (h.1 c main_v8 (by decide)).trans ?_
    funext j
    rw [eq_ix3 j]
    exact out_dx m c _ _ _
  · refine (h.1 c main_v9 (by decide)).trans ?_
    funext j
    rw [eq_ix2 j]
    exact out_dA m c _ _
  · refine (h.1 c main_v5_1 (by decide)).trans ?_
    funext j
    rw [eq_ix2 j]
    exact out_dB m c _ _
  · refine (h.1 c main_v10 (by decide)).trans ?_
    funext j
    rw [eq_ix1 j]
    exact out_dm m c (hn c) _

end Cert.KernelIdeal.Hand

end
-- ==== Proof.ReferenceIdeal.Code.lean ====
module

public import proofs.«01_k».proof.Proof.Gen.ReferenceIdeal.Frame
public import proofs.«01_k».proof.Proof.Value.Spec
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
/-- The low half of a byte, its sign set right by the xor and the subtraction. -/
theorem low_code (b : BitVec 8) :
    (IntOp.subi (IntOp.xori (IntOp.andi (BitVec.setWidth 32 b) 15#32) 8#32) 8#32).toInt = (b.extractLsb' 0 4).toInt := by
  revert b; decide +kernel

/-- The high half of a byte, likewise. -/
theorem high_code (b : BitVec 8) :
    (IntOp.subi (IntOp.xori (IntOp.andi (IntOp.shrsi ArithUnit.host (BitVec.setWidth 32 b) 4#32) 15#32) 8#32) 8#32).toInt
      = (b.extractLsb' 4 4).toInt := by
  revert b; decide +kernel

/-- The low half of a byte is its code at an even row. -/
theorem code_low (b : BitVec 8) (k : ℕ) (h : k % 2 = 0) :
    (FloatOps.sitofp FTy.bf16 (IntOp.subi (IntOp.xori (IntOp.andi (BitVec.setWidth 32 b) 15#32) 8#32) 8#32) : Ideal .bf16) = code b k := by
  unfold code
  rw [h]
  exact congrArg (fun z : ℤ => ((z : ℝ) : EReal)) (low_code b)

/-- The high half of a byte is its code at an odd row. -/
theorem code_high (b : BitVec 8) (k : ℕ) (h : k % 2 = 1) :
    (FloatOps.sitofp FTy.bf16 (IntOp.subi (IntOp.xori (IntOp.andi (IntOp.shrsi ArithUnit.host (BitVec.setWidth 32 b) 4#32) 15#32) 8#32) 8#32) : Ideal .bf16)
      = code b k := by
  unfold code
  rw [h]
  exact congrArg (fun z : ℤ => ((z : ℝ) : EReal)) (high_code b)

end Cert.ReferenceIdeal.Hand

end
-- ==== Proof.ReferenceIdeal.Weights.lean ====
module

public import proofs.«01_k».proof.Proof.ReferenceIdeal.Code

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
variable (m : (ℓ : Loc nD τ sig) → Buf (Elt Ideal) ℓ)

/-- The arguments a device starts with, at plain coordinates. -/
def args (c : Dev nD) : Inputs :=
  inputs (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The reference's merged weight. -/
theorem v29_apply (c : Dev nD) (i : Fin 16384) (o : Fin 6144) : V0 m c main_v29 (ix2 i o) = (args m c).v i o := by
  unfold V0
  simp only [List.flatten_cons, List.flatten_nil, List.append_nil]
  after_results_simp
  pointwise
  after_results_simp
  pointwise
  have e1 : i.val / 128 * 64 + i.val % 128 / 2 = i.val / 2 := by omega
  split
  · next hh =>
    simp only [e1]
    unfold Inputs.v half
    exact congrArg₂ (fun y z : EReal => y + z) (congrArg₂ (fun y z : EReal => y * z) (code_low _ _ (by omega)) rfl) rfl
  · next hh =>
    simp only [e1]
    unfold Inputs.v half
    exact congrArg₂ (fun y z : EReal => y + z) (congrArg₂ (fun y z : EReal => y * z) (code_high _ _ (by omega)) rfl) rfl

/-- The output's gradient as the reference reads it. -/
theorem v31_apply (c : Dev nD) (b : Fin 3) (s : Fin 3072) (o : Fin 6144) : V0 m c main_v31 (ix3 b s o) = (args m c).dy (tok b s) o := by
  unfold V0
  simp only [List.flatten_cons, List.flatten_nil, List.append_nil]
  after_results_simp
  pointwise
  show _ = (args m c).dy (tok b s) o
  simp only [args, inputs, tok0_tok, tok1_tok]

/-- The reference's scaled output gradient. -/
theorem v35_apply (c : Dev nD) (b : Fin 3) (s : Fin 3072) (o : Fin 6144) : V0 m c main_v35 (ix3 b s o) = (args m c).dyp (tok b s) o := by
  unfold V0
  simp only [List.flatten_cons, List.flatten_nil, List.append_nil]
  after_results_simp
  pointwise
  simp only [Inputs.dyp, args, inputs, tok0_tok, tok1_tok]

end Cert.ReferenceIdeal.Hand

end
-- ==== Proof.ReferenceIdeal.Dx.lean ====
module

public import proofs.«01_k».proof.Proof.ReferenceIdeal.Weights

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
variable (m : (ℓ : Loc nD τ sig) → Buf (Elt Ideal) ℓ)

/-- The last two lines before the call: the product that gives the first result, and its rounding. -/
def dxOps : List (HloOp τ sig (Elt Ideal)) := (hostOps0 (F := Ideal)).drop 44

/-- What those two lines find. -/
def P (c : Dev nD) : Valuation τ sig (Elt Ideal) := StableHlo.after ((hostOps0 (F := Ideal)).take 44) (fun b => m (c, b))

/-- The lines before the call, cut before their last two. -/
theorem V0_eq (c : Dev nD) : V0 m c = StableHlo.after dxOps (P m c) := by
  unfold P dxOps V0
  rw [← StableHlo.after_append, List.take_append_drop]
  simp only [List.flatten_cons, List.flatten_nil, List.append_nil]

/-- The lines' first result from what they find. -/
theorem dxOps_v37 (X : Valuation τ sig (Elt Ideal)) (b : Fin 3) (s : Fin 3072) (i : Fin 16384) :
    Eq (α := EReal) (StableHlo.after dxOps X main_v37 (ix3 b s i))
      (∑ o : Fin 6144, (fun y z : EReal => y * z) (X main_v35 (ix3 b s o)) (X main_v29 (ix2 i o))) := by
  simp only [dxOps, List.drop_succ_cons, List.drop_zero]
  after_results_simp
  pointwise

/-- The two lines leave the scaled output gradient alone. -/
theorem dxOps_v35 (X : Valuation τ sig (Elt Ideal)) : StableHlo.after dxOps X main_v35 = X main_v35 := by
  simp only [dxOps, List.drop_succ_cons, List.drop_zero]
  after_results_simp

/-- The two lines leave the merged weight alone. -/
theorem dxOps_v29 (X : Valuation τ sig (Elt Ideal)) : StableHlo.after dxOps X main_v29 = X main_v29 := by
  simp only [dxOps, List.drop_succ_cons, List.drop_zero]
  after_results_simp

/-- The reference's first result is the input's gradient. -/
theorem v37_apply (c : Dev nD) (b : Fin 3) (s : Fin 3072) (i : Fin 16384) : V0 m c main_v37 (ix3 b s i) = (args m c).dx (tok b s) i := by
  rw [V0_eq]
  refine (dxOps_v37 (P m c) b s i).trans ?_
  refine Finset.sum_congr rfl fun o _ => congrArg₂ (fun y z : EReal => y * z) ?_ ?_
  · rw [← dxOps_v35 (P m c), ← V0_eq]; exact v35_apply m c b s o
  · rw [← dxOps_v29 (P m c), ← V0_eq]; exact v29_apply m c i o

end Cert.ReferenceIdeal.Hand

end
-- ==== Proof.ReferenceIdeal.Cast.lean ====
module

public import proofs.«01_k».proof.Proof.ReferenceIdeal.Weights

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
variable (m : (ℓ : Loc nD τ sig) → Buf (Elt Ideal) ℓ)

/-- The call has one block, at the origin. -/
theorem idx0 : ∀ t : Fin grid0.N, win0_0.index t = ![0, 0, 0] := by decide +kernel
/-- Likewise for its result. -/
theorem idx1 : ∀ t : Fin grid0.N, win0_1.index t = ![0, 0, 0] := by decide +kernel

/-- The call's one block is the input codes, read as they are. -/
theorem iblk_apply (c : Dev nD) (t : Fin cfg0.N) (b : Fin 3) (s : Fin 3072) (i : Fin 16384) :
    iblk m c 0 t (ix3 b s i) = m ((c.tc : Thread nD τ).loc main_arg1) (ix3 b s i) := by
  have e0 := idx0
  unfold iblk
  rw [show V m c (Pipeline.arrRef spec0 0) = m ((c.tc : Thread nD τ).loc main_arg1) from V_main_arg1 m c]
  blk_simp [e0]
  refine congrArg _ (funext fun a => Fin.ext ?_)
  match a with
  | ⟨0, _⟩ => blk_simp [e0]
  | ⟨1, _⟩ => blk_simp [e0]
  | ⟨2, _⟩ => blk_simp [e0]

/-- The call's block as it leaves it. -/
theorem out_apply (c : Dev nD) (t : Fin cfg0.N) (b : Fin 3) (s : Fin 3072) (i : Fin 16384) :
    out0_1 (iblk m c 0 t) (ix3 b s i) = m ((c.tc : Thread nD τ).loc main_arg1) (ix3 b s i) := by
  have hz : ∀ a : Fin S3x3072x16384.rank, (![0, 0, 0] : Fin 3 → ℕ) a = 0 := by decide
  have e : out0_1 (iblk m c 0 t) = k0_pay1 (iblk m c 0 t) := by
    unfold out0_1
    refine (View.canon_cons_unit_lit _ _ _ hz).trans (congrArg k0_pay1 ?_)
    exact View.ld_unit_lit _ _ hz
  rw [e]
  unfold k0_pay1
  pointwise
  exact iblk_apply m c t b s i

/-- The call copies the input codes. -/
theorem v38_arr (c : Dev nD) : (dats m 0 c).arrAt 1 cfg0.N = m ((c.tc : Thread nD τ).loc main_arg1) := by
  have e1 := idx1
  refine (dats m 0 c).arrAt_eq_of_covers 1 _ (by decide +kernel) fun t hf y => ?_
  blk_simp
  rw [after0_1]
  rw [eq_ix3 y]
  refine (out_apply m c t (y 0) (y 1) (y 2)).trans ?_
  refine congrArg _ (funext fun a => Fin.ext ?_)
  match a with
  | ⟨0, _⟩ => blk_simp [e1]
  | ⟨1, _⟩ => blk_simp [e1]
  | ⟨2, _⟩ => blk_simp [e1]

end Cert.ReferenceIdeal.Hand

end
-- ==== Proof.ReferenceIdeal.Reduce.lean ====
module

public import proofs.«01_k».proof.Proof.ReferenceIdeal.Code

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value

/-- The index the reduction keeps of a position is its last coordinate. -/
theorem drop_ix3 (h : S3x3072x6144.ReducesTo [0, 1] S6144) (b : Fin 3) (s : Fin 3072) (o : Fin 6144) :
    h.drop (ix3 b s o) = ix1 o := by
  funext a
  match a with
  | ⟨0, _⟩ => exact Fin.ext rfl

/-- The reduction over batches and places in the sequence is a double sum. -/
theorem reduce_apply (h : S3x3072x6144.ReducesTo [0, 1] S6144) (x : S3x3072x6144.Idx → EReal) (o : Fin 6144) :
    Ideal.hostReduceAdd h x 0 (ix1 o) = ∑ b : Fin 3, ∑ s : Fin 3072, x (ix3 b s o) := by
  unfold Ideal.hostReduceAdd
  rw [zero_add, ← Fintype.sum_prod_type' (f := fun (b : Fin 3) (s : Fin 3072) => x (ix3 b s o))]
  symm
  refine Finset.sum_bij (fun (p : Fin 3 × Fin 3072) _ => (ix3 p.1 p.2 o : S3x3072x6144.Idx)) ?_ ?_ ?_ ?_
  · intro p _
    exact Finset.mem_filter.mpr ⟨Finset.mem_univ _, drop_ix3 h _ _ _⟩
  · intro p _ q _ e
    exact Prod.ext (congrFun e 0) (congrFun e 1)
  · intro j hj
    have hd := (Finset.mem_filter.mp hj).2
    rw [eq_ix3 j] at hd
    have h2 : j 2 = o := congrFun ((drop_ix3 h (j 0) (j 1) (j 2)).symm.trans hd) 0
    refine ⟨(j 0, j 1), Finset.mem_univ _, ?_⟩
    subst h2
    exact (eq_ix3 j).symm
  · intro p _
    rfl

end Cert.ReferenceIdeal.Hand

end
-- ==== Proof.ReferenceIdeal.Results.lean ====
module

public import proofs.«01_k».proof.Proof.ReferenceIdeal.Cast
public import proofs.«01_k».proof.Proof.ReferenceIdeal.Reduce

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
variable (m : (ℓ : Loc nD τ sig) → Buf (Elt Ideal) ℓ)

/-- What the lines after the call find. -/
def R (c : Dev nD) : Valuation τ sig (Elt Ideal) :=
  Pipeline.withArrays (cfgs 0).spec c (V0 m c) fun w => (dats m 0 c).arrAt w (cfgs 0).N

/-- Apart from the call's two arrays, what the lines before it left. -/
theorem R_of (c : Dev nD) (b : Ref sig .tc) (hb : ∀ w, Pipeline.arrRef spec0 w ≠ b) : R m c b = V0 m c b :=
  Pipeline.withArrays_of_ne _ c (V0 m c) _ b hb

/-- After the call its result holds the input codes. -/
theorem R38 (c : Dev nD) (b : Fin 3) (s : Fin 3072) (i : Fin 16384) : R m c main_v38 (ix3 b s i) = (args m c).x (tok b s) i := by
  have e : R m c main_v38 = (dats m 0 c).arrAt 1 cfg0.N := Pipeline.withArrays_arr (cfgs 0).spec launch0.win.arr_inj c _ _ 1
  rw [e, v38_arr]
  simp only [args, inputs, tok0_tok, tok1_tok]
/-- After the call the merged weight is in place. -/
theorem R29 (c : Dev nD) (i : Fin 16384) (o : Fin 6144) : R m c main_v29 (ix2 i o) = (args m c).v i o := by
  rw [R_of m c main_v29 (by decide)]; exact v29_apply m c i o
/-- After the call the output's gradient is in place. -/
theorem R31 (c : Dev nD) (b : Fin 3) (s : Fin 3072) (o : Fin 6144) : R m c main_v31 (ix3 b s o) = (args m c).dy (tok b s) o := by
  rw [R_of m c main_v31 (by decide)]; exact v31_apply m c b s o
/-- After the call the scaled output gradient is in place. -/
theorem R35 (c : Dev nD) (b : Fin 3) (s : Fin 3072) (o : Fin 6144) : R m c main_v35 (ix3 b s o) = (args m c).dyp (tok b s) o := by
  rw [R_of m c main_v35 (by decide)]; exact v35_apply m c b s o
/-- The activation scales, as launched. -/
theorem R_arg2 (c : Dev nD) (b : Fin 3) (s : Fin 3072) : R m c main_arg2 (ix2 b s) = (args m c).xs (tok b s) := by
  rw [R_of m c main_arg2 (by decide)]
  refine (congrFun (V_main_arg2 m c) _).trans ?_
  simp only [args, inputs, tok0_tok, tok1_tok]
/-- The left factor, as launched. -/
theorem R_arg5 (c : Dev nD) (i : Fin 16384) (r : Fin 32) : R m c main_arg5 (ix2 i r) = (args m c).a i r := by
  rw [R_of m c main_arg5 (by decide)]
  exact congrFun (V_main_arg5 m c) _
/-- The right factor, as launched. -/
theorem R_arg6 (c : Dev nD) (r : Fin 32) (o : Fin 6144) : R m c main_arg6 (ix2 r o) = (args m c).b r o := by
  rw [R_of m c main_arg6 (by decide)]
  exact congrFun (V_main_arg6 m c) _
/-- The column norms, as launched. -/
theorem R_arg8 (c : Dev nD) (o : Fin 6144) : R m c main_arg8 (ix1 o) = (args m c).n o := by
  rw [R_of m c main_arg8 (by decide)]
  exact congrFun (V_main_arg8 m c) _

/-- The reference's last result is the magnitude's gradient. -/
theorem v47_apply (c : Dev nD) (o : Fin 6144) : StableHlo.after hostOps1 (R m c) main_v47 (ix1 o) = (args m c).dm o := by
  after_results_simp
  pointwise
  refine (reduce_apply _ _ o).trans ?_
  unfold Inputs.dm
  rw [← sum_tok]
  refine Finset.sum_congr rfl fun b _ => Finset.sum_congr rfl fun s _ => ?_
  pointwise
  exact congrArg₂ Ideal.div
    (congrArg₂ (fun y z : EReal => y * z) (R31 m c b s o)
      (congrArg₂ (fun y z : EReal => y * z) (Finset.sum_congr rfl fun i _ => congrArg₂ (fun y z : EReal => y * z) (R38 m c b s i) (R29 m c i o)) (R_arg2 m c b s)))
    (R_arg8 m c o)

/-- The reference's second result is the left factor's gradient. -/
theorem v57_apply (c : Dev nD) (i : Fin 16384) (r : Fin 32) : StableHlo.after hostOps1 (R m c) main_v57 (ix2 i r) = (args m c).dA i r := by
  after_results_simp
  pointwise
  unfold Inputs.dA half
  rw [← sum_tok]
  exact congrArg (fun z : EReal => Ideal.ofBits FTy.f32 1056964608#32 * z) (Finset.sum_congr rfl fun b _ => Finset.sum_congr rfl fun s _ =>
    congrArg₂ (fun y z : EReal => y * z) (congrArg₂ (fun y z : EReal => y * z) (R38 m c b s i) (R_arg2 m c b s))
      (Finset.sum_congr rfl fun o _ => congrArg₂ (fun y z : EReal => y * z) (R35 m c b s o) (R_arg6 m c r o)))

/-- The reference's third result is the right factor's gradient. -/
theorem v66_apply (c : Dev nD) (r : Fin 32) (o : Fin 6144) : StableHlo.after hostOps1 (R m c) main_v66 (ix2 r o) = (args m c).dB r o := by
  after_results_simp
  pointwise
  unfold Inputs.dB half
  rw [← sum_tok]
  exact congrArg (fun z : EReal => Ideal.ofBits FTy.f32 1056964608#32 * z) (Finset.sum_congr rfl fun b _ => Finset.sum_congr rfl fun s _ =>
    congrArg₂ (fun y z : EReal => y * z) (congrArg₂ (fun y z : EReal => y * z) (Finset.sum_congr rfl fun i _ => congrArg₂ (fun y z : EReal => y * z) (R38 m c b s i) (R_arg5 m c i r)) (R_arg2 m c b s))
      (R35 m c b s o))

end Cert.ReferenceIdeal.Hand

end
-- ==== Proof.ReferenceIdeal.RunValue.lean ====
module

public import proofs.«01_k».proof.Proof.ReferenceIdeal.Dx
public import proofs.«01_k».proof.Proof.ReferenceIdeal.Results

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Value
variable (m : (ℓ : Loc nD τ sig) → Buf (Elt Ideal) ℓ) (ρ : Dev nD → PrngReg)

/-- The lines after the call leave the first result alone. -/
theorem tail_v37 (c : Dev nD) : StableHlo.after hostOps1 (R m c) main_v37 = R m c main_v37 := by
  after_results_simp

/-- The reference's run: its four results, as functions of its arguments, at every device. -/
theorem run_values : θ_run defs (onTc (τ := τ) (main (F := Ideal))) ⟨m, fun _ => 0, ρ⟩ (fun r => ∀ c : Dev nD,
    r.2.mem ((c.tc : Thread nD τ).loc main_v37) = (fun j => (args m c).dx (tok (j 0) (j 1)) (j 2))
    ∧ r.2.mem ((c.tc : Thread nD τ).loc main_v57) = (fun j => (args m c).dA (j 0) (j 1))
    ∧ r.2.mem ((c.tc : Thread nD τ).loc main_v66) = (fun j => (args m c).dB (j 0) (j 1))
    ∧ r.2.mem ((c.tc : Thread nD τ).loc main_v47) = (fun j => (args m c).dm (j 0))) := by
  refine (θ_run defs _ _).mono (fun r h c => ?_) (run_main m ρ)
  have e : ∀ b, Pipeline.afterTail₀ cfgs (dats m) 0 (V0 m) [hostOps1] c b = StableHlo.after hostOps1 (R m c) b := by
    intro b
    unfold Pipeline.afterTail₀ R
    simp only [List.flatten_cons, List.flatten_nil, List.append_nil]
  refine ⟨?_, ?_, ?_, ?_⟩
  · refine (((h c).2 main_v37 (Pipeline.mem_restRefs_of main_v37 (by decide) (by decide))).trans (e _)).trans ?_
    rw [tail_v37, R_of m c main_v37 (by decide)]
    funext j
    rw [eq_ix3 j]
    exact v37_apply m c _ _ _
  · refine (((h c).2 main_v57 (Pipeline.mem_restRefs_of main_v57 (by decide) (by decide))).trans (e _)).trans ?_
    funext j
    rw [eq_ix2 j]
    exact v57_apply m c _ _
  · refine (((h c).2 main_v66 (Pipeline.mem_restRefs_of main_v66 (by decide) (by decide))).trans (e _)).trans ?_
    funext j
    rw [eq_ix2 j]
    exact v66_apply m c _ _
  · refine (((h c).2 main_v47 (Pipeline.mem_restRefs_of main_v47 (by decide) (by decide))).trans (e _)).trans ?_
    funext j
    rw [eq_ix1 j]
    exact v47_apply m c _

end Cert.ReferenceIdeal.Hand

end
-- ==== Proof.Value.Algebraic.lean ====
module

public import proofs.«01_k».proof.Defs
public import proofs.«01_k».proof.Proof.KernelIdeal.RunValue
public import proofs.«01_k».proof.Proof.KernelIdeal.Frame
public import proofs.«01_k».proof.Proof.ReferenceIdeal.RunValue

@[expose] public section

noncomputable section

/-! # The kernel and the reference give the same four results -/

namespace Cert.Value

open Idealize.ShloMosaic Idealize.ShloMosaic.TcCoe Idealize.SL.Sem Idealize.ShloMosaic.Tactic

/-- The precondition's one side condition. -/
theorem preFacts : Cert.Pre_norm_positive.Facts := ⟨by decide⟩

attribute [local instance] preFacts

/-- A decision that came out true. -/
theorem of_ofBool {p : Prop} [Decidable p] (h : BitVec.ofBool (decide p) = 1#1) : p := by
  by_contra hc
  rw [decide_eq_false hc] at h
  exact absurd h (by decide)

/-- The precondition says that every column norm is positive. -/
theorem norm_pos (m : (ℓ : Loc Cert.KernelIdeal.nD Cert.KernelIdeal.τ Cert.KernelIdeal.sig) → Buf (Elt Ideal) ℓ)
    (h : Pre_KernelIdeal_norm_positive m) (c : Dev Cert.KernelIdeal.nD) (o : Fin 6144) : 0 < (Cert.KernelIdeal.Hand.args m c).n o := by
  have h1 := congrFun (h c) (ix1 o)
  unfold Cert.Pre_norm_positive.fn at h1
  revert h1
  pointwise
  exact of_ofBool

/-- Memories that agree on the arguments give the same inputs. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Hand.args m' c = Cert.KernelIdeal.Hand.args m c := by
  unfold Cert.ReferenceIdeal.Hand.args Cert.KernelIdeal.Hand.args
  rw [h0, h1, h2, h3, h4, h5, h6, h7, h8]

/-- Over the reals with infinities, wherever the column norms are positive, the kernel and the reference end with the
    same four arrays, their arguments unchanged. -/
theorem algebraic : algebraic_KernelIdeal_ReferenceIdeal_pre_norm_positive := by
  intro m g m' g' hp hm
  refine ⟨fun c j => (Cert.KernelIdeal.Hand.args m c).dx (tok (j 0) (j 1)) (j 2), fun c j => (Cert.KernelIdeal.Hand.args m c).dA (j 0) (j 1),
    fun c j => (Cert.KernelIdeal.Hand.args m c).dB (j 0) (j 1), fun c j => (Cert.KernelIdeal.Hand.args m c).dm (j 0), ?_, ?_⟩
  · refine (θ_run _ _ _).mono (fun r h c => ?_) (θ_run_and (Cert.KernelIdeal.Hand.run_values m g (norm_pos m hp)) (Cert.KernelIdeal.Hand.frame m g))
    exact ⟨(h.1 c).1, (h.1 c).2.1, (h.1 c).2.2.1, (h.1 c).2.2.2, h.2.1 c⟩
  · refine (θ_run _ _ _).mono (fun r h c => ?_) (θ_run_and (Cert.ReferenceIdeal.Hand.run_values m' g') (Cert.ReferenceIdeal.Gen.frame m' g'))
    obtain ⟨h0, h1, h2, h3, h4, h5, h6, h7, h8⟩ := hm c
    have e := args_eq m m' c h0 h1 h2 h3 h4 h5 h6 h7 h8
    have hv := h.1 c
    rw [e] at hv
    exact ⟨hv.1, hv.2.1, hv.2.2.1, hv.2.2.2, h.2.1 c⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Frame
public import proofs.«01_k».proof.Proof.KernelIdeal.Frame
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Value.preFacts,
  fun m ρ _ => Cert.Kernel.Hand.frame m ρ,
  fun m ρ _ => Cert.KernelIdeal.Hand.frame m ρ, fun m ρ _ => Cert.KernelIdeal.Hand.frame m ρ,
  fun m ρ _ => Cert.ReferenceIdeal.Gen.frame m ρ, fun m ρ _ => Cert.ReferenceIdeal.Gen.frame m ρ,
  trivial, Cert.Value.algebraic⟩

end Cert.Proof

end
